-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_augmented [hPre_augmented : Cert.Pre_augmented.Facts] (m : (ℓ : Loc Cert.KernelIdeal.nD Cert.KernelIdeal.τ Cert.KernelIdeal.sig) → Buf (Elt Ideal) ℓ) : Prop :=
  ∀ c : Dev Cert.KernelIdeal.nD,
    (Cert.Pre_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_augmented [hPre_augmented : Cert.Pre_augmented.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_weighable [hPre_weighable : Cert.Pre_weighable.Facts] (m : (ℓ : Loc Cert.MergeIdeal.nD Cert.MergeIdeal.τ Cert.MergeIdeal.sig) → Buf (Elt Ideal) ℓ) : Prop :=
  ∀ c : Dev Cert.MergeIdeal.nD,
    (Cert.Pre_weighable.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_weighable [hPre_weighable : Cert.Pre_weighable.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_weighable.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_comparable [hPre_comparable : Cert.Pre_comparable.Facts] (m : (ℓ : Loc Cert.BandIdeal.nD Cert.BandIdeal.τ Cert.BandIdeal.sig) → Buf (Elt Ideal) ℓ) : Prop :=
  ∀ c : Dev Cert.BandIdeal.nD,
    (Cert.Pre_comparable.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2))) = (fun _ => 1#1)

def Pre_BandReferenceIdeal (m : (ℓ : Loc Cert.BandReferenceIdeal.nD Cert.BandReferenceIdeal.τ Cert.BandReferenceIdeal.sig) → Buf (Elt Ideal) ℓ) : Prop :=
  True

def Pre_BandReferenceIdeal_comparable [hPre_comparable : Cert.Pre_comparable.Facts] (m : (ℓ : Loc Cert.BandReferenceIdeal.nD Cert.BandReferenceIdeal.τ Cert.BandReferenceIdeal.sig) → Buf (Elt Ideal) ℓ) : Prop :=
  ∀ c : Dev Cert.BandReferenceIdeal.nD,
    (Cert.Pre_comparable.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1)) (m ((c.tc : Thread Cert.BandReferenceIdeal.nD Cert.BandReferenceIdeal.τ).loc Cert.BandReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_augmented [hKernelIdeal : Cert.KernelIdeal.Facts] [hPre_augmented : Cert.Pre_augmented.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_augmented m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_augmented [hReferenceIdeal : Cert.ReferenceIdeal.Facts] [hPre_augmented : Cert.Pre_augmented.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_augmented m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeIdeal_pre_weighable [hMergeIdeal : Cert.MergeIdeal.Facts] [hPre_weighable : Cert.Pre_weighable.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_weighable m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16))
      ∧ r.2.sem = fun _ => 0)

def quiescent_MergeReferenceIdeal_pre_weighable [hMergeReferenceIdeal : Cert.MergeReferenceIdeal.Facts] [hPre_weighable : Cert.Pre_weighable.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_weighable m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ r.2.sem = fun _ => 0)

def quiescent_BandIdeal_pre_comparable [hBandIdeal : Cert.BandIdeal.Facts] [hPre_comparable : Cert.Pre_comparable.Facts] : Prop :=
  ∀ (m : (ℓ : Loc Cert.BandIdeal.nD Cert.BandIdeal.τ Cert.BandIdeal.sig) → Buf (Elt Ideal) ℓ) (g : Dev Cert.BandIdeal.nD → PrngReg), Pre_BandIdeal_comparable m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2))
      ∧ r.2.sem = fun _ => 0)

def quiescent_BandReferenceIdeal_pre_comparable [hBandReferenceIdeal : Cert.BandReferenceIdeal.Facts] [hPre_comparable : Cert.Pre_comparable.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal_comparable m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2))
      ∧ r.2.sem = fun _ => 0)

def preserves_Kernel_KernelIdeal : Prop :=
  True

def algebraic_KernelIdeal_ReferenceIdeal_pre_augmented [hKernelIdeal : Cert.KernelIdeal.Facts] [hReferenceIdeal : Cert.ReferenceIdeal.Facts] [hPre_augmented : Cert.Pre_augmented.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_augmented m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v14) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v100) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Merge_MergeIdeal : Prop :=
  True

def algebraic_MergeIdeal_MergeReferenceIdeal_pre_weighable [hMergeIdeal : Cert.MergeIdeal.Facts] [hMergeReferenceIdeal : Cert.MergeReferenceIdeal.Facts] [hPre_weighable : Cert.Pre_weighable.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_weighable m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v67) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16))

def preserves_Cross_CrossIdeal : Prop :=
  True

def algebraic_CrossIdeal_CrossReferenceIdeal [hCrossIdeal : Cert.CrossIdeal.Facts] [hCrossReferenceIdeal : Cert.CrossReferenceIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)
      ∧ m' ((c.tc : Thread Cert.CrossReferenceIdeal.nD Cert.CrossReferenceIdeal.τ).loc Cert.CrossReferenceIdeal.main_arg5) = m ((c.tc : Thread Cert.CrossIdeal.nD Cert.CrossIdeal.τ).loc Cert.CrossIdeal.main_arg5)
      ∧ m' ((c.tc : Thread Cert.CrossReferenceIdeal.nD Cert.CrossReferenceIdeal.τ).loc Cert.CrossReferenceIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v116) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5)
          ∧ r.2.mem ((c.tc : Thread Cert.CrossReferenceIdeal.nD Cert.CrossReferenceIdeal.τ).loc Cert.CrossReferenceIdeal.main_arg6) = m' ((c.tc : Thread Cert.CrossReferenceIdeal.nD Cert.CrossReferenceIdeal.τ).loc Cert.CrossReferenceIdeal.main_arg6))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v0_0)) (v1 : (c : Dev Cert.MemoryIdeal.nD) → Buf (Elt Ideal) ((c.tc : Thread Cert.MemoryIdeal.nD Cert.MemoryIdeal.τ).loc Cert.MemoryIdeal.main_v0_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0_0) = v0 c
          ∧ r.2.mem ((c.tc : Thread Cert.MemoryIdeal.nD Cert.MemoryIdeal.τ).loc Cert.MemoryIdeal.main_v0_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v34) = v0 c
          ∧ r.2.mem ((c.tc : Thread Cert.MemoryReferenceIdeal.nD Cert.MemoryReferenceIdeal.τ).loc Cert.MemoryReferenceIdeal.main_v35) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Band_BandIdeal : Prop :=
  IdealRules.named_const.Statement Cert.BandIdeal.κ "mask" .f32 0xF149F2CA#32 ⊥

def algebraic_BandIdeal_BandReferenceIdeal_pre_comparable [hBandIdeal : Cert.BandIdeal.Facts] [hBandReferenceIdeal : Cert.BandReferenceIdeal.Facts] [hPre_comparable : Cert.Pre_comparable.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandIdeal_comparable m →
    (∀ c : Dev Cert.BandIdeal.nD,
      m' ((c.tc : Thread Cert.BandReferenceIdeal.nD Cert.BandReferenceIdeal.τ).loc Cert.BandReferenceIdeal.main_arg0) = m ((c.tc : Thread Cert.BandIdeal.nD Cert.BandIdeal.τ).loc Cert.BandIdeal.main_arg0)
      ∧ m' ((c.tc : Thread Cert.BandReferenceIdeal.nD Cert.BandReferenceIdeal.τ).loc Cert.BandReferenceIdeal.main_arg1) = m ((c.tc : Thread Cert.BandIdeal.nD Cert.BandIdeal.τ).loc Cert.BandIdeal.main_arg1)
      ∧ m' ((c.tc : Thread Cert.BandReferenceIdeal.nD Cert.BandReferenceIdeal.τ).loc Cert.BandReferenceIdeal.main_arg2) = m ((c.tc : Thread Cert.BandIdeal.nD Cert.BandIdeal.τ).loc Cert.BandIdeal.main_arg2)) →
    ∃ (v0 : (c : Dev Cert.BandIdeal.nD) → Buf (Elt Ideal) ((c.tc : Thread Cert.BandIdeal.nD Cert.BandIdeal.τ).loc Cert.BandIdeal.main_v0_0)) (v1 : (c : Dev Cert.BandIdeal.nD) → Buf (Elt Ideal) ((c.tc : Thread Cert.BandIdeal.nD Cert.BandIdeal.τ).loc Cert.BandIdeal.main_v0_1)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0_0) = v0 c
          ∧ r.2.mem ((c.tc : Thread Cert.BandIdeal.nD Cert.BandIdeal.τ).loc Cert.BandIdeal.main_v0_1) = v1 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v133) = v0 c
          ∧ r.2.mem ((c.tc : Thread Cert.BandReferenceIdeal.nD Cert.BandReferenceIdeal.τ).loc Cert.BandReferenceIdeal.main_v134) = v1 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1)
          ∧ r.2.mem ((c.tc : Thread Cert.BandReferenceIdeal.nD Cert.BandReferenceIdeal.τ).loc Cert.BandReferenceIdeal.main_arg2) = m' ((c.tc : Thread Cert.BandReferenceIdeal.nD Cert.BandReferenceIdeal.τ).loc Cert.BandReferenceIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hCross : Cert.Cross.Facts) (hCrossIdeal : Cert.CrossIdeal.Facts) (hCrossReferenceIdeal : Cert.CrossReferenceIdeal.Facts) (hMemory : Cert.Memory.Facts) (hMemoryIdeal : Cert.MemoryIdeal.Facts) (hMemoryReferenceIdeal : Cert.MemoryReferenceIdeal.Facts) (hBand : Cert.Band.Facts) (hBandIdeal : Cert.BandIdeal.Facts) (hBandReferenceIdeal : Cert.BandReferenceIdeal.Facts) (hPre_augmented : Cert.Pre_augmented.Facts) (hPre_weighable : Cert.Pre_weighable.Facts) (hPre_comparable : Cert.Pre_comparable.Facts),
    quiescent_Kernel (hKernel := hKernel)
    ∧ quiescent_KernelIdeal (hKernelIdeal := hKernelIdeal)
    ∧ quiescent_KernelIdeal_pre_augmented (hKernelIdeal := hKernelIdeal) (hPre_augmented := hPre_augmented)
    ∧ quiescent_ReferenceIdeal (hReferenceIdeal := hReferenceIdeal)
    ∧ quiescent_ReferenceIdeal_pre_augmented (hReferenceIdeal := hReferenceIdeal) (hPre_augmented := hPre_augmented)
    ∧ quiescent_Proj (hProj := hProj)
    ∧ quiescent_ProjIdeal (hProjIdeal := hProjIdeal)
    ∧ quiescent_ProjReferenceIdeal (hProjReferenceIdeal := hProjReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeIdeal_pre_weighable (hMergeIdeal := hMergeIdeal) (hPre_weighable := hPre_weighable)
    ∧ quiescent_MergeReferenceIdeal (hMergeReferenceIdeal := hMergeReferenceIdeal)
    ∧ quiescent_MergeReferenceIdeal_pre_weighable (hMergeReferenceIdeal := hMergeReferenceIdeal) (hPre_weighable := hPre_weighable)
    ∧ quiescent_Cross (hCross := hCross)
    ∧ quiescent_CrossIdeal (hCrossIdeal := hCrossIdeal)
    ∧ quiescent_CrossReferenceIdeal (hCrossReferenceIdeal := hCrossReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Band (hBand := hBand)
    ∧ quiescent_BandIdeal (hBandIdeal := hBandIdeal)
    ∧ quiescent_BandIdeal_pre_comparable (hBandIdeal := hBandIdeal) (hPre_comparable := hPre_comparable)
    ∧ quiescent_BandReferenceIdeal (hBandReferenceIdeal := hBandReferenceIdeal)
    ∧ quiescent_BandReferenceIdeal_pre_comparable (hBandReferenceIdeal := hBandReferenceIdeal) (hPre_comparable := hPre_comparable)
    ∧ preserves_Kernel_KernelIdeal
    ∧ algebraic_KernelIdeal_ReferenceIdeal_pre_augmented (hKernelIdeal := hKernelIdeal) (hReferenceIdeal := hReferenceIdeal) (hPre_augmented := hPre_augmented)
    ∧ preserves_Proj_ProjIdeal
    ∧ algebraic_ProjIdeal_ProjReferenceIdeal (hProjIdeal := hProjIdeal) (hProjReferenceIdeal := hProjReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal_pre_weighable (hMergeIdeal := hMergeIdeal) (hMergeReferenceIdeal := hMergeReferenceIdeal) (hPre_weighable := hPre_weighable)
    ∧ preserves_Cross_CrossIdeal
    ∧ algebraic_CrossIdeal_CrossReferenceIdeal (hCrossIdeal := hCrossIdeal) (hCrossReferenceIdeal := hCrossReferenceIdeal)
    ∧ preserves_Memory_MemoryIdeal
    ∧ algebraic_MemoryIdeal_MemoryReferenceIdeal (hMemoryIdeal := hMemoryIdeal) (hMemoryReferenceIdeal := hMemoryReferenceIdeal)
    ∧ preserves_Band_BandIdeal
    ∧ algebraic_BandIdeal_BandReferenceIdeal_pre_comparable (hBandIdeal := hBandIdeal) (hBandReferenceIdeal := hBandReferenceIdeal) (hPre_comparable := hPre_comparable)
-- ==== Pre_augmented.lean ====
abbrev S2x256x131072 : Shape := ⟨3, ![2, 256, 131072]⟩
abbrev S32768x512 : Shape := ⟨2, ![32768, 512]⟩
abbrev S2x64x144x512 : Shape := ⟨4, ![2, 64, 144, 512]⟩
abbrev S32768x2x256 : Shape := ⟨3, ![32768, 2, 256]⟩
abbrev S_ : Shape := ⟨0, ![]⟩
abbrev S32768x2x1 : Shape := ⟨3, ![32768, 2, 1]⟩
abbrev S32768x2 : Shape := ⟨2, ![32768, 2]⟩
abbrev S32768x2x127 : Shape := ⟨3, ![32768, 2, 127]⟩
abbrev S2x64x1x512 : Shape := ⟨4, ![2, 64, 1, 512]⟩
abbrev S2x64x512 : Shape := ⟨3, ![2, 64, 512]⟩

class Facts : Prop where
  shapeCasts_S32768x512_S32768x2x256 : S32768x512.ShapeCasts S32768x2x256
  bitsLt_bf16_f32 : FTy.bits .bf16 < FTy.bits .f32
  bcast_S_S2x256x131072 : S_.BroadcastsInDim S2x256x131072 (![] : Fin 0 → Fin S2x256x131072.rank)
  reducesTo_S2x256x131072_S_d0_1_2 : S2x256x131072.ReducesTo [0, 1, 2] S_
  h_S_ : 0 < S_.numel
  bcast_S_S32768x512 : S_.BroadcastsInDim S32768x512 (![] : Fin 0 → Fin S32768x512.rank)
  reducesTo_S32768x512_S_d0_1 : S32768x512.ReducesTo [0, 1] S_
  slices_S32768x2x256_S32768x2x1_0_0_128 : S32768x2x256.Slices ![0, 0, 128] S32768x2x1
  shapeCasts_S32768x2x1_S32768x2 : S32768x2x1.ShapeCasts S32768x2
  bcast_S_S32768x2 : S_.BroadcastsInDim S32768x2 (![] : Fin 0 → Fin S32768x2.rank)
  reducesTo_S32768x2_S_d0_1 : S32768x2.ReducesTo [0, 1] S_
  slices_S32768x2x256_S32768x2x127_0_0_129 : S32768x2x256.Slices ![0, 0, 129] S32768x2x127
  bcast_S_S32768x2x127 : S_.BroadcastsInDim S32768x2x127 (![] : Fin 0 → Fin S32768x2x127.rank)
  reducesTo_S32768x2x127_S_d0_1_2 : S32768x2x127.ReducesTo [0, 1, 2] S_
  slices_S2x64x144x512_S2x64x1x512_0_0_128_0 : S2x64x144x512.Slices ![0, 0, 128, 0] S2x64x1x512
  shapeCasts_S2x64x1x512_S2x64x512 : S2x64x1x512.ShapeCasts S2x64x512
  bcast_S_S2x64x512 : S_.BroadcastsInDim S2x64x512 (![] : Fin 0 → Fin S2x64x512.rank)
  reducesTo_S2x64x512_S_d0_1_2 : S2x64x512.ReducesTo [0, 1, 2] S_

variable [Facts]

def fn_part1 {F : FTy → Type} [FloatOps F] (main_arg2 : FVec F S2x64x144x512 .bf16) (main_v1 : FVec F S32768x2x256 .f32) (main_v12 : IVec S_ 1) (main_v17 : IVec S_ 1) : IVec S_ 1 :=
  let main_v18 : IVec S_ 1 := andi main_v12 main_v17
  let main_v19 : FVec F S32768x2x127 .f32 := (extractStridedSlice S32768x2x127 ![0, 0, 129] · slices_S32768x2x256_S32768x2x127_0_0_129) main_v1
  let main_cst_4 : FVec F S_ .f32 := constant S_ .f32 0x00000000#32
  let main_v20 : FVec F S32768x2x127 .f32 := broadcastInDim S32768x2x127 ![] bcast_S_S32768x2x127 main_cst_4
  let main_v21 : IVec S32768x2x127 1 := cmpf .oeq main_v19 main_v20
  let main_c_5 : IVec S_ 1 := constantI S_ 1 1#1
  let main_v22 : IVec S_ 1 := (fun x v => Host.reduce IntOp.andi x v reducesTo_S32768x2x127_S_d0_1_2 h_S_) main_v21 main_c_5
  let main_v23 : IVec S_ 1 := andi main_v18 main_v22
  let main_v24 : FVec F S2x64x1x512 .bf16 := (extractStridedSlice S2x64x1x512 ![0, 0, 128, 0] · slices_S2x64x144x512_S2x64x1x512_0_0_128_0) main_arg2
  let main_v25 : FVec F S2x64x512 .bf16 := shapeCast S2x64x512 main_v24 shapeCasts_S2x64x1x512_S2x64x512
  let main_v26 : FVec F S2x64x512 .f32 := (extf .f32 · bitsLt_bf16_f32) main_v25
  let main_cst_6 : FVec F S_ .f32 := constant S_ .f32 0x3F800000#32
  let main_v27 : FVec F S2x64x512 .f32 := broadcastInDim S2x64x512 ![] bcast_S_S2x64x512 main_cst_6
  let main_v28 : IVec S2x64x512 1 := cmpf .oeq main_v26 main_v27
  let main_c_7 : IVec S_ 1 := constantI S_ 1 1#1
  let main_v29 : IVec S_ 1 := (fun x v => Host.reduce IntOp.andi x v reducesTo_S2x64x512_S_d0_1_2 h_S_) main_v28 main_c_7
  let main_v30 : IVec S_ 1 := andi main_v23 main_v29
  main_v30

def fn {F : FTy → Type} [FloatOps F] (main_arg0 : FVec F S2x256x131072 .bf16) (main_arg1 : FVec F S32768x512 .bf16) (main_arg2 : FVec F S2x64x144x512 .bf16) : IVec S_ 1 :=
  let main_v0 : FVec F S32768x2x256 .bf16 := shapeCast S32768x2x256 main_arg1 shapeCasts_S32768x512_S32768x2x256
  let main_v1 : FVec F S32768x2x256 .f32 := (extf .f32 · bitsLt_bf16_f32) main_v0
  let main_v2 : FVec F S2x256x131072 .f32 := (extf .f32 · bitsLt_bf16_f32) main_arg0
  let main_v3 : FVec F S2x256x131072 .f32 := Host.absf main_v2
  let main_cst : FVec F S_ .f32 := constant S_ .f32 0x7F800000#32
  let main_v4 : FVec F S2x256x131072 .f32 := broadcastInDim S2x256x131072 ![] bcast_S_S2x256x131072 main_cst
  let main_v5 : IVec S2x256x131072 1 := cmpf .olt main_v3 main_v4
  let main_c : IVec S_ 1 := constantI S_ 1 1#1
  let main_v6 : IVec S_ 1 := (fun x v => Host.reduce IntOp.andi x v reducesTo_S2x256x131072_S_d0_1_2 h_S_) main_v5 main_c
  let main_v7 : FVec F S32768x512 .f32 := (extf .f32 · bitsLt_bf16_f32) main_arg1
  let main_v8 : FVec F S32768x512 .f32 := Host.absf main_v7
  let main_cst_0 : FVec F S_ .f32 := constant S_ .f32 0x7F800000#32
  let main_v9 : FVec F S32768x512 .f32 := broadcastInDim S32768x512 ![] bcast_S_S32768x512 main_cst_0
  let main_v10 : IVec S32768x512 1 := cmpf .olt main_v8 main_v9
  let main_c_1 : IVec S_ 1 := constantI S_ 1 1#1
  let main_v11 : IVec S_ 1 := (fun x v => Host.reduce IntOp.andi x v reducesTo_S32768x512_S_d0_1 h_S_) main_v10 main_c_1
  let main_v12 : IVec S_ 1 := andi main_v6 main_v11
  let main_v13 : FVec F S32768x2x1 .f32 := (extractStridedSlice S32768x2x1 ![0, 0, 128] · slices_S32768x2x256_S32768x2x1_0_0_128) main_v1
  let main_v14 : FVec F S32768x2 .f32 := shapeCast S32768x2 main_v13 shapeCasts_S32768x2x1_S32768x2
  let main_cst_2 : FVec F S_ .f32 := constant S_ .f32 0x3F800000#32
  let main_v15 : FVec F S32768x2 .f32 := broadcastInDim S32768x2 ![] bcast_S_S32768x2 main_cst_2
  let main_v16 : IVec S32768x2 1 := cmpf .oeq main_v14 main_v15
  let main_c_3 : IVec S_ 1 := constantI S_ 1 1#1
  let main_v17 : IVec S_ 1 := (fun x v => Host.reduce IntOp.andi x v reducesTo_S32768x2_S_d0_1 h_S_) main_v16 main_c_3
  fn_part1 (F := F) main_arg2 main_v1 main_v12 main_v17
-- ==== Pre_comparable.lean ====
abbrev S32768x768 : Shape := ⟨2, ![32768, 768]⟩
abbrev S32768x12288 : Shape := ⟨2, ![32768, 12288]⟩
abbrev S32768x256 : Shape := ⟨2, ![32768, 256]⟩
abbrev S_ : Shape := ⟨0, ![]⟩

class Facts : Prop where
  slices_S32768x768_S32768x256_0_0 : S32768x768.Slices ![0, 0] S32768x256
  bitsLt_bf16_f32 : FTy.bits .bf16 < FTy.bits .f32
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x768 .bf16) (main_arg1 : FVec F S32768x768 .bf16) (main_arg2 : FVec F S32768x12288 .bf16) : IVec S_ 1 :=
  let main_v0 : FVec F S32768x256 .bf16 := (extractStridedSlice S32768x256 ![0, 0] · slices_S32768x768_S32768x256_0_0) main_arg0
  let main_v1 : FVec F S32768x256 .f32 := (extf .f32 · bitsLt_bf16_f32) main_v0
  let main_v2 : FVec F S32768x256 .f32 := Host.absf main_v1
  let main_cst : FVec F S_ .f32 := constant S_ .f32 0x7F800000#32
  let main_v3 : FVec F S32768x256 .f32 := broadcastInDim S32768x256 ![] bcast_S_S32768x256 main_cst
  let main_v4 : IVec S32768x256 1 := cmpf .olt main_v2 main_v3
  let main_c : IVec S_ 1 := constantI S_ 1 1#1
  let main_v5 : IVec S_ 1 := (fun x v => Host.reduce IntOp.andi x v reducesTo_S32768x256_S_d0_1 h_S_) main_v4 main_c
  let main_v6 : FVec F S32768x256 .bf16 := (extractStridedSlice S32768x256 ![0, 0] · slices_S32768x768_S32768x256_0_0) main_arg1
  let main_v7 : FVec F S32768x256 .f32 := (extf .f32 · bitsLt_bf16_f32) main_v6
  let main_v8 : FVec F S32768x256 .f32 := Host.absf main_v7
  let main_cst_0 : FVec F S_ .f32 := constant S_ .f32 0x7F800000#32
  let main_v9 : FVec F S32768x256 .f32 := broadcastInDim S32768x256 ![] bcast_S_S32768x256 main_cst_0
  let main_v10 : IVec S32768x256 1 := cmpf .olt main_v8 main_v9
  let main_c_1 : IVec S_ 1 := constantI S_ 1 1#1
  let main_v11 : IVec S_ 1 := (fun x v => Host.reduce IntOp.andi x v reducesTo_S32768x256_S_d0_1 h_S_) main_v10 main_c_1
  let main_v12 : IVec S_ 1 := andi main_v5 main_v11
  main_v12
-- ==== Pre_weighable.lean ====
abbrev S32768x1024 : Shape := ⟨2, ![32768, 1024]⟩
abbrev S16384x1024 : Shape := ⟨2, ![16384, 1024]⟩
abbrev S32768x256 : Shape := ⟨2, ![32768, 256]⟩
abbrev S32768x12288 : Shape := ⟨2, ![32768, 12288]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x1024 .f32) (main_arg1 : FVec F S16384x1024 .bf16) (main_arg2 : FVec F S16384x1024 .bf16) (main_arg3 : FVec F S32768x256 .bf16) (main_arg4 : FVec F S32768x256 .bf16) (main_arg5 : FVec F S32768x256 .bf16) (main_arg6 : FVec F S32768x256 .f32) (main_arg7 : FVec F S32768x256 .f32) (main_arg8 : FVec F S32768x256 .f32) (main_arg9 : FVec F S32768x1024 .bf16) (main_arg10 : FVec F S32768x1024 .bf16) (main_arg11 : FVec F S32768x12288 .bf16) (main_arg12 : FVec F S1x1024 .f32) (main_arg13 : FVec F S1024x1024 .bf16) (main_arg14 : FVec F S256x1024 .bf16) (main_arg15 : FVec F S1024x1024 .bf16) (main_arg16 : FVec F S1024x1024 .bf16) : IVec S_ 1 :=
  let main_v0 : FVec F S32768x256 .f32 := Host.absf main_arg6
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg7
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg8
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  main_v13
-- ==== Kernel.lean ====
abbrev S2x256x131072 : Shape := ⟨3, ![2, 256, 131072]⟩
abbrev S32768x512 : Shape := ⟨2, ![32768, 512]⟩
abbrev S2x64x144x512 : Shape := ⟨4, ![2, 64, 144, 512]⟩
abbrev S16384x1024 : Shape := ⟨2, ![16384, 1024]⟩
abbrev S1x256x2048 : Shape := ⟨3, ![1, 256, 2048]⟩
abbrev S16384x256 : Shape := ⟨2, ![16384, 256]⟩
abbrev S1x32x144x512 : Shape := ⟨4, ![1, 32, 144, 512]⟩
abbrev S512x512 : Shape := ⟨2, ![512, 512]⟩
abbrev S144x2048 : Shape := ⟨2, ![144, 2048]⟩
abbrev S8x2048 : Shape := ⟨2, ![8, 2048]⟩
abbrev S512x256 : Shape := ⟨2, ![512, 256]⟩
abbrev S256x2048 : Shape := ⟨2, ![256, 2048]⟩
abbrev S512x2048 : Shape := ⟨2, ![512, 2048]⟩
abbrev S1x1x144x512 : Shape := ⟨4, ![1, 1, 144, 512]⟩
abbrev S144x512 : Shape := ⟨2, ![144, 512]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S2048 : Shape := ⟨1, ![2048]⟩
abbrev S128x2048 : Shape := ⟨2, ![128, 2048]⟩
abbrev S128x512 : Shape := ⟨2, ![128, 512]⟩
abbrev S512x128 : Shape := ⟨2, ![512, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x256x131072, .bf16⟩
  | .hbm, ⟨1, _⟩ => ⟨S32768x512, .bf16⟩
  | .hbm, ⟨2, _⟩ => ⟨S2x64x144x512, .bf16⟩
  | .hbm, ⟨3, _⟩ => ⟨S16384x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S16384x256, .bf16⟩
  | .local _ .vmem, ⟨3, _⟩ => ⟨S1x32x144x512, .bf16⟩
  | .local _ .vmem, ⟨4, _⟩ => ⟨S512x512, .bf16⟩
  | .local _ .vmem, ⟨5, _⟩ => ⟨S512x512, .bf16⟩
  | .local _ .vmem, ⟨6, _⟩ => ⟨S144x2048, .f32⟩
  | .local _ .vmem, ⟨7, _⟩ => ⟨S8x2048, .f32⟩
  | _, _ => ⟨S2x256x131072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 2, 32], ![false, false, false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v33 : BitVec 32 := Scalar.muli arg9 c512_i32
  v33
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v33 : BitVec 32 := Scalar.muli arg9 c512_i32
  let v34 : BitVec 32 := v33
  let v35 : Index := Scalar.indexCast v34
  let c0_16 : Index := 0#32
  ![v35.toNat, 0]
def k0_off2 (k0_t1 : Fin k0_t1_loop.trips) : Fin 4 → Nat :=
  let c0_23 : Index := 0#32
  let c0_i32 : BitVec 32 := 0#32
  let c1_i32 : BitVec 32 := 1#32
  let arg9 : BitVec 32 := Scf.iv c0_i32 c1_i32 k0_t1
  let v43 : Index := Scalar.indexCast arg9
  let c0_24 : Index := 0#32
  let c0_25 : Index := 0#32
  ![0, v43.toNat, 0, 0]
@[reducible] def k0_t2_loop : Scf.Loop 32 :=
  let c0_i32_19 : BitVec 32 := 0#32
  let c32_i32_20 : BitVec 32 := 32#32
  let v37 : BitVec 32 := Scalar.addi c0_i32_19 c32_i32_20
  let c1_i32_21 : BitVec 32 := 1#32
  ⟨c0_i32_19, v37, c1_i32_21⟩
def k0_mult2 (k0_t2 : Fin k0_t2_loop.trips) : BitVec 32 :=
  let c0_i32_19 : BitVec 32 := 0#32
  let c1_i32_21 : BitVec 32 := 1#32
  let arg9 : BitVec 32 := Scf.iv c0_i32_19 c1_i32_21 k0_t2
  let c512_i32 : BitVec 32 := 512#32
  let v44 : BitVec 32 := Scalar.muli arg9 c512_i32
  v44
def k0_off3 (k0_t2 : Fin k0_t2_loop.trips) : Fin 2 → Nat :=
  let c0_i32_19 : BitVec 32 := 0#32
  let c1_i32_21 : BitVec 32 := 1#32
  let arg9 : BitVec 32 := Scf.iv c0_i32_19 c1_i32_21 k0_t2
  let c512_i32 : BitVec 32 := 512#32
  let v44 : BitVec 32 := Scalar.muli arg9 c512_i32
  let v45 : BitVec 32 := v44
  let v46 : Index := Scalar.indexCast v45
  let c0_32 : Index := 0#32
  ![v46.toNat, 0]
@[reducible] def k0_t3_loop : Scf.Loop 32 :=
  let c0_i32_26 : BitVec 32 := 0#32
  let c32_i32_27 : BitVec 32 := 32#32
  let v42 : BitVec 32 := Scalar.addi c0_i32_26 c32_i32_27
  let c1_i32_28 : BitVec 32 := 1#32
  ⟨c0_i32_26, v42, c1_i32_28⟩
def k0_mult3 (k0_t3 : Fin k0_t3_loop.trips) : BitVec 32 :=
  let c0_i32_26 : BitVec 32 := 0#32
  let c1_i32_28 : BitVec 32 := 1#32
  let arg9 : BitVec 32 := Scf.iv c0_i32_26 c1_i32_28 k0_t3
  let c512_i32 : BitVec 32 := 512#32
  let v43 : BitVec 32 := Scalar.muli arg9 c512_i32
  v43
def k0_off4 (k0_t3 : Fin k0_t3_loop.trips) : Fin 2 → Nat :=
  let c0_i32_26 : BitVec 32 := 0#32
  let c1_i32_28 : BitVec 32 := 1#32
  let arg9 : BitVec 32 := Scf.iv c0_i32_26 c1_i32_28 k0_t3
  let c512_i32 : BitVec 32 := 512#32
  let v43 : BitVec 32 := Scalar.muli arg9 c512_i32
  let v44 : BitVec 32 := v43
  let v45 : Index := Scalar.indexCast v44
  let c0_30 : Index := 0#32
  ![v45.toNat, 0]
def k0_off5 (k0_t3 : Fin k0_t3_loop.trips) : Fin 4 → Nat :=
  let c0_39 : Index := 0#32
  let c0_i32_26 : BitVec 32 := 0#32
  let c1_i32_28 : BitVec 32 := 1#32
  let arg9 : BitVec 32 := Scf.iv c0_i32_26 c1_i32_28 k0_t3
  let v56 : Index := Scalar.indexCast arg9
  let c0_40 : Index := 0#32
  let c0_41 : Index := 0#32
  ![0, v56.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c32_i32_0 : BitVec 32 := 32#32
  let v1 : BitVec 32 := Scalar.addi c32_i32_0 v0
  let v2 : BitVec 32 := Scalar.addi v1 arg2
  let c0_i32 : BitVec 32 := 0#32
  let c0_i32_1 : BitVec 32 := 0#32
  ![arg1.toNat, c0_i32.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![v0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x32x144x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x256x131072 : Shape := ⟨3, ![2, 256, 131072]⟩
abbrev S32768x512 : Shape := ⟨2, ![32768, 512]⟩
abbrev S2x64x144x512 : Shape := ⟨4, ![2, 64, 144, 512]⟩
abbrev S2x128x65536 : Shape := ⟨3, ![2, 128, 65536]⟩
abbrev S2x128x32x4x512 : Shape := ⟨5, ![2, 128, 32, 4, 512]⟩
abbrev S32x512x2x4x128 : Shape := ⟨5, ![32, 512, 2, 4, 128]⟩
abbrev S16384x2x4x128 : Shape := ⟨4, ![16384, 2, 4, 128]⟩
abbrev S16384x512 : Shape := ⟨2, ![16384, 512]⟩
abbrev S16384x2x256 : Shape := ⟨3, ![16384, 2, 256]⟩
abbrev S16384x2x128 : Shape := ⟨3, ![16384, 2, 128]⟩
abbrev S2x32x128x512 : Shape := ⟨4, ![2, 32, 128, 512]⟩
abbrev S32x512x2x128 : Shape := ⟨4, ![32, 512, 2, 128]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x131072, .bf16⟩
  | .hbm, ⟨1, _⟩ => ⟨S32768x512, .bf16⟩
  | .hbm, ⟨2, _⟩ => ⟨S2x64x144x512, .bf16⟩
  | .hbm, ⟨3, _⟩ => ⟨S2x256x131072, .f32⟩
  | .hbm, ⟨4, _⟩ => ⟨S2x128x65536, .f32⟩
  | .hbm, ⟨5, _⟩ => ⟨S2x128x32x4x512, .f32⟩
  | .hbm, ⟨6, _⟩ => ⟨S32x512x2x4x128, .f32⟩
  | .hbm, ⟨7, _⟩ => ⟨S16384x2x4x128, .f32⟩
  | .hbm, ⟨8, _⟩ => ⟨S32768x512, .f32⟩
  | .hbm, ⟨9, _⟩ => ⟨S16384x512, .f32⟩
  | .hbm, ⟨10, _⟩ => ⟨S16384x2x256, .f32⟩
  | .hbm, ⟨11, _⟩ => ⟨S16384x2x128, .f32⟩
  | .hbm, ⟨12, _⟩ => ⟨S2x64x144x512, .f32⟩
  | .hbm, ⟨13, _⟩ => ⟨S2x32x128x512, .f32⟩
  | .hbm, ⟨14, _⟩ => ⟨S32x512x2x128, .f32⟩
  | .hbm, ⟨15, _⟩ => ⟨S16384x2x128, .f32⟩
  | .hbm, ⟨16, _⟩ => ⟨S2x16384x16384x4, .f32⟩
  | .hbm, ⟨17, _⟩ => ⟨S2x4x16384x16384, .f32⟩
  | .hbm, ⟨18, _⟩ => ⟨S_, .f32⟩
  | .hbm, ⟨19, _⟩ => ⟨S_, .f32⟩
  | .hbm, ⟨20, _⟩ => ⟨S2x4x16384x16384, .f32⟩
  | .hbm, ⟨21, _⟩ => ⟨S2x4x16384x16384, .f32⟩
  | .hbm, ⟨22, _⟩ => ⟨S_, .f32⟩
  | .hbm, ⟨23, _⟩ => ⟨S2x4x16384, .f32⟩
  | .hbm, ⟨24, _⟩ => ⟨S_, .f32⟩
  | .hbm, ⟨25, _⟩ => ⟨S2x4x16384, .f32⟩
  | .hbm, ⟨26, _⟩ => ⟨S2x4x16384, .f32⟩
  | .hbm, ⟨27, _⟩ => ⟨S2x4x16384x1, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S_, .f32⟩
  | .hbm, ⟨32, _⟩ => ⟨S2x4x16384, .f32⟩
  | .hbm, ⟨33, _⟩ => ⟨S2x4x16384x1, .f32⟩
  | .hbm, ⟨34, _⟩ => ⟨S2x4x16384x16384, .f32⟩
  | .hbm, ⟨35, _⟩ => ⟨S2x4x16384x16384, .f32⟩
  | .hbm, ⟨36, _⟩ => ⟨S2x128x4x16384, .f32⟩
  | .hbm, ⟨37, _⟩ => ⟨S16384x2x4x128, .f32⟩
  | .hbm, ⟨38, _⟩ => ⟨S16384x1024, .f32⟩
  | .hbm, ⟨39, _⟩ => ⟨S16384x1024, .bf16⟩
  | _, _ => ⟨S2x256x131072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1024x12288 : Shape := ⟨2, ![1024, 12288]⟩
abbrev S32768x12288 : Shape := ⟨2, ![32768, 12288]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x12288, .bf16⟩
  | .hbm, ⟨3, _⟩ => ⟨S32768x12288, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S32768x1024 : Shape := ⟨2, ![32768, 1024]⟩
abbrev S1x1024 : Shape := ⟨2, ![1, 1024]⟩
abbrev S1024x12288 : Shape := ⟨2, ![1024, 12288]⟩
abbrev S_ : Shape := ⟨0, ![]⟩
abbrev S32768 : Shape := ⟨1, ![32768]⟩
abbrev S32768x1 : Shape := ⟨2, ![32768, 1]⟩
abbrev S32768x12288 : Shape := ⟨2, ![32768, 12288]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x12288, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x12288, .f32⟩
  | .hbm, ⟨19, _⟩ => ⟨S32768x12288, .f32⟩
  | .hbm, ⟨20, _⟩ => ⟨S32768x12288, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S64 : Shape := ⟨1, ![64]⟩
abbrev S512x1024 : Shape := ⟨2, ![512, 1024]⟩
abbrev S8x1024 : Shape := ⟨2, ![8, 1024]⟩
abbrev S528x1024 : Shape := ⟨2, ![528, 1024]⟩
abbrev S512 : Shape := ⟨1, ![512]⟩
abbrev S512x1 : Shape := ⟨2, ![512, 1]⟩
abbrev S8 : Shape := ⟨1, ![8]⟩
abbrev S8x1 : Shape := ⟨2, ![8, 1]⟩
abbrev S1 : Shape := ⟨1, ![1]⟩
abbrev S512x256 : Shape := ⟨2, ![512, 256]⟩
abbrev S1024x256 : Shape := ⟨2, ![1024, 256]⟩
abbrev S528x256 : Shape := ⟨2, ![528, 256]⟩
abbrev S1x256 : Shape := ⟨2, ![1, 256]⟩
abbrev S3x256 : Shape := ⟨2, ![3, 256]⟩
abbrev S256x1024 : Shape := ⟨2, ![256, 1024]⟩

abbrev nBuf : Space → Nat
  | .hbm => 7
  | .vmem => 14
  | .smem => 2
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S528x1024, .bf16⟩
  | .local _ .smem, ⟨0, _⟩ => ⟨S64, .i32⟩
  | .local _ .smem, ⟨1, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v52 : Index := Scalar.indexCast arg0
  ![v52.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S32768x1024 : Shape := ⟨2, ![32768, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S16384x1024 : Shape := ⟨2, ![16384, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S5632 : Shape := ⟨1, ![5632]⟩
abbrev S1x1x5632 : Shape := ⟨3, ![1, 1, 5632]⟩
abbrev S4x4096x2816 : Shape := ⟨3, ![4, 4096, 2816]⟩
abbrev S1x16384x1024 : Shape := ⟨3, ![1, 16384, 1024]⟩
abbrev S1x16384 : Shape := ⟨2, ![1, 16384]⟩
abbrev S1x16384x1 : Shape := ⟨3, ![1, 16384, 1]⟩
abbrev S1x16384x5632 : Shape := ⟨3, ![1, 16384, 5632]⟩
abbrev S1x16386x5632 : Shape := ⟨3, ![1, 16386, 5632]⟩
abbrev S1x16384x2816 : Shape := ⟨3, ![1, 16384, 2816]⟩

abbrev nBuf : Space → Nat
  | .hbm => 133
  | .vmem => 0
  | .smem => 0
  | _ => 0

abbrev hbmTy0_0 (i : Nat) : BufTy := match i % 128 with
  | 0 => ⟨S32768x1024, .f32⟩
  | 1 => ⟨S1x1024, .f32⟩
  | 2 => ⟨S1024x5632, .bf16⟩
  | 3 => ⟨S3x5632, .f32⟩
  | 4 => ⟨S1x5632, .f32⟩
  | 5 => ⟨S2816x1024, .bf16⟩
  | 6 => ⟨S16384x1024, .f32⟩
  | 7 => ⟨S4x4096x1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1024x5632, .f32⟩
  | 25 => ⟨S4x4096x5632, .f32⟩
  | 26 => ⟨S_, .i32⟩
  | 27 => ⟨S_, .f32⟩
  | 28 => ⟨S4x4098x5632, .f32⟩
  | 29 => ⟨S4x4096x5632, .f32⟩
  | 30 => ⟨S1x5632, .f32⟩
  | 31 => ⟨S5632, .f32⟩
  | 32 => ⟨S1x1x5632, .f32⟩
  | 33 => ⟨S4x4096x5632, .f32⟩
  | 34 => ⟨S4x4096x5632, .f32⟩
  | 35 => ⟨S4x4096x5632, .f32⟩
  | 36 => ⟨S1x5632, .f32⟩
  | 37 => ⟨S5632, .f32⟩
  | 38 => ⟨S1x1x5632, .f32⟩
  | 39 => ⟨S4x4096x5632, .f32⟩
  | 40 => ⟨S4x4096x5632, .f32⟩
  | 41 => ⟨S4x4096x5632, .f32⟩
  | 42 => ⟨S4x4096x5632, .f32⟩
  | 43 => ⟨S1x5632, .f32⟩
  | 44 => ⟨S5632, .f32⟩
  | 45 => ⟨S1x1x5632, .f32⟩
  | 46 => ⟨S4x4096x5632, .f32⟩
  | 47 => ⟨S4x4096x5632, .f32⟩
  | 48 => ⟨S4x4096x5632, .f32⟩
  | 49 => ⟨S5632, .f32⟩
  | 50 => ⟨S1x1x5632, .f32⟩
  | 51 => ⟨S4x4096x5632, .f32⟩
  | 52 => ⟨S4x4096x5632, .f32⟩
  | 53 => ⟨S4x4096x2816, .f32⟩
  | 54 => ⟨S4x4096x2816, .f32⟩
  | 55 => ⟨S4x4096x2816, .f32⟩
  | 56 => ⟨S4x4096x2816, .f32⟩
  | 57 => ⟨S_, .f32⟩
  | 58 => ⟨S4x4096x2816, .f32⟩
  | 59 => ⟨S4x4096x2816, .f32⟩
  | 60 => ⟨S_, .f32⟩
  | 61 => ⟨S4x4096x2816, .f32⟩
  | 62 => ⟨S4x4096x2816, .f32⟩
  | 63 => ⟨S4x4096x2816, .f32⟩
  | 64 => ⟨S4x4096x2816, .f32⟩
  | 65 => ⟨S2816x1024, .f32⟩
  | 66 => ⟨S4x4096x1024, .f32⟩
  | 67 => ⟨S4x4096x1024, .f32⟩
  | 68 => ⟨S16384x1024, .f32⟩
  | 69 => ⟨S16384x1024, .f32⟩
  | 70 => ⟨S1x16384x1024, .f32⟩
  | 71 => ⟨S1x16384x1024, .f32⟩
  | 72 => ⟨S_, .f32⟩
  | 73 => ⟨S1x16384, .f32⟩
  | 74 => ⟨S1x16384x1, .f32⟩
  | 75 => ⟨S_, .f32⟩
  | 76 => ⟨S1x16384x1, .f32⟩
  | 77 => ⟨S1x16384x1, .f32⟩
  | 78 => ⟨S_, .f32⟩
  | 79 => ⟨S1x16384x1, .f32⟩
  | 80 => ⟨S1x16384x1, .f32⟩
  | 81 => ⟨S1x16384x1, .f32⟩
  | 82 => ⟨S1x16384x1024, .f32⟩
  | 83 => ⟨S1x16384x1024, .f32⟩
  | 84 => ⟨S1x1x1024, .f32⟩
  | 85 => ⟨S1x16384x1024, .f32⟩
  | 86 => ⟨S1x16384x1024, .f32⟩
  | 87 => ⟨S1024x5632, .f32⟩
  | 88 => ⟨S1x16384x5632, .f32⟩
  | 89 => ⟨S_, .i32⟩
  | 90 => ⟨S_, .f32⟩
  | 91 => ⟨S1x16386x5632, .f32⟩
  | 92 => ⟨S1x16384x5632, .f32⟩
  | 93 => ⟨S1x5632, .f32⟩
  | 94 => ⟨S5632, .f32⟩
  | 95 => ⟨S1x1x5632, .f32⟩
  | 96 => ⟨S1x16384x5632, .f32⟩
  | 97 => ⟨S1x16384x5632, .f32⟩
  | 98 => ⟨S1x16384x5632, .f32⟩
  | 99 => ⟨S1x5632, .f32⟩
  | 100 => ⟨S5632, .f32⟩
  | 101 => ⟨S1x1x5632, .f32⟩
  | 102 => ⟨S1x16384x5632, .f32⟩
  | 103 => ⟨S1x16384x5632, .f32⟩
  | 104 => ⟨S1x16384x5632, .f32⟩
  | 105 => ⟨S1x16384x5632, .f32⟩
  | 106 => ⟨S1x5632, .f32⟩
  | 107 => ⟨S5632, .f32⟩
  | 108 => ⟨S1x1x5632, .f32⟩
  | 109 => ⟨S1x16384x5632, .f32⟩
  | 110 => ⟨S1x16384x5632, .f32⟩
  | 111 => ⟨S1x16384x5632, .f32⟩
  | 112 => ⟨S5632, .f32⟩
  | 113 => ⟨S1x1x5632, .f32⟩
  | 114 => ⟨S1x16384x5632, .f32⟩
  | 115 => ⟨S1x16384x5632, .f32⟩
  | 116 => ⟨S1x16384x2816, .f32⟩
  | 117 => ⟨S1x16384x2816, .f32⟩
  | 118 => ⟨S1x16384x2816, .f32⟩
  | 119 => ⟨S1x16384x2816, .f32⟩
  | 120 => ⟨S_, .f32⟩
  | 121 => ⟨S1x16384x2816, .f32⟩
  | 122 => ⟨S1x16384x2816, .f32⟩
  | 123 => ⟨S_, .f32⟩
  | 124 => ⟨S1x16384x2816, .f32⟩
  | 125 => ⟨S1x16384x2816, .f32⟩
  | 126 => ⟨S1x16384x2816, .f32⟩
  | 127 => ⟨S1x16384x2816, .f32⟩
  | _ => ⟨S32768x1024, .f32⟩

abbrev hbmTy0_1 (i : Nat) : BufTy := match i % 128 with
  | 0 => ⟨S2816x1024, .f32⟩
  | 1 => ⟨S1x16384x1024, .f32⟩
  | 2 => ⟨S1x16384x1024, .f32⟩
  | 3 => ⟨S16384x1024, .f32⟩
  | 4 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_5 : Ref sig .tc := ⟨.hbm, 89, rfl⟩
abbrev main_call2_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Merge.lean ====
abbrev S32768x1024 : Shape := ⟨2, ![32768, 1024]⟩
abbrev S16384x1024 : Shape := ⟨2, ![16384, 1024]⟩
abbrev S32768x256 : Shape := ⟨2, ![32768, 256]⟩
abbrev S32768x12288 : Shape := ⟨2, ![32768, 12288]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩

abbrev nBuf : Space → Nat
  | .hbm => 18
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S16384x1024, .bf16⟩
  | .hbm, ⟨2, _⟩ => ⟨S16384x1024, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x1024, .bf16⟩
  | .hbm, ⟨10, _⟩ => ⟨S32768x1024, .bf16⟩
  | .hbm, ⟨11, _⟩ => ⟨S32768x12288, .bf16⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S1024x1024, .bf16⟩
  | .hbm, ⟨16, _⟩ => ⟨S1024x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x3072, .bf16⟩
  | .local _ .vmem, ⟨25, _⟩ => ⟨S512x3072, .bf16⟩
  | .local _ .vmem, ⟨26, _⟩ => ⟨S1x1024, .f32⟩
  | .local _ .vmem, ⟨27, _⟩ => ⟨S1024x1024, .bf16⟩
  | .local _ .vmem, ⟨28, _⟩ => ⟨S256x1024, .bf16⟩
  | .local _ .vmem, ⟨29, _⟩ => ⟨S1024x1024, .bf16⟩
  | .local _ .vmem, ⟨30, _⟩ => ⟨S1024x1024, .bf16⟩
  | .local _ .vmem, ⟨31, _⟩ => ⟨S512x1024, .f32⟩
  | .local _ .vmem, ⟨32, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeReferenceIdeal.lean ====
abbrev S32768x1024 : Shape := ⟨2, ![32768, 1024]⟩
abbrev S16384x1024 : Shape := ⟨2, ![16384, 1024]⟩
abbrev S32768x256 : Shape := ⟨2, ![32768, 256]⟩
abbrev S32768x12288 : Shape := ⟨2, ![32768, 12288]⟩
abbrev S1x1024 : Shape := ⟨2, ![1, 1024]⟩
abbrev S1024x1024 : Shape := ⟨2, ![1024, 1024]⟩
abbrev S256x1024 : Shape := ⟨2, ![256, 1024]⟩
abbrev S1x32768x256 : Shape := ⟨3, ![1, 32768, 256]⟩
abbrev S3x32768x256 : Shape := ⟨3, ![3, 32768, 256]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩

abbrev nBuf : Space → Nat
  | .hbm => 102
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16384x1024, .bf16⟩
  | .hbm, ⟨2, _⟩ => ⟨S16384x1024, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x1024, .bf16⟩
  | .hbm, ⟨10, _⟩ => ⟨S32768x1024, .bf16⟩
  | .hbm, ⟨11, _⟩ => ⟨S32768x12288, .bf16⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S1024x1024, .bf16⟩
  | .hbm, ⟨16, _⟩ => ⟨S1024x1024, .bf16⟩
  | .hbm, ⟨17, _⟩ => ⟨S32768x1024, .bf16⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S1x32768x256, .f32⟩
  | .hbm, ⟨22, _⟩ => ⟨S1x32768x256, .f32⟩
  | .hbm, ⟨23, _⟩ => ⟨S1x32768x256, .f32⟩
  | .hbm, ⟨24, _⟩ => ⟨S3x32768x256, .f32⟩
  | .hbm, ⟨25, _⟩ => ⟨S_, .f32⟩
  | .hbm, ⟨26, _⟩ => ⟨S32768x256, .f32⟩
  | .hbm, ⟨27, _⟩ => ⟨S_, .f32⟩
  | .hbm, ⟨28, _⟩ => ⟨S32768x256, .f32⟩
  | .hbm, ⟨29, _⟩ => ⟨S32768x256, .f32⟩
  | .hbm, ⟨30, _⟩ => ⟨S1x32768x256, .f32⟩
  | .hbm, ⟨31, _⟩ => ⟨S3x32768x256, .f32⟩
  | .hbm, ⟨32, _⟩ => ⟨S3x32768x256, .f32⟩
  | .hbm, ⟨33, _⟩ => ⟨S3x32768x256, .f32⟩
  | .hbm, ⟨34, _⟩ => ⟨S_, .f32⟩
  | .hbm, ⟨35, _⟩ => ⟨S32768x256, .f32⟩
  | .hbm, ⟨36, _⟩ => ⟨S1x32768x256, .f32⟩
  | .hbm, ⟨37, _⟩ => ⟨S3x32768x256, .f32⟩
  | .hbm, ⟨38, _⟩ => ⟨S3x32768x256, .f32⟩
  | .hbm, ⟨39, _⟩ => ⟨S1x32768x256, .bf16⟩
  | .hbm, ⟨40, _⟩ => ⟨S1x32768x256, .bf16⟩
  | .hbm, ⟨41, _⟩ => ⟨S1x32768x256, .bf16⟩
  | .hbm, ⟨42, _⟩ => ⟨S3x32768x256, .bf16⟩
  | .hbm, ⟨43, _⟩ => ⟨S3x32768x256, .f32⟩
  | .hbm, ⟨44, _⟩ => ⟨S3x32768x256, .f32⟩
  | .hbm, ⟨45, _⟩ => ⟨S_, .f32⟩
  | .hbm, ⟨46, _⟩ => ⟨S32768x256, .f32⟩
  | .hbm, ⟨47, _⟩ => ⟨S256x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .bf16⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S1024x1024, .f32⟩
  | .hbm, ⟨80, _⟩ => ⟨S32768x1024, .f32⟩
  | .hbm, ⟨81, _⟩ => ⟨S32768x3072, .bf16⟩
  | .hbm, ⟨82, _⟩ => ⟨S32768x3072, .f32⟩
  | .hbm, ⟨83, _⟩ => ⟨S32768x3072, .f32⟩
  | .hbm, ⟨84, _⟩ => ⟨S32768x3072, .f32⟩
  | .hbm, ⟨85, _⟩ => ⟨S_, .f32⟩
  | .hbm, ⟨86, _⟩ => ⟨S32768x3072, .f32⟩
  | .hbm, ⟨87, _⟩ => ⟨S32768x3072, .f32⟩
  | .hbm, ⟨88, _⟩ => ⟨S_, .f32⟩
  | .hbm, ⟨89, _⟩ => ⟨S32768x3072, .f32⟩
  | .hbm, ⟨90, _⟩ => ⟨S32768x3072, .f32⟩
  | .hbm, ⟨91, _⟩ => ⟨S32768x1024, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S1024x1024, .f32⟩
  | .hbm, ⟨100, _⟩ => ⟨S32768x1024, .f32⟩
  | .hbm, ⟨101, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Cross.lean ====
abbrev S32768x1024 : Shape := ⟨2, ![32768, 1024]⟩
abbrev S1x1024 : Shape := ⟨2, ![1, 1024]⟩
abbrev S1024x1024 : Shape := ⟨2, ![1024, 1024]⟩
abbrev S1x256 : Shape := ⟨2, ![1, 256]⟩
abbrev S5x256x1024 : Shape := ⟨3, ![5, 256, 1024]⟩
abbrev S64 : Shape := ⟨1, ![64]⟩
abbrev S512x1024 : Shape := ⟨2, ![512, 1024]⟩
abbrev S1x256x1024 : Shape := ⟨3, ![1, 256, 1024]⟩
abbrev S1 : Shape := ⟨1, ![1]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 8
  | .vmem => 12
  | .smem => 1
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x1024, .bf16⟩
  | .hbm, ⟨3, _⟩ => ⟨S1x256, .f32⟩
  | .hbm, ⟨4, _⟩ => ⟨S5x256x1024, .bf16⟩
  | .hbm, ⟨5, _⟩ => ⟨S5x256x1024, .bf16⟩
  | .hbm, ⟨6, _⟩ => ⟨S1024x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .smem, ⟨0, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CrossReferenceIdeal.lean ====
abbrev S32768x1024 : Shape := ⟨2, ![32768, 1024]⟩
abbrev S1x1024 : Shape := ⟨2, ![1, 1024]⟩
abbrev S1024x1024 : Shape := ⟨2, ![1024, 1024]⟩
abbrev S1x256 : Shape := ⟨2, ![1, 256]⟩
abbrev S5x256x1024 : Shape := ⟨3, ![5, 256, 1024]⟩
abbrev S5x256x4x256 : Shape := ⟨4, ![5, 256, 4, 256]⟩
abbrev S16384x1024 : Shape := ⟨2, ![16384, 1024]⟩
abbrev S4x4096x1024 : Shape := ⟨3, ![4, 4096, 1024]⟩
abbrev S4x256x4x256 : Shape := ⟨4, ![4, 256, 4, 256]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S256 : Shape := ⟨1, ![256]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S1x16384x1024 : Shape := ⟨3, ![1, 16384, 1024]⟩
abbrev S1x256x4x256 : Shape := ⟨4, ![1, 256, 4, 256]⟩
abbrev S1x16384 : Shape := ⟨2, ![1, 16384]⟩
abbrev S1x16384x1 : Shape := ⟨3, ![1, 16384, 1]⟩
abbrev S1x16384x4x256 : Shape := ⟨4, ![1, 16384, 4, 256]⟩
abbrev S1x16384x4 : Shape := ⟨3, ![1, 16384, 4]⟩
abbrev S1x16384x4x1 : Shape := ⟨4, ![1, 16384, 4, 1]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩

abbrev nBuf : Space → Nat
  | .hbm => 144
  | .vmem => 0
  | .smem => 0
  | _ => 0

abbrev hbmTy0_0 (i : Nat) : BufTy := match i % 128 with
  | 0 => ⟨S32768x1024, .f32⟩
  | 1 => ⟨S1x1024, .f32⟩
  | 2 => ⟨S1024x1024, .bf16⟩
  | 3 => ⟨S1x256, .f32⟩
  | 4 => ⟨S5x256x1024, .bf16⟩
  | 5 => ⟨S5x256x1024, .bf16⟩
  | 6 => ⟨S1024x1024, .bf16⟩
  | 7 => ⟨S5x256x1024, .f32⟩
  | 8 => ⟨S5x256x4x256, .f32⟩
  | 9 => ⟨S5x256x1024, .f32⟩
  | 10 => ⟨S5x256x4x256, .f32⟩
  | 11 => ⟨S16384x1024, .f32⟩
  | 12 => ⟨S4x4096x1024, .f32⟩
  | 13 => ⟨S4x256x4x256, .f32⟩
  | 14 => ⟨S4x256x4x256, .f32⟩
  | 15 => ⟨S1024, .f32⟩
  | 16 => ⟨S4x4096x1024, .f32⟩
  | 17 => ⟨S_, .f32⟩
  | 18 => ⟨S4x4096, .f32⟩
  | 19 => ⟨S4x4096x1, .f32⟩
  | 20 => ⟨S_, .f32⟩
  | 21 => ⟨S4x4096x1, .f32⟩
  | 22 => ⟨S4x4096x1, .f32⟩
  | 23 => ⟨S_, .f32⟩
  | 24 => ⟨S4x4096x1, .f32⟩
  | 25 => ⟨S4x4096x1, .f32⟩
  | 26 => ⟨S4x4096x1, .f32⟩
  | 27 => ⟨S4x4096x1024, .f32⟩
  | 28 => ⟨S4x4096x1024, .f32⟩
  | 29 => ⟨S1x1x1024, .f32⟩
  | 30 => ⟨S4x4096x1024, .f32⟩
  | 31 => ⟨S4x4096x1024, .f32⟩
  | 32 => ⟨S1024x1024, .f32⟩
  | 33 => ⟨S4x4096x1024, .f32⟩
  | 34 => ⟨S4x4096x4x256, .f32⟩
  | 35 => ⟨S256, .f32⟩
  | 36 => ⟨S4x4096x4x256, .f32⟩
  | 37 => ⟨S_, .f32⟩
  | 38 => ⟨S4x4096x4, .f32⟩
  | 39 => ⟨S4x4096x4x1, .f32⟩
  | 40 => ⟨S_, .f32⟩
  | 41 => ⟨S4x4096x4x1, .f32⟩
  | 42 => ⟨S4x4096x4x1, .f32⟩
  | 43 => ⟨S_, .f32⟩
  | 44 => ⟨S4x4096x4x1, .f32⟩
  | 45 => ⟨S4x4096x4x1, .f32⟩
  | 46 => ⟨S4x4096x4x1, .f32⟩
  | 47 => ⟨S4x4096x4x256, .f32⟩
  | 48 => ⟨S4x4096x4x256, .f32⟩
  | 49 => ⟨S1x1x1x256, .f32⟩
  | 50 => ⟨S4x4096x4x256, .f32⟩
  | 51 => ⟨S4x4096x4x256, .f32⟩
  | 52 => ⟨S4x4x4096x256, .f32⟩
  | 53 => ⟨S_, .f32⟩
  | 54 => ⟨S4x4x4096x256, .f32⟩
  | 55 => ⟨S4x4x4096x256, .f32⟩
  | 56 => ⟨S_, .f32⟩
  | 57 => ⟨S4x4x4096, .f32⟩
  | 58 => ⟨S_, .f32⟩
  | 59 => ⟨S4x4x4096, .f32⟩
  | 60 => ⟨S4x4x4096, .f32⟩
  | 61 => ⟨S4x4x4096x1, .f32⟩
  | 62 => ⟨S4x4x4096x256, .f32⟩
  | 63 => ⟨S4x4x4096x256, .f32⟩
  | 64 => ⟨S4x4x4096x256, .f32⟩
  | 65 => ⟨S_, .f32⟩
  | 66 => ⟨S4x4x4096, .f32⟩
  | 67 => ⟨S4x4x4096x1, .f32⟩
  | 68 => ⟨S4x4x4096x256, .f32⟩
  | 69 => ⟨S4x4x4096x256, .f32⟩
  | 70 => ⟨S4x4x256x4096, .f32⟩
  | 71 => ⟨S4x4096x4x256, .f32⟩
  | 72 => ⟨S4x4096x1024, .f32⟩
  | 73 => ⟨S1024x1024, .f32⟩
  | 74 => ⟨S4x4096x1024, .f32⟩
  | 75 => ⟨S4x4096x1024, .f32⟩
  | 76 => ⟨S16384x1024, .f32⟩
  | 77 => ⟨S16384x1024, .f32⟩
  | 78 => ⟨S1x16384x1024, .f32⟩
  | 79 => ⟨S1x256x4x256, .f32⟩
  | 80 => ⟨S1x256x4x256, .f32⟩
  | 81 => ⟨S1024, .f32⟩
  | 82 => ⟨S1x16384x1024, .f32⟩
  | 83 => ⟨S_, .f32⟩
  | 84 => ⟨S1x16384, .f32⟩
  | 85 => ⟨S1x16384x1, .f32⟩
  | 86 => ⟨S_, .f32⟩
  | 87 => ⟨S1x16384x1, .f32⟩
  | 88 => ⟨S1x16384x1, .f32⟩
  | 89 => ⟨S_, .f32⟩
  | 90 => ⟨S1x16384x1, .f32⟩
  | 91 => ⟨S1x16384x1, .f32⟩
  | 92 => ⟨S1x16384x1, .f32⟩
  | 93 => ⟨S1x16384x1024, .f32⟩
  | 94 => ⟨S1x16384x1024, .f32⟩
  | 95 => ⟨S1x1x1024, .f32⟩
  | 96 => ⟨S1x16384x1024, .f32⟩
  | 97 => ⟨S1x16384x1024, .f32⟩
  | 98 => ⟨S1024x1024, .f32⟩
  | 99 => ⟨S1x16384x1024, .f32⟩
  | 100 => ⟨S1x16384x4x256, .f32⟩
  | 101 => ⟨S256, .f32⟩
  | 102 => ⟨S1x16384x4x256, .f32⟩
  | 103 => ⟨S_, .f32⟩
  | 104 => ⟨S1x16384x4, .f32⟩
  | 105 => ⟨S1x16384x4x1, .f32⟩
  | 106 => ⟨S_, .f32⟩
  | 107 => ⟨S1x16384x4x1, .f32⟩
  | 108 => ⟨S1x16384x4x1, .f32⟩
  | 109 => ⟨S_, .f32⟩
  | 110 => ⟨S1x16384x4x1, .f32⟩
  | 111 => ⟨S1x16384x4x1, .f32⟩
  | 112 => ⟨S1x16384x4x1, .f32⟩
  | 113 => ⟨S1x16384x4x256, .f32⟩
  | 114 => ⟨S1x16384x4x256, .f32⟩
  | 115 => ⟨S1x1x1x256, .f32⟩
  | 116 => ⟨S1x16384x4x256, .f32⟩
  | 117 => ⟨S1x16384x4x256, .f32⟩
  | 118 => ⟨S1x4x16384x256, .f32⟩
  | 119 => ⟨S_, .f32⟩
  | 120 => ⟨S1x4x16384x256, .f32⟩
  | 121 => ⟨S1x4x16384x256, .f32⟩
  | 122 => ⟨S_, .f32⟩
  | 123 => ⟨S1x4x16384, .f32⟩
  | 124 => ⟨S_, .f32⟩
  | 125 => ⟨S1x4x16384, .f32⟩
  | 126 => ⟨S1x4x16384, .f32⟩
  | 127 => ⟨S1x4x16384x1, .f32⟩
  | _ => ⟨S32768x1024, .f32⟩

abbrev hbmTy0_1 (i : Nat) : BufTy := match i % 128 with
  | 0 => ⟨S1x4x16384x256, .f32⟩
  | 1 => ⟨S1x4x16384x256, .f32⟩
  | 2 => ⟨S1x4x16384x256, .f32⟩
  | 3 => ⟨S_, .f32⟩
  | 4 => ⟨S1x4x16384, .f32⟩
  | 5 => ⟨S1x4x16384x1, .f32⟩
  | 6 => ⟨S1x4x16384x256, .f32⟩
  | 7 => ⟨S1x4x16384x256, .f32⟩
  | 8 => ⟨S1x4x256x16384, .f32⟩
  | 9 => ⟨S1x16384x4x256, .f32⟩
  | 10 => ⟨S1x16384x1024, .f32⟩
  | 11 => ⟨S1024x1024, .f32⟩
  | 12 => ⟨S1x16384x1024, .f32⟩
  | 13 => ⟨S1x16384x1024, .f32⟩
  | 14 => ⟨S16384x1024, .f32⟩
  | 15 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_cst_17 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_18 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩

abbrev nD : Nat := 1
abbrev τ : Topo := Topo.v7x

variable {F : FTy → Type} [FloatOps F]
-- ==== Memory.lean ====
abbrev S5x256x1024 : Shape := ⟨3, ![5, 256, 1024]⟩
abbrev S1x1024 : Shape := ⟨2, ![1, 1024]⟩
abbrev S1024x2048 : Shape := ⟨2, ![1024, 2048]⟩
abbrev S1x256 : Shape := ⟨2, ![1, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 6
  | .vmem => 9
  | .smem => 0
  | _ => 0

abbrev bufTy : (tb : Table) → Fin (tcTables nBuf tb) → BufTy
  | .hbm, ⟨0, _⟩ => ⟨S5x256x1024, .f32⟩
  | .hbm, ⟨1, _⟩ => ⟨S1x1024, .f32⟩
  | .hbm, ⟨2, _⟩ => ⟨S1024x2048, .bf16⟩
  | .hbm, ⟨3, _⟩ => ⟨S1x256, .f32⟩
  | .hbm, ⟨4, _⟩ => ⟨S5x256x1024, .bf16⟩
  | .hbm, ⟨5, _⟩ => ⟨S5x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S5x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryReferenceIdeal.lean ====
abbrev S5x256x1024 : Shape := ⟨3, ![5, 256, 1024]⟩
abbrev S1x1024 : Shape := ⟨2, ![1, 1024]⟩
abbrev S1024x2048 : Shape := ⟨2, ![1024, 2048]⟩
abbrev S1x256 : Shape := ⟨2, ![1, 256]⟩
abbrev S1024 : Shape := ⟨1, ![1024]⟩
abbrev S_ : Shape := ⟨0, ![]⟩
abbrev S5x256 : Shape := ⟨2, ![5, 256]⟩
abbrev S5x256x1 : Shape := ⟨3, ![5, 256, 1]⟩
abbrev S1x1x1024 : Shape := ⟨3, ![1, 1, 1024]⟩
abbrev S5x256x2048 : Shape := ⟨3, ![5, 256, 2048]⟩
abbrev S5x256x4x256 : Shape := ⟨4, ![5, 256, 4, 256]⟩
abbrev S256 : Shape := ⟨1, ![256]⟩
abbrev S5x256x4 : Shape := ⟨3, ![5, 256, 4]⟩
abbrev S5x256x4x1 : Shape := ⟨4, ![5, 256, 4, 1]⟩
abbrev S1x1x1x256 : Shape := ⟨4, ![1, 1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S5x256x1024, .f32⟩
  | .hbm, ⟨1, _⟩ => ⟨S1x1024, .f32⟩
  | .hbm, ⟨2, _⟩ => ⟨S1024x2048, .bf16⟩
  | .hbm, ⟨3, _⟩ => ⟨S1x256, .f32⟩
  | .hbm, ⟨4, _⟩ => ⟨S1024, .f32⟩
  | .hbm, ⟨5, _⟩ => ⟨S5x256x1024, .f32⟩
  | .hbm, ⟨6, _⟩ => ⟨S_, .f32⟩
  | .hbm, ⟨7, _⟩ => ⟨S5x256, .f32⟩
  | .hbm, ⟨8, _⟩ => ⟨S5x256x1, .f32⟩
  | .hbm, ⟨9, _⟩ => ⟨S_, .f32⟩
  | .hbm, ⟨10, _⟩ => ⟨S5x256x1, .f32⟩
  | .hbm, ⟨11, _⟩ => ⟨S5x256x1, .f32⟩
  | .hbm, ⟨12, _⟩ => ⟨S_, .f32⟩
  | .hbm, ⟨13, _⟩ => ⟨S5x256x1, .f32⟩
  | .hbm, ⟨14, _⟩ => ⟨S5x256x1, .f32⟩
  | .hbm, ⟨15, _⟩ => ⟨S5x256x1, .f32⟩
  | .hbm, ⟨16, _⟩ => ⟨S5x256x1024, .f32⟩
  | .hbm, ⟨17, _⟩ => ⟨S5x256x1024, .f32⟩
  | .hbm, ⟨18, _⟩ => ⟨S1x1x1024, .f32⟩
  | .hbm, ⟨19, _⟩ => ⟨S5x256x1024, .f32⟩
  | .hbm, ⟨20, _⟩ => ⟨S5x256x1024, .f32⟩
  | .hbm, ⟨21, _⟩ => ⟨S1024x2048, .f32⟩
  | .hbm, ⟨22, _⟩ => ⟨S5x256x2048, .f32⟩
  | .hbm, ⟨23, _⟩ => ⟨S5x256x1024, .f32⟩
  | .hbm, ⟨24, _⟩ => ⟨S5x256x1024, .f32⟩
  | .hbm, ⟨25, _⟩ => ⟨S5x256x4x256, .f32⟩
  | .hbm, ⟨26, _⟩ => ⟨S256, .f32⟩
  | .hbm, ⟨27, _⟩ => ⟨S5x256x4x256, .f32⟩
  | .hbm, ⟨28, _⟩ => ⟨S_, .f32⟩
  | .hbm, ⟨29, _⟩ => ⟨S5x256x4, .f32⟩
  | .hbm, ⟨30, _⟩ => ⟨S5x256x4x1, .f32⟩
  | .hbm, ⟨31, _⟩ => ⟨S_, .f32⟩
  | .hbm, ⟨32, _⟩ => ⟨S5x256x4x1, .f32⟩
  | .hbm, ⟨33, _⟩ => ⟨S5x256x4x1, .f32⟩
  | .hbm, ⟨34, _⟩ => ⟨S_, .f32⟩
  | .hbm, ⟨35, _⟩ => ⟨S5x256x4x1, .f32⟩
  | .hbm, ⟨36, _⟩ => ⟨S5x256x4x1, .f32⟩
  | .hbm, ⟨37, _⟩ => ⟨S5x256x4x1, .f32⟩
  | .hbm, ⟨38, _⟩ => ⟨S5x256x4x256, .f32⟩
  | .hbm, ⟨39, _⟩ => ⟨S5x256x4x256, .f32⟩
  | .hbm, ⟨40, _⟩ => ⟨S1x1x1x256, .f32⟩
  | .hbm, ⟨41, _⟩ => ⟨S5x256x4x256, .f32⟩
  | .hbm, ⟨42, _⟩ => ⟨S5x256x4x256, .f32⟩
  | .hbm, ⟨43, _⟩ => ⟨S5x256x1024, .f32⟩
  | .hbm, ⟨44, _⟩ => ⟨S5x256x1024, .bf16⟩
  | .hbm, ⟨45, _⟩ => ⟨S5x256x1024, .bf16⟩
  | _, _ => ⟨S5x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Band.lean ====
abbrev S32768x768 : Shape := ⟨2, ![32768, 768]⟩
abbrev S32768x12288 : Shape := ⟨2, ![32768, 12288]⟩
abbrev S256 : Shape := ⟨1, ![256]⟩
abbrev S32768x256 : Shape := ⟨2, ![32768, 256]⟩
abbrev S128x256 : Shape := ⟨2, ![128, 256]⟩
abbrev S64x256 : Shape := ⟨2, ![64, 256]⟩
abbrev S1 : Shape := ⟨1, ![1]⟩
abbrev S256x256 : Shape := ⟨2, ![256, 256]⟩
abbrev S1x256 : Shape := ⟨2, ![1, 256]⟩
abbrev S128 : Shape := ⟨1, ![128]⟩
abbrev S128x1 : Shape := ⟨2, ![128, 1]⟩

abbrev nBuf : Space → Nat
  | .hbm => 5
  | .vmem => 18
  | .smem => 2
  | _ => 0

abbrev bufTy : (tb : Table) → Fin (tcTables nBuf tb) → BufTy
  | .hbm, ⟨0, _⟩ => ⟨S32768x768, .bf16⟩
  | .hbm, ⟨1, _⟩ => ⟨S32768x768, .bf16⟩
  | .hbm, ⟨2, _⟩ => ⟨S32768x12288, .bf16⟩
  | .hbm, ⟨3, _⟩ => ⟨S32768x256, .bf16⟩
  | .hbm, ⟨4, _⟩ => ⟨S32768x256, .f32⟩
  | .local _ .vmem, ⟨0, _⟩ => ⟨S128x256, .bf16⟩
  | .local _ .vmem, ⟨1, _⟩ => ⟨S128x256, .bf16⟩
  | .local _ .vmem, ⟨2, _⟩ => ⟨S64x256, .bf16⟩
  | .local _ .vmem, ⟨3, _⟩ => ⟨S64x256, .bf16⟩
  | .local _ .vmem, ⟨4, _⟩ => ⟨S128x256, .bf16⟩
  | .local _ .vmem, ⟨5, _⟩ => ⟨S128x256, .bf16⟩
  | .local _ .vmem, ⟨6, _⟩ => ⟨S64x256, .bf16⟩
  | .local _ .vmem, ⟨7, _⟩ => ⟨S64x256, .bf16⟩
  | .local _ .vmem, ⟨8, _⟩ => ⟨S64x256, .bf16⟩
  | .local _ .vmem, ⟨9, _⟩ => ⟨S64x256, .bf16⟩
  | .local _ .vmem, ⟨10, _⟩ => ⟨S128x256, .bf16⟩
  | .local _ .vmem, ⟨11, _⟩ => ⟨S128x256, .bf16⟩
  | .local _ .vmem, ⟨12, _⟩ => ⟨S64x256, .bf16⟩
  | .local _ .vmem, ⟨13, _⟩ => ⟨S64x256, .bf16⟩
  | .local _ .vmem, ⟨14, _⟩ => ⟨S128x256, .bf16⟩
  | .local _ .vmem, ⟨15, _⟩ => ⟨S128x256, .bf16⟩
  | .local _ .vmem, ⟨16, _⟩ => ⟨S128x256, .f32⟩
  | .local _ .vmem, ⟨17, _⟩ => ⟨S128x256, .f32⟩
  | .local _ .smem, ⟨0, _⟩ => ⟨S256, .i32⟩
  | .local _ .smem, ⟨1, _⟩ => ⟨S256, .i32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c18_i32 : BitVec 32 := 18#32
  let c0_i32_0 : BitVec 32 := 0#32
  ![v2.toNat, c18_i32.toNat]

def cc0_transform_5 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c511_i32 : BitVec 32 := 511#32
  let v2 : BitVec 32 := Scalar.minsi v1 c511_i32
  let c18_i32 : BitVec 32 := 18#32
  let c0_i32 : BitVec 32 := 0#32
  ![v2.toNat, c18_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BandIdeal.lean ====
variable {F : FTy → Type} [FloatOps F] [Named F]
def κ : String → Option EReal := fun
  | "mask" => some ⊥
  | _ => none
-- ==== BandReferenceIdeal.lean ====
abbrev S32768x768 : Shape := ⟨2, ![32768, 768]⟩
abbrev S32768x12288 : Shape := ⟨2, ![32768, 12288]⟩
abbrev S32768x256 : Shape := ⟨2, ![32768, 256]⟩
abbrev S16384x256 : Shape := ⟨2, ![16384, 256]⟩
abbrev S4x4096x4x64 : Shape := ⟨4, ![4, 4096, 4, 64]⟩
abbrev S4096 : Shape := ⟨1, ![4096]⟩
abbrev S4096x1 : Shape := ⟨2, ![4096, 1]⟩
abbrev S129 : Shape := ⟨1, ![129]⟩
abbrev S_ : Shape := ⟨0, ![]⟩
abbrev S1x129 : Shape := ⟨2, ![1, 129]⟩
abbrev S4096x129 : Shape := ⟨2, ![4096, 129]⟩
abbrev S4096x129x1 : Shape := ⟨3, ![4096, 129, 1]⟩
abbrev S4x4096x129x4x64 : Shape := ⟨5, ![4, 4096, 129, 4, 64]⟩
abbrev S4x4x4096x129 : Shape := ⟨4, ![4, 4, 4096, 129]⟩
abbrev S1x1x4096x129 : Shape := ⟨4, ![1, 1, 4096, 129]⟩
abbrev S4x4x4096 : Shape := ⟨3, ![4, 4, 4096]⟩
abbrev S4x4x4096x1 : Shape := ⟨4, ![4, 4, 4096, 1]⟩
abbrev S4x4096x4 : Shape := ⟨3, ![4, 4096, 4]⟩
abbrev S4x4096x4x1 : Shape := ⟨4, ![4, 4096, 4, 1]⟩
abbrev S1x16384x4x64 : Shape := ⟨4, ![1, 16384, 4, 64]⟩
abbrev S16384 : Shape := ⟨1, ![16384]⟩
abbrev S16384x1 : Shape := ⟨2, ![16384, 1]⟩
abbrev S16384x129 : Shape := ⟨2, ![16384, 129]⟩
abbrev S16384x129x1 : Shape := ⟨3, ![16384, 129, 1]⟩
abbrev S1x16384x129x4x64 : Shape := ⟨5, ![1, 16384, 129, 4, 64]⟩
abbrev S1x4x16384x129 : Shape := ⟨4, ![1, 4, 16384, 129]⟩
abbrev S1x1x16384x129 : Shape := ⟨4, ![1, 1, 16384, 129]⟩
abbrev S1x4x16384 : Shape := ⟨3, ![1, 4, 16384]⟩
abbrev S1x4x16384x1 : Shape := ⟨4, ![1, 4, 16384, 1]⟩
abbrev S1x16384x4 : Shape := ⟨3, ![1, 16384, 4]⟩
abbrev S1x16384x4x1 : Shape := ⟨4, ![1, 16384, 4, 1]⟩

abbrev nBuf : Space → Nat
  | .hbm => 164
  | .vmem => 0
  | .smem => 0
  | _ => 0

abbrev hbmTy0_0 (i : Nat) : BufTy := match i % 128 with
  | 0 => ⟨S32768x768, .bf16⟩
  | 1 => ⟨S32768x768, .bf16⟩
  | 2 => ⟨S32768x12288, .bf16⟩
  | 3 => ⟨S32768x256, .bf16⟩
  | 4 => ⟨S32768x256, .bf16⟩
  | 5 => ⟨S32768x256, .bf16⟩
  | 6 => ⟨S32768x256, .f32⟩
  | 7 => ⟨S32768x256, .f32⟩
  | 8 => ⟨S32768x256, .f32⟩
  | 9 => ⟨S16384x256, .f32⟩
  | 10 => ⟨S4x4096x4x64, .f32⟩
  | 11 => ⟨S16384x256, .f32⟩
  | 12 => ⟨S4x4096x4x64, .f32⟩
  | 13 => ⟨S16384x256, .f32⟩
  | 14 => ⟨S4x4096x4x64, .f32⟩
  | 15 => ⟨S4096, .i32⟩
  | 16 => ⟨S4096x1, .i32⟩
  | 17 => ⟨S129, .i32⟩
  | 18 => ⟨S_, .i32⟩
  | 19 => ⟨S129, .i32⟩
  | 20 => ⟨S129, .i32⟩
  | 21 => ⟨S1x129, .i32⟩
  | 22 => ⟨S4096x129, .i32⟩
  | 23 => ⟨S4096x129, .i32⟩
  | 24 => ⟨S4096x129, .i32⟩
  | 25 => ⟨S_, .i32⟩
  | 26 => ⟨S4096x129, .i32⟩
  | 27 => ⟨S4096x129, .i1⟩
  | 28 => ⟨S_, .i32⟩
  | 29 => ⟨S4096x129, .i32⟩
  | 30 => ⟨S4096x129, .i1⟩
  | 31 => ⟨S4096x129, .i1⟩
  | 32 => ⟨S_, .i32⟩
  | 33 => ⟨S4096x129, .i32⟩
  | 34 => ⟨S4096x129, .i32⟩
  | 35 => ⟨S_, .i32⟩
  | 36 => ⟨S4096x129, .i32⟩
  | 37 => ⟨S4096x129, .i32⟩
  | 38 => ⟨S_, .i32⟩
  | 39 => ⟨S4096x129, .i32⟩
  | 40 => ⟨S4096x129, .i1⟩
  | 41 => ⟨S_, .i32⟩
  | 42 => ⟨S4096x129, .i32⟩
  | 43 => ⟨S4096x129, .i32⟩
  | 44 => ⟨S4096x129, .i32⟩
  | 45 => ⟨S4096x129x1, .i32⟩
  | 46 => ⟨S4x4096x129x4x64, .f32⟩
  | 47 => ⟨S_, .i32⟩
  | 48 => ⟨S4096x129, .i32⟩
  | 49 => ⟨S4096x129, .i1⟩
  | 50 => ⟨S_, .i32⟩
  | 51 => ⟨S4096x129, .i32⟩
  | 52 => ⟨S4096x129, .i32⟩
  | 53 => ⟨S4096x129, .i32⟩
  | 54 => ⟨S4096x129x1, .i32⟩
  | 55 => ⟨S4x4096x129x4x64, .f32⟩
  | 56 => ⟨S4x4x4096x129, .f32⟩
  | 57 => ⟨S1x1x4096x129, .i1⟩
  | 58 => ⟨S4x4x4096x129, .i1⟩
  | 59 => ⟨S_, .f32⟩
  | 60 => ⟨S4x4x4096x129, .f32⟩
  | 61 => ⟨S4x4x4096x129, .f32⟩
  | 62 => ⟨S_, .f32⟩
  | 63 => ⟨S4x4x4096, .f32⟩
  | 64 => ⟨S4x4x4096x1, .f32⟩
  | 65 => ⟨S4x4x4096x129, .f32⟩
  | 66 => ⟨S4x4x4096x129, .f32⟩
  | 67 => ⟨S4x4x4096x129, .f32⟩
  | 68 => ⟨S_, .f32⟩
  | 69 => ⟨S4x4x4096x129, .f32⟩
  | 70 => ⟨S4x4x4096x129, .f32⟩
  | 71 => ⟨S_, .f32⟩
  | 72 => ⟨S4x4x4096, .f32⟩
  | 73 => ⟨S4x4x4096, .f32⟩
  | 74 => ⟨S4x4x4096, .f32⟩
  | 75 => ⟨S4x4x4096, .f32⟩
  | 76 => ⟨S4x4x4096x1, .f32⟩
  | 77 => ⟨S4x4x4096x129, .f32⟩
  | 78 => ⟨S4x4x4096x129, .f32⟩
  | 79 => ⟨S4x4096x4x64, .f32⟩
  | 80 => ⟨S16384x256, .f32⟩
  | 81 => ⟨S4x4096x4, .f32⟩
  | 82 => ⟨S4x4096x4x1, .f32⟩
  | 83 => ⟨S4x4096x4x64, .f32⟩
  | 84 => ⟨S16384x256, .f32⟩
  | 85 => ⟨S16384x256, .f32⟩
  | 86 => ⟨S1x16384x4x64, .f32⟩
  | 87 => ⟨S16384x256, .f32⟩
  | 88 => ⟨S1x16384x4x64, .f32⟩
  | 89 => ⟨S16384x256, .f32⟩
  | 90 => ⟨S1x16384x4x64, .f32⟩
  | 91 => ⟨S16384, .i32⟩
  | 92 => ⟨S16384x1, .i32⟩
  | 93 => ⟨S129, .i32⟩
  | 94 => ⟨S_, .i32⟩
  | 95 => ⟨S129, .i32⟩
  | 96 => ⟨S129, .i32⟩
  | 97 => ⟨S1x129, .i32⟩
  | 98 => ⟨S16384x129, .i32⟩
  | 99 => ⟨S16384x129, .i32⟩
  | 100 => ⟨S16384x129, .i32⟩
  | 101 => ⟨S_, .i32⟩
  | 102 => ⟨S16384x129, .i32⟩
  | 103 => ⟨S16384x129, .i1⟩
  | 104 => ⟨S_, .i32⟩
  | 105 => ⟨S16384x129, .i32⟩
  | 106 => ⟨S16384x129, .i1⟩
  | 107 => ⟨S16384x129, .i1⟩
  | 108 => ⟨S_, .i32⟩
  | 109 => ⟨S16384x129, .i32⟩
  | 110 => ⟨S16384x129, .i32⟩
  | 111 => ⟨S_, .i32⟩
  | 112 => ⟨S16384x129, .i32⟩
  | 113 => ⟨S16384x129, .i32⟩
  | 114 => ⟨S_, .i32⟩
  | 115 => ⟨S16384x129, .i32⟩
  | 116 => ⟨S16384x129, .i1⟩
  | 117 => ⟨S_, .i32⟩
  | 118 => ⟨S16384x129, .i32⟩
  | 119 => ⟨S16384x129, .i32⟩
  | 120 => ⟨S16384x129, .i32⟩
  | 121 => ⟨S16384x129x1, .i32⟩
  | 122 => ⟨S1x16384x129x4x64, .f32⟩
  | 123 => ⟨S_, .i32⟩
  | 124 => ⟨S16384x129, .i32⟩
  | 125 => ⟨S16384x129, .i1⟩
  | 126 => ⟨S_, .i32⟩
  | 127 => ⟨S16384x129, .i32⟩
  | _ => ⟨S32768x768, .bf16⟩

abbrev hbmTy0_1 (i : Nat) : BufTy := match i % 128 with
  | 0 => ⟨S16384x129, .i32⟩
  | 1 => ⟨S16384x129, .i32⟩
  | 2 => ⟨S16384x129x1, .i32⟩
  | 3 => ⟨S1x16384x129x4x64, .f32⟩
  | 4 => ⟨S1x4x16384x129, .f32⟩
  | 5 => ⟨S1x1x16384x129, .i1⟩
  | 6 => ⟨S1x4x16384x129, .i1⟩
  | 7 => ⟨S_, .f32⟩
  | 8 => ⟨S1x4x16384x129, .f32⟩
  | 9 => ⟨S1x4x16384x129, .f32⟩
  | 10 => ⟨S_, .f32⟩
  | 11 => ⟨S1x4x16384, .f32⟩
  | 12 => ⟨S1x4x16384x1, .f32⟩
  | 13 => ⟨S1x4x16384x129, .f32⟩
  | 14 => ⟨S1x4x16384x129, .f32⟩
  | 15 => ⟨S1x4x16384x129, .f32⟩
  | 16 => ⟨S_, .f32⟩
  | 17 => ⟨S1x4x16384x129, .f32⟩
  | 18 => ⟨S1x4x16384x129, .f32⟩
  | 19 => ⟨S_, .f32⟩
  | 20 => ⟨S1x4x16384, .f32⟩
  | 21 => ⟨S1x4x16384, .f32⟩
  | 22 => ⟨S1x4x16384, .f32⟩
  | 23 => ⟨S1x4x16384, .f32⟩
  | 24 => ⟨S1x4x16384x1, .f32⟩
  | 25 => ⟨S1x4x16384x129, .f32⟩
  | 26 => ⟨S1x4x16384x129, .f32⟩
  | 27 => ⟨S1x16384x4x64, .f32⟩
  | 28 => ⟨S16384x256, .f32⟩
  | 29 => ⟨S1x16384x4, .f32⟩
  | 30 => ⟨S1x16384x4x1, .f32⟩
  | 31 => ⟨S1x16384x4x64, .f32⟩
  | 32 => ⟨S16384x256, .f32⟩
  | 33 => ⟨S32768x256, .f32⟩
  | 34 => ⟨S32768x256, .bf16⟩
  | 35 => ⟨S32768x256, .f32⟩
  | _ => ⟨S32768x768, .bf16⟩

abbrev hbmTy (i : Nat) : BufTy := match i / 128 with
  | 0 => hbmTy0_0 i
  | 1 => hbmTy0_1 i
  | _ => ⟨S32768x768, .bf16⟩

abbrev bufTy : (tb : Table) → Fin (tcTables nBuf tb) → BufTy
  | .hbm, ⟨i, _⟩ => hbmTy i
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_6 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_c_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_c_12 : Ref sig .tc := ⟨.hbm, 101, rfl⟩
abbrev main_v84 : Ref sig .tc := ⟨.hbm, 102, rfl⟩
abbrev main_v85 : Ref sig .tc := ⟨.hbm, 103, rfl⟩
abbrev main_c_13 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_14 : Ref sig .tc := ⟨.hbm, 108, rfl⟩
abbrev main_v89 : Ref sig .tc := ⟨.hbm, 109, rfl⟩
abbrev main_v90 : Ref sig .tc := ⟨.hbm, 110, rfl⟩
abbrev main_c_15 : Ref sig .tc := ⟨.hbm, 111, rfl⟩
abbrev main_v91 : Ref sig .tc := ⟨.hbm, 112, rfl⟩
abbrev main_v92 : Ref sig .tc := ⟨.hbm, 113, rfl⟩
abbrev main_c_16 : Ref sig .tc := ⟨.hbm, 114, rfl⟩
abbrev main_v93 : Ref sig .tc := ⟨.hbm, 115, rfl⟩
abbrev main_v94 : Ref sig .tc := ⟨.hbm, 116, rfl⟩
abbrev main_c_17 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_c_18 : Ref sig .tc := ⟨.hbm, 123, rfl⟩
abbrev main_v100 : Ref sig .tc := ⟨.hbm, 124, rfl⟩
abbrev main_v101 : Ref sig .tc := ⟨.hbm, 125, rfl⟩
abbrev main_c_19 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_20 : Ref sig .tc := ⟨.hbm, 135, rfl⟩
abbrev main_v110 : Ref sig .tc := ⟨.hbm, 136, rfl⟩
abbrev main_v111 : Ref sig .tc := ⟨.hbm, 137, rfl⟩
abbrev main_cst_21 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_22 : Ref sig .tc := ⟨.hbm, 144, rfl⟩
abbrev main_v117 : Ref sig .tc := ⟨.hbm, 145, rfl⟩
abbrev main_v118 : Ref sig .tc := ⟨.hbm, 146, rfl⟩
abbrev main_cst_23 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩

abbrev nD : Nat := 1
abbrev τ : Topo := Topo.v7x

variable {F : FTy → Type} [FloatOps F]
-- ==== Proof.FlashBlock.lean ====
module

/-
What one grid point of the flash attention leaves, as plain definitions over the blocks it finds, and the three counted
loops of its body brought to them: after `n` trips an accumulator that every trip overwrites whole holds the `n`-fold
iterate of the trip.
-/
public import proofs.«01_k».proof.Proof.Gen.KernelIdeal.Loops
public import proofs.«01_k».proof.Proof.Gen.KernelIdeal.Frame
public import Idealize.ShloMosaic.Lib.Pipeline.ValueKit

@[expose] public section

set_option maxRecDepth 16384

noncomputable section

namespace Cert.KernelIdeal.Flash

open Cert.KernelIdeal.Gen
open Idealize.ShloMosaic Idealize.ShloMosaic.TcCoe Idealize.ShloMosaic.Tactic

variable {F : FTy → Type} [FloatOps F]

/-- Keys `512 n` to `512 n + 511` of the resident key block. -/
def keyRows (x4 : Vec F S16384x256 .bf16) (n : ℕ) : Vec F S512x256 .bf16 :=
  fun j => x4 (ValueIdx.ix2 ⟨(512 * n + (j 0).val) % 16384, Nat.mod_lt _ (by decide)⟩ (j 1))

/-- The values of those keys, transposed as they lie. -/
def valRows (x5 : Vec F S1x32x144x512 .bf16) (n : ℕ) : Vec F S1x1x144x512 .bf16 :=
  fun j => x5 (ValueIdx.ix4 0 ⟨n % 32, Nat.mod_lt _ (by decide)⟩ (j 2) (j 3))

/-- Row `a` of a tall block. -/
def row {n : ℕ} (x : Vec F ⟨2, ![n, 2048]⟩ .f32) (a : Fin n) : Vec F S1x2048 .f32 := fun j => x (ValueIdx.ix2 a (j 1))

/-- The first 128 rows of the accumulator. -/
def top (x : Vec F S144x2048 .f32) : Vec F S128x2048 .f32 :=
  fun j => x (ValueIdx.ix2 ⟨(j 0).val, Nat.lt_of_lt_of_le (j 0).isLt (by decide)⟩ (j 1))

/-- The first pass: unshifted weights against the values, over the first `n` key blocks. -/
def acc0 (x3 : Vec F S1x256x2048 .bf16) (x4 : Vec F S16384x256 .bf16) (x5 : Vec F S1x32x144x512 .bf16) : ℕ → Vec F S144x2048 .f32
  | 0 => k0_pay2
  | n + 1 => k0_pay3 (keyRows x4 n) x3 (acc0 x3 x4 x5 n) (valRows x5 n)

/-- The column maximum over the first `n` key blocks. -/
def mx (x3 : Vec F S1x256x2048 .bf16) (x4 : Vec F S16384x256 .bf16) : ℕ → Vec F S8x2048 .f32
  | 0 => k0_pay5
  | n + 1 => k0_pay6 (mx x3 x4 n) (keyRows x4 n) x3

/-- The second pass: weights shifted by `m`, over the first `n` key blocks. -/
def acc1 (x3 : Vec F S1x256x2048 .bf16) (x4 : Vec F S16384x256 .bf16) (x5 : Vec F S1x32x144x512 .bf16) (m : Vec F S1x2048 .f32) : ℕ → Vec F S144x2048 .f32
  | 0 => k0_pay7
  | n + 1 => k0_pay8 (keyRows x4 n) x3 m (acc1 x3 x4 x5 m n) (valRows x5 n)

/-- Whether the first pass's normaliser underflowed, as the body decides it from its row. -/
def again (l : Vec F S1x2048 .f32) : BitVec 1 :=
  Scalar.cmpi .ne (Scalar.extui (Scalar.cmpf .olt (k0_pay4 l) (Scalar.ofBits .f32 0x0D800000#32))) 0#32

/-- The accumulator the output is divided from. -/
def final (x3 : Vec F S1x256x2048 .bf16) (x4 : Vec F S16384x256 .bf16) (x5 : Vec F S1x32x144x512 .bf16) : Vec F S144x2048 .f32 :=
  if again (row (acc0 x3 x4 x5 32) 128) = 1#1 then acc1 x3 x4 x5 (row (mx x3 x4 32) 0) 32 else acc0 x3 x4 x5 32

/-- The output block off an accumulator: four heads side by side. -/
def outOf (A : Vec F S144x2048 .f32) : Vec F S512x512 .bf16 :=
  View.canon [⟨Rect.unit (s := S512x512) ![0, 384] S512x128.size inb_S512x512_S512x128_0_384, k0_pay1 (k0_pay9 (top A) (row A 128))⟩,
    ⟨Rect.unit (s := S512x512) ![0, 256] S512x128.size inb_S512x512_S512x128_0_256, k0_pay12 (top A) (row A 128)⟩,
    ⟨Rect.unit (s := S512x512) ![0, 128] S512x128.size inb_S512x512_S512x128_0_128, k0_pay11 (top A) (row A 128)⟩,
    ⟨Rect.unit (s := S512x512) ![0, 0] S512x128.size inb_S512x512_S512x128_0_0, k0_pay10 (top A) (row A 128)⟩]

/-- What the body leaves in its output block. -/
def outBlk (x3 : Vec F S1x256x2048 .bf16) (x4 : Vec F S16384x256 .bf16) (x5 : Vec F S1x32x144x512 .bf16) : Vec F S512x512 .bf16 := outOf (final x3 x4 x5)

theorem ld_keyRows (x4 : Vec F S16384x256 .bf16) (n : ℕ) (hn : n < 32) (off : Fin 2 → ℕ) (inb)
    (h : off = ![512 * n, 0]) :
    View.ld (Val := Elt F) (e' := .bf16) x4 (Rect.unit (s := S16384x256) off S512x256.size inb) = keyRows x4 n := by
  subst h
  funext j
  refine View.ld_unit_apply_of _ _ _ _ _ _ fun a => ?_
  have h0 : (j 0).val < 512 := (j 0).isLt
  fin_cases a
  · show (512 * n + (j 0).val) % 16384 = 512 * n + (j 0).val
    exact Nat.mod_eq_of_lt (by omega)
  · show (j 1).val = 0 + (j 1).val
    omega

theorem ld_valRows (x5 : Vec F S1x32x144x512 .bf16) (n : ℕ) (hn : n < 32) (off : Fin 4 → ℕ) (inb)
    (h : off = ![0, n, 0, 0]) :
    View.ld (Val := Elt F) (e' := .bf16) x5 (Rect.unit (s := S1x32x144x512) off S1x1x144x512.size inb) = valRows x5 n := by
  subst h
  funext j
  refine View.ld_unit_apply_of _ _ _ _ _ _ fun a => ?_
  have h0 : (j 0).val < 1 := (j 0).isLt
  have h1 : (j 1).val < 1 := (j 1).isLt
  fin_cases a
  · show 0 = 0 + (j 0).val
    omega
  · show n % 32 = n + (j 1).val
    rw [Nat.mod_eq_of_lt hn]; omega
  · show (j 2).val = 0 + (j 2).val
    omega
  · show (j 3).val = 0 + (j 3).val
    omega

theorem ld_row {n : ℕ} (x : Vec F ⟨2, ![n, 2048]⟩ .f32) (a : Fin n) (inb) :
    View.ld (Val := Elt F) (e' := .f32) x (Rect.unit (s := ⟨2, ![n, 2048]⟩) ![a.val, 0] S1x2048.size inb) = row x a := by
  funext j
  refine View.ld_unit_apply_of _ _ _ _ _ _ fun b => ?_
  have h0 : (j 0).val < 1 := (j 0).isLt
  fin_cases b
  · show a.val = a.val + (j 0).val
    omega
  · show (j 1).val = 0 + (j 1).val
    omega

theorem ld_top (x : Vec F S144x2048 .f32) (inb) :
    View.ld (Val := Elt F) (e' := .f32) x (Rect.unit (s := S144x2048) ![0, 0] S128x2048.size inb) = top x := by
  funext j
  refine View.ld_unit_apply_of _ _ _ _ _ _ fun b => ?_
  fin_cases b
  · show (j 0).val = 0 + (j 0).val
    omega
  · show (j 1).val = 0 + (j 1).val
    omega

/-- A whole store read back. -/
theorem read_whole {S : Shape} {e : EltTy} (v : View sig .tc .vmem S e) (f : BufTy.Contents (Elt F) v.ty)
    {off : Fin S.rank → ℕ} (inb) (h : ∀ a, off a = 0) (w : S.Idx → Elt F e) (L : List (View.Piece (Elt F) S e)) :
    v.read (Elt F) (v.writes (Elt F) f ((⟨Rect.unit off S.size inb, w⟩ : View.Piece (Elt F) S e) :: L)) = w := by
  rw [View.read_writes_eq_canon]
  · exact View.canon_cons_unit_lit _ _ _ h
  · intro y
    refine ⟨_, List.mem_cons_self, ?_⟩
    exact (Rect.mem_set_unit (inb := inb)).mpr fun a => by rw [h a]; exact ⟨Nat.zero_le _, by rw [Nat.zero_add]; exact (y a).isLt⟩

theorem pb1 (c : Dev nD) (i : grid0.Coords) (arg3 : Memref sig .tc .vmem S1x256x2048 .bf16) (harg3 : arg3.IsWhole) (arg4 : Memref sig .tc .vmem S16384x256 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S144x2048 .f32) (harg7 : arg7.IsWhole) (arg8 : Memref sig .tc .vmem S8x2048 .f32) (harg8 : arg8.IsWhole) (x3 : Vec F S1x256x2048 .bf16) (x4 : Vec F S16384x256 .bf16) (x5 : Vec F S1x32x144x512 .bf16) (G : BufTy.Contents (Elt F) arg7.view.ty) (hG : arg7.view.read (Elt F) G = k0_pay2)
    (n : ℕ) (hn : n ≤ 32) :
    arg7.view.read (Elt F) (arg7.view.writes (Elt F) G (pb_k0_t1 Variants.none c none i arg3 harg3 arg4 harg4 arg5 harg5 arg6 harg6 arg7 harg7 arg8 harg8
      (harg3.unread x3) (harg4.unread x4) (harg5.unread x5) G n)) = acc0 x3 x4 x5 n := by
  induction n with
  | zero => exact hG
  | succ n ih =>
    have ht : k0_t1_loop.trips = 32 := by decide +kernel
    have e := pb_k0_t1_succ (F := F) Variants.none c none i arg3 harg3 arg4 harg4 arg5 harg5 arg6 harg6 arg7 harg7 arg8 harg8
      (harg3.unread x3) (harg4.unread x4) (harg5.unread x5) G ⟨n, by omega⟩
    dsimp only at e
    rw [e]
    unfold tripL_k0_t1 trip_k0_t1
    dsimp only
    refine (read_whole _ _ _ (by decide) _ _).trans ?_
    simp only [View.readAt_eq_ld, harg3.read_unread, harg4.read_unread, harg5.read_unread]
    rw [ih (by omega), ld_keyRows x4 n (by omega) _ _ (k0_off1_eq ⟨n, by omega⟩), ld_valRows x5 n (by omega) _ _ (k0_off2_eq ⟨n, by omega⟩),
      View.ld_unit_lit _ _ (by decide), View.ld_unit_lit _ _ (by decide)]
    rfl

theorem pb2 (c : Dev nD) (i : grid0.Coords) (arg3 : Memref sig .tc .vmem S1x256x2048 .bf16) (harg3 : arg3.IsWhole) (arg4 : Memref sig .tc .vmem S16384x256 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S144x2048 .f32) (harg7 : arg7.IsWhole) (arg8 : Memref sig .tc .vmem S8x2048 .f32) (harg8 : arg8.IsWhole) (x3 : Vec F S1x256x2048 .bf16) (x4 : Vec F S16384x256 .bf16) (G : BufTy.Contents (Elt F) arg8.view.ty) (hG : arg8.view.read (Elt F) G = k0_pay5)
    (n : ℕ) (hn : n ≤ 32) :
    arg8.view.read (Elt F) (arg8.view.writes (Elt F) G (pb_k0_t2 Variants.none c none i arg3 harg3 arg4 harg4 arg5 harg5 arg6 harg6 arg7 harg7 arg8 harg8
      (harg3.unread x3) (harg4.unread x4) G n)) = mx x3 x4 n := by
  induction n with
  | zero => exact hG
  | succ n ih =>
    have ht : k0_t2_loop.trips = 32 := by decide +kernel
    have e := pb_k0_t2_succ (F := F) Variants.none c none i arg3 harg3 arg4 harg4 arg5 harg5 arg6 harg6 arg7 harg7 arg8 harg8
      (harg3.unread x3) (harg4.unread x4) G ⟨n, by omega⟩
    dsimp only at e
    rw [e]
    unfold tripL_k0_t2 trip_k0_t2
    dsimp only
    refine (read_whole _ _ _ (by decide) _ _).trans ?_
    simp only [View.readAt_eq_ld, harg3.read_unread, harg4.read_unread]
    rw [ih (by omega), ld_keyRows x4 n (by omega) _ _ (k0_off3_eq ⟨n, by omega⟩),
      View.ld_unit_lit _ _ (by decide), View.ld_unit_lit _ _ (by decide)]
    rfl

theorem pb3 (c : Dev nD) (i : grid0.Coords) (arg3 : Memref sig .tc .vmem S1x256x2048 .bf16) (harg3 : arg3.IsWhole) (arg4 : Memref sig .tc .vmem S16384x256 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S144x2048 .f32) (harg7 : arg7.IsWhole) (arg8 : Memref sig .tc .vmem S8x2048 .f32) (harg8 : arg8.IsWhole) (x3 : Vec F S1x256x2048 .bf16) (x4 : Vec F S16384x256 .bf16) (x5 : Vec F S1x32x144x512 .bf16) (m : Vec F S8x2048 .f32) (X8 : BufTy.Contents (Elt F) arg8.view.ty) (h8 : arg8.view.read (Elt F) X8 = m)
    (G : BufTy.Contents (Elt F) arg7.view.ty) (hG : arg7.view.read (Elt F) G = k0_pay7)
    (n : ℕ) (hn : n ≤ 32) :
    arg7.view.read (Elt F) (arg7.view.writes (Elt F) G (pb_k0_t3 Variants.none c none i arg3 harg3 arg4 harg4 arg5 harg5 arg6 harg6 arg7 harg7 arg8 harg8
      (harg3.unread x3) (harg4.unread x4) (harg5.unread x5) X8 G n)) = acc1 x3 x4 x5 (row m 0) n := by
  induction n with
  | zero => exact hG
  | succ n ih =>
    have ht : k0_t3_loop.trips = 32 := by decide +kernel
    have e := pb_k0_t3_succ (F := F) Variants.none c none i arg3 harg3 arg4 harg4 arg5 harg5 arg6 harg6 arg7 harg7 arg8 harg8
      (harg3.unread x3) (harg4.unread x4) (harg5.unread x5) X8 G ⟨n, by omega⟩
    dsimp only at e
    rw [e]
    unfold tripL_k0_t3 trip_k0_t3
    dsimp only
    refine (read_whole _ _ _ (by decide) _ _).trans ?_
    simp only [View.readAt_eq_ld, harg3.read_unread, harg4.read_unread, harg5.read_unread]
    rw [ih (by omega), h8, ld_keyRows x4 n (by omega) _ _ (k0_off4_eq ⟨n, by omega⟩), ld_valRows x5 n (by omega) _ _ (k0_off5_eq ⟨n, by omega⟩),
      View.ld_unit_lit _ _ (by decide), View.ld_unit_lit _ _ (by decide)]
    exact congrArg (fun r => k0_pay8 (keyRows x4 n) x3 r (acc1 x3 x4 x5 (row m 0) n) (valRows x5 n)) (ld_row m 0 _)

end Cert.KernelIdeal.Flash

end
-- ==== Proof.FlashBody.lean ====
module

/-
The body of the flash attention at one grid point, run once and for all: whatever its scratch held, it leaves `outBlk` of
its blocks in the output block, the blocks themselves as they were, and something in each scratch.
-/
public import proofs.«01_k».proof.Proof.FlashBlock

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of one row of the accumulator, of whatever stores left it. -/
theorem readCov_row (v : View sig .tc .vmem S144x2048 .f32) (L : List (View.Piece (Elt F) S144x2048 .f32))
    (A : Vec F S144x2048 .f32) (h : v.read (Elt F) (v.writes (Elt F) v.junk L) = A) :
    v.readCov L (Rect.unit (s := S144x2048) ![128, 0] S1x2048.size inb_S144x2048_S1x2048_128_0).toLoadRect = row A 128 := by
  unfold View.readCov
  rw [View.readAt_eq_ld, h]
  exact ld_row A 128 _

/-- A load of its first 128 rows. -/
theorem readCov_top (v : View sig .tc .vmem S144x2048 .f32) (L : List (View.Piece (Elt F) S144x2048 .f32))
    (A : Vec F S144x2048 .f32) (h : v.read (Elt F) (v.writes (Elt F) v.junk L) = A) :
    v.readCov L (Rect.unit (s := S144x2048) ![0, 0] S128x2048.size inb_S144x2048_S128x2048_0_0).toLoadRect = top A := by
  unfold View.readCov
  rw [View.readAt_eq_ld, h]
  exact ld_top A _

/-- The four stores of the output cover it. -/
theorem read_outOf (v : View sig .tc .vmem S512x512 .bf16) (f : BufTy.Contents (Elt F) v.ty) (A : Vec F S144x2048 .f32) :
    v.read (Elt F) (v.writes (Elt F) f [⟨Rect.unit (s := S512x512) ![0, 384] S512x128.size inb_S512x512_S512x128_0_384, k0_pay1 (k0_pay9 (top A) (row A 128))⟩,
    ⟨Rect.unit (s := S512x512) ![0, 256] S512x128.size inb_S512x512_S512x128_0_256, k0_pay12 (top A) (row A 128)⟩,
    ⟨Rect.unit (s := S512x512) ![0, 128] S512x128.size inb_S512x512_S512x128_0_128, k0_pay11 (top A) (row A 128)⟩,
    ⟨Rect.unit (s := S512x512) ![0, 0] S512x128.size inb_S512x512_S512x128_0_0, k0_pay10 (top A) (row A 128)⟩]) = outOf A :=
  View.read_writes_eq_canon _ _ _ fun y => View.cover_of_tiledL (s := S512x512) _ S512x128.size (by sl_kernel_rfl) y

set_option maxHeartbeats 1000000 in
theorem body (c : Dev nD) (i : grid0.Coords) (arg3 : Memref sig .tc .vmem S1x256x2048 .bf16) (harg3 : arg3.IsWhole) (arg4 : Memref sig .tc .vmem S16384x256 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S144x2048 .f32) (harg7 : arg7.IsWhole) (arg8 : Memref sig .tc .vmem S8x2048 .f32) (harg8 : arg8.IsWhole)
    (x3 : Vec F S1x256x2048 .bf16) (x4 : Vec F S16384x256 .bf16) (x5 : Vec F S1x32x144x512 .bf16)
    (E : Set ℕ) (K : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x3 ∗ owns (c : Thread nD τ) arg4 fullShare x4 ∗ owns (c : Thread nD τ) arg5 fullShare x5 ∗ owns (c : Thread nD τ) arg6 fullShare (outBlk x3 x4 x5) ∗ (∃ d, owns (c : Thread nD τ) arg7 fullShare d) ∗ (∃ d, owns (c : Thread nD τ) arg8 fullShare d)) -∗ K ⟨⟩))
      ⊢ wp frame (wpE (defs₀ (F := F)) Variants.none c none) E (cc0__flash_kernel i arg3 harg3 arg4 harg4 arg5 harg5 arg6 harg6 arg7 harg7 arg8 harg8) K := by
  have t1 : Scf.trips k0_t1_loop.lb k0_t1_loop.ub k0_t1_loop.st = 32 := by decide +kernel
  have t2 : Scf.trips k0_t2_loop.lb k0_t2_loop.ub k0_t2_loop.st = 32 := by decide +kernel
  have t3 : Scf.trips k0_t3_loop.lb k0_t3_loop.ub k0_t3_loop.st = 32 := by decide +kernel
  have r1 : arg7.view.read (Elt F) (arg7.view.writes (Elt F) arg7.view.junk
      (pb_k0_t1 Variants.none c none i arg3 harg3 arg4 harg4 arg5 harg5 arg6 harg6 arg7 harg7 arg8 harg8 (harg3.unread x3) (harg4.unread x4) (harg5.unread x5)
        (arg7.view.writes (Elt F) arg7.view.junk [⟨Rect.unit ![0, 0] S144x2048.size inb_S144x2048_S144x2048_0_0, k0_pay2⟩])
        (Scf.trips k0_t1_loop.lb k0_t1_loop.ub k0_t1_loop.st) ++
      [⟨Rect.unit ![0, 0] S144x2048.size inb_S144x2048_S144x2048_0_0, k0_pay2⟩])) = acc0 x3 x4 x5 32 := by
    rw [View.writes_append, t1]
    exact pb1 c i arg3 harg3 arg4 harg4 arg5 harg5 arg6 harg6 arg7 harg7 arg8 harg8 x3 x4 x5 _ (read_whole _ _ _ (by decide) _ _) 32 le_rfl
  have r2 : arg8.view.read (Elt F) (arg8.view.writes (Elt F) arg8.view.junk
      (pb_k0_t2 Variants.none c none i arg3 harg3 arg4 harg4 arg5 harg5 arg6 harg6 arg7 harg7 arg8 harg8 (harg3.unread x3) (harg4.unread x4)
        (arg8.view.writes (Elt F) arg8.view.junk [⟨Rect.unit ![0, 0] S8x2048.size inb_S8x2048_S8x2048_0_0, k0_pay5⟩])
        (Scf.trips k0_t2_loop.lb k0_t2_loop.ub k0_t2_loop.st) ++
      [⟨Rect.unit ![0, 0] S8x2048.size inb_S8x2048_S8x2048_0_0, k0_pay5⟩])) = mx x3 x4 32 := by
    rw [View.writes_append, t2]
    exact pb2 c i arg3 harg3 arg4 harg4 arg5 harg5 arg6 harg6 arg7 harg7 arg8 harg8 x3 x4 _ (read_whole _ _ _ (by decide) _ _) 32 le_rfl
  have r3 : ∀ L X8, arg8.view.read (Elt F) X8 = mx x3 x4 32 → arg7.view.read (Elt F) (arg7.view.writes (Elt F) arg7.view.junk
      (pb_k0_t3 Variants.none c none i arg3 harg3 arg4 harg4 arg5 harg5 arg6 harg6 arg7 harg7 arg8 harg8 (harg3.unread x3) (harg4.unread x4) (harg5.unread x5) X8
        (arg7.view.writes (Elt F) arg7.view.junk (⟨Rect.unit ![0, 0] S144x2048.size inb_S144x2048_S144x2048_0_0, k0_pay7⟩ :: L))
        (Scf.trips k0_t3_loop.lb k0_t3_loop.ub k0_t3_loop.st) ++
      ⟨Rect.unit ![0, 0] S144x2048.size inb_S144x2048_S144x2048_0_0, k0_pay7⟩ :: L)) = acc1 x3 x4 x5 (row (mx x3 x4 32) 0) 32 := by
    intro L X8 h8
    rw [View.writes_append, t3]
    exact pb3 c i arg3 harg3 arg4 harg4 arg5 harg5 arg6 harg6 arg7 harg7 arg8 harg8 x3 x4 x5 _ X8 h8 _ (read_whole _ _ _ (by decide) _ _) 32 le_rfl
  simp only [cc0__flash_kernel_eq_skeleton]; unfold cc0__flash_kernel_skel
  simp only [k0_part1_eq_skeleton]
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg3.eq_unread hf3; obtain rfl := harg4.eq_unread hf4; obtain rfl := harg5.eq_unread hf5
  sl_exec_parts
  have e12 : body.sl.v12 c i arg3 harg3 arg4 harg4 arg5 harg5 arg6 harg6 arg7 harg7 arg8 harg8 x3 x4 x5 = again (row (acc0 x3 x4 x5 32) 128) := by
    sl_unfold_words
    exact congrArg again (readCov_row _ _ _ r1)
  by_cases hc : body.sl.v12 c i arg3 harg3 arg4 harg4 arg5 harg5 arg6 harg6 arg7 harg7 arg8 harg8 x3 x4 x5 = 1#1
  · have ef : final x3 x4 x5 = acc1 x3 x4 x5 (row (mx x3 x4 32) 0) 32 := if_pos (e12.symm.trans hc)
    sl_exec_parts (disch := first | sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      sl_unfold_words
      rw [readCov_top _ _ _ (r3 _ _ r2), readCov_row _ _ _ (r3 _ _ r2)]
      unfold outBlk
      rw [ef]
      exact read_outOf _ _ _
    isplitl [H7]
    · iexists _; iexists _; isplitr
      swap; · iexact H7
      ipureintro; exact rfl
    iexists _; iexists _; isplitr
    swap; · iexact H8
    ipureintro; exact rfl
  · have ef : final x3 x4 x5 = acc0 x3 x4 x5 32 := if_neg fun h => hc (e12.trans h)
    sl_exec_parts (disch := first | sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      sl_unfold_words
      rw [readCov_top _ _ _ r1, readCov_row _ _ _ r1]
      unfold outBlk
      rw [ef]
      exact read_outOf _ _ _
    isplitl [H7]
    · iexists _; iexists _; isplitr
      swap; · iexact H7
      ipureintro; exact rfl
    iexists _; iexists _; isplitr
    swap; · iexact H8
    ipureintro; exact rfl

end Cert.KernelIdeal.Flash

end
-- ==== Proof.FlashRun.lean ====
module

/-
The launch of the flash attention: every grid point leaves `outBlk` of its blocks in its output block (`dats`), the body
meets that obligation at every point, and so the whole run ends with each array at what those blocks make of it.
-/
public import proofs.«01_k».proof.Proof.FlashBody
public import Idealize.ShloMosaic.Lib.Claim

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant between points, with both scratches as memrefs owned at some contents. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data: the inputs' buffers at their blocks, the output's at `outBlk` of them; nothing carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3,
    show (dats m 0 c).Φ t.succ = Pipeline.ΦA spec0 c from rfl, show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩⟩
  iapply (body c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
/-- The launch, the counters at zero with it. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Flash

end
-- ==== Proof.FlashMath.lean ====
module

/-
The equation of extended reals the flash attention rests on: a softmax average may be taken with weights to the base two or
to the base e, shifted by any real number, and divided before or after the sum.
-/
public import Idealize.ShloMosaic.Lib.ValueIdx
public import Idealize.ShloMosaic.PureOps

@[expose] public section

noncomputable section

namespace Cert.FlashMath

open Idealize.ShloMosaic

/-- The coercion of a finite sum of reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor on the right goes through a finite sum. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (by exact_mod_cast hc) (EReal.coe_ne_top c) _ _

/-- The quotient of two sums is the average with normalised weights. -/
theorem div_sum {ι : Type*} [Fintype ι] [Nonempty ι] (v : ι → EReal) (w : ι → ℝ) (hw : ∀ k, 0 < w k) :
    Ideal.div (∑ k, v k * (w k : EReal)) (∑ k, (w k : EReal)) = ∑ k, v k * ((w k / ∑ k, w k : ℝ) : EReal) := by
  have hp : 0 < ∑ k, w k := Finset.sum_pos (fun k _ => hw k) Finset.univ_nonempty
  rw [← coe_sum, Ideal.div_coe hp.ne', sum_mul_coe _ _ _ (by positivity)]
  refine Finset.sum_congr rfl fun k _ => ?_
  rw [mul_assoc, ← EReal.coe_mul, mul_one_div]

/-- The quotient of two real weights. -/
theorem div_weight {ι : Type*} [Fintype ι] [Nonempty ι] (w : ι → ℝ) (hw : ∀ k, 0 < w k) (k : ι) :
    Ideal.div (w k : EReal) (0 + ∑ k, (w k : EReal)) = ((w k / ∑ k, w k : ℝ) : EReal) := by
  have hp : 0 < ∑ k, w k := Finset.sum_pos (fun k _ => hw k) Finset.univ_nonempty
  rw [zero_add, ← coe_sum, Ideal.div_coe hp.ne', ← EReal.coe_mul, mul_one_div]

/-- Normalised weights do not see a common factor. -/
theorem ratio {ι : Type*} [Fintype ι] (w u : ι → ℝ) (c : ℝ) (hc : 0 < c) (h : ∀ k, u k = w k * c) (k : ι) :
    u k / ∑ k, u k = w k / ∑ k, w k := by
  simp only [h]
  rw [← Finset.sum_mul, mul_div_mul_right _ _ hc.ne']

/-- The attention of one query: the base-two weights, shifted by `b − m`, against the base-e weights shifted by `M`. -/
theorem attention {ι : Type*} [Fintype ι] [Nonempty ι] (v : ι → EReal) (z : ι → ℝ) (b m M : ℝ) :
    Ideal.div (∑ k, v k * Ideal.exp2 (((z k + b : ℝ) : EReal) - (m : EReal)))
        (∑ k, Ideal.exp2 (((z k + b : ℝ) : EReal) - (m : EReal)))
      = ∑ k, v k * Ideal.div (Ideal.exp (((z k * Real.log 2 : ℝ) : EReal) - (M : EReal)))
          (0 + ∑ k, Ideal.exp (((z k * Real.log 2 : ℝ) : EReal) - (M : EReal))) := by
  have e2 : ∀ k, Ideal.exp2 (((z k + b : ℝ) : EReal) - (m : EReal)) = ((Real.rpow 2 (z k + b - m) : ℝ) : EReal) := fun k => by
    rw [← EReal.coe_sub, Ideal.exp2_coe]
  have e1 : ∀ k, Ideal.exp (((z k * Real.log 2 : ℝ) : EReal) - (M : EReal)) = ((Real.exp (z k * Real.log 2 - M) : ℝ) : EReal) := fun k => by
    rw [← EReal.coe_sub, Ideal.exp_coe]
  simp only [e1, e2]
  rw [div_sum v (fun k => Real.rpow 2 (z k + b - m)) fun k => Real.rpow_pos_of_pos two_pos _]
  refine Finset.sum_congr rfl fun k _ => ?_
  rw [div_weight (fun k => Real.exp (z k * Real.log 2 - M)) (fun k => Real.exp_pos _) k]
  rw [ratio (fun k => Real.exp (z k * Real.log 2 - M)) (fun k => Real.rpow 2 (z k + b - m)) (Real.exp (M + Real.log 2 * (b - m))) (Real.exp_pos _) _ k]
  intro k
  show (2 : ℝ) ^ (z k + b - m) = _
  rw [Real.rpow_def_of_pos two_pos, ← Real.exp_add]
  congr 1; ring

/-- The greatest of finitely many real numbers, taken from minus infinity, is a real number. -/
theorem fold_max_real {ι : Type*} (s : Finset ι) (f : ι → EReal) (hs : s.Nonempty) (h : ∀ i ∈ s, ∃ r : ℝ, f i = r) :
    ∃ r : ℝ, s.fold max ⊥ f = r := by
  obtain ⟨i, hi, e⟩ := Finset.exists_mem_eq_sup s hs f
  obtain ⟨r, hr⟩ := h i hi
  exact ⟨r, e.trans hr⟩

/-- A finite sum of products of reals is real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨p, hp⟩ := ih fun i hi => h i (Finset.mem_insert_of_mem hi)
    obtain ⟨q, hq⟩ := h a (Finset.mem_insert_self _ _)
    exact ⟨q + p, by rw [Finset.sum_insert ha, hp, hq, EReal.coe_add]⟩

end Cert.FlashMath

end
-- ==== Proof.FlashValue.lean ====
module

/-
The flash attention's blocks read at an index over the extended reals: an accumulator entry is a sum over the 16384 keys of
a value times a weight, and the output block holds the quotient of two such entries.
-/
public import proofs.«01_k».proof.Proof.FlashBlock
public import proofs.«01_k».proof.Proof.FlashMath
public import Idealize.ShloMosaic.Lib.MatmulPlain
public import Idealize.ShloMosaic.Lib.ValueLayout

@[expose] public section

set_option maxRecDepth 16384

noncomputable section

namespace Cert.KernelIdeal.Flash

open Cert.KernelIdeal.Gen
open Idealize.ShloMosaic

theorem ix2_congr {p q : ℕ} {a a' : Fin p} {b b' : Fin q} (ha : a.val = a'.val) (hb : b.val = b'.val) :
    ValueIdx.ix2 a b = ValueIdx.ix2 a' b' := by rw [Fin.ext ha, Fin.ext hb]

theorem ix4_congr {p q r s : ℕ} {a a' : Fin p} {b b' : Fin q} {c c' : Fin r} {d d' : Fin s} (ha : a.val = a'.val) (hb : b.val = b'.val)
    (hc : c.val = c'.val) (hd : d.val = d'.val) : ValueIdx.ix4 a b c d = ValueIdx.ix4 a' b' c' d' := by
  rw [Fin.ext ha, Fin.ext hb, Fin.ext hc, Fin.ext hd]

/-- The augmented score of key `k` against column `col` of the query block. -/
def score (x3 : Vec Ideal S1x256x2048 .bf16) (x4 : Vec Ideal S16384x256 .bf16) (k : ℕ) (col : Fin 2048) : EReal :=
  ∑ d : Fin 256, x4 (ValueIdx.ix2 ⟨k % 16384, Nat.mod_lt _ (by decide)⟩ d) * x3 (ValueIdx.ix3 0 d col)

/-- Entry `a` of the value of key `k`. -/
def value (x5 : Vec Ideal S1x32x144x512 .bf16) (k : ℕ) (a : Fin 144) : EReal :=
  x5 (ValueIdx.ix4 0 ⟨k / 512 % 32, Nat.mod_lt _ (by decide)⟩ a ⟨k % 512, Nat.mod_lt _ (by decide)⟩)

theorem dotA_eq : dot_S512x256_S256x2048_S512x2048_1_0_0_1_n_n = DotDims.plain 512 256 2048 := rfl
theorem dotB_eq : dot_S144x512_S512x2048_S144x2048_1_0_0_1_n_n = DotDims.plain 144 512 2048 := rfl

theorem cast_q (x3 : Vec Ideal S1x256x2048 .bf16) (d : Fin 256) (col : Fin 2048) :
    shapeCast S256x2048 x3 shapeCasts_S1x256x2048_S256x2048 (ValueIdx.ix2 d col) = x3 (ValueIdx.ix3 0 d col) :=
  shapeCast_apply x3 _ _ (ValueIdx.ix3 0 d col) (by
    rw [Shape.rowMajor_val_two, Shape.rowMajor_val_three]
    show (0 * 256 + d.val) * 2048 + col.val = d.val * 2048 + col.val
    omega)

theorem cast_v (x5 : Vec Ideal S1x1x144x512 .bf16) (a : Fin 144) (s : Fin 512) :
    shapeCast S144x512 x5 shapeCasts_S1x1x144x512_S144x512 (ValueIdx.ix2 a s) = x5 (ValueIdx.ix4 0 0 a s) :=
  shapeCast_apply x5 _ _ (ValueIdx.ix4 0 0 a s) (by
    rw [Shape.rowMajor_val_two, Shape.rowMajor_val_four]
    show ((0 * 1 + 0) * 144 + a.val) * 512 + s.val = a.val * 512 + s.val
    omega)

/-- The scores of one key block. -/
theorem scores_apply (x3 : Vec Ideal S1x256x2048 .bf16) (x4 : Vec Ideal S16384x256 .bf16) (n : ℕ) (s : Fin 512) (col : Fin 2048) :
    matmul (φ₁ := .bf16) (φ₂ := .bf16) dot_S512x256_S256x2048_S512x2048_1_0_0_1_n_n none (keyRows x4 n) (shapeCast S256x2048 x3 shapeCasts_S1x256x2048_S256x2048)
      (constant S512x2048 .f32 0x00000000#32) (ValueIdx.ix2 s col) = score x3 x4 (512 * n + s.val) col := by
  rw [dotA_eq]
  refine (Ideal.matmul_plain_apply (M := 512) (K := 256) (N := 2048) none _ _ _ s col).trans ?_
  have h0 : (constant S512x2048 .f32 0x00000000#32 : FVec Ideal S512x2048 .f32) (ValueIdx.ix2 s col) = 0 := Ideal.ofBits_zero_f32
  rw [h0, zero_add]
  refine Finset.sum_congr rfl fun d _ => ?_
  rw [cast_q]
  rfl

/-- One key block's values against a matrix of weights. -/
theorem weighted_apply (x5 : Vec Ideal S1x32x144x512 .bf16) (n : ℕ) (w : FVec Ideal S512x2048 .bf16) (a : Fin 144) (col : Fin 2048) :
    matmul (φ₁ := .bf16) dot_S144x512_S512x2048_S144x2048_1_0_0_1_n_n none (shapeCast S144x512 (valRows x5 n) shapeCasts_S1x1x144x512_S144x512) w
      (constant S144x2048 .f32 0x00000000#32) (ValueIdx.ix2 a col) = ∑ s : Fin 512, value x5 (512 * n + s.val) a * w (ValueIdx.ix2 s col) := by
  rw [dotB_eq]
  refine (Ideal.matmul_plain_apply (M := 144) (K := 512) (N := 2048) none _ _ _ a col).trans ?_
  have h0 : (constant S144x2048 .f32 0x00000000#32 : FVec Ideal S144x2048 .f32) (ValueIdx.ix2 a col) = 0 := Ideal.ofBits_zero_f32
  rw [h0, zero_add]
  refine Finset.sum_congr rfl fun s _ => ?_
  rw [cast_v]
  have hs : s.val < 512 := s.isLt
  refine congrArg (· * _) ?_
  show x5 _ = x5 _
  refine congrArg x5 (ix4_congr rfl ?_ rfl ?_)
  · show n % 32 = (512 * n + s.val) / 512 % 32
    omega
  · show s.val = (512 * n + s.val) % 512
    omega

/-- The first pass after `n` key blocks. -/
theorem acc0_apply (x3 : Vec Ideal S1x256x2048 .bf16) (x4 : Vec Ideal S16384x256 .bf16) (x5 : Vec Ideal S1x32x144x512 .bf16) (n : ℕ) (a : Fin 144) (col : Fin 2048) :
    acc0 x3 x4 x5 n (ValueIdx.ix2 a col) = ∑ i ∈ Finset.range n, ∑ s : Fin 512, value x5 (512 * i + s.val) a * Ideal.exp2 (score x3 x4 (512 * i + s.val) col) := by
  induction n with
  | zero =>
    rw [Finset.sum_range_zero]
    show k0_pay2 _ = _
    unfold k0_pay2
    simp only [shapeCast_self]
    exact Ideal.ofBits_zero_f32
  | succ n ih =>
    rw [Finset.sum_range_succ, ← ih]
    show k0_pay3 (keyRows x4 n) x3 (acc0 x3 x4 x5 n) (valRows x5 n) _ = _
    unfold k0_pay3
    simp only [shapeCast_self]
    refine congrArg (acc0 x3 x4 x5 n (ValueIdx.ix2 a col) + ·) ((weighted_apply x5 n _ a col).trans (Finset.sum_congr rfl fun s _ => ?_))
    exact congrArg (fun z => _ * Ideal.exp2 z) (scores_apply x3 x4 n s col)

/-- The second pass after `n` key blocks. -/
theorem acc1_apply (x3 : Vec Ideal S1x256x2048 .bf16) (x4 : Vec Ideal S16384x256 .bf16) (x5 : Vec Ideal S1x32x144x512 .bf16) (m : Vec Ideal S1x2048 .f32) (n : ℕ) (a : Fin 144) (col : Fin 2048) :
    acc1 x3 x4 x5 m n (ValueIdx.ix2 a col)
      = ∑ i ∈ Finset.range n, ∑ s : Fin 512, value x5 (512 * i + s.val) a * Ideal.exp2 (score x3 x4 (512 * i + s.val) col - m (ValueIdx.ix2 0 col)) := by
  induction n with
  | zero =>
    rw [Finset.sum_range_zero]
    show k0_pay7 _ = _
    unfold k0_pay7
    simp only [shapeCast_self]
    exact Ideal.ofBits_zero_f32
  | succ n ih =>
    rw [Finset.sum_range_succ, ← ih]
    show k0_pay8 (keyRows x4 n) x3 m (acc1 x3 x4 x5 m n) (valRows x5 n) _ = _
    unfold k0_pay8
    simp only [shapeCast_self]
    refine congrArg (acc1 x3 x4 x5 m n (ValueIdx.ix2 a col) + ·) ((weighted_apply x5 n _ a col).trans (Finset.sum_congr rfl fun s _ => ?_))
    refine congrArg (fun z => _ * Ideal.exp2 z) ?_
    exact congrArg₂ (· - ·) (scores_apply x3 x4 n s col) (ValueIdx.broadcastTo_1b_ab_apply m _ s col)

/-- The sum over 32 blocks of 512 keys is the sum over the keys. -/
theorem sum_blocks (f : ℕ → EReal) : (∑ i ∈ Finset.range 32, ∑ s : Fin 512, f (512 * i + s.val)) = ∑ k : Fin 16384, f k.val := by
  have h : ∀ i, (∑ s : Fin 512, f (512 * i + s.val)) = ∑ s ∈ Finset.range 512, f (i * 512 + s) := fun i => by
    rw [Nat.mul_comm i 512]
    exact (Finset.sum_range fun s => f (512 * i + s)).symm
  rw [Finset.sum_congr rfl fun i _ => h i, ← Finset.sum_range_mul_split 32 512 f]
  generalize hN : 32 * 512 = N
  have hN' : N = 16384 := by omega
  subst hN'
  exact Finset.sum_range f

/-- After at least one key block of real scores the column maximum is real. -/
theorem mx_real (x3 : Vec Ideal S1x256x2048 .bf16) (x4 : Vec Ideal S16384x256 .bf16) (col : Fin 2048)
    (h : ∀ k, ∃ r : ℝ, score x3 x4 k col = r) (n : ℕ) (r : Fin 8) : mx x3 x4 n (ValueIdx.ix2 r col) = ⊥ ∧ n = 0 ∨ ∃ z : ℝ, mx x3 x4 n (ValueIdx.ix2 r col) = z := by
  have hb : Ideal.ofBits .f32 0xFF800000#32 = ⊥ := by simp [Ideal.ofBits, Ideal.ieee]
  induction n with
  | zero =>
    left
    refine ⟨?_, rfl⟩
    show k0_pay5 _ = _
    unfold k0_pay5
    simp only [shapeCast_self]
    exact hb
  | succ n ih =>
    right
    have hf : ∃ z : ℝ, multiReduction (F := Ideal) .maximumf [0] S2048 (matmul (φ₁ := .bf16) (φ₂ := .bf16) dot_S512x256_S256x2048_S512x2048_1_0_0_1_n_n none (keyRows x4 n) (shapeCast S256x2048 x3 shapeCasts_S1x256x2048_S256x2048)
        (constant S512x2048 .f32 0x00000000#32)) 0xFF800000#32 reduces_S512x2048_S2048 (.inl rfl) rfl (ValueIdx.ix1 col) = z := by
      refine Eq.mpr (congrArg (fun y => ∃ z : ℝ, y = (z : EReal)) ((multiReduction_maximumf_eq_fold _ _ _ _ _ _).trans (Shape.Reduces.fold_filter_drop_single _ _ _ _ _))) ?_
      have he : (FloatOps.ofBits .f32 0xFF800000#32 : Ideal .f32) = ⊥ := hb
      rw [he]
      refine FlashMath.fold_max_real _ _ ⟨(⟨0, by decide⟩ : Fin 512), Finset.mem_univ _⟩ fun s _ => ?_
      have hi : reduces_S512x2048_S2048.lift (ValueIdx.ix1 col) s = ValueIdx.ix2 (⟨s.val, s.isLt⟩ : Fin 512) col := by
        funext b; apply Fin.ext; fin_cases b <;> rfl
      rw [Function.comp_apply, hi, scores_apply]
      exact h _
    obtain ⟨z, hz⟩ := hf
    have e : mx x3 x4 (n + 1) (ValueIdx.ix2 r col) = max (mx x3 x4 n (ValueIdx.ix2 r col)) (z : EReal) := by
      show k0_pay6 (mx x3 x4 n) (keyRows x4 n) x3 _ = _
      unfold k0_pay6
      simp only [shapeCast_self]
      refine congrArg (max (mx x3 x4 n (ValueIdx.ix2 r col))) ?_
      refine (ValueIdx.broadcastTo_1b_ab_apply _ _ r col).trans (Eq.trans ?_ hz)
      exact shapeCast_apply _ _ _ (ValueIdx.ix1 col) (by rw [Shape.rowMajor_val_two, Shape.rowMajor_val_one]; show col.val = 0 * 2048 + col.val; omega)
    rw [e]
    rcases ih with ⟨h0, _⟩ | ⟨y, hy⟩
    · exact ⟨z, by rw [h0]; exact max_eq_right bot_le⟩
    · exact ⟨max y z, by rw [hy]; exact (EReal.coe_strictMono.monotone.map_max).symm⟩

/-- The accumulator the output is divided from, in a column of real scores: the weighted sums at one real shift. -/
theorem final_apply (x3 : Vec Ideal S1x256x2048 .bf16) (x4 : Vec Ideal S16384x256 .bf16) (x5 : Vec Ideal S1x32x144x512 .bf16) (col : Fin 2048)
    (h : ∀ k, ∃ r : ℝ, score x3 x4 k col = r) :
    ∃ m : ℝ, ∀ a, final x3 x4 x5 (ValueIdx.ix2 a col) = ∑ k : Fin 16384, value x5 k.val a * Ideal.exp2 (score x3 x4 k.val col - (m : EReal)) := by
  unfold final
  split
  · rcases mx_real x3 x4 col h 32 0 with ⟨_, h0⟩ | ⟨z, hz⟩
    · exact absurd h0 (by decide)
    · refine ⟨z, fun a => ?_⟩
      rw [acc1_apply, sum_blocks fun k => value x5 k a * Ideal.exp2 (score x3 x4 k col - row (mx x3 x4 32) 0 (ValueIdx.ix2 0 col)), ← hz]
      rfl
  · refine ⟨0, fun a => ?_⟩
    rw [acc0_apply, sum_blocks fun k => value x5 k a * Ideal.exp2 (score x3 x4 k col)]
    refine Finset.sum_congr rfl fun k _ => ?_
    rw [EReal.coe_zero, sub_zero]

/-- One head's piece of the output block. -/
theorem piece_apply (A : Vec Ideal S144x2048 .f32) (g : ℕ) (inb : S128x2048.Slices ![0, 512 * g] S128x512) (r : Fin 512) (d : Fin 128) (hg : g < 4) :
    transpose S512x128 [1, 0] (extractStridedSlice S128x512 ![0, 512 * g] (k0_pay9 (top A) (row A 128)) inb) transposes_S128x512_p1_0_S512x128 (ValueIdx.ix2 r d)
      = Ideal.div (A (ValueIdx.ix2 ⟨d.val, by omega⟩ ⟨512 * g + r.val, by omega⟩)) (A (ValueIdx.ix2 128 ⟨512 * g + r.val, by omega⟩)) := by
  rw [transpose_apply [1, 0] _ _ (ValueIdx.ix2 r d) (ValueIdx.ix2 d r) (fun b => by fin_cases b <;> rfl),
    extractStridedSlice_apply _ _ _ (ValueIdx.ix2 d r) (ValueIdx.ix2 d ⟨512 * g + r.val, by omega⟩) (fun b => by fin_cases b <;> simp [ValueIdx.ix2])]
  unfold k0_pay9
  exact congrArg (Ideal.div _) (ValueIdx.broadcastTo_1b_ab_apply _ _ d _)

/-- The quotient the output block holds at an index. -/
def outAt (A : Vec Ideal S144x2048 .f32) (y : S512x512.Idx) : EReal :=
  Ideal.div (A (ValueIdx.ix2 ⟨(y 1).val % 128, by omega⟩ ⟨512 * ((y 1).val / 128) + (y 0).val, by have h0 : (y 0).val < 512 := (y 0).isLt; have h1 : (y 1).val < 512 := (y 1).isLt; omega⟩))
    (A (ValueIdx.ix2 128 ⟨512 * ((y 1).val / 128) + (y 0).val, by have h0 : (y 0).val < 512 := (y 0).isLt; have h1 : (y 1).val < 512 := (y 1).isLt; omega⟩))

/-- The output block at a row and a column. -/
theorem outOf_apply (A : Vec Ideal S144x2048 .f32) (r c : Fin 512) :
    outOf A (ValueIdx.ix2 r c) = Ideal.div (A (ValueIdx.ix2 ⟨c.val % 128, by omega⟩ ⟨512 * (c.val / 128) + r.val, by omega⟩))
      (A (ValueIdx.ix2 128 ⟨512 * (c.val / 128) + r.val, by omega⟩)) := by
  have key : ∀ (g : ℕ) (hg : g < 4) (inb : S128x2048.Slices ![0, 512 * g] S128x512) (inb') (x : S512x128.Idx),
      transpose S512x128 [1, 0] (extractStridedSlice S128x512 ![0, 512 * g] (k0_pay9 (top A) (row A 128)) inb) transposes_S128x512_p1_0_S512x128 x
        = outAt A ((Rect.unit (s := S512x512) ![0, 128 * g] S512x128.size inb').emb x) := by
    intro g hg inb inb' x
    have h0 : (x 0).val < 512 := (x 0).isLt
    have h1 : (x 1).val < 128 := (x 1).isLt
    obtain ⟨r, d, rfl⟩ : ∃ (r : Fin 512) (d : Fin 128), x = ValueIdx.ix2 r d := ⟨x 0, x 1, ValueIdx.eq_ix2 x⟩
    rw [piece_apply A g inb r d hg]
    unfold outAt
    have e0 : ((Rect.unit (s := S512x512) ![0, 128 * g] S512x128.size inb').emb (ValueIdx.ix2 r d) 0).val = r.val := by
      rw [Rect.emb_apply]; show 0 + 1 * r.val = r.val; omega
    have e1 : ((Rect.unit (s := S512x512) ![0, 128 * g] S512x128.size inb').emb (ValueIdx.ix2 r d) 1).val = 128 * g + d.val := by
      rw [Rect.emb_apply]; show 128 * g + 1 * d.val = _; omega
    have hd : d.val < 128 := d.isLt
    refine congrArg₂ Ideal.div (congrArg A (ix2_congr ?_ ?_)) (congrArg A (ix2_congr rfl ?_))
    · show d.val = _ % 128
      rw [e1]; omega
    · show 512 * g + r.val = 512 * (_ / 128) + _
      rw [e0, e1]; omega
    · show 512 * g + r.val = 512 * (_ / 128) + _
      rw [e0, e1]; omega
  refine (View.canon_apply_of_pieces (outAt A) _ ?_ (ValueIdx.ix2 r c) (View.cover_of_tiledL (s := S512x512) _ S512x128.size (by sl_kernel_rfl) _)).trans rfl
  intro p hp
  rcases List.mem_cons.mp hp with rfl | hp
  · exact key 3 (by decide) slices_S128x2048_o0_1536_S128x512 inb_S512x512_S512x128_0_384
  rcases List.mem_cons.mp hp with rfl | hp
  · exact key 2 (by decide) slices_S128x2048_o0_1024_S128x512 inb_S512x512_S512x128_0_256
  rcases List.mem_cons.mp hp with rfl | hp
  · exact key 1 (by decide) slices_S128x2048_o0_512_S128x512 inb_S512x512_S512x128_0_128
  rcases List.mem_cons.mp hp with rfl | hp
  · exact key 0 (by decide) slices_S128x2048_o0_0_S128x512 inb_S512x512_S512x128_0_0
  exact absurd hp List.not_mem_nil

end Cert.KernelIdeal.Flash

end
-- ==== Proof.FlashRef.lean ====
module

/-
The plain attention read at an index: a softmax average over the keys, its logits scaled by the logarithm of two and shifted
by some real number, the row's greatest logit.
-/
public import proofs.«01_k».proof.Proof.Gen.ReferenceIdeal.Read
public import proofs.«01_k».proof.Proof.FlashMath
public import Idealize.ShloMosaic.Lib.IdealHost
public import Idealize.ShloMosaic.Lib.ValueLayout

@[expose] public section

set_option maxRecDepth 16384

noncomputable section

namespace Cert.FlashRef

open Cert.ReferenceIdeal Cert.ReferenceIdeal.Read Cert.ReferenceIdeal.Gen
open Idealize.ShloMosaic

/-- Entry `d` of the query of row `q` in head `(kv, g)`. -/
def query (x0 : Vec Ideal S2x256x131072 .bf16) (kv : Fin 2) (g : Fin 4) (q : Fin 16384) (d : Fin 256) : EReal :=
  x0 (ValueIdx.ix3 kv d ⟨65536 + (2048 * (q.val / 512) + (512 * g.val + q.val % 512)), by omega⟩)

/-- Entry `d` of key `k`. -/
def key (x1 : Vec Ideal S32768x512 .bf16) (kv : Fin 2) (k : Fin 16384) (d : Fin 256) : EReal :=
  x1 (ValueIdx.ix2 ⟨16384 + k.val, by omega⟩ ⟨256 * kv.val + d.val, by omega⟩)

/-- Entry `a` of the value of key `k`. -/
def val (x2 : Vec Ideal S2x64x144x512 .bf16) (kv : Fin 2) (k : Fin 16384) (a : Fin 144) : EReal :=
  x2 (ValueIdx.ix4 kv ⟨32 + k.val / 512, by omega⟩ a ⟨k.val % 512, by omega⟩)

/-- A coordinate below 128 among 256. -/
def lo (d : Fin 128) : Fin 256 := ⟨d.val, by omega⟩
/-- A coordinate below 128 among 144. -/
def lo' (d : Fin 128) : Fin 144 := ⟨d.val, by omega⟩

theorem query_apply (x0 : Vec Ideal S2x256x131072 .bf16) (kv : Fin 2) (g : Fin 4) (q : Fin 16384) (d : Fin 128) :
    val_main_v4 (F := Ideal) x0 (ValueIdx.ix4 q kv g d) = query x0 kv g q (lo d) := by
  have e4 : idx_main_v4 (ValueIdx.ix4 q kv g d) = ValueIdx.ix5 (⟨q.val / 512, by omega⟩ : Fin 32) (⟨q.val % 512, by omega⟩ : Fin 512) kv g d := by
    funext a; apply Fin.ext
    fin_cases a
    · show (((q.val * 2 + kv.val) * 4 + g.val) * 128 + d.val) / 524288 = q.val / 512
      omega
    · show (((q.val * 2 + kv.val) * 4 + g.val) * 128 + d.val) / 1024 % 512 = q.val % 512
      omega
    · show (((q.val * 2 + kv.val) * 4 + g.val) * 128 + d.val) / 512 % 2 = kv.val
      omega
    · show (((q.val * 2 + kv.val) * 4 + g.val) * 128 + d.val) / 128 % 4 = g.val
      omega
    · show (((q.val * 2 + kv.val) * 4 + g.val) * 128 + d.val) % 128 = d.val
      omega
  have e3 : ∀ (i : Fin 32) (r : Fin 512), idx_main_v3 (ValueIdx.ix5 i r kv g d) = ValueIdx.ix5 kv d i g r := by
    intro i r; funext a; apply Fin.ext
    fin_cases a <;> rfl
  have e2 : ∀ (i : Fin 32) (r : Fin 512), idx_main_v2 (ValueIdx.ix5 kv d i g r) = ValueIdx.ix3 kv d (⟨2048 * i.val + (512 * g.val + r.val), by omega⟩ : Fin 65536) := by
    intro i r; funext a; apply Fin.ext
    fin_cases a
    · show ((((kv.val * 128 + d.val) * 32 + i.val) * 4 + g.val) * 512 + r.val) / 8388608 = kv.val
      omega
    · show ((((kv.val * 128 + d.val) * 32 + i.val) * 4 + g.val) * 512 + r.val) / 65536 % 128 = d.val
      omega
    · show ((((kv.val * 128 + d.val) * 32 + i.val) * 4 + g.val) * 512 + r.val) % 65536 = 2048 * i.val + (512 * g.val + r.val)
      omega
  rw [val_main_v4_apply, e4, val_main_v3_apply, e3, val_main_v2_apply, e2, val_main_v1_apply, val_main_v0_apply, Ideal.extf_def]
  refine congrArg x0 ?_
  funext a; apply Fin.ext
  fin_cases a <;> rfl

theorem key_apply (x1 : Vec Ideal S32768x512 .bf16) (kv : Fin 2) (k : Fin 16384) (d : Fin 128) :
    val_main_v8 (F := Ideal) x1 (ValueIdx.ix3 k kv d) = key x1 kv k (lo d) := by
  have e8 : idx_main_v8 (ValueIdx.ix3 k kv d) = ValueIdx.ix3 k kv (lo d) := by
    funext a; apply Fin.ext
    fin_cases a <;> rfl
  have e7 : idx_main_v7 (ValueIdx.ix3 k kv (lo d)) = ValueIdx.ix2 k (⟨256 * kv.val + d.val, by omega⟩ : Fin 512) := by
    funext a; apply Fin.ext
    fin_cases a
    · show ((k.val * 2 + kv.val) * 256 + d.val) / 512 = k.val
      omega
    · show ((k.val * 2 + kv.val) * 256 + d.val) % 512 = 256 * kv.val + d.val
      omega
  rw [val_main_v8_apply, e8, val_main_v7_apply, e7, val_main_v6_apply, val_main_v5_apply, Ideal.extf_def]
  refine congrArg x1 ?_
  funext a; apply Fin.ext
  fin_cases a <;> rfl

theorem val_apply (x2 : Vec Ideal S2x64x144x512 .bf16) (kv : Fin 2) (k : Fin 16384) (d : Fin 128) :
    val_main_v12 (F := Ideal) x2 (ValueIdx.ix3 k kv d) = val x2 kv k (lo' d) := by
  have e12 : idx_main_v12 (ValueIdx.ix3 k kv d) = ValueIdx.ix4 (⟨k.val / 512, by omega⟩ : Fin 32) (⟨k.val % 512, by omega⟩ : Fin 512) kv d := by
    funext a; apply Fin.ext
    fin_cases a
    · show ((k.val * 2 + kv.val) * 128 + d.val) / 131072 = k.val / 512
      omega
    · show ((k.val * 2 + kv.val) * 128 + d.val) / 256 % 512 = k.val % 512
      omega
    · show ((k.val * 2 + kv.val) * 128 + d.val) / 128 % 2 = kv.val
      omega
    · show ((k.val * 2 + kv.val) * 128 + d.val) % 128 = d.val
      omega
  rw [val_main_v12_apply, e12, val_main_v11_apply, val_main_v10_apply, val_main_v9_apply, Ideal.extf_def]
  refine congrArg x2 ?_
  funext a; apply Fin.ext
  fin_cases a <;> rfl

/-- The scaled logit. -/
theorem logit_apply (x0 : Vec Ideal S2x256x131072 .bf16) (x1 : Vec Ideal S32768x512 .bf16) (kv : Fin 2) (g : Fin 4) (q k : Fin 16384) :
    val_main_v17 (F := Ideal) x0 x1 (ValueIdx.ix4 kv g q k)
      = (∑ d : Fin 128, key x1 kv k (lo d) * query x0 kv g q (lo d)) * ((Real.log 2 : ℝ) : EReal) := by
  have e14 : idx_main_v14 (ValueIdx.ix4 kv g q k) = ValueIdx.ix4 kv k q g := by
    funext a; apply Fin.ext
    fin_cases a <;> rfl
  have h2 : Ideal.ofBits .f32 0x40000000#32 = ((2 : ℝ) : EReal) := by
    simp [Ideal.ofBits, Ideal.ieee]
    rw [← EReal.coe_mul]
    norm_num
  rw [val_main_v17_apply, val_main_v14_apply, e14, val_main_v13_apply, val_main_v16_apply, val_main_v15_apply, val_main_cst_apply,
    Ideal.mulf_def, Ideal.ofBits_def, Ideal.hostUnary_log_def, h2, Ideal.log_coe, if_neg (by norm_num)]
  refine congrArg (· * _) (Finset.sum_congr rfl fun d _ => ?_)
  refine congrArg₂ (· * ·) (Eq.trans (congrArg _ ?_) (key_apply x1 kv k d)) (Eq.trans (congrArg _ ?_) (query_apply x0 kv g q d))
  · funext a; apply Fin.ext
    fin_cases a <;> rfl
  · funext a; apply Fin.ext
    fin_cases a <;> rfl

/-- The row's greatest logit is real when its logits are. -/
theorem max_real (x0 : Vec Ideal S2x256x131072 .bf16) (x1 : Vec Ideal S32768x512 .bf16) (kv : Fin 2) (g : Fin 4) (q : Fin 16384)
    (h : ∀ k, ∃ r : ℝ, val_main_v17 (F := Ideal) x0 x1 (ValueIdx.ix4 kv g q k) = r) :
    ∃ M : ℝ, val_main_v20 (F := Ideal) x0 x1 (ValueIdx.ix3 kv g q) = M := by
  have hb : Ideal.ofBits .f32 0xFF800000#32 = ⊥ := by simp [Ideal.ofBits, Ideal.ieee]
  have hred : S2x4x16384x16384.Reduces [3] S2x4x16384 := by decide
  have hf : ∃ M : ℝ, val_main_v18 (F := Ideal) x0 x1 (ValueIdx.ix3 kv g q) = M := by
    unfold val_main_v18
    generalize val_main_v17 (F := Ideal) x0 x1 = y at h
    refine Eq.mpr (congrArg (fun z => ∃ M : ℝ, z = (M : EReal)) (Host.reduce_eq_fold_single _ y _ _ hred _ _)) ?_
    have he : (val_main_cst_0 (F := Ideal)) (Shape.Idx.first h_S_) = ⊥ := hb
    rw [he]
    refine FlashMath.fold_max_real _ _ ⟨(⟨0, by decide⟩ : Fin 16384), Finset.mem_univ _⟩ fun k _ => ?_
    have hi : hred.lift (ValueIdx.ix3 kv g q) k = ValueIdx.ix4 kv g q (⟨k.val, k.isLt⟩ : Fin 16384) := by
      funext b; apply Fin.ext; fin_cases b <;> rfl
    rw [Function.comp_apply, hi]
    exact h _
  obtain ⟨M, hM⟩ := hf
  refine ⟨M, ?_⟩
  rw [val_main_v20_apply, hM, val_main_v19_apply, val_main_cst_1_apply, Ideal.ofBits_def, hb, Ideal.maximumf_def]
  exact max_eq_right bot_le

/-- One weight before it is normalised. -/
theorem weight_apply (x0 : Vec Ideal S2x256x131072 .bf16) (x1 : Vec Ideal S32768x512 .bf16) (kv : Fin 2) (g : Fin 4) (q k : Fin 16384) :
    val_main_v24 (F := Ideal) x0 x1 (ValueIdx.ix4 kv g q k)
      = Ideal.exp (val_main_v17 (F := Ideal) x0 x1 (ValueIdx.ix4 kv g q k) - val_main_v20 (F := Ideal) x0 x1 (ValueIdx.ix3 kv g q)) := by
  rw [val_main_v24_apply, val_main_v23_apply, val_main_v22_apply, val_main_v21_apply, Ideal.hostUnary_exp_def, Ideal.subf_def]
  refine congrArg (fun i => Ideal.exp (_ - val_main_v20 (F := Ideal) x0 x1 i)) ?_
  funext a; apply Fin.ext
  fin_cases a <;> rfl

/-- One normalised weight. -/
theorem prob_apply (x0 : Vec Ideal S2x256x131072 .bf16) (x1 : Vec Ideal S32768x512 .bf16) (kv : Fin 2) (g : Fin 4) (q k : Fin 16384) :
    val_main_v28 (F := Ideal) x0 x1 (ValueIdx.ix4 kv g q k)
      = Ideal.div (val_main_v24 (F := Ideal) x0 x1 (ValueIdx.ix4 kv g q k)) (0 + ∑ k' : Fin 16384, val_main_v24 (F := Ideal) x0 x1 (ValueIdx.ix4 kv g q k')) := by
  rw [val_main_v28_apply, val_main_v27_apply, val_main_v26_apply, val_main_v25_apply, val_main_cst_2_apply, Ideal.ofBits_def, Ideal.ofBits_zero_f32, Ideal.hostDivf_def]
  have e : ∀ k' : Fin 16384, idx_main_v25 (idx_main_v26 (idx_main_v27 (ValueIdx.ix4 kv g q k))) k' = ValueIdx.ix4 kv g q k' := fun k' => by
    funext a; apply Fin.ext
    fin_cases a <;> rfl
  simp only [e]

/-- The attention at row `q` and column `c`. -/
theorem out_apply (x0 : Vec Ideal S2x256x131072 .bf16) (x1 : Vec Ideal S32768x512 .bf16) (x2 : Vec Ideal S2x64x144x512 .bf16)
    (kv : Fin 2) (g : Fin 4) (d : Fin 128) (q : Fin 16384) (c : Fin 1024) (hc : c.val = 512 * kv.val + (128 * g.val + d.val)) (z : Fin 16384 → ℝ)
    (hz : ∀ k, (∑ d : Fin 128, key x1 kv k (lo d) * query x0 kv g q (lo d)) = (z k : EReal)) :
    ∃ M : ℝ, val_main_v32 (F := Ideal) x0 x1 x2 (ValueIdx.ix2 q c)
      = ∑ k, val x2 kv k (lo' d) * Ideal.div (Ideal.exp (((z k * Real.log 2 : ℝ) : EReal) - (M : EReal)))
          (0 + ∑ k, Ideal.exp (((z k * Real.log 2 : ℝ) : EReal) - (M : EReal))) := by
  have hl : ∀ k, val_main_v17 (F := Ideal) x0 x1 (ValueIdx.ix4 kv g q k) = ((z k * Real.log 2 : ℝ) : EReal) := fun k => by
    rw [logit_apply, hz, EReal.coe_mul]
  obtain ⟨M, hM⟩ := max_real x0 x1 kv g q fun k => ⟨_, hl k⟩
  have hw : ∀ k, val_main_v24 (F := Ideal) x0 x1 (ValueIdx.ix4 kv g q k) = Ideal.exp (((z k * Real.log 2 : ℝ) : EReal) - (M : EReal)) := fun k => by
    rw [weight_apply, hl, hM]
  have e31 : idx_main_v31 (ValueIdx.ix2 q c) = ValueIdx.ix4 q kv g d := by
    funext a; apply Fin.ext
    fin_cases a
    · show (q.val * 1024 + c.val) / 1024 = q.val
      omega
    · show (q.val * 1024 + c.val) / 512 % 2 = kv.val
      omega
    · show (q.val * 1024 + c.val) / 128 % 4 = g.val
      omega
    · show (q.val * 1024 + c.val) % 128 = d.val
      omega
  have e30 : idx_main_v30 (ValueIdx.ix4 q kv g d) = ValueIdx.ix4 kv d g q := by
    funext a; apply Fin.ext
    fin_cases a <;> rfl
  refine ⟨M, ?_⟩
  rw [val_main_v32_apply, Ideal.truncf_def, val_main_v31_apply, e31, val_main_v30_apply, e30, val_main_v29_apply]
  refine Finset.sum_congr rfl fun k _ => ?_
  have er : ridx_main_v29 (ValueIdx.ix4 kv d g q) k = ValueIdx.ix4 kv g q k := by
    funext a; apply Fin.ext
    fin_cases a <;> rfl
  have el : lidx_main_v29 (ValueIdx.ix4 kv d g q) k = ValueIdx.ix3 k kv d := by
    funext a; apply Fin.ext
    fin_cases a <;> rfl
  rw [er, el, val_apply, prob_apply, hw]
  simp only [hw]

end Cert.FlashRef

end
-- ==== Proof.FlashPre.lean ====
module

/-
What the precondition of the flash attention says, element by element: the queries and the keys are real numbers, entry 128 of
every key is one and the entries above it are zero, and entry 128 of every value is one.
-/
public import proofs.«01_k».proof.Proof.Gen.Pre_augmented
public import Idealize.ShloMosaic.Lib.ReduceAll
public import Idealize.ShloMosaic.Lib.IdealHost
public import Idealize.ShloMosaic.Lib.ValueLayout

@[expose] public section

set_option maxRecDepth 16384

noncomputable section

namespace Cert.FlashPre

open Cert.Pre_augmented Cert.Pre_augmented.Facts
open Idealize.ShloMosaic

/-- A number whose absolute value is below infinity is real. -/
theorem real_of_abs_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hl : max x (-x) < ⊤ := by
    by_contra hn
    simp [Ideal.cmp, hn] at h
  induction x using EReal.rec with
  | bot => simp at hl
  | top => simp at hl
  | coe r => exact ⟨r, rfl⟩

theorem eq_of_cmp (x y : EReal) (h : Ideal.cmp .oeq x y = 1#1) : x = y := by
  by_contra hn
  simp [Ideal.cmp, hn] at h

/-- The precondition, element by element. -/
structure Holds (x0 : FVec Ideal S2x256x131072 .bf16) (x1 : FVec Ideal S32768x512 .bf16) (x2 : FVec Ideal S2x64x144x512 .bf16) : Prop where
  queries : ∀ i, ∃ r : ℝ, x0 i = r
  keys : ∀ i, ∃ r : ℝ, x1 i = r
  keyOne : ∀ (k : Fin 32768) (kv : Fin 2), x1 (ValueIdx.ix2 k ⟨256 * kv.val + 128, by omega⟩) = 1
  keyZero : ∀ (k : Fin 32768) (kv : Fin 2) (d : Fin 127), x1 (ValueIdx.ix2 k ⟨256 * kv.val + (129 + d.val), by omega⟩) = 0
  valOne : ∀ (kv : Fin 2) (n : Fin 64) (s : Fin 512), x2 (ValueIdx.ix4 kv n 128 s) = 1

variable [Facts]

theorem holds (x0 : FVec Ideal S2x256x131072 .bf16) (x1 : FVec Ideal S32768x512 .bf16) (x2 : FVec Ideal S2x64x144x512 .bf16)
    (h : fn (F := Ideal) x0 x1 x2 = fun _ => 1#1) : Holds x0 x1 x2 := by
  have hss : Subsingleton S_.Idx := ⟨fun a b => funext fun x => x.elim0⟩
  have h' := congrFun h ValueIdx.ix0
  simp only [fn, fn_part1] at h'
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun k kv => ?_, fun k kv d => ?_, fun kv n s => ?_⟩
  · exact real_of_abs_lt _ (Host.reduce_andi_all _ _ _ _ _ h1 i)
  · exact real_of_abs_lt _ (Host.reduce_andi_all _ _ _ _ _ h2 i)
  · have e := eq_of_cmp _ _ (Host.reduce_andi_all _ _ _ _ _ h3 (ValueIdx.ix2 k kv))
    refine Eq.trans ?_ (e.trans Ideal.ofBits_one_f32)
    symm
    refine (shapeCast_apply _ _ _ (ValueIdx.ix3 k kv 0) ?_).trans ?_
    · rw [Shape.rowMajor_val_three, Shape.rowMajor_val_two]
      show (k.val * 2 + kv.val) * 1 + 0 = k.val * 2 + kv.val
      omega
    refine (extractStridedSlice_apply _ _ _ _ (ValueIdx.ix3 k kv (128 : Fin 256)) ?_).trans ?_
    · intro a; fin_cases a <;> simp [ValueIdx.ix3]
    refine (shapeCast_apply x1 _ _ (ValueIdx.ix2 k ⟨256 * kv.val + 128, by omega⟩) ?_)
    rw [Shape.rowMajor_val_three, Shape.rowMajor_val_two]
    show k.val * 512 + (256 * kv.val + 128) = (k.val * 2 + kv.val) * 256 + 128
    omega
  · have e := eq_of_cmp _ _ (Host.reduce_andi_all _ _ _ _ _ h4 (ValueIdx.ix3 k kv d))
    refine Eq.trans ?_ (e.trans Ideal.ofBits_zero_f32)
    symm
    refine (extractStridedSlice_apply _ _ _ _ (ValueIdx.ix3 k kv (⟨129 + d.val, by omega⟩ : Fin 256)) ?_).trans ?_
    · intro a; fin_cases a <;> simp [ValueIdx.ix3]
    refine (shapeCast_apply x1 _ _ (ValueIdx.ix2 k ⟨256 * kv.val + (129 + d.val), by omega⟩) ?_)
    rw [Shape.rowMajor_val_three, Shape.rowMajor_val_two]
    show k.val * 512 + (256 * kv.val + (129 + d.val)) = (k.val * 2 + kv.val) * 256 + (129 + d.val)
    omega
  · have e := eq_of_cmp _ _ (Host.reduce_andi_all _ _ _ _ _ h5 (ValueIdx.ix3 kv n s))
    refine Eq.trans ?_ (e.trans Ideal.ofBits_one_f32)
    symm
    refine Eq.trans (b := shapeCast S2x64x512 (extractStridedSlice S2x64x1x512 ![0, 0, 128, 0] x2 (by decide)) (by decide) (ValueIdx.ix3 kv n s)) rfl ?_
    refine (shapeCast_apply _ _ _ (ValueIdx.ix4 kv n (0 : Fin 1) s) ?_).trans ?_
    · rw [Shape.rowMajor_val_three, Shape.rowMajor_val_four]
      show ((kv.val * 64 + n.val) * 1 + 0) * 512 + s.val = (kv.val * 64 + n.val) * 512 + s.val
      omega
    refine extractStridedSlice_apply _ x2 _ _ (ValueIdx.ix4 kv n (128 : Fin 144) s) ?_
    intro a; fin_cases a <;> simp [ValueIdx.ix4]

end Cert.FlashPre

end
-- ==== Proof.FlashArray.lean ====
module

/-
The array the flash attention leaves, entry by entry, against the plain attention: every grid point writes one block of 512
rows and four heads, and what it writes is the plain attention there, under the precondition.
-/
public import proofs.«01_k».proof.Proof.FlashRun
public import proofs.«01_k».proof.Proof.FlashValue
public import proofs.«01_k».proof.Proof.FlashRef
public import proofs.«01_k».proof.Proof.FlashPre

@[expose] public section

set_option maxRecDepth 16384

noncomputable section

namespace Cert.KernelIdeal.Flash

open Cert.KernelIdeal.Gen
open Idealize.ShloMosaic Idealize.ShloMosaic.TcCoe Idealize.ShloMosaic.Tactic Idealize.ShloMosaic.Pipeline

/-- A sum over 256 coordinates whose second half is one term and zeros. -/
theorem sum_aug (f : Fin 256 → EReal) (h : ∀ d : Fin 127, f ⟨129 + d.val, by omega⟩ = 0) :
    ∑ d, f d = (∑ d : Fin 128, f (FlashRef.lo d)) + f 128 := by
  have e : ∑ d, f d = ∑ d : Fin (128 + (1 + 127)), f d := rfl
  rw [e, Fin.sum_univ_add, Fin.sum_univ_add]
  refine congrArg₂ (· + ·) (Finset.sum_congr rfl fun d _ => rfl) ?_
  have z : ∑ i : Fin 127, f (Fin.natAdd 128 (Fin.natAdd 1 i)) = 0 := Finset.sum_eq_zero fun d _ => by
    refine Eq.trans (congrArg f (Fin.ext ?_)) (h d)
    show 128 + (1 + d.val) = 129 + d.val
    omega
  refine Eq.trans (congrArg _ z) ((add_zero _).trans ?_)
  exact Fin.sum_univ_one _

/-- The augmented score is the plain score of the key and the query plus the query's own entry 128. -/
theorem score_real (x0 : Vec Ideal S2x256x131072 .bf16) (x1 : Vec Ideal S32768x512 .bf16) (x2 : Vec Ideal S2x64x144x512 .bf16)
    (h : FlashPre.Holds x0 x1 x2) (kv : Fin 2) (g : Fin 4) (q : Fin 16384) :
    ∃ (z : Fin 16384 → ℝ) (b : ℝ), (∀ k, (∑ d : Fin 128, FlashRef.key x1 kv k (FlashRef.lo d) * FlashRef.query x0 kv g q (FlashRef.lo d)) = (z k : EReal))
      ∧ ∀ k, (∑ d : Fin 256, FlashRef.key x1 kv k d * FlashRef.query x0 kv g q d) = ((z k + b : ℝ) : EReal) := by
  have hz : ∀ k, ∃ r : ℝ, (∑ d : Fin 128, FlashRef.key x1 kv k (FlashRef.lo d) * FlashRef.query x0 kv g q (FlashRef.lo d)) = (r : EReal) := fun k =>
    FlashMath.sum_real _ _ fun d _ => by
      obtain ⟨a, ha⟩ := h.keys (ValueIdx.ix2 ⟨16384 + k.val, by omega⟩ ⟨256 * kv.val + (FlashRef.lo d).val, by omega⟩)
      obtain ⟨b, hb⟩ := h.queries (ValueIdx.ix3 kv (FlashRef.lo d) ⟨65536 + (2048 * (q.val / 512) + (512 * g.val + q.val % 512)), by omega⟩)
      exact ⟨a * b, by rw [EReal.coe_mul, ← ha, ← hb]; rfl⟩
  choose z hz using hz
  obtain ⟨b, hb⟩ := h.queries (ValueIdx.ix3 kv 128 ⟨65536 + (2048 * (q.val / 512) + (512 * g.val + q.val % 512)), by omega⟩)
  refine ⟨z, b, hz, fun k => ?_⟩
  rw [sum_aug, hz, EReal.coe_add]
  · refine congrArg _ ?_
    have h1 : FlashRef.key x1 kv k 128 = 1 := h.keyOne ⟨16384 + k.val, by omega⟩ kv
    have h2 : FlashRef.query x0 kv g q 128 = b := hb
    rw [h1, h2, one_mul]
  · intro d
    have h1 : FlashRef.key x1 kv k ⟨129 + d.val, by omega⟩ = 0 := h.keyZero ⟨16384 + k.val, by omega⟩ kv d
    rw [h1, zero_mul]

/-- One entry of one block: with the three blocks standing where they are cut from, the quotient is the plain attention. -/
theorem entry_eq (x0 : Vec Ideal S2x256x131072 .bf16) (x1 : Vec Ideal S32768x512 .bf16) (x2 : Vec Ideal S2x64x144x512 .bf16)
    (h : FlashPre.Holds x0 x1 x2) (b0 : Vec Ideal S1x256x2048 .bf16) (b1 : Vec Ideal S16384x256 .bf16) (b2 : Vec Ideal S1x32x144x512 .bf16)
    (kv : Fin 2) (i : Fin 32)
    (h0 : ∀ (d : Fin 256) (col : Fin 2048), b0 (ValueIdx.ix3 0 d col) = x0 (ValueIdx.ix3 kv d ⟨2048 * (32 + i.val) + col.val, by omega⟩))
    (h1 : ∀ (k : Fin 16384) (d : Fin 256), b1 (ValueIdx.ix2 k d) = x1 (ValueIdx.ix2 ⟨16384 + k.val, by omega⟩ ⟨256 * kv.val + d.val, by omega⟩))
    (h2 : ∀ (n : Fin 32) (a : Fin 144) (s : Fin 512), b2 (ValueIdx.ix4 0 n a s) = x2 (ValueIdx.ix4 kv ⟨32 + n.val, by omega⟩ a s))
    (r c : Fin 512) :
    outBlk b0 b1 b2 (ValueIdx.ix2 r c)
      = Cert.ReferenceIdeal.Read.val_main_v32 (F := Ideal) x0 x1 x2 (ValueIdx.ix2 ⟨512 * i.val + r.val, by omega⟩ ⟨512 * kv.val + c.val, by omega⟩) := by
  obtain ⟨g, hg⟩ : ∃ g : Fin 4, g.val = c.val / 128 := ⟨⟨c.val / 128, by omega⟩, rfl⟩
  obtain ⟨d, hd⟩ : ∃ d : Fin 128, d.val = c.val % 128 := ⟨⟨c.val % 128, by omega⟩, rfl⟩
  obtain ⟨q, hq⟩ : ∃ q : Fin 16384, q.val = 512 * i.val + r.val := ⟨⟨512 * i.val + r.val, by omega⟩, rfl⟩
  obtain ⟨col, hcol⟩ : ∃ col : Fin 2048, col.val = 512 * g.val + r.val := ⟨⟨512 * g.val + r.val, by omega⟩, rfl⟩
  obtain ⟨z, b, hz, hs⟩ := score_real x0 x1 x2 h kv g q
  obtain ⟨M, hM⟩ := FlashRef.out_apply x0 x1 x2 kv g d q ⟨512 * kv.val + c.val, by omega⟩ (by show 512 * kv.val + c.val = _; omega) z hz
  have hsc : ∀ k : ℕ, score b0 b1 k col = ∑ d : Fin 256, FlashRef.key x1 kv ⟨k % 16384, Nat.mod_lt _ (by decide)⟩ d * FlashRef.query x0 kv g q d := fun k => by
    unfold score
    refine Finset.sum_congr rfl fun d _ => ?_
    rw [h0, h1]
    refine congrArg₂ (· * ·) rfl (congrArg x0 ?_)
    refine congrArg (ValueIdx.ix3 kv d) (Fin.ext ?_)
    show 2048 * (32 + i.val) + col.val = 65536 + (2048 * (q.val / 512) + (512 * g.val + q.val % 512))
    omega
  have hv : ∀ (k : Fin 16384) (a : Fin 144), value b2 k.val a = FlashRef.val x2 kv k a := fun k a => by
    unfold value FlashRef.val
    rw [h2]
    refine congrArg x2 (ix4_congr rfl ?_ rfl rfl)
    show 32 + k.val / 512 % 32 = 32 + k.val / 512
    omega
  have hv1 : ∀ k : Fin 16384, FlashRef.val x2 kv k 128 = 1 := fun k => h.valOne kv _ _
  obtain ⟨m, hm⟩ := final_apply b0 b1 b2 col fun k => ⟨_, (hsc k).trans (hs _)⟩
  have hk : ∀ k : Fin 16384, score b0 b1 k.val col = ((z k + b : ℝ) : EReal) := fun k => by
    rw [hsc, ← hs k]
    simp only [Nat.mod_eq_of_lt k.isLt]
  have eA : ∀ a : Fin 144, final b0 b1 b2 (ValueIdx.ix2 a col) = ∑ k : Fin 16384, FlashRef.val x2 kv k a * Ideal.exp2 (((z k + b : ℝ) : EReal) - (m : EReal)) := fun a => by
    rw [hm a]
    exact Finset.sum_congr rfl fun k _ => by rw [hk, hv]
  unfold outBlk
  rw [outOf_apply]
  have hl : final b0 b1 b2 (ValueIdx.ix2 ⟨c.val % 128, by omega⟩ ⟨512 * (c.val / 128) + r.val, by omega⟩) = final b0 b1 b2 (ValueIdx.ix2 (FlashRef.lo' d) col) :=
    congrArg _ (ix2_congr hd.symm (by show 512 * (c.val / 128) + r.val = col.val; omega))
  have hr : final b0 b1 b2 (ValueIdx.ix2 128 ⟨512 * (c.val / 128) + r.val, by omega⟩) = final b0 b1 b2 (ValueIdx.ix2 128 col) :=
    congrArg _ (ix2_congr rfl (by show 512 * (c.val / 128) + r.val = col.val; omega))
  rw [hl, hr, eA, eA]
  simp only [hv1, one_mul]
  rw [FlashMath.attention (fun k => FlashRef.val x2 kv k (FlashRef.lo' d)) z b m M]
  exact hM.symm.trans (congrArg _ (ix2_congr hq rfl))

theorem index0 : ∀ t : Fin grid0.N, win0_0.index t = ![t.val / 32, 0, 32 + t.val % 32] ∧ win0_1.index t = ![1, t.val / 32]
    ∧ win0_2.index t = ![t.val / 32, 1, 0, 0] ∧ win0_3.index t = ![t.val % 32, t.val / 32] := by decide +kernel

variable (m : (ℓ : Loc nD τ sig) → Buf (Elt Ideal) ℓ)

/-- The array after the run is the plain attention of the arguments. -/
theorem array_eq (c : Dev nD)
    (h : FlashPre.Holds (m ((c.tc : Thread nD τ).loc main_arg0)) (m ((c.tc : Thread nD τ).loc main_arg1)) (m ((c.tc : Thread nD τ).loc main_arg2))) :
    (dats (F := Ideal) m 0 c).arrAt 3 cfg0.N
      = Cert.ReferenceIdeal.Read.val_main_v32 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨e0, e1, e2, e3⟩ := index0 t
  have hN : t.val < 64 := t.isLt
  blk_simp
  rw [after0_3]
  have hb : (y 0).val < 512 := (y 0).isLt
  have hc : (y 1).val < 512 := (y 1).isLt
  refine Eq.trans (congrArg (outBlk _ _ _) (ValueIdx.eq_ix2 y)) ?_
  refine (entry_eq _ _ _ h (iblk m c 0 t) (iblk m c 1 t) (iblk m c 2 t) ⟨t.val / 32, by omega⟩ ⟨t.val % 32, by omega⟩ ?_ ?_ ?_ (y 0) (y 1)).trans ?_
  · intro d col
    blk_ext [iblk, V, e0]
    show (32 + t.val % 32) * 2048 + col.val = _
    omega
  · intro k d
    blk_ext [iblk, V, e1]
    show t.val / 32 * 256 + d.val = _
    omega
  · intro n a s
    blk_simp [iblk, V, e2]
    refine (congrArg (m ((c.tc : Thread nD τ).loc main_arg2)) (ValueIdx.eq_ix4 _)).trans (congrArg (m ((c.tc : Thread nD τ).loc main_arg2)) (ix4_congr ?_ ?_ ?_ ?_))
    · blk_simp [e2]
    · blk_simp [e2]
    · blk_simp [e2]
    · blk_simp [e2]
  · refine congrArg _ (Eq.symm ((ValueIdx.eq_ix2 _).trans (ix2_congr ?_ ?_)))
    · blk_simp [e3]
      show t.val % 32 * 512 + (y 0).val = 512 * (t.val % 32) + (y 0).val
      omega
    · blk_simp [e3]
      show t.val / 32 * 512 + (y 1).val = 512 * (t.val / 32) + (y 1).val
      omega

end Cert.KernelIdeal.Flash

end
-- ==== Proof.FlashClaim.lean ====
module

/-
The value claim of the attention: the launch ends with the plain attention's array, and so does the reference.
-/
public import proofs.«01_k».proof.Defs
public import proofs.«01_k».proof.Proof.FlashArray
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_augmented
public import Idealize.ShloMosaic.Lib.Quiescent

@[expose] public section

set_option maxRecDepth 16384

noncomputable section

namespace Cert.FlashClaim

open Idealize.ShloMosaic Idealize.ShloMosaic.TcCoe Idealize.SL.Sem

/-- Every run of the kernel leaves the plain attention of its arguments in the result, the arguments as they were. -/
theorem kernel_run (m : (ℓ : Loc KernelIdeal.nD KernelIdeal.τ KernelIdeal.sig) → Buf (Elt Ideal) ℓ) (ρ : Dev KernelIdeal.nD → PrngReg)
    (h : ∀ c : Dev KernelIdeal.nD, FlashPre.Holds (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2))) :
    θ_run KernelIdeal.defs (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v0)
        = ReferenceIdeal.Read.val_main_v32 (F := Ideal) (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2))
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)) := by
  refine (θ_run _ _ _).mono (fun r hr c => ?_) (θ_run_and (KernelIdeal.Flash.run_main m ρ) (KernelIdeal.Flash.frame m ρ))
  exact ⟨(Pipeline.FramePost.out_eq hr.1 c 3).trans (KernelIdeal.Flash.array_eq m c (h c)), hr.2.1 c⟩

/-- The kernel and the reference leave one and the same array. -/
theorem algebraic : Cert.algebraic_KernelIdeal_ReferenceIdeal_pre_augmented (hKernelIdeal := Cert.KernelIdeal.Gen.facts)
    (hReferenceIdeal := Cert.ReferenceIdeal.Gen.facts) (hPre_augmented := Cert.Pre_augmented.Gen.facts) := by
  intro m ρ m' ρ' hpre hagree
  refine ⟨_, kernel_run m ρ fun c => FlashPre.holds _ _ _ (hpre c), ?_⟩
  refine (θ_run _ _ _).mono (fun _ h c => ⟨(h c).1.trans ?_, (h c).2⟩) (ReferenceIdeal.Value.run m' ρ')
  rw [ReferenceIdeal.Read.val_main_v32_eq, (hagree c).1, (hagree c).2.1, (hagree c).2.2]

/-- The reference ends, its arguments as they were and its counters at zero. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run _ _ _).mono (fun r h => ⟨fun c => (h c).2, sem_eq_zero_of_no_sems (by decide) r.2⟩) (ReferenceIdeal.Value.run m ρ)

end Cert.FlashClaim

end
-- ==== Proof.ProjBlock.lean ====
module

/-
What one grid point of the input projection computes: at the first column tile the rows' normalization into the scratch, and at
every tile the scratch times the weights' tile.
-/
public import proofs.«01_k».proof.Proof.Gen.ProjIdeal.Value
public import proofs.«01_k».proof.Proof.Gen.ProjReferenceIdeal.Read
public import Idealize.ShloMosaic.Lib.Pipeline.ValueKit
public import Idealize.ShloMosaic.Lib.Pipeline.ReadBack

@[expose] public section

set_option maxRecDepth 16384

noncomputable section

namespace Cert.ProjIdeal.Proj

open Cert.ProjIdeal.Gen
open Idealize.ShloMosaic Idealize.ShloMosaic.TcCoe Idealize.ShloMosaic.Tactic Idealize.ShloMosaic.Pipeline

variable (m : (ℓ : Loc nD τ sig) → Buf (Elt Ideal) ℓ)

/-- The first tile of a row block leaves the normalized rows in the scratch. -/
theorem scratch_first (c : Dev nD) (t : Fin cfg0.N) (h : t.val % 12 = 0) :
    (outsAt0 m c t.val t.isLt).2 = k0_pay1 (iblk m c 0 t) (iblk m c 1 t) := by
  rw [outsAt0_A m c t h]
  frame_out

/-- A later tile leaves the scratch as it was. -/
theorem scratch_later (c : Dev nD) (t : Fin cfg0.N) (h : ¬t.val % 12 = 0) :
    (outsAt0 m c t.val t.isLt).2 = (outsAt0 m c (t.val - 1) (Nat.lt_of_le_of_lt (Nat.sub_le _ _) t.isLt)).2 := by
  rw [outsAt0_B m c t h]
  rfl

/-- Every tile writes the scratch it leaves times the weights' tile. -/
theorem out_eq (c : Dev nD) (t : Fin cfg0.N) :
    (outsAt0 m c t.val t.isLt).1 = k0_pay2 (outsAt0 m c t.val t.isLt).2 (iblk m c 2 t) := by
  by_cases h : t.val % 12 = 0
  · rw [scratch_first m c t h, outsAt0_A m c t h]
    frame_out

  · rw [scratch_later m c t h, outsAt0_B m c t h]
    frame_out
    simp only [read_unread_whole]

/-- An entry of the normalized rows. -/
theorem norm_apply (x0 : Vec Ideal S1024x1024 .f32) (x1 : Vec Ideal S1x1024 .f32) (r k : Fin 1024) :
    k0_pay1 x0 x1 (ValueIdx.ix2 r k) = x0 (ValueIdx.ix2 r k)
      * Ideal.rsqrt (Ideal.div (0 + ∑ j : Fin 1024, x0 (ValueIdx.ix2 r j) * x0 (ValueIdx.ix2 r j)) (Ideal.ofBits .f32 0x44800000#32) + Ideal.ofBits .f32 0x358637BD#32)
      * x1 (ValueIdx.ix2 0 k) := by
  unfold k0_pay1
  pointwise
  rfl

theorem prod_apply (u x2 : Vec Ideal S1024x1024 .bf16) (r k : Fin 1024) :
    k0_pay2 u x2 (ValueIdx.ix2 r k) = ∑ j : Fin 1024, u (ValueIdx.ix2 r j) * x2 (ValueIdx.ix2 j k) := by
  unfold k0_pay2
  pointwise
  rfl

theorem ref_apply (x0 : Vec Ideal ProjReferenceIdeal.S32768x1024 .f32) (x1 : Vec Ideal ProjReferenceIdeal.S1x1024 .f32) (r : Fin 32768) (k : Fin 1024) :
    ProjReferenceIdeal.Read.val_main_v11 x0 x1 (ValueIdx.ix2 r k) = x0 (ValueIdx.ix2 r k)
      * Ideal.rsqrt (Ideal.div (0 + ∑ j : Fin 1024, x0 (ValueIdx.ix2 r j) * x0 (ValueIdx.ix2 r j)) (Ideal.ofBits .f32 0x44800000#32) + Ideal.ofBits .f32 0x358637BD#32)
      * x1 (ValueIdx.ix2 0 k) := by
  simp only [ProjReferenceIdeal.Read.val_main_v11_apply, ProjReferenceIdeal.Read.val_main_v10_apply, ProjReferenceIdeal.Read.val_main_v9_apply, ProjReferenceIdeal.Read.val_main_v8_apply,
    ProjReferenceIdeal.Read.val_main_v7_apply, ProjReferenceIdeal.Read.val_main_v6_apply, ProjReferenceIdeal.Read.val_main_v5_apply, ProjReferenceIdeal.Read.val_main_v4_apply,
    ProjReferenceIdeal.Read.val_main_v3_apply, ProjReferenceIdeal.Read.val_main_v2_apply, ProjReferenceIdeal.Read.val_main_v1_apply, ProjReferenceIdeal.Read.val_main_v0_apply,
    ProjReferenceIdeal.Read.val_main_cst_apply, ProjReferenceIdeal.Read.val_main_cst_0_apply, ProjReferenceIdeal.Read.val_main_cst_1_apply]
  simp only [Ideal.mulf_def, Ideal.addf_def, Ideal.hostDivf_def, Ideal.hostUnary_rsqrt_def, Ideal.ofBits_def, Ideal.ofBits_zero_f32]
  have e : ∀ j : Fin 1024, ProjReferenceIdeal.Read.idx_main_v1 (ProjReferenceIdeal.Read.idx_main_v2 (ProjReferenceIdeal.Read.idx_main_v8 (ValueIdx.ix2 r k))) j = ValueIdx.ix2 r j :=
    fun j => ValueIdx.eq_ix2 _
  have e' : ProjReferenceIdeal.Read.idx_main_v10 (ValueIdx.ix2 r k) = ValueIdx.ix2 0 k := ValueIdx.eq_ix2 _
  simp only [e, e']

end Cert.ProjIdeal.Proj

end
-- ==== Proof.ProjArray.lean ====
module

/-
The array the input projection leaves is the plain projection of its arguments.
-/
public import proofs.«01_k».proof.Proof.ProjBlock
public import Idealize.ShloMosaic.Lib.Pipeline.Covers

@[expose] public section

set_option maxRecDepth 16384

noncomputable section

namespace Cert.ProjIdeal.Proj

open Cert.ProjIdeal.Gen
open Idealize.ShloMosaic Idealize.ShloMosaic.TcCoe Idealize.ShloMosaic.Tactic Idealize.ShloMosaic.Pipeline

theorem index0 : ∀ t : Fin grid0.N, win0_0.index t = ![t.val / 12, 0] ∧ win0_1.index t = ![0, 0]
    ∧ win0_2.index t = ![0, t.val % 12] ∧ win0_3.index t = ![t.val / 12, t.val % 12] := by decide +kernel

theorem idx_congr {a b : ℕ} {p p' : Fin a} {q q' : Fin b} (h : p.val = p'.val) (h' : q.val = q'.val) :
    ValueIdx.ix2 p q = ValueIdx.ix2 p' q' := by
  rw [Fin.ext h, Fin.ext h']

variable (m : (ℓ : Loc nD τ sig) → Buf (Elt Ideal) ℓ)

/-- The rows' block of a point. -/
theorem rows_apply (c : Dev nD) (t : Fin cfg0.N) (r k : Fin 1024) :
    iblk m c 0 t (ValueIdx.ix2 r k) = m ((c.tc : Thread nD τ).loc main_arg0) (ValueIdx.ix2 ⟨1024 * (t.val / 12) + r.val, by have h : t.val < 384 := t.isLt; omega⟩ k) := by
  have hN : t.val < 384 := t.isLt
  obtain ⟨e, -, -, -⟩ := index0 t
  blk_simp [iblk, V, e]
  refine congrArg (m ((c.tc : Thread nD τ).loc main_arg0)) ((ValueIdx.eq_ix2 _).trans (idx_congr ?_ ?_))
  · blk_simp [e]
    show t.val / 12 * 1024 + r.val = 1024 * (t.val / 12) + r.val
    omega
  · blk_simp [e]

/-- The scale's block of a point. -/
theorem scale_apply (c : Dev nD) (t : Fin cfg0.N) (k : Fin 1024) :
    iblk m c 1 t (ValueIdx.ix2 0 k) = m ((c.tc : Thread nD τ).loc main_arg1) (ValueIdx.ix2 0 k) := by
  obtain ⟨-, e, -, -⟩ := index0 t
  blk_simp [iblk, V, e]
  refine congrArg (m ((c.tc : Thread nD τ).loc main_arg1)) ((ValueIdx.eq_ix2 _).trans (idx_congr ?_ ?_))
  · blk_simp [e]
    rfl
  · blk_simp [e]

/-- The weights' tile of a point. -/
theorem weights_apply (c : Dev nD) (t : Fin cfg0.N) (j k : Fin 1024) :
    iblk m c 2 t (ValueIdx.ix2 j k) = m ((c.tc : Thread nD τ).loc main_arg2) (ValueIdx.ix2 j ⟨1024 * (t.val % 12) + k.val, by omega⟩) := by
  obtain ⟨-, -, e, -⟩ := index0 t
  blk_simp [iblk, V, e]
  refine congrArg (m ((c.tc : Thread nD τ).loc main_arg2)) ((ValueIdx.eq_ix2 _).trans (idx_congr ?_ ?_))
  · blk_simp [e]
  · blk_simp [e]
    show t.val % 12 * 1024 + k.val = 1024 * (t.val % 12) + k.val
    omega

/-- After every point the scratch holds the normalized rows of the point's row block. -/
theorem scratch_eq (c : Dev nD) (j : ℕ) : ∀ (t : Fin cfg0.N), t.val % 12 = j → ∀ r k : Fin 1024,
    (outsAt0 m c t.val t.isLt).2 (ValueIdx.ix2 r k)
      = ProjReferenceIdeal.Read.val_main_v11 (F := Ideal) (m ((c.tc : Thread nD τ).loc main_arg0)) (m ((c.tc : Thread nD τ).loc main_arg1))
          (ValueIdx.ix2 ⟨1024 * (t.val / 12) + r.val, by have h : t.val < 384 := t.isLt; omega⟩ k) := by
  induction j with
  | zero =>
    intro t h r k
    rw [scratch_first m c t h, norm_apply, ref_apply, scale_apply]
    simp only [rows_apply]
  | succ j ih =>
    intro t h r k
    rw [scratch_later m c t (by omega)]
    refine (ih ⟨t.val - 1, Nat.lt_of_le_of_lt (Nat.sub_le _ _) t.isLt⟩ (by show (t.val - 1) % 12 = j; omega) r k).trans ?_
    refine congrArg _ (idx_congr ?_ rfl)
    show 1024 * ((t.val - 1) / 12) + r.val = 1024 * (t.val / 12) + r.val
    omega

/-- The array after the run is the plain projection of the arguments. -/
theorem array_eq (c : Dev nD) :
    (dats m 0 c).arrAt 3 cfg0.N
      = ProjReferenceIdeal.Read.val_main_v14 (F := Ideal) (m ((c.tc : Thread nD τ).loc main_arg0)) (m ((c.tc : Thread nD τ).loc main_arg1)) (m ((c.tc : Thread nD τ).loc main_arg2)) := by
  refine (dats m 0 c).arrAt_eq_of_covers 3 _ ((cfg0.win 3).covers_of_index_surj rfl (by decide) fun β => ?_) fun t hf y => ?_
  · have h0 : (β 0).val < 32 := (β 0).isLt
    have h1 : (β 1).val < 12 := (β 1).isLt
    refine ⟨⟨12 * (β 0).val + (β 1).val, lt_of_lt_of_eq (by omega) N_0.symm⟩, fun a => ?_⟩
    refine (congrFun (index0 _).2.2.2 a).trans ?_
    match a with
    | ⟨0, _⟩ => show (12 * (β 0).val + (β 1).val) / 12 = (β 0).val; omega
    | ⟨1, _⟩ => show (12 * (β 0).val + (β 1).val) % 12 = (β 1).val; omega
  obtain ⟨-, -, -, e3⟩ := index0 t
  have hN : t.val < 384 := t.isLt
  blk_simp
  rw [after0_3, out_eq]
  have hb : (y 0).val < 1024 := (y 0).isLt
  have hc : (y 1).val < 1024 := (y 1).isLt
  refine Eq.trans (congrArg (k0_pay2 _ _) (ValueIdx.eq_ix2 y)) ?_
  refine (prod_apply _ _ (y 0) (y 1)).trans ?_
  rw [ProjReferenceIdeal.Read.val_main_v14_apply, ProjReferenceIdeal.Read.val_main_v13_apply, Ideal.truncf_def]
  refine Finset.sum_congr rfl fun j _ => ?_
  rw [ProjReferenceIdeal.Read.val_main_v12_apply, Ideal.extf_def]
  refine (congrArg₂ (· * ·) (scratch_eq m c _ t rfl (y 0) j) (weights_apply m c t j (y 1))).trans ?_
  refine congrArg₂ (· * ·) (congrArg _ ?_) (congrArg (m ((c.tc : Thread nD τ).loc main_arg2)) ?_)
  · refine Eq.symm ((ValueIdx.eq_ix2 _).trans (idx_congr ?_ rfl))
    show (((win0_3.blk t).view.emb y 0)).val = 1024 * (t.val / 12) + (y 0).val
    blk_simp [e3]
    omega
  · refine Eq.symm ((ValueIdx.eq_ix2 _).trans (idx_congr rfl ?_))
    show (((win0_3.blk t).view.emb y 1)).val = 1024 * (t.val % 12) + (y 1).val
    blk_simp [e3]
    omega

end Cert.ProjIdeal.Proj

end
-- ==== Proof.ProjClaim.lean ====
module

/-
The value claim of the input projection: the launch ends with the plain projection's array, and so does the reference.
-/
public import proofs.«01_k».proof.Defs
public import proofs.«01_k».proof.Proof.ProjArray
public import proofs.«01_k».proof.Proof.Gen.ProjIdeal
public import proofs.«01_k».proof.Proof.Gen.ProjReferenceIdeal
public import proofs.«01_k».proof.Proof.Gen.ProjReferenceIdeal.Run
public import Idealize.ShloMosaic.Lib.Quiescent

@[expose] public section

set_option maxRecDepth 16384

noncomputable section

namespace Cert.ProjClaim

open Idealize.ShloMosaic Idealize.ShloMosaic.TcCoe Idealize.SL.Sem

/-- The kernel and the reference leave one and the same array. -/
theorem algebraic : Cert.algebraic_ProjIdeal_ProjReferenceIdeal (hProjIdeal := Cert.ProjIdeal.Gen.facts)
    (hProjReferenceIdeal := Cert.ProjReferenceIdeal.Gen.facts) := by
  intro m ρ m' ρ' hpre hagree
  refine ⟨_, (θ_run _ _ _).mono (fun r h c => ⟨(h c).1.trans ((ProjIdeal.Value.final3 m c).symm.trans (ProjIdeal.Proj.array_eq m c)), (h c).2⟩) (ProjIdeal.Value.run m ρ), ?_⟩
  refine (θ_run _ _ _).mono (fun _ h c => ⟨(h c).1.trans ?_, (h c).2⟩) (ProjReferenceIdeal.Value.run m' ρ')
  rw [← (hagree c).1, ← (hagree c).2.1, ← (hagree c).2.2]
  exact ProjReferenceIdeal.Read.val_main_v14_eq _ _ _

/-- The reference ends, its arguments as they were and its counters at zero. -/
theorem reference_frame (m : (ℓ : Loc ProjReferenceIdeal.nD ProjReferenceIdeal.τ ProjReferenceIdeal.sig) → Buf (Elt Ideal) ℓ) (ρ : Dev ProjReferenceIdeal.nD → PrngReg) :
    θ_run (ProjReferenceIdeal.defs (F := Ideal)) (onTc (τ := ProjReferenceIdeal.τ) (ProjReferenceIdeal.main (F := Ideal))) ⟨m, fun _ => 0, ρ⟩ (fun r => (∀ c : Dev ProjReferenceIdeal.nD,
      r.2.mem ((c.tc : Thread ProjReferenceIdeal.nD ProjReferenceIdeal.τ).loc ProjReferenceIdeal.main_arg0) = m ((c.tc : Thread ProjReferenceIdeal.nD ProjReferenceIdeal.τ).loc ProjReferenceIdeal.main_arg0)
      ∧ r.2.mem ((c.tc : Thread ProjReferenceIdeal.nD ProjReferenceIdeal.τ).loc ProjReferenceIdeal.main_arg1) = m ((c.tc : Thread ProjReferenceIdeal.nD ProjReferenceIdeal.τ).loc ProjReferenceIdeal.main_arg1)
      ∧ r.2.mem ((c.tc : Thread ProjReferenceIdeal.nD ProjReferenceIdeal.τ).loc ProjReferenceIdeal.main_arg2) = m ((c.tc : Thread ProjReferenceIdeal.nD ProjReferenceIdeal.τ).loc ProjReferenceIdeal.main_arg2))
      ∧ r.2.sem = fun _ => 0) :=
  (θ_run _ _ _).mono (fun r h => ⟨fun c => (h c).2, sem_eq_zero_of_no_sems (by decide) r.2⟩) (ProjReferenceIdeal.Value.run m ρ)

end Cert.ProjClaim

end
-- ==== Proof.FfnBlock.lean ====
module

/-
What one grid point of the feed-forward block computes: its rows plus, chunk by chunk of the hidden columns, the gated product of
the convolved columns times the chunk's rows of the second weights.
-/
public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnIdeal.Ffn

open Cert.FfnIdeal.Gen
open Idealize.ShloMosaic Idealize.ShloMosaic.TcCoe Idealize.ShloMosaic.Tactic Idealize.ShloMosaic.Pipeline

/-- The columns `o … o + 255` of the first weights. -/
def wcols (x4 : Vec Ideal S1024x5632 .bf16) (o : ℕ) (h : o + 256 ≤ 5632) : Vec Ideal S1024x256 .bf16 :=
  View.ld x4 (Rect.unit ![0, o] ![1024, 256] fun | 0 => by show 0 + 1024 ≤ 1024; omega | 1 => h)
/-- The columns `o … o + 255` of the three taps. -/
def tcols (x5 : Vec Ideal S3x5632 .f32) (o : ℕ) (h : o + 256 ≤ 5632) : Vec Ideal S3x256 .f32 :=
  View.ld x5 (Rect.unit ![0, o] ![3, 256] fun | 0 => by show 0 + 3 ≤ 3; omega | 1 => h)
/-- The columns `o … o + 255` of the bias. -/
def bcols (x6 : Vec Ideal S1x5632 .f32) (o : ℕ) (h : o + 256 ≤ 5632) : Vec Ideal S1x256 .f32 :=
  View.ld x6 (Rect.unit ![0, o] ![1, 256] fun | 0 => by show 0 + 1 ≤ 1; omega | 1 => h)
/-- The rows `o … o + 255` of the second weights. -/
def drows (x7 : Vec Ideal S2816x1024 .bf16) (o : ℕ) (h : o + 256 ≤ 2816) : Vec Ideal S256x1024 .bf16 :=
  View.ld x7 (Rect.unit ![o, 0] ![256, 1024] fun | 0 => h | 1 => by show 0 + 1024 ≤ 1024; omega)

/-- The convolved hidden columns `o … o + 255`. -/
def cols (f l : EReal) (u : Vec Ideal S528x1024 .bf16) (x4 : Vec Ideal S1024x5632 .bf16) (x5 : Vec Ideal S3x5632 .f32) (x6 : Vec Ideal S1x5632 .f32)
    (o : ℕ) (h : o + 256 ≤ 5632) : FVec Ideal S512x256 .f32 :=
  k0_pay14 f l k0_pay8 k0_pay9 (k0_pay10 u (wcols x4 o h)) (tcols x5 o h) (bcols x6 o h)

/-- One chunk added to the accumulator. -/
def chunk (f l : EReal) (u : Vec Ideal S528x1024 .bf16) (x4 : Vec Ideal S1024x5632 .bf16) (x5 : Vec Ideal S3x5632 .f32) (x6 : Vec Ideal S1x5632 .f32)
    (x7 : Vec Ideal S2816x1024 .bf16) (acc : Vec Ideal S512x1024 .f32) (o : ℕ) (h : o + 256 ≤ 2816) : FVec Ideal S512x1024 .f32 :=
  k0_pay69 acc (cols f l u x4 x5 x6 o (by omega)) (cols f l u x4 x5 x6 (2816 + o) (by omega)) (drows x7 o h)

variable (m : (ℓ : Loc nD τ sig) → Buf (Elt Ideal) ℓ)

theorem ok : Ok m := trivial

/-- The normalized rows of a point: its own and the two neighbouring groups of eight. -/
def rows (x0 : Vec Ideal S512x1024 .f32) (x1 x2 : Vec Ideal S8x1024 .f32) (x3 : Vec Ideal S1x1024 .f32) : Vec Ideal S528x1024 .bf16 :=
  (View.whole cc0_scratch0).readCov
    [⟨Rect.unit ![520, 0] ![8, 1024] inb_S528x1024_S8x1024_520_0, k0_pay5 x3 x2 (k0_pay4 x2)⟩,
     ⟨Rect.unit ![512, 0] ![8, 1024] inb_S528x1024_S8x1024_512_0, k0_pay3 x3 x1⟩,
     ⟨Rect.unit ![0, 0] ![512, 1024] inb_S528x1024_S512x1024_0_0, k0_pay2 x0 x3⟩]
    (Rect.unit ![0, 0] ![528, 1024] inb_S528x1024_S528x1024_0_0).toLoadRect

/-- Whether a point has a sequence's rows before it, as a number. -/
def before (xt : (View.whole main_c).ty.Contents (Elt Ideal)) (t : Fin (cfgM m (ok m)).N) : EReal :=
  k0_pay6 (F := Ideal) ((View.whole main_c).readAt (Elt Ideal) (Rect.unit (s := S64) (k0_off1 (grid0.coords t)) S1.size (k0_off1_inb _)).toLoadRect xt (Shape.Idx.first (Nat.lt_of_lt_of_eq Nat.zero_lt_one numel1_S1.symm)))
/-- Whether a point has a sequence's rows after it, as a number. -/
def after (xt : (View.whole main_c_0).ty.Contents (Elt Ideal)) (t : Fin (cfgM m (ok m)).N) : EReal :=
  k0_pay7 (F := Ideal) ((View.whole main_c_0).readAt (Elt Ideal) (Rect.unit (s := S64) (k0_off1 (grid0.coords t)) S1.size (k0_off1_inb _)).toLoadRect xt (Shape.Idx.first (Nat.lt_of_lt_of_eq Nat.zero_lt_one numel1_S1.symm)))

/-- All eleven chunks, added to the rows. -/
def block (f l : EReal) (u : Vec Ideal S528x1024 .bf16) (x0 : Vec Ideal S512x1024 .f32) (x4 : Vec Ideal S1024x5632 .bf16) (x5 : Vec Ideal S3x5632 .f32) (x6 : Vec Ideal S1x5632 .f32)
    (x7 : Vec Ideal S2816x1024 .bf16) : FVec Ideal S512x1024 .f32 :=
  chunk f l u x4 x5 x6 x7 (chunk f l u x4 x5 x6 x7 (chunk f l u x4 x5 x6 x7 (chunk f l u x4 x5 x6 x7 (chunk f l u x4 x5 x6 x7 (chunk f l u x4 x5 x6 x7 (chunk f l u x4 x5 x6 x7 (chunk f l u x4 x5 x6 x7 (chunk f l u x4 x5 x6 x7 (chunk f l u x4 x5 x6 x7 (chunk f l u x4 x5 x6 x7 x0 0 (by omega)) 256 (by omega)) 512 (by omega)) 768 (by omega)) 1024 (by omega)) 1280 (by omega)) 1536 (by omega)) 1792 (by omega)) 2048 (by omega)) 2304 (by omega)) 2560 (by omega)

theorem run_eq (c : Dev nD) (t : Fin (cfgM m (ok m)).N) (x0 : Vec Ideal S512x1024 .f32) (x1 x2 : Vec Ideal S8x1024 .f32) (x3 : Vec Ideal S1x1024 .f32) (x4 : Vec Ideal S1024x5632 .bf16)
    (x5 : Vec Ideal S3x5632 .f32) (x6 : Vec Ideal S1x5632 .f32) (x7 : Vec Ideal S2816x1024 .bf16)
    (xt0 : (View.whole main_c).ty.Contents (Elt Ideal)) (xt1 : (View.whole main_c_0).ty.Contents (Elt Ideal)) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
      (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
      scM0_0 (Memref.isWhole_whole _) x0 x1 x2 x3 x4 x5 x6 x7 xt0 xt1 = block (before m xt0 t) (after m xt1 t) (rows x0 x1 x2 x3) x0 x4 x5 x6 x7 := by
  unfold out0_A_8
  frame_out
  rfl

/-- What a point leaves. -/
theorem out_eq (c : Dev nD) (t : Fin (cfgM m (ok m)).N) :
    outsAt0 m (ok m) c t = block (before m (tbl m 0) t) (after m (tbl m 1) t) (rows (iblk m (ok m) c 0 t) (iblk m (ok m) c 1 t) (iblk m (ok m) c 2 t) (iblk m (ok m) c 3 t))
      (iblk m (ok m) c 0 t) (iblk m (ok m) c 4 t) (iblk m (ok m) c 5 t) (iblk m (ok m) c 6 t) (iblk m (ok m) c 7 t) :=
  run_eq m c t _ _ _ _ _ _ _ _ _ _

end Cert.FfnIdeal.Ffn

end
-- ==== Proof.FfnMath.lean ====
module

/-
The plain feed-forward block: rows normalized, multiplied by the first weights, convolved along their sequence, gated, and
multiplied by the second weights.
-/
public import Idealize.ShloMosaic.Lib.Pipeline.ValueKit

@[expose] public section

noncomputable section

namespace Cert.FfnMath

open Idealize.ShloMosaic

/-- An entry of the normalized rows. -/
def norm {n : ℕ} (x : Fin n → Fin 1024 → EReal) (g : Fin 1024 → EReal) (r : Fin n) (k : Fin 1024) : EReal :=
  x r k * Ideal.rsqrt (Ideal.div (∑ j : Fin 1024, x r j * x r j) (Ideal.ofBits .f32 0x44800000#32) + Ideal.ofBits .f32 0x358637BD#32) * g k

/-- An entry of the normalized rows depends on its row alone. -/
theorem norm_congr {n n' : ℕ} (x : Fin n → Fin 1024 → EReal) (x' : Fin n' → Fin 1024 → EReal) (g g' : Fin 1024 → EReal) (r : Fin n) (r' : Fin n') (k : Fin 1024)
    (h : x r = x' r') (hg : g = g') : norm x g r k = norm x' g' r' k := by
  unfold norm
  rw [h, hg]

/-- The three taps on a row and its two neighbours, plus the bias. -/
def conv (p c n w0 w1 w2 b : EReal) : EReal := p * w0 + c * w1 + n * w2 + b

/-- The gated product. -/
def gated (a z : EReal) : EReal := a * (z * Ideal.div 1 (1 + Ideal.exp (0 - z)))

/-- A sum over the hidden columns, continued by zero. -/
def ext (P : Fin 2816 → EReal) (n : ℕ) : EReal := if h : n < 2816 then P ⟨n, h⟩ else 0

theorem ext_of_lt (P : Fin 2816 → EReal) (n : ℕ) (h : n < 2816) : ext P n = P ⟨n, h⟩ := dif_pos h

theorem sum_ext (P : Fin 2816 → EReal) : ∑ n ∈ Finset.range 2816, ext P n = ∑ j : Fin 2816, P j := by
  rw [← Fin.sum_univ_eq_sum_range]
  exact Finset.sum_congr rfl fun j _ => ext_of_lt P j.val j.isLt

/-- The next 256 columns join a sum over the first `n`. -/
theorem sum_step (a : EReal) (T : ℕ → EReal) (n : ℕ) :
    a + ∑ i ∈ Finset.range n, T i + ∑ j : Fin 256, T (n + j.val) = a + ∑ i ∈ Finset.range (n + 256), T i := by
  rw [Finset.sum_range_add, add_assoc, Fin.sum_univ_eq_sum_range (fun j => T (n + j)) 256]

/-- A hidden entry before the convolution. -/
def hidden (x : Fin 32768 → Fin 1024 → EReal) (g : Fin 1024 → EReal) (w : Fin 1024 → Fin 5632 → EReal) (r : Fin 32768) (q : Fin 5632) : EReal :=
  ∑ j : Fin 1024, norm x g r j * w j q

/-- The first rows of the sequences: four of 4096 rows and one of 16384. -/
def starts (r : ℕ) : Prop := r % 4096 = 0 ∧ r ≤ 16384
/-- The last rows of the sequences. -/
def stops (r : ℕ) : Prop := r % 4096 = 4095 ∧ r < 16384 ∨ r = 32767

instance (r : ℕ) : Decidable (starts r) := instDecidableAnd
instance (r : ℕ) : Decidable (stops r) := instDecidableOr

/-- A hidden entry after the convolution along its sequence. -/
def convolved (x : Fin 32768 → Fin 1024 → EReal) (g : Fin 1024 → EReal) (w : Fin 1024 → Fin 5632 → EReal) (taps : Fin 3 → Fin 5632 → EReal) (b : Fin 5632 → EReal)
    (r : Fin 32768) (q : Fin 5632) : EReal :=
  conv (if starts r.val then 0 else hidden x g w ⟨r.val - 1, by omega⟩ q) (hidden x g w r q)
    (if stops r.val then 0 else hidden x g w ⟨(r.val + 1) % 32768, by omega⟩ q) (taps 0 q) (taps 1 q) (taps 2 q) (b q)

/-- An entry of the block's result. -/
def result (x : Fin 32768 → Fin 1024 → EReal) (g : Fin 1024 → EReal) (w : Fin 1024 → Fin 5632 → EReal) (taps : Fin 3 → Fin 5632 → EReal) (b : Fin 5632 → EReal)
    (d : Fin 2816 → Fin 1024 → EReal) (r : Fin 32768) (k : Fin 1024) : EReal :=
  x r k + ∑ q : Fin 2816, gated (convolved x g w taps b r ⟨q.val, by omega⟩) (convolved x g w taps b r ⟨2816 + q.val, by omega⟩) * d q k

end Cert.FfnMath

end
-- ==== Proof.FfnTile.lean ====
module

/-
What one grid point of the feed-forward block computes, entry by entry.
-/
public import proofs.«01_k».proof.Proof.FfnBlock
public import proofs.«01_k».proof.Proof.FfnMath

@[expose] public section

set_option maxRecDepth 16384

noncomputable section

namespace Cert.FfnIdeal.Ffn

open Cert.FfnIdeal.Gen Cert.FfnMath
open Idealize.ShloMosaic Idealize.ShloMosaic.TcCoe Idealize.ShloMosaic.Tactic Idealize.ShloMosaic.Pipeline

theorem ix2_congr {a b : ℕ} {p p' : Fin a} {q q' : Fin b} (h : p.val = p'.val) (h' : q.val = q'.val) :
    ValueIdx.ix2 p q = ValueIdx.ix2 p' q' := by
  rw [Fin.ext h, Fin.ext h']

theorem own_apply (x : Vec Ideal S512x1024 .f32) (g : Vec Ideal S1x1024 .f32) (r : Fin 512) (k : Fin 1024) :
    k0_pay2 x g (ValueIdx.ix2 r k) = norm (fun r j => x (ValueIdx.ix2 r j)) (fun j => g (ValueIdx.ix2 0 j)) r k := by
  unfold k0_pay2
  pointwise
  rfl

theorem prev_apply (x : Vec Ideal S8x1024 .f32) (g : Vec Ideal S1x1024 .f32) (r : Fin 8) (k : Fin 1024) :
    k0_pay3 g x (ValueIdx.ix2 r k) = norm (fun r j => x (ValueIdx.ix2 r j)) (fun j => g (ValueIdx.ix2 0 j)) r k := by
  unfold k0_pay3
  pointwise
  rfl

theorem next_apply (x : Vec Ideal S8x1024 .f32) (g : Vec Ideal S1x1024 .f32) (r : Fin 8) (k : Fin 1024) :
    k0_pay5 g x (k0_pay4 x) (ValueIdx.ix2 r k) = norm (fun r j => x (ValueIdx.ix2 r j)) (fun j => g (ValueIdx.ix2 0 j)) r k := by
  unfold k0_pay5 k0_pay4
  pointwise
  rfl

theorem prod_apply (u : Vec Ideal S528x1024 .bf16) (w : Vec Ideal S1024x256 .bf16) (r : Fin 528) (k : Fin 256) :
    k0_pay10 u w (ValueIdx.ix2 r k) = ∑ j : Fin 1024, u (ValueIdx.ix2 r j) * w (ValueIdx.ix2 j k) := by
  unfold k0_pay10
  pointwise
  rfl

theorem step_apply (acc : Vec Ideal S512x1024 .f32) (a z : FVec Ideal S512x256 .f32) (w : Vec Ideal S256x1024 .bf16) (r : Fin 512) (k : Fin 1024) :
    k0_pay69 acc a z w (ValueIdx.ix2 r k)
      = acc (ValueIdx.ix2 r k) + ∑ j : Fin 256, gated (a (ValueIdx.ix2 r j)) (z (ValueIdx.ix2 r j)) * w (ValueIdx.ix2 j k) := by
  unfold k0_pay69
  pointwise
  rfl

/-- A comparison with a number, as a choice. -/
theorem select_eq (n c : ℕ) (hn : n < 512) (hc : c < 512) (a b : EReal) :
    Scalar.select (α := EReal) (IntOp.cmpi CmpIPredicate.eq (BitVec.ofNat 32 n) (BitVec.ofNat 32 c)) a b = if n = c then a else b := by
  have : (BitVec.ofNat 32 n = BitVec.ofNat 32 c) ↔ n = c := by
    constructor
    · intro h
      have := congrArg BitVec.toNat h
      simp only [BitVec.toNat_ofNat] at this
      omega
    · intro h
      rw [h]
  by_cases h : n = c
  · subst h
    simp [Scalar.select, IntOp.cmpi]
  · have h' : ¬BitVec.ofNat 32 n = BitVec.ofNat 32 c := fun e => h (this.mp e)
    have hb : (BitVec.ofNat 32 n == BitVec.ofNat 32 c) = false := by simpa using h'
    simp [Scalar.select, IntOp.cmpi, h, hb]

theorem taps_apply (f l : EReal) (h : FVec Ideal S528x256 .f32) (w : Vec Ideal S3x256 .f32) (b : Vec Ideal S1x256 .f32) (r : Fin 512) (k : Fin 256) :
    k0_pay14 f l k0_pay8 k0_pay9 h w b (ValueIdx.ix2 r k)
      = conv (if r.val = 0 then h (ValueIdx.ix2 519 k) * f else h (ValueIdx.ix2 ⟨(r.val + 511) % 512, by omega⟩ k))
          (h (ValueIdx.ix2 ⟨r.val, by omega⟩ k))
          (if r.val = 511 then h (ValueIdx.ix2 520 k) * l else h (ValueIdx.ix2 ⟨(r.val + 1) % 512, by omega⟩ k))
          (w (ValueIdx.ix2 0 k)) (w (ValueIdx.ix2 1 k)) (w (ValueIdx.ix2 2 k)) (b (ValueIdx.ix2 0 k)) := by
  unfold k0_pay14 k0_pay8 k0_pay9
  pointwise
  rw [← select_eq r.val 0 r.isLt (by omega), ← select_eq r.val 511 r.isLt (by omega)]
  rfl

theorem wcols_apply (x4 : Vec Ideal S1024x5632 .bf16) (o : ℕ) (h : o + 256 ≤ 5632) (j : Fin 1024) (k : Fin 256) :
    wcols x4 o h (ValueIdx.ix2 j k) = x4 (ValueIdx.ix2 j ⟨o + k.val, by omega⟩) := by
  unfold wcols
  refine congrArg x4 ((ValueIdx.eq_ix2 _).trans (ix2_congr ?_ ?_))
  · show 0 + 1 * j.val = j.val
    omega
  · show o + 1 * k.val = o + k.val
    omega

theorem tcols_apply (x5 : Vec Ideal S3x5632 .f32) (o : ℕ) (h : o + 256 ≤ 5632) (j : Fin 3) (k : Fin 256) :
    tcols x5 o h (ValueIdx.ix2 j k) = x5 (ValueIdx.ix2 j ⟨o + k.val, by omega⟩) := by
  unfold tcols
  refine congrArg x5 ((ValueIdx.eq_ix2 _).trans (ix2_congr ?_ ?_))
  · show 0 + 1 * j.val = j.val
    omega
  · show o + 1 * k.val = o + k.val
    omega

theorem bcols_apply (x6 : Vec Ideal S1x5632 .f32) (o : ℕ) (h : o + 256 ≤ 5632) (j : Fin 1) (k : Fin 256) :
    bcols x6 o h (ValueIdx.ix2 j k) = x6 (ValueIdx.ix2 j ⟨o + k.val, by omega⟩) := by
  unfold bcols
  refine congrArg x6 ((ValueIdx.eq_ix2 _).trans (ix2_congr ?_ ?_))
  · show 0 + 1 * j.val = j.val
    omega
  · show o + 1 * k.val = o + k.val
    omega

theorem drows_apply (x7 : Vec Ideal S2816x1024 .bf16) (o : ℕ) (h : o + 256 ≤ 2816) (j : Fin 256) (k : Fin 1024) :
    drows x7 o h (ValueIdx.ix2 j k) = x7 (ValueIdx.ix2 ⟨o + j.val, by omega⟩ k) := by
  unfold drows
  refine congrArg x7 ((ValueIdx.eq_ix2 _).trans (ix2_congr ?_ ?_))
  · show o + 1 * j.val = o + j.val
    omega
  · show 0 + 1 * k.val = k.val
    omega

/-- A hidden entry before the convolution. -/
def hid (u : Vec Ideal S528x1024 .bf16) (x4 : Vec Ideal S1024x5632 .bf16) (i : Fin 528) (q : Fin 5632) : EReal :=
  ∑ j : Fin 1024, u (ValueIdx.ix2 i j) * x4 (ValueIdx.ix2 j q)

/-- A hidden entry after the convolution. -/
def col (f l : EReal) (u : Vec Ideal S528x1024 .bf16) (x4 : Vec Ideal S1024x5632 .bf16) (x5 : Vec Ideal S3x5632 .f32) (x6 : Vec Ideal S1x5632 .f32)
    (r : Fin 512) (q : Fin 5632) : EReal :=
  conv (if r.val = 0 then hid u x4 519 q * f else hid u x4 ⟨(r.val + 511) % 512, by omega⟩ q) (hid u x4 ⟨r.val, by omega⟩ q)
    (if r.val = 511 then hid u x4 520 q * l else hid u x4 ⟨(r.val + 1) % 512, by omega⟩ q)
    (x5 (ValueIdx.ix2 0 q)) (x5 (ValueIdx.ix2 1 q)) (x5 (ValueIdx.ix2 2 q)) (x6 (ValueIdx.ix2 0 q))

theorem cols_apply (f l : EReal) (u : Vec Ideal S528x1024 .bf16) (x4 : Vec Ideal S1024x5632 .bf16) (x5 : Vec Ideal S3x5632 .f32) (x6 : Vec Ideal S1x5632 .f32)
    (o : ℕ) (h : o + 256 ≤ 5632) (r : Fin 512) (k : Fin 256) :
    cols f l u x4 x5 x6 o h (ValueIdx.ix2 r k) = col f l u x4 x5 x6 r ⟨o + k.val, by omega⟩ := by
  unfold cols
  rw [taps_apply]
  simp only [prod_apply, wcols_apply, tcols_apply, bcols_apply]
  rfl

/-- One hidden column's part of an entry. -/
def part (f l : EReal) (u : Vec Ideal S528x1024 .bf16) (x4 : Vec Ideal S1024x5632 .bf16) (x5 : Vec Ideal S3x5632 .f32) (x6 : Vec Ideal S1x5632 .f32)
    (x7 : Vec Ideal S2816x1024 .bf16) (r : Fin 512) (k : Fin 1024) (q : Fin 2816) : EReal :=
  gated (col f l u x4 x5 x6 r ⟨q.val, by omega⟩) (col f l u x4 x5 x6 r ⟨2816 + q.val, by omega⟩) * x7 (ValueIdx.ix2 q k)

theorem chunk_apply (f l : EReal) (u : Vec Ideal S528x1024 .bf16) (x4 : Vec Ideal S1024x5632 .bf16) (x5 : Vec Ideal S3x5632 .f32) (x6 : Vec Ideal S1x5632 .f32)
    (x7 : Vec Ideal S2816x1024 .bf16) (acc : Vec Ideal S512x1024 .f32) (o : ℕ) (h : o + 256 ≤ 2816) (r : Fin 512) (k : Fin 1024) :
    chunk f l u x4 x5 x6 x7 acc o h (ValueIdx.ix2 r k)
      = acc (ValueIdx.ix2 r k) + ∑ j : Fin 256, ext (part f l u x4 x5 x6 x7 r k) (o + j.val) := by
  unfold chunk
  rw [step_apply]
  refine congrArg _ (Finset.sum_congr rfl fun j _ => ?_)
  rw [ext_of_lt _ _ (by omega), cols_apply, cols_apply, drows_apply]
  unfold part
  simp only [Nat.add_assoc]

/-- An entry of what a point leaves. -/
theorem block_apply (f l : EReal) (u : Vec Ideal S528x1024 .bf16) (x0 : Vec Ideal S512x1024 .f32) (x4 : Vec Ideal S1024x5632 .bf16) (x5 : Vec Ideal S3x5632 .f32)
    (x6 : Vec Ideal S1x5632 .f32) (x7 : Vec Ideal S2816x1024 .bf16) (r : Fin 512) (k : Fin 1024) :
    block f l u x0 x4 x5 x6 x7 (ValueIdx.ix2 r k) = x0 (ValueIdx.ix2 r k) + ∑ q : Fin 2816, part f l u x4 x5 x6 x7 r k q := by
  unfold block
  simp only [chunk_apply]
  rw [← sum_ext]
  generalize ext (part f l u x4 x5 x6 x7 r k) = T
  generalize x0 (ValueIdx.ix2 r k) = a
  have z : a + ∑ j : Fin 256, T (0 + j.val) = a + ∑ i ∈ Finset.range 256, T i := by
    have h := sum_step a T 0
    rwa [Finset.range_zero, Finset.sum_empty, add_zero] at h
  have s : ∀ n n' : ℕ, n + 256 = n' → a + ∑ i ∈ Finset.range n, T i + ∑ j : Fin 256, T (n + j.val) = a + ∑ i ∈ Finset.range n', T i := by
    intro n n' h
    rw [← h]
    exact sum_step a T n
  rw [z, s 256 512 rfl, s 512 768 rfl, s 768 1024 rfl, s 1024 1280 rfl, s 1280 1536 rfl, s 1536 1792 rfl, s 1792 2048 rfl, s 2048 2304 rfl, s 2304 2560 rfl,
    s 2560 2816 rfl]

/-- The rows as the written pieces, newest first, hold them. -/
theorem rows_canon (x0 : Vec Ideal S512x1024 .f32) (x1 x2 : Vec Ideal S8x1024 .f32) (x3 : Vec Ideal S1x1024 .f32) (r : Fin 528) (k : Fin 1024) :
    rows x0 x1 x2 x3 (ValueIdx.ix2 r k) = View.canon (Val := Elt Ideal)
      [⟨Rect.unit ![520, 0] ![8, 1024] inb_S528x1024_S8x1024_520_0, k0_pay5 x3 x2 (k0_pay4 x2)⟩,
       ⟨Rect.unit ![512, 0] ![8, 1024] inb_S528x1024_S8x1024_512_0, k0_pay3 x3 x1⟩,
       ⟨Rect.unit ![0, 0] ![512, 1024] inb_S528x1024_S512x1024_0_0, k0_pay2 x0 x3⟩] (ValueIdx.ix2 r k) := by
  unfold rows
  rw [View.readCov_eq_canon']
  refine congrArg (View.canon _) (funext fun a => Fin.ext ?_)
  match a with
  | ⟨0, _⟩ => show 0 + 1 * r.val = r.val; omega
  | ⟨1, _⟩ => show 0 + 1 * k.val = k.val; omega

theorem not_mem (o n : ℕ) (h : ∀ a, (![o, 0] : Fin 2 → ℕ) a + (![n, 1024] : Fin 2 → ℕ) a ≤ S528x1024.size a) (r : Fin 528) (k : Fin 1024) (hr : r.val < o ∨ o + n ≤ r.val) :
    ValueIdx.ix2 r k ∉ (Rect.unit (s := S528x1024) ![o, 0] ![n, 1024] h).set := fun hm => by
  have h0 : o ≤ r.val ∧ r.val < o + n := Rect.mem_set_unit.mp hm 0
  omega

theorem emb_eq (o n : ℕ) (h : ∀ a, (![o, 0] : Fin 2 → ℕ) a + (![n, 1024] : Fin 2 → ℕ) a ≤ S528x1024.size a) (r : Fin 528) (k : Fin 1024) (i : Fin n) (hr : r.val = o + i.val) :
    ValueIdx.ix2 r k = (Rect.unit (s := S528x1024) ![o, 0] ![n, 1024] h).emb (ValueIdx.ix2 i k) := funext fun a => Fin.ext (by
  match a with
  | ⟨0, _⟩ => show r.val = o + 1 * i.val; omega
  | ⟨1, _⟩ => show k.val = 0 + 1 * k.val; omega)

/-- A row outside the newest piece reads the older pieces. -/
theorem canon_skip (o n : ℕ) (h : ∀ a, (![o, 0] : Fin 2 → ℕ) a + (![n, 1024] : Fin 2 → ℕ) a ≤ S528x1024.size a) (w : (⟨2, ![n, 1024]⟩ : Shape).Idx → Elt Ideal .bf16)
    (L : List (View.Piece (Elt Ideal) S528x1024 .bf16)) (r : Fin 528) (k : Fin 1024) (hr : r.val < o ∨ o + n ≤ r.val) :
    View.canon ((⟨Rect.unit (s := S528x1024) ![o, 0] ![n, 1024] h, w⟩ : View.Piece (Elt Ideal) S528x1024 .bf16) :: L) (ValueIdx.ix2 r k) = View.canon L (ValueIdx.ix2 r k) :=
  View.canon_cons_of_not_mem (⟨Rect.unit (s := S528x1024) ![o, 0] ![n, 1024] h, w⟩ : View.Piece (Elt Ideal) S528x1024 .bf16) L (not_mem o n h r k hr)

/-- A row inside the newest piece reads it. -/
theorem canon_hit (o n : ℕ) (h : ∀ a, (![o, 0] : Fin 2 → ℕ) a + (![n, 1024] : Fin 2 → ℕ) a ≤ S528x1024.size a) (w : (⟨2, ![n, 1024]⟩ : Shape).Idx → Elt Ideal .bf16)
    (L : List (View.Piece (Elt Ideal) S528x1024 .bf16)) (r : Fin 528) (k : Fin 1024) (i : Fin n) (hr : r.val = o + i.val) :
    View.canon ((⟨Rect.unit (s := S528x1024) ![o, 0] ![n, 1024] h, w⟩ : View.Piece (Elt Ideal) S528x1024 .bf16) :: L) (ValueIdx.ix2 r k) = w (ValueIdx.ix2 i k) :=
  (congrArg (View.canon _) (emb_eq o n h r k i hr)).trans (View.canon_cons_emb (Rect.unit (s := S528x1024) ![o, 0] ![n, 1024] h) w L (ValueIdx.ix2 i k))

/-- The point's own rows. -/
theorem rows_own (x0 : Vec Ideal S512x1024 .f32) (x1 x2 : Vec Ideal S8x1024 .f32) (x3 : Vec Ideal S1x1024 .f32) (r : Fin 528) (k : Fin 1024) (h : r.val < 512) :
    rows x0 x1 x2 x3 (ValueIdx.ix2 r k) = k0_pay2 x0 x3 (ValueIdx.ix2 ⟨r.val, h⟩ k) :=
  (rows_canon x0 x1 x2 x3 r k).trans ((canon_skip 520 8 _ _ _ r k (by omega)).trans ((canon_skip 512 8 _ _ _ r k (by omega)).trans
    (canon_hit 0 512 _ _ _ r k ⟨r.val, h⟩ (by show r.val = 0 + r.val; omega))))

/-- The row before the point's own. -/
theorem rows_prev (x0 : Vec Ideal S512x1024 .f32) (x1 x2 : Vec Ideal S8x1024 .f32) (x3 : Vec Ideal S1x1024 .f32) (r : Fin 528) (i : Fin 8) (k : Fin 1024) (h : r.val = 512 + i.val) :
    rows x0 x1 x2 x3 (ValueIdx.ix2 r k) = k0_pay3 x3 x1 (ValueIdx.ix2 i k) :=
  (rows_canon x0 x1 x2 x3 r k).trans ((canon_skip 520 8 _ _ _ r k (by omega)).trans (canon_hit 512 8 _ _ _ r k i h))

/-- The row after the point's own. -/
theorem rows_next (x0 : Vec Ideal S512x1024 .f32) (x1 x2 : Vec Ideal S8x1024 .f32) (x3 : Vec Ideal S1x1024 .f32) (r : Fin 528) (i : Fin 8) (k : Fin 1024) (h : r.val = 520 + i.val) :
    rows x0 x1 x2 x3 (ValueIdx.ix2 r k) = k0_pay5 x3 x2 (k0_pay4 x2) (ValueIdx.ix2 i k) :=
  (rows_canon x0 x1 x2 x3 r k).trans (canon_hit 520 8 _ _ _ r k i h)

end Cert.FfnIdeal.Ffn

end
-- ==== Proof.FfnEntry.lean ====
module

/-
An entry of what a point leaves is the plain block's entry at the point's row.
-/
public import proofs.«01_k».proof.Proof.FfnTile

@[expose] public section

set_option maxRecDepth 16384

noncomputable section

namespace Cert.FfnIdeal.Ffn

open Cert.FfnIdeal.Gen Cert.FfnMath
open Idealize.ShloMosaic Idealize.ShloMosaic.TcCoe Idealize.ShloMosaic.Tactic

variable (X : Fin 32768 → Fin 1024 → EReal) (G : Fin 1024 → EReal) (W : Fin 1024 → Fin 5632 → EReal) (C : Fin 3 → Fin 5632 → EReal) (K : Fin 5632 → EReal)
  (D : Fin 2816 → Fin 1024 → EReal) (t : Fin 64)
  (x0 : Vec Ideal S512x1024 .f32) (x1 x2 : Vec Ideal S8x1024 .f32) (x3 : Vec Ideal S1x1024 .f32) (x4 : Vec Ideal S1024x5632 .bf16) (x5 : Vec Ideal S3x5632 .f32)
  (x6 : Vec Ideal S1x5632 .f32) (x7 : Vec Ideal S2816x1024 .bf16)

/-- A hidden entry of one of the point's own rows. -/
theorem hid_own (h0 : ∀ (r : Fin 512) (k : Fin 1024), x0 (ValueIdx.ix2 r k) = X ⟨512 * t.val + r.val, by omega⟩ k)
    (h3 : ∀ k : Fin 1024, x3 (ValueIdx.ix2 0 k) = G k) (h4 : ∀ (j : Fin 1024) (q : Fin 5632), x4 (ValueIdx.ix2 j q) = W j q)
    (i : Fin 528) (q : Fin 5632) (hi : i.val < 512) (R : Fin 32768) (hR : R.val = 512 * t.val + i.val) :
    hid (rows x0 x1 x2 x3) x4 i q = hidden X G W R q := by
  refine Finset.sum_congr rfl fun j _ => ?_
  rw [rows_own _ _ _ _ _ _ hi, own_apply, h4]
  refine congrArg (· * W j q) (norm_congr _ _ _ _ _ _ _ (funext fun k => ?_) (funext h3))
  exact (h0 ⟨i.val, hi⟩ k).trans (congrArg (X · k) (Fin.ext hR.symm))

/-- A hidden entry of the row before the point's. -/
theorem hid_prev (R : Fin 32768) (h1 : ∀ k : Fin 1024, x1 (ValueIdx.ix2 7 k) = X R k)
    (h3 : ∀ k : Fin 1024, x3 (ValueIdx.ix2 0 k) = G k) (h4 : ∀ (j : Fin 1024) (q : Fin 5632), x4 (ValueIdx.ix2 j q) = W j q) (q : Fin 5632) :
    hid (rows x0 x1 x2 x3) x4 519 q = hidden X G W R q := by
  refine Finset.sum_congr rfl fun j _ => ?_
  rw [rows_prev x0 x1 x2 x3 519 7 j rfl, prev_apply, h4]
  exact congrArg (· * W j q) (norm_congr _ _ _ _ _ _ _ (funext h1) (funext h3))

/-- A hidden entry of the row after the point's. -/
theorem hid_next (R : Fin 32768) (h2 : ∀ k : Fin 1024, x2 (ValueIdx.ix2 0 k) = X R k)
    (h3 : ∀ k : Fin 1024, x3 (ValueIdx.ix2 0 k) = G k) (h4 : ∀ (j : Fin 1024) (q : Fin 5632), x4 (ValueIdx.ix2 j q) = W j q) (q : Fin 5632) :
    hid (rows x0 x1 x2 x3) x4 520 q = hidden X G W R q := by
  refine Finset.sum_congr rfl fun j _ => ?_
  rw [rows_next x0 x1 x2 x3 520 0 j rfl, next_apply, h4]
  exact congrArg (· * W j q) (norm_congr _ _ _ _ _ _ _ (funext h2) (funext h3))

/-- A hidden entry after the convolution. -/
theorem col_eq (f l : EReal) (hf : f = if t.val % 8 = 0 ∧ t.val ≤ 32 then 0 else 1) (hl : l = if t.val % 8 = 7 ∧ t.val < 32 ∨ t.val = 63 then 0 else 1)
    (h0 : ∀ (r : Fin 512) (k : Fin 1024), x0 (ValueIdx.ix2 r k) = X ⟨512 * t.val + r.val, by omega⟩ k)
    (h1 : t.val ≠ 0 → ∀ k : Fin 1024, x1 (ValueIdx.ix2 7 k) = X ⟨512 * t.val - 1, by omega⟩ k)
    (h2 : t.val ≠ 63 → ∀ k : Fin 1024, x2 (ValueIdx.ix2 0 k) = X ⟨(512 * t.val + 512) % 32768, by omega⟩ k)
    (h3 : ∀ k : Fin 1024, x3 (ValueIdx.ix2 0 k) = G k) (h4 : ∀ (j : Fin 1024) (q : Fin 5632), x4 (ValueIdx.ix2 j q) = W j q)
    (h5 : ∀ (i : Fin 3) (q : Fin 5632), x5 (ValueIdx.ix2 i q) = C i q) (h6 : ∀ q : Fin 5632, x6 (ValueIdx.ix2 0 q) = K q)
    (r : Fin 512) (q : Fin 5632) :
    col f l (rows x0 x1 x2 x3) x4 x5 x6 r q = convolved X G W C K ⟨512 * t.val + r.val, by omega⟩ q := by
  have ht := t.isLt
  have hr := r.isLt
  unfold col convolved
  rw [h5, h5, h5, h6, hid_own X G W t x0 x1 x2 x3 x4 h0 h3 h4 ⟨r.val, by omega⟩ q hr ⟨512 * t.val + r.val, by omega⟩ rfl]
  have e0 : (if r.val = 0 then hid (rows x0 x1 x2 x3) x4 519 q * f else hid (rows x0 x1 x2 x3) x4 ⟨(r.val + 511) % 512, by omega⟩ q)
      = if starts (512 * t.val + r.val) then 0 else hidden X G W ⟨512 * t.val + r.val - 1, by omega⟩ q := by
    by_cases h : r.val = 0
    · rw [if_pos h, hf]
      by_cases s : t.val % 8 = 0 ∧ t.val ≤ 32
      · rw [if_pos s, mul_zero, if_pos]
        show (512 * t.val + r.val) % 4096 = 0 ∧ 512 * t.val + r.val ≤ 16384
        omega
      · have h' : t.val ≠ 0 := by omega
        rw [if_neg s, mul_one, if_neg, hid_prev X G W x0 x1 x2 x3 x4 _ (h1 h') h3 h4]
        · exact congrArg (fun R => hidden X G W R q) (Fin.ext (by show 512 * t.val - 1 = 512 * t.val + r.val - 1; omega))
        · show ¬((512 * t.val + r.val) % 4096 = 0 ∧ 512 * t.val + r.val ≤ 16384)
          omega
    · rw [if_neg h, if_neg]
      · exact hid_own X G W t x0 x1 x2 x3 x4 h0 h3 h4 _ q (Nat.mod_lt _ (by omega)) _
          (by show 512 * t.val + r.val - 1 = 512 * t.val + (r.val + 511) % 512; omega)
      · show ¬((512 * t.val + r.val) % 4096 = 0 ∧ 512 * t.val + r.val ≤ 16384)
        omega
  have e1 : (if r.val = 511 then hid (rows x0 x1 x2 x3) x4 520 q * l else hid (rows x0 x1 x2 x3) x4 ⟨(r.val + 1) % 512, by omega⟩ q)
      = if stops (512 * t.val + r.val) then 0 else hidden X G W ⟨(512 * t.val + r.val + 1) % 32768, by omega⟩ q := by
    by_cases h : r.val = 511
    · rw [if_pos h, hl]
      by_cases s : t.val % 8 = 7 ∧ t.val < 32 ∨ t.val = 63
      · rw [if_pos s, mul_zero, if_pos]
        show (512 * t.val + r.val) % 4096 = 4095 ∧ 512 * t.val + r.val < 16384 ∨ 512 * t.val + r.val = 32767
        omega
      · have h' : t.val ≠ 63 := by omega
        rw [if_neg s, mul_one, if_neg, hid_next X G W x0 x1 x2 x3 x4 _ (h2 h') h3 h4]
        · exact congrArg (fun R => hidden X G W R q) (Fin.ext (by show (512 * t.val + 512) % 32768 = (512 * t.val + r.val + 1) % 32768; omega))
        · show ¬((512 * t.val + r.val) % 4096 = 4095 ∧ 512 * t.val + r.val < 16384 ∨ 512 * t.val + r.val = 32767)
          omega
    · rw [if_neg h, if_neg]
      · exact hid_own X G W t x0 x1 x2 x3 x4 h0 h3 h4 _ q (Nat.mod_lt _ (by omega)) _
          (by show (512 * t.val + r.val + 1) % 32768 = 512 * t.val + (r.val + 1) % 512; omega)
      · show ¬((512 * t.val + r.val) % 4096 = 4095 ∧ 512 * t.val + r.val < 16384 ∨ 512 * t.val + r.val = 32767)
        omega
  rw [e0, e1]

/-- An entry of what a point leaves. -/
theorem entry_eq (f l : EReal) (hf : f = if t.val % 8 = 0 ∧ t.val ≤ 32 then 0 else 1) (hl : l = if t.val % 8 = 7 ∧ t.val < 32 ∨ t.val = 63 then 0 else 1)
    (h0 : ∀ (r : Fin 512) (k : Fin 1024), x0 (ValueIdx.ix2 r k) = X ⟨512 * t.val + r.val, by omega⟩ k)
    (h1 : t.val ≠ 0 → ∀ k : Fin 1024, x1 (ValueIdx.ix2 7 k) = X ⟨512 * t.val - 1, by omega⟩ k)
    (h2 : t.val ≠ 63 → ∀ k : Fin 1024, x2 (ValueIdx.ix2 0 k) = X ⟨(512 * t.val + 512) % 32768, by omega⟩ k)
    (h3 : ∀ k : Fin 1024, x3 (ValueIdx.ix2 0 k) = G k) (h4 : ∀ (j : Fin 1024) (q : Fin 5632), x4 (ValueIdx.ix2 j q) = W j q)
    (h5 : ∀ (i : Fin 3) (q : Fin 5632), x5 (ValueIdx.ix2 i q) = C i q) (h6 : ∀ q : Fin 5632, x6 (ValueIdx.ix2 0 q) = K q)
    (h7 : ∀ (q : Fin 2816) (k : Fin 1024), x7 (ValueIdx.ix2 q k) = D q k) (r : Fin 512) (k : Fin 1024) :
    block f l (rows x0 x1 x2 x3) x0 x4 x5 x6 x7 (ValueIdx.ix2 r k) = result X G W C K D ⟨512 * t.val + r.val, by omega⟩ k := by
  rw [block_apply, h0]
  refine congrArg (X ⟨512 * t.val + r.val, by omega⟩ k + ·) (Finset.sum_congr rfl fun q _ => ?_)
  unfold part
  rw [h7, col_eq X G W C K t x0 x1 x2 x3 x4 x5 x6 f l hf hl h0 h1 h2 h3 h4 h5 h6, col_eq X G W C K t x0 x1 x2 x3 x4 x5 x6 f l hf hl h0 h1 h2 h3 h4 h5 h6]

end Cert.FfnIdeal.Ffn

end
-- ==== Proof.FfnPrompt.lean ====
module

/-
The reference's feed-forward block on the prompt, read entry by entry.
-/
public import proofs.«01_k».proof.Proof.Gen.FfnReferenceIdeal.Read
public import proofs.«01_k».proof.Proof.FfnMath
public import Idealize.ShloMosaic.Lib.KernelVsHost

@[expose] public section

set_option maxRecDepth 16384

noncomputable section

namespace Cert.FfnRef.Prompt

open Cert.FfnReferenceIdeal Cert.FfnReferenceIdeal.Gen Cert.FfnReferenceIdeal.Read Cert.FfnMath
open Idealize.ShloMosaic Idealize.ShloMosaic.TcCoe Idealize.ShloMosaic.Tactic

/-- The row of the whole array. -/
def row (b : Fin 4) (s : Fin 4096) : Fin 32768 := ⟨b.val * 4096 + s.val, by omega⟩

variable (x0 : (⟨S32768x1024, .f32⟩ : BufTy).Contents (Elt Ideal)) (x1 : (⟨S1x1024, .f32⟩ : BufTy).Contents (Elt Ideal))
  (x2 : (⟨S1024x5632, .bf16⟩ : BufTy).Contents (Elt Ideal)) (x3 : (⟨S3x5632, .f32⟩ : BufTy).Contents (Elt Ideal))
  (x4 : (⟨S1x5632, .f32⟩ : BufTy).Contents (Elt Ideal)) (x5 : (⟨S2816x1024, .bf16⟩ : BufTy).Contents (Elt Ideal))

/-- The rows. -/
abbrev X (r : Fin 32768) (k : Fin 1024) : EReal := x0 (ValueIdx.ix2 r k)
/-- The scale. -/
abbrev G (k : Fin 1024) : EReal := x1 (ValueIdx.ix2 0 k)
/-- The first weights. -/
abbrev W (j : Fin 1024) (q : Fin 5632) : EReal := x2 (ValueIdx.ix2 j q)
/-- The taps. -/
abbrev C (i : Fin 3) (q : Fin 5632) : EReal := x3 (ValueIdx.ix2 i q)
/-- The bias. -/
abbrev K (q : Fin 5632) : EReal := x4 (ValueIdx.ix2 0 q)
/-- The second weights. -/
abbrev D (q : Fin 2816) (k : Fin 1024) : EReal := x5 (ValueIdx.ix2 q k)

theorem source_apply (b : Fin 4) (s : Fin 4096) (k : Fin 1024) : val_main_v1 (F := Ideal) x0 (ValueIdx.ix3 b s k) = x0 (ValueIdx.ix2 (row b s) k) := by
  simp only [val_main_v1_apply, val_main_v0_apply]
  refine congrArg x0 ((ValueIdx.eq_ix2 _).trans ?_)
  have e0 : idx_main_v0 (idx_main_v1 (ValueIdx.ix3 b s k)) 0 = row b s := Fin.ext (by
    show ((b.val * 4096 + s.val) * 1024 + k.val) / 1024 = b.val * 4096 + s.val
    omega)
  have e1 : idx_main_v0 (idx_main_v1 (ValueIdx.ix3 b s k)) 1 = k := Fin.ext (by
    show ((b.val * 4096 + s.val) * 1024 + k.val) % 1024 = k.val
    omega)
  rw [e0, e1]
  rfl

theorem square_sum (b : Fin 4) (s : Fin 4096) : val_main_v3 (F := Ideal) x0 (ValueIdx.ix2 b s) = ∑ j : Fin 1024, X x0 (row b s) j * X x0 (row b s) j := by
  simp only [val_main_v3_apply, val_main_cst_apply, Ideal.ofBits_def, Ideal.ofBits_zero_f32, zero_add]
  refine Finset.sum_congr rfl fun j _ => ?_
  have e : idx_main_v3 (ValueIdx.ix2 b s) j = ValueIdx.ix3 b s j := ValueIdx.eq_ix3 _
  rw [e, val_main_v2_apply, source_apply]
  rfl

theorem norm_apply (b : Fin 4) (s : Fin 4096) (k : Fin 1024) :
    val_main_v14 (F := Ideal) x0 x1 (ValueIdx.ix3 b s k) = norm (X x0) (G x1) (row b s) k := by
  simp only [val_main_v14_apply, val_main_v11_apply, val_main_v10_apply, val_main_v9_apply, val_main_v8_apply, val_main_v7_apply, val_main_v6_apply, val_main_v5_apply, val_main_v4_apply, val_main_v13_apply, val_main_v12_apply, val_main_cst_0_apply, val_main_cst_1_apply]
  have e : idx_main_v4 (idx_main_v10 (ValueIdx.ix3 b s k)) = ValueIdx.ix2 b s := ValueIdx.eq_ix2 _
  have eg : idx_main_v12 (idx_main_v13 (ValueIdx.ix3 b s k)) = ValueIdx.ix2 0 k := ValueIdx.eq_ix2 _
  rw [e, eg, square_sum, source_apply]
  rfl

theorem hidden_apply (b : Fin 4) (s : Fin 4096) (q : Fin 5632) :
    val_main_v16 (F := Ideal) x0 x1 x2 (ValueIdx.ix3 b s q) = hidden (X x0) (G x1) (W x2) (row b s) q := by
  rw [val_main_v16_apply]
  refine Finset.sum_congr rfl fun j _ => ?_
  have el : lidx_main_v16 (ValueIdx.ix3 b s q) j = ValueIdx.ix3 b s j := ValueIdx.eq_ix3 _
  have er : ridx_main_v16 (ValueIdx.ix3 b s q) j = ValueIdx.ix2 j q := ValueIdx.eq_ix2 _
  rw [el, er, norm_apply, val_main_v15_apply]
  rfl

theorem pad_inside (b : Fin 4) (s : Fin 4096) (q : Fin 5632) (i : Fin 4098) (h : i.val = s.val + 1) :
    val_main_v17 (F := Ideal) x0 x1 x2 (ValueIdx.ix3 b i q) = hidden (X x0) (G x1) (W x2) (row b s) q := by
  refine Eq.trans ?_ (hidden_apply x0 x1 x2 b s q)
  unfold val_main_v17
  refine pad_apply_of_inside _ _ _ _ _ _ _ _ _ fun a => ?_
  match a with
  | ⟨0, _⟩ => show b.val = 0 + b.val * (0 + 1); omega
  | ⟨1, _⟩ => show i.val = 1 + s.val * (0 + 1); omega
  | ⟨2, _⟩ => show q.val = 0 + q.val * (0 + 1); omega

theorem pad_outside (b : Fin 4) (q : Fin 5632) (i : Fin 4098) (h : i.val = 0 ∨ i.val = 4097) :
    val_main_v17 (F := Ideal) x0 x1 x2 (ValueIdx.ix3 b i q) = 0 := by
  unfold val_main_v17
  refine (pad_apply_of_not_inside _ _ _ _ _ _ _ _ (1 : Fin 3) ?_).trans ?_
  · show ¬(1 ≤ i.val ∧ (i.val - 1) % (0 + 1) = 0 ∧ (i.val - 1) / (0 + 1) < 4096)
    omega
  · rw [val_main_call0_v0_apply, val_main_c_apply]
    show (((0#32 : BitVec 32).toInt : ℝ) : EReal) = 0
    simp

/-- The taps of the convolution. -/
theorem taps_apply (b : Fin 4) (s : Fin 4096) (q : Fin 5632) :
    val_main_v22 (F := Ideal) x3 (ValueIdx.ix3 b s q) = C x3 0 q ∧ val_main_v28 (F := Ideal) x3 (ValueIdx.ix3 b s q) = C x3 1 q
      ∧ val_main_v35 (F := Ideal) x3 (ValueIdx.ix3 b s q) = C x3 2 q ∧ val_main_v40 (F := Ideal) x4 (ValueIdx.ix3 b s q) = K x4 q := by
  have eq : (⟨q.val % 5632, Nat.mod_lt _ (by omega)⟩ : Fin 5632) = q := Fin.ext (Nat.mod_eq_of_lt q.isLt)
  refine ⟨?_, ?_, ?_, ?_⟩
  · simp only [val_main_v22_apply, val_main_v21_apply, val_main_v20_apply, val_main_v19_apply]
    exact congrArg x3 ((ValueIdx.eq_ix2 _).trans (congrArg (ValueIdx.ix2 0) eq))
  · simp only [val_main_v28_apply, val_main_v27_apply, val_main_v26_apply, val_main_v25_apply]
    exact congrArg x3 ((ValueIdx.eq_ix2 _).trans (congrArg (ValueIdx.ix2 1) eq))
  · simp only [val_main_v35_apply, val_main_v34_apply, val_main_v33_apply, val_main_v32_apply]
    exact congrArg x3 ((ValueIdx.eq_ix2 _).trans (congrArg (ValueIdx.ix2 2) eq))
  · simp only [val_main_v40_apply, val_main_v39_apply, val_main_v38_apply]
    exact congrArg x4 ((ValueIdx.eq_ix2 _).trans (congrArg (ValueIdx.ix2 0) eq))

theorem convolved_apply (b : Fin 4) (s : Fin 4096) (q : Fin 5632) :
    val_main_v41 (F := Ideal) x0 x1 x2 x3 x4 (ValueIdx.ix3 b s q) = convolved (X x0) (G x1) (W x2) (C x3) (K x4) (row b s) q := by
  obtain ⟨t0, t1, t2, tb⟩ := taps_apply x3 x4 b s q
  simp only [val_main_v41_apply, val_main_v37_apply, val_main_v36_apply, val_main_v31_apply, val_main_v30_apply, val_main_v29_apply, val_main_v24_apply, val_main_v23_apply, val_main_v18_apply, t0, t1, t2, tb]
  have e0 : idx_main_v18 (ValueIdx.ix3 b s q) = ValueIdx.ix3 b ⟨s.val, by omega⟩ q := ValueIdx.eq_ix3 _
  have e1 : idx_main_v24 (ValueIdx.ix3 b s q) = ValueIdx.ix3 b ⟨1 + s.val, by omega⟩ q := ValueIdx.eq_ix3 _
  have e2 : idx_main_v31 (ValueIdx.ix3 b s q) = ValueIdx.ix3 b ⟨2 + s.val, by omega⟩ q := ValueIdx.eq_ix3 _
  rw [e0, e1, e2, pad_inside x0 x1 x2 b s q ⟨1 + s.val, by omega⟩ (Nat.add_comm _ _)]
  have p0 : val_main_v17 (F := Ideal) x0 x1 x2 (ValueIdx.ix3 b ⟨s.val, by omega⟩ q)
      = if starts (row b s).val then 0 else hidden (X x0) (G x1) (W x2) ⟨(row b s).val - 1, by omega⟩ q := by
    by_cases hs : s.val = 0
    · rw [pad_outside x0 x1 x2 b q ⟨s.val, by omega⟩ (Or.inl hs), if_pos]
      show (b.val * 4096 + s.val) % 4096 = 0 ∧ b.val * 4096 + s.val ≤ 16384
      omega
    · rw [pad_inside x0 x1 x2 b ⟨s.val - 1, by omega⟩ q ⟨s.val, by omega⟩ (by show s.val = s.val - 1 + 1; omega), if_neg]
      · refine congrArg (fun r => hidden (X x0) (G x1) (W x2) r q) (Fin.ext ?_)
        show b.val * 4096 + (s.val - 1) = b.val * 4096 + s.val - 1
        omega
      · show ¬((b.val * 4096 + s.val) % 4096 = 0 ∧ b.val * 4096 + s.val ≤ 16384)
        omega
  have p2 : val_main_v17 (F := Ideal) x0 x1 x2 (ValueIdx.ix3 b ⟨2 + s.val, by omega⟩ q)
      = if stops (row b s).val then 0 else hidden (X x0) (G x1) (W x2) ⟨((row b s).val + 1) % 32768, by omega⟩ q := by
    by_cases hs : s.val = 4095
    · rw [pad_outside x0 x1 x2 b q ⟨2 + s.val, by omega⟩ (Or.inr (by show 2 + s.val = 4097; omega)), if_pos]
      show (b.val * 4096 + s.val) % 4096 = 4095 ∧ b.val * 4096 + s.val < 16384 ∨ b.val * 4096 + s.val = 32767
      omega
    · rw [pad_inside x0 x1 x2 b ⟨s.val + 1, by omega⟩ q ⟨2 + s.val, by omega⟩ (by show 2 + s.val = s.val + 1 + 1; omega), if_neg]
      · refine congrArg (fun r => hidden (X x0) (G x1) (W x2) r q) (Fin.ext ?_)
        show b.val * 4096 + (s.val + 1) = (b.val * 4096 + s.val + 1) % 32768
        omega
      · show ¬((b.val * 4096 + s.val) % 4096 = 4095 ∧ b.val * 4096 + s.val < 16384 ∨ b.val * 4096 + s.val = 32767)
        omega
  rw [p0, p2]
  rfl

theorem gated_apply (b : Fin 4) (s : Fin 4096) (q : Fin 2816) :
    val_main_v45 (F := Ideal) x0 x1 x2 x3 x4 (ValueIdx.ix3 b s q)
      = gated (convolved (X x0) (G x1) (W x2) (C x3) (K x4) (row b s) ⟨q.val, by omega⟩) (convolved (X x0) (G x1) (W x2) (C x3) (K x4) (row b s) ⟨2816 + q.val, by omega⟩) := by
  rw [← convolved_apply, ← convolved_apply]
  simp only [val_main_v45_apply, val_main_v44_apply, val_main_call1_v5_apply, val_main_call1_v4_apply, val_main_call1_v3_apply, val_main_call1_v2_apply, val_main_call1_v1_apply, val_main_call1_v0_apply, val_main_call1_cst_apply, val_main_call1_cst_0_apply, val_main_v42_apply, val_main_v43_apply]
  have e0 : idx_main_v42 (ValueIdx.ix3 b s q) = ValueIdx.ix3 b s ⟨q.val, by omega⟩ := ValueIdx.eq_ix3 _
  have e1 : idx_main_v43 (ValueIdx.ix3 b s q) = ValueIdx.ix3 b s ⟨2816 + q.val, by omega⟩ := ValueIdx.eq_ix3 _
  rw [e0, e1]
  simp only [Ideal.mulf_def, Ideal.addf_def, Ideal.hostDivf_def, Ideal.hostUnary_exp_def, Ideal.hostNegf_def, Ideal.negf_def, Ideal.ofBits_def, Ideal.ofBits_one_f32]
  unfold gated
  rw [zero_sub]

theorem result_apply (b : Fin 4) (s : Fin 4096) (k : Fin 1024) :
    val_main_v48 (F := Ideal) x0 x1 x2 x3 x4 x5 (ValueIdx.ix3 b s k) = result (X x0) (G x1) (W x2) (C x3) (K x4) (D x5) (row b s) k := by
  rw [val_main_v48_apply, source_apply, val_main_v47_apply]
  refine congrArg (x0 (ValueIdx.ix2 (row b s) k) + ·) (Finset.sum_congr rfl fun q _ => ?_)
  have el : lidx_main_v47 (ValueIdx.ix3 b s k) q = ValueIdx.ix3 b s q := ValueIdx.eq_ix3 _
  have er : ridx_main_v47 (ValueIdx.ix3 b s k) q = ValueIdx.ix2 q k := ValueIdx.eq_ix2 _
  rw [el, er, gated_apply, val_main_v46_apply]
  rfl

theorem half_apply (r : Fin 16384) (k : Fin 1024) :
    val_main_v49 (F := Ideal) x0 x1 x2 x3 x4 x5 (ValueIdx.ix2 r k) = result (X x0) (G x1) (W x2) (C x3) (K x4) (D x5) ⟨r.val, by omega⟩ k := by
  rw [val_main_v49_apply]
  have e : idx_main_v49 (ValueIdx.ix2 r k) = ValueIdx.ix3 ⟨r.val / 4096, by omega⟩ ⟨r.val % 4096, Nat.mod_lt _ (by omega)⟩ k := by
    refine (ValueIdx.eq_ix3 _).trans ?_
    have e0 : idx_main_v49 (ValueIdx.ix2 r k) 0 = (⟨r.val / 4096, by omega⟩ : Fin 4) := Fin.ext (by
      show (r.val * 1024 + k.val) / 4194304 = r.val / 4096
      omega)
    have e1 : idx_main_v49 (ValueIdx.ix2 r k) 1 = (⟨r.val % 4096, Nat.mod_lt _ (by omega)⟩ : Fin 4096) := Fin.ext (by
      show (r.val * 1024 + k.val) / 1024 % 4096 = r.val % 4096
      omega)
    have e2 : idx_main_v49 (ValueIdx.ix2 r k) 2 = k := Fin.ext (by
      show (r.val * 1024 + k.val) % 1024 = k.val
      omega)
    rw [e0, e1, e2]
    rfl
  rw [e, result_apply]
  refine congrArg (fun i => result (X x0) (G x1) (W x2) (C x3) (K x4) (D x5) i k) (Fin.ext ?_)
  show r.val / 4096 * 4096 + r.val % 4096 = r.val
  omega

end Cert.FfnRef.Prompt

end
-- ==== Proof.FfnSample.lean ====
module

/-
The reference's feed-forward block on the sample, read entry by entry.
-/
public import proofs.«01_k».proof.Proof.Gen.FfnReferenceIdeal.Read
public import proofs.«01_k».proof.Proof.FfnMath
public import Idealize.ShloMosaic.Lib.KernelVsHost

@[expose] public section

set_option maxRecDepth 16384

noncomputable section

namespace Cert.FfnRef.Sample

open Cert.FfnReferenceIdeal Cert.FfnReferenceIdeal.Gen Cert.FfnReferenceIdeal.Read Cert.FfnMath
open Idealize.ShloMosaic Idealize.ShloMosaic.TcCoe Idealize.ShloMosaic.Tactic

/-- The row of the whole array. -/
def row (b : Fin 1) (s : Fin 16384) : Fin 32768 := ⟨16384 + b.val * 16384 + s.val, by omega⟩

variable (x0 : (⟨S32768x1024, .f32⟩ : BufTy).Contents (Elt Ideal)) (x1 : (⟨S1x1024, .f32⟩ : BufTy).Contents (Elt Ideal))
  (x2 : (⟨S1024x5632, .bf16⟩ : BufTy).Contents (Elt Ideal)) (x3 : (⟨S3x5632, .f32⟩ : BufTy).Contents (Elt Ideal))
  (x4 : (⟨S1x5632, .f32⟩ : BufTy).Contents (Elt Ideal)) (x5 : (⟨S2816x1024, .bf16⟩ : BufTy).Contents (Elt Ideal))

/-- The rows. -/
abbrev X (r : Fin 32768) (k : Fin 1024) : EReal := x0 (ValueIdx.ix2 r k)
/-- The scale. -/
abbrev G (k : Fin 1024) : EReal := x1 (ValueIdx.ix2 0 k)
/-- The first weights. -/
abbrev W (j : Fin 1024) (q : Fin 5632) : EReal := x2 (ValueIdx.ix2 j q)
/-- The taps. -/
abbrev C (i : Fin 3) (q : Fin 5632) : EReal := x3 (ValueIdx.ix2 i q)
/-- The bias. -/
abbrev K (q : Fin 5632) : EReal := x4 (ValueIdx.ix2 0 q)
/-- The second weights. -/
abbrev D (q : Fin 2816) (k : Fin 1024) : EReal := x5 (ValueIdx.ix2 q k)

theorem source_apply (b : Fin 1) (s : Fin 16384) (k : Fin 1024) : val_main_v51 (F := Ideal) x0 (ValueIdx.ix3 b s k) = x0 (ValueIdx.ix2 (row b s) k) := by
  simp only [val_main_v51_apply, val_main_v50_apply]
  refine congrArg x0 ((ValueIdx.eq_ix2 _).trans ?_)
  have e0 : idx_main_v50 (idx_main_v51 (ValueIdx.ix3 b s k)) 0 = row b s := Fin.ext (by
    show 16384 + ((b.val * 16384 + s.val) * 1024 + k.val) / 1024 = 16384 + b.val * 16384 + s.val
    omega)
  have e1 : idx_main_v50 (idx_main_v51 (ValueIdx.ix3 b s k)) 1 = k := Fin.ext (by
    show ((b.val * 16384 + s.val) * 1024 + k.val) % 1024 = k.val
    omega)
  rw [e0, e1]
  rfl

theorem square_sum (b : Fin 1) (s : Fin 16384) : val_main_v53 (F := Ideal) x0 (ValueIdx.ix2 b s) = ∑ j : Fin 1024, X x0 (row b s) j * X x0 (row b s) j := by
  simp only [val_main_v53_apply, val_main_cst_2_apply, Ideal.ofBits_def, Ideal.ofBits_zero_f32, zero_add]
  refine Finset.sum_congr rfl fun j _ => ?_
  have e : idx_main_v53 (ValueIdx.ix2 b s) j = ValueIdx.ix3 b s j := ValueIdx.eq_ix3 _
  rw [e, val_main_v52_apply, source_apply]
  rfl

theorem norm_apply (b : Fin 1) (s : Fin 16384) (k : Fin 1024) :
    val_main_v64 (F := Ideal) x0 x1 (ValueIdx.ix3 b s k) = norm (X x0) (G x1) (row b s) k := by
  simp only [val_main_v64_apply, val_main_v61_apply, val_main_v60_apply, val_main_v59_apply, val_main_v58_apply, val_main_v57_apply, val_main_v56_apply, val_main_v55_apply, val_main_v54_apply, val_main_v63_apply, val_main_v62_apply, val_main_cst_3_apply, val_main_cst_4_apply]
  have e : idx_main_v54 (idx_main_v60 (ValueIdx.ix3 b s k)) = ValueIdx.ix2 b s := by
    obtain rfl : b = 0 := Subsingleton.elim _ _
    exact ValueIdx.eq_ix2 _
  have eg : idx_main_v62 (idx_main_v63 (ValueIdx.ix3 b s k)) = ValueIdx.ix2 0 k := ValueIdx.eq_ix2 _
  rw [e, eg, square_sum, source_apply]
  rfl

theorem hidden_apply (b : Fin 1) (s : Fin 16384) (q : Fin 5632) :
    val_main_v66 (F := Ideal) x0 x1 x2 (ValueIdx.ix3 b s q) = hidden (X x0) (G x1) (W x2) (row b s) q := by
  rw [val_main_v66_apply]
  refine Finset.sum_congr rfl fun j _ => ?_
  have el : lidx_main_v66 (ValueIdx.ix3 b s q) j = ValueIdx.ix3 b s j := ValueIdx.eq_ix3 _
  have er : ridx_main_v66 (ValueIdx.ix3 b s q) j = ValueIdx.ix2 j q := ValueIdx.eq_ix2 _
  rw [el, er, norm_apply, val_main_v65_apply]
  rfl

theorem pad_inside (b : Fin 1) (s : Fin 16384) (q : Fin 5632) (i : Fin 16386) (h : i.val = s.val + 1) :
    val_main_v67 (F := Ideal) x0 x1 x2 (ValueIdx.ix3 b i q) = hidden (X x0) (G x1) (W x2) (row b s) q := by
  refine Eq.trans ?_ (hidden_apply x0 x1 x2 b s q)
  unfold val_main_v67
  refine pad_apply_of_inside _ _ _ _ _ _ _ _ _ fun a => ?_
  match a with
  | ⟨0, _⟩ => show b.val = 0 + b.val * (0 + 1); omega
  | ⟨1, _⟩ => show i.val = 1 + s.val * (0 + 1); omega
  | ⟨2, _⟩ => show q.val = 0 + q.val * (0 + 1); omega

theorem pad_outside (b : Fin 1) (q : Fin 5632) (i : Fin 16386) (h : i.val = 0 ∨ i.val = 16385) :
    val_main_v67 (F := Ideal) x0 x1 x2 (ValueIdx.ix3 b i q) = 0 := by
  unfold val_main_v67
  refine (pad_apply_of_not_inside _ _ _ _ _ _ _ _ (1 : Fin 3) ?_).trans ?_
  · show ¬(1 ≤ i.val ∧ (i.val - 1) % (0 + 1) = 0 ∧ (i.val - 1) / (0 + 1) < 16384)
    omega
  · rw [val_main_call2_v0_apply, val_main_c_5_apply]
    show (((0#32 : BitVec 32).toInt : ℝ) : EReal) = 0
    simp

/-- The taps of the convolution. -/
theorem taps_apply (b : Fin 1) (s : Fin 16384) (q : Fin 5632) :
    val_main_v72 (F := Ideal) x3 (ValueIdx.ix3 b s q) = C x3 0 q ∧ val_main_v78 (F := Ideal) x3 (ValueIdx.ix3 b s q) = C x3 1 q
      ∧ val_main_v85 (F := Ideal) x3 (ValueIdx.ix3 b s q) = C x3 2 q ∧ val_main_v90 (F := Ideal) x4 (ValueIdx.ix3 b s q) = K x4 q := by
  have eq : (⟨q.val % 5632, Nat.mod_lt _ (by omega)⟩ : Fin 5632) = q := Fin.ext (Nat.mod_eq_of_lt q.isLt)
  refine ⟨?_, ?_, ?_, ?_⟩
  · simp only [val_main_v72_apply, val_main_v71_apply, val_main_v70_apply, val_main_v69_apply]
    exact congrArg x3 ((ValueIdx.eq_ix2 _).trans (congrArg (ValueIdx.ix2 0) eq))
  · simp only [val_main_v78_apply, val_main_v77_apply, val_main_v76_apply, val_main_v75_apply]
    exact congrArg x3 ((ValueIdx.eq_ix2 _).trans (congrArg (ValueIdx.ix2 1) eq))
  · simp only [val_main_v85_apply, val_main_v84_apply, val_main_v83_apply, val_main_v82_apply]
    exact congrArg x3 ((ValueIdx.eq_ix2 _).trans (congrArg (ValueIdx.ix2 2) eq))
  · simp only [val_main_v90_apply, val_main_v89_apply, val_main_v88_apply]
    exact congrArg x4 ((ValueIdx.eq_ix2 _).trans (congrArg (ValueIdx.ix2 0) eq))

theorem convolved_apply (b : Fin 1) (s : Fin 16384) (q : Fin 5632) :
    val_main_v91 (F := Ideal) x0 x1 x2 x3 x4 (ValueIdx.ix3 b s q) = convolved (X x0) (G x1) (W x2) (C x3) (K x4) (row b s) q := by
  obtain ⟨t0, t1, t2, tb⟩ := taps_apply x3 x4 b s q
  simp only [val_main_v91_apply, val_main_v87_apply, val_main_v86_apply, val_main_v81_apply, val_main_v80_apply, val_main_v79_apply, val_main_v74_apply, val_main_v73_apply, val_main_v68_apply, t0, t1, t2, tb]
  have e0 : idx_main_v68 (ValueIdx.ix3 b s q) = ValueIdx.ix3 b ⟨s.val, by omega⟩ q := ValueIdx.eq_ix3 _
  have e1 : idx_main_v74 (ValueIdx.ix3 b s q) = ValueIdx.ix3 b ⟨1 + s.val, by omega⟩ q := ValueIdx.eq_ix3 _
  have e2 : idx_main_v81 (ValueIdx.ix3 b s q) = ValueIdx.ix3 b ⟨2 + s.val, by omega⟩ q := ValueIdx.eq_ix3 _
  rw [e0, e1, e2, pad_inside x0 x1 x2 b s q ⟨1 + s.val, by omega⟩ (Nat.add_comm _ _)]
  have p0 : val_main_v67 (F := Ideal) x0 x1 x2 (ValueIdx.ix3 b ⟨s.val, by omega⟩ q)
      = if starts (row b s).val then 0 else hidden (X x0) (G x1) (W x2) ⟨(row b s).val - 1, by omega⟩ q := by
    by_cases hs : s.val = 0
    · rw [pad_outside x0 x1 x2 b q ⟨s.val, by omega⟩ (Or.inl hs), if_pos]
      show (16384 + b.val * 16384 + s.val) % 4096 = 0 ∧ 16384 + b.val * 16384 + s.val ≤ 16384
      omega
    · rw [pad_inside x0 x1 x2 b ⟨s.val - 1, by omega⟩ q ⟨s.val, by omega⟩ (by show s.val = s.val - 1 + 1; omega), if_neg]
      · refine congrArg (fun r => hidden (X x0) (G x1) (W x2) r q) (Fin.ext ?_)
        show 16384 + b.val * 16384 + (s.val - 1) = 16384 + b.val * 16384 + s.val - 1
        omega
      · show ¬((16384 + b.val * 16384 + s.val) % 4096 = 0 ∧ 16384 + b.val * 16384 + s.val ≤ 16384)
        omega
  have p2 : val_main_v67 (F := Ideal) x0 x1 x2 (ValueIdx.ix3 b ⟨2 + s.val, by omega⟩ q)
      = if stops (row b s).val then 0 else hidden (X x0) (G x1) (W x2) ⟨((row b s).val + 1) % 32768, by omega⟩ q := by
    by_cases hs : s.val = 16383
    · rw [pad_outside x0 x1 x2 b q ⟨2 + s.val, by omega⟩ (Or.inr (by show 2 + s.val = 16385; omega)), if_pos]
      show (16384 + b.val * 16384 + s.val) % 4096 = 4095 ∧ 16384 + b.val * 16384 + s.val < 16384 ∨ 16384 + b.val * 16384 + s.val = 32767
      omega
    · rw [pad_inside x0 x1 x2 b ⟨s.val + 1, by omega⟩ q ⟨2 + s.val, by omega⟩ (by show 2 + s.val = s.val + 1 + 1; omega), if_neg]
      · refine congrArg (fun r => hidden (X x0) (G x1) (W x2) r q) (Fin.ext ?_)
        show 16384 + b.val * 16384 + (s.val + 1) = (16384 + b.val * 16384 + s.val + 1) % 32768
        omega
      · show ¬((16384 + b.val * 16384 + s.val) % 4096 = 4095 ∧ 16384 + b.val * 16384 + s.val < 16384 ∨ 16384 + b.val * 16384 + s.val = 32767)
        omega
  rw [p0, p2]
  rfl

theorem gated_apply (b : Fin 1) (s : Fin 16384) (q : Fin 2816) :
    val_main_v95 (F := Ideal) x0 x1 x2 x3 x4 (ValueIdx.ix3 b s q)
      = gated (convolved (X x0) (G x1) (W x2) (C x3) (K x4) (row b s) ⟨q.val, by omega⟩) (convolved (X x0) (G x1) (W x2) (C x3) (K x4) (row b s) ⟨2816 + q.val, by omega⟩) := by
  rw [← convolved_apply, ← convolved_apply]
  simp only [val_main_v95_apply, val_main_v94_apply, val_main_call3_v5_apply, val_main_call3_v4_apply, val_main_call3_v3_apply, val_main_call3_v2_apply, val_main_call3_v1_apply, val_main_call3_v0_apply, val_main_call3_cst_apply, val_main_call3_cst_0_apply, val_main_v92_apply, val_main_v93_apply]
  have e0 : idx_main_v92 (ValueIdx.ix3 b s q) = ValueIdx.ix3 b s ⟨q.val, by omega⟩ := ValueIdx.eq_ix3 _
  have e1 : idx_main_v93 (ValueIdx.ix3 b s q) = ValueIdx.ix3 b s ⟨2816 + q.val, by omega⟩ := ValueIdx.eq_ix3 _
  rw [e0, e1]
  simp only [Ideal.mulf_def, Ideal.addf_def, Ideal.hostDivf_def, Ideal.hostUnary_exp_def, Ideal.hostNegf_def, Ideal.negf_def, Ideal.ofBits_def, Ideal.ofBits_one_f32]
  unfold gated
  rw [zero_sub]

theorem result_apply (b : Fin 1) (s : Fin 16384) (k : Fin 1024) :
    val_main_v98 (F := Ideal) x0 x1 x2 x3 x4 x5 (ValueIdx.ix3 b s k) = result (X x0) (G x1) (W x2) (C x3) (K x4) (D x5) (row b s) k := by
  rw [val_main_v98_apply, source_apply, val_main_v97_apply]
  refine congrArg (x0 (ValueIdx.ix2 (row b s) k) + ·) (Finset.sum_congr rfl fun q _ => ?_)
  have el : lidx_main_v97 (ValueIdx.ix3 b s k) q = ValueIdx.ix3 b s q := ValueIdx.eq_ix3 _
  have er : ridx_main_v97 (ValueIdx.ix3 b s k) q = ValueIdx.ix2 q k := ValueIdx.eq_ix2 _
  rw [el, er, gated_apply, val_main_v96_apply]
  rfl

theorem half_apply (r : Fin 16384) (k : Fin 1024) :
    val_main_v99 (F := Ideal) x0 x1 x2 x3 x4 x5 (ValueIdx.ix2 r k) = result (X x0) (G x1) (W x2) (C x3) (K x4) (D x5) ⟨16384 + r.val, by omega⟩ k := by
  rw [val_main_v99_apply]
  have e : idx_main_v99 (ValueIdx.ix2 r k) = ValueIdx.ix3 ⟨r.val / 16384, by omega⟩ ⟨r.val % 16384, Nat.mod_lt _ (by omega)⟩ k := by
    refine (ValueIdx.eq_ix3 _).trans ?_
    have e0 : idx_main_v99 (ValueIdx.ix2 r k) 0 = (⟨r.val / 16384, by omega⟩ : Fin 1) := Fin.ext (by
      show 0 = r.val / 16384
      omega)
    have e1 : idx_main_v99 (ValueIdx.ix2 r k) 1 = (⟨r.val % 16384, Nat.mod_lt _ (by omega)⟩ : Fin 16384) := Fin.ext (by
      show (r.val * 1024 + k.val) / 1024 % 16384 = r.val % 16384
      omega)
    have e2 : idx_main_v99 (ValueIdx.ix2 r k) 2 = k := Fin.ext (by
      show (r.val * 1024 + k.val) % 1024 = k.val
      omega)
    rw [e0, e1, e2]
    rfl
  rw [e, result_apply]
  refine congrArg (fun i => result (X x0) (G x1) (W x2) (C x3) (K x4) (D x5) i k) (Fin.ext ?_)
  show 16384 + r.val / 16384 * 16384 + r.val % 16384 = 16384 + r.val
  omega

end Cert.FfnRef.Sample

end
-- ==== Proof.FfnRef.lean ====
module

/-
The reference's feed-forward block, both halves joined.
-/
public import proofs.«01_k».proof.Proof.FfnPrompt
public import proofs.«01_k».proof.Proof.FfnSample

@[expose] public section

set_option maxRecDepth 16384

noncomputable section

namespace Cert.FfnRef

open Cert.FfnReferenceIdeal Cert.FfnReferenceIdeal.Gen Cert.FfnReferenceIdeal.Read Cert.FfnMath
open Idealize.ShloMosaic Idealize.ShloMosaic.TcCoe Idealize.ShloMosaic.Tactic

variable (x0 : (⟨S32768x1024, .f32⟩ : BufTy).Contents (Elt Ideal)) (x1 : (⟨S1x1024, .f32⟩ : BufTy).Contents (Elt Ideal))
  (x2 : (⟨S1024x5632, .bf16⟩ : BufTy).Contents (Elt Ideal)) (x3 : (⟨S3x5632, .f32⟩ : BufTy).Contents (Elt Ideal))
  (x4 : (⟨S1x5632, .f32⟩ : BufTy).Contents (Elt Ideal)) (x5 : (⟨S2816x1024, .bf16⟩ : BufTy).Contents (Elt Ideal))

/-- The reference's result is the plain block of its arguments. -/
theorem reference_apply (r : Fin 32768) (k : Fin 1024) :
    val_main_v100 (F := Ideal) x0 x1 x2 x3 x4 x5 (ValueIdx.ix2 r k)
      = result (fun r k => x0 (ValueIdx.ix2 r k)) (fun k => x1 (ValueIdx.ix2 0 k)) (fun j q => x2 (ValueIdx.ix2 j q)) (fun i q => x3 (ValueIdx.ix2 i q))
          (fun q => x4 (ValueIdx.ix2 0 q)) (fun q k => x5 (ValueIdx.ix2 q k)) r k := by
  unfold val_main_v100
  by_cases hr : r.val < 16384
  · refine (concatenate_pair_apply_left (t := S32768x1024) (s₁ := S16384x1024) (s₂ := S16384x1024) 0 _ _
      concatenates_S16384x1024_S16384x1024_S32768x1024_d0 (ValueIdx.ix2 r k) rfl (ValueIdx.ix2 (⟨r.val, hr⟩ : Fin 16384) k) fun a => ?_).trans ?_
    · match a with
      | ⟨0, _⟩ => rfl
      | ⟨1, _⟩ => rfl
    · exact Prompt.half_apply x0 x1 x2 x3 x4 x5 ⟨r.val, hr⟩ k
  · obtain ⟨d, hd⟩ : ∃ d : Fin 16384, d.val + 16384 = r.val := ⟨⟨r.val - 16384, by omega⟩, Nat.sub_add_cancel (Nat.le_of_not_lt hr)⟩
    refine (concatenate_pair_apply_right (t := S32768x1024) (s₁ := S16384x1024) (s₂ := S16384x1024) 0 _ _
      concatenates_S16384x1024_S16384x1024_S32768x1024_d0 (ValueIdx.ix2 r k) rfl rfl (ValueIdx.ix2 d k) (fun a => ?_) hd).trans ?_
    · match a with
      | ⟨0, _⟩ => exact fun h => absurd rfl h
      | ⟨1, _⟩ => exact fun _ => rfl
    · have e : (⟨16384 + d.val, by omega⟩ : Fin 32768) = r := Fin.ext ((Nat.add_comm _ _).trans hd)
      exact (Sample.half_apply x0 x1 x2 x3 x4 x5 d k).trans
        (congrArg (fun i => result (Sample.X x0) (Sample.G x1) (Sample.W x2) (Sample.C x3) (Sample.K x4) (Sample.D x5) i k) e)

end Cert.FfnRef

end
-- ==== Proof.FfnArray.lean ====
module

/-
The array the feed-forward block leaves is the plain block of its arguments.
-/
public import proofs.«01_k».proof.Proof.FfnEntry
public import proofs.«01_k».proof.Proof.FfnRef
public import Idealize.ShloMosaic.Lib.Pipeline.Covers

@[expose] public section

set_option maxRecDepth 16384

noncomputable section

namespace Cert.FfnIdeal.Ffn

open Cert.FfnIdeal.Gen Cert.FfnMath
open Idealize.ShloMosaic Idealize.ShloMosaic.TcCoe Idealize.ShloMosaic.Tactic Idealize.ShloMosaic.Pipeline

/-- The block each window takes at a point. -/
theorem maps : ∀ t : Fin grid0.N, cc0_transform_0 (grid0.coords t) = ![t.val, 0] ∧ cc0_transform_1 (grid0.coords t) = ![64 * t.val - 1, 0]
    ∧ cc0_transform_2 (grid0.coords t) = ![min (64 * (t.val + 1)) 4095, 0] ∧ cc0_transform_3 (grid0.coords t) = ![0, 0] ∧ cc0_transform_4 (grid0.coords t) = ![0, 0]
    ∧ cc0_transform_5 (grid0.coords t) = ![0, 0] ∧ cc0_transform_6 (grid0.coords t) = ![0, 0] ∧ cc0_transform_7 (grid0.coords t) = ![0, 0]
    ∧ cc0_transform_8 (grid0.coords t) = ![t.val, 0] ∧ ((grid0.coords t) 0).val = t.val := by decide +kernel

variable (m : (ℓ : Loc nD τ sig) → Buf (Elt Ideal) ℓ)

/-- The point's rows. -/
theorem own_rows (c : Dev nD) (t : Fin (cfgM m (ok m)).N) (r : Fin 512) (k : Fin 1024) :
    iblk m (ok m) c 0 t (ValueIdx.ix2 r k) = m ((c.tc : Thread nD τ).loc main_arg0) (ValueIdx.ix2 ⟨512 * t.val + r.val, by have h : t.val < 64 := t.isLt; omega⟩ k) := by
  have e : ((cfgM m (ok m)).win 0).index t = ![t.val, 0] := (maps t).1
  blk_simp [iblk, e]
  refine (congrFun (V_main_arg0 m c) _).trans ?_
  refine congrArg (m ((c.tc : Thread nD τ).loc main_arg0)) ((ValueIdx.eq_ix2 _).trans (ix2_congr ?_ ?_))
  · blk_simp [e]
    show t.val * 512 + r.val = 512 * t.val + r.val
    omega
  · blk_simp [e]

/-- The row before. -/
theorem prev_rows (c : Dev nD) (t : Fin (cfgM m (ok m)).N) (h : t.val ≠ 0) (k : Fin 1024) :
    iblk m (ok m) c 1 t (ValueIdx.ix2 7 k) = m ((c.tc : Thread nD τ).loc main_arg0) (ValueIdx.ix2 ⟨512 * t.val - 1, by have h : t.val < 64 := t.isLt; omega⟩ k) := by
  have e : ((cfgM m (ok m)).win 1).index t = ![64 * t.val - 1, 0] := (maps t).2.1
  blk_simp [iblk, e]
  refine (congrFun (V_main_arg0 m c) _).trans ?_
  refine congrArg (m ((c.tc : Thread nD τ).loc main_arg0)) ((ValueIdx.eq_ix2 _).trans (ix2_congr ?_ ?_))
  · blk_simp [e]
    show (64 * t.val - 1) * 8 + 7 = 512 * t.val - 1
    omega
  · blk_simp [e]

/-- The row after. -/
theorem next_rows (c : Dev nD) (t : Fin (cfgM m (ok m)).N) (h : t.val ≠ 63) (k : Fin 1024) :
    iblk m (ok m) c 2 t (ValueIdx.ix2 0 k) = m ((c.tc : Thread nD τ).loc main_arg0) (ValueIdx.ix2 ⟨(512 * t.val + 512) % 32768, by omega⟩ k) := by
  have h64 : t.val < 64 := t.isLt
  have e : ((cfgM m (ok m)).win 2).index t = ![min (64 * (t.val + 1)) 4095, 0] := (maps t).2.2.1
  blk_simp [iblk, e]
  refine (congrFun (V_main_arg0 m c) _).trans ?_
  refine congrArg (m ((c.tc : Thread nD τ).loc main_arg0)) ((ValueIdx.eq_ix2 _).trans (ix2_congr ?_ ?_))
  · blk_simp [e]
    show min (64 * (t.val + 1)) 4095 * 8 + 0 = (512 * t.val + 512) % 32768
    omega
  · blk_simp [e]

/-- The scale. -/
theorem scale_entry (c : Dev nD) (t : Fin (cfgM m (ok m)).N) (k : Fin 1024) :
    iblk m (ok m) c 3 t (ValueIdx.ix2 0 k) = m ((c.tc : Thread nD τ).loc main_arg1) (ValueIdx.ix2 0 k) := by
  have e : ((cfgM m (ok m)).win 3).index t = ![0, 0] := (maps t).2.2.2.1
  blk_simp [iblk, e]
  refine (congrFun (V_main_arg1 m c) _).trans ?_
  refine congrArg (m ((c.tc : Thread nD τ).loc main_arg1)) ((ValueIdx.eq_ix2 _).trans (ix2_congr ?_ ?_))
  · blk_simp [e]
    rfl
  · blk_simp [e]

/-- The first weights. -/
theorem upper_entry (c : Dev nD) (t : Fin (cfgM m (ok m)).N) (j : Fin 1024) (q : Fin 5632) :
    iblk m (ok m) c 4 t (ValueIdx.ix2 j q) = m ((c.tc : Thread nD τ).loc main_arg2) (ValueIdx.ix2 j q) := by
  have e : ((cfgM m (ok m)).win 4).index t = ![0, 0] := (maps t).2.2.2.2.1
  blk_simp [iblk, e]
  refine (congrFun (V_main_arg2 m c) _).trans ?_
  refine congrArg (m ((c.tc : Thread nD τ).loc main_arg2)) ((ValueIdx.eq_ix2 _).trans (ix2_congr ?_ ?_))
  · blk_simp [e]
  · blk_simp [e]

/-- The taps. -/
theorem taps_entry (c : Dev nD) (t : Fin (cfgM m (ok m)).N) (j : Fin 3) (q : Fin 5632) :
    iblk m (ok m) c 5 t (ValueIdx.ix2 j q) = m ((c.tc : Thread nD τ).loc main_arg3) (ValueIdx.ix2 j q) := by
  have e : ((cfgM m (ok m)).win 5).index t = ![0, 0] := (maps t).2.2.2.2.2.1
  blk_simp [iblk, e]
  refine (congrFun (V_main_arg3 m c) _).trans ?_
  refine congrArg (m ((c.tc : Thread nD τ).loc main_arg3)) ((ValueIdx.eq_ix2 _).trans (ix2_congr ?_ ?_))
  · blk_simp [e]
  · blk_simp [e]

/-- The bias. -/
theorem bias_entry (c : Dev nD) (t : Fin (cfgM m (ok m)).N) (q : Fin 5632) :
    iblk m (ok m) c 6 t (ValueIdx.ix2 0 q) = m ((c.tc : Thread nD τ).loc main_arg4) (ValueIdx.ix2 0 q) := by
  have e : ((cfgM m (ok m)).win 6).index t = ![0, 0] := (maps t).2.2.2.2.2.2.1
  blk_simp [iblk, e]
  refine (congrFun (V_main_arg4 m c) _).trans ?_
  refine congrArg (m ((c.tc : Thread nD τ).loc main_arg4)) ((ValueIdx.eq_ix2 _).trans (ix2_congr ?_ ?_))
  · blk_simp [e]
    rfl
  · blk_simp [e]

/-- The second weights. -/
theorem lower_entry (c : Dev nD) (t : Fin (cfgM m (ok m)).N) (j : Fin 2816) (k : Fin 1024) :
    iblk m (ok m) c 7 t (ValueIdx.ix2 j k) = m ((c.tc : Thread nD τ).loc main_arg5) (ValueIdx.ix2 j k) := by
  have e : ((cfgM m (ok m)).win 7).index t = ![0, 0] := (maps t).2.2.2.2.2.2.2.1
  blk_simp [iblk, e]
  refine (congrFun (V_main_arg5 m c) _).trans ?_
  refine congrArg (m ((c.tc : Thread nD τ).loc main_arg5)) ((ValueIdx.eq_ix2 _).trans (ix2_congr ?_ ?_))
  · blk_simp [e]
  · blk_simp [e]

/-- The entry of a table at a point. -/
abbrev at64 (t : Fin (cfgM m (ok m)).N) : S64.Idx := ValueIdx.ix1 ⟨t.val, t.isLt⟩

/-- The first table at a point. -/
theorem table0 (t : Fin (cfgM m (ok m)).N) : tbl m 0 (at64 m t) = lit0 ⟨t.val, t.isLt⟩ := by
  have h : tbl m 0 (at64 m t) = lit0 (S64.rowMajor (at64 m t)) := rfl
  refine h.trans (congrArg lit0 (Fin.ext ?_))
  exact Shape.rowMajor_val_one (at64 m t)

/-- The second table at a point. -/
theorem table1 (t : Fin (cfgM m (ok m)).N) : tbl m 1 (at64 m t) = lit1 ⟨t.val, t.isLt⟩ := by
  have h : tbl m 1 (at64 m t) = lit1 (S64.rowMajor (at64 m t)) := rfl
  refine h.trans (congrArg lit1 (Fin.ext ?_))
  exact Shape.rowMajor_val_one (at64 m t)

/-- The first table's bit. -/
theorem bit0 : ∀ t : Fin 64, (Scalar.extui (Scalar.cmpi CmpIPredicate.eq (lit0 t) 0#32)).toInt = if t.val % 8 = 0 ∧ t.val ≤ 32 then 0 else 1 := by
  decide +kernel

/-- The second table's bit. -/
theorem bit1 : ∀ t : Fin 64, (Scalar.extui (Scalar.cmpi CmpIPredicate.eq (lit1 t) 0#32)).toInt = if t.val % 8 = 7 ∧ t.val < 32 ∨ t.val = 63 then 0 else 1 := by
  decide +kernel

/-- What a point reads of the first table. -/
theorem entry0 (x : (View.whole main_c).ty.Contents (Elt Ideal)) (t : Fin (cfgM m (ok m)).N) :
    (View.whole main_c).readAt (Elt Ideal) (Rect.unit (s := S64) (k0_off1 (grid0.coords t)) S1.size (k0_off1_inb _)).toLoadRect x
      (Shape.Idx.first (Nat.lt_of_lt_of_eq Nat.zero_lt_one numel1_S1.symm)) = x (at64 m t) := by
  refine congrArg x ((ValueIdx.eq_ix1 _).trans ?_)
  refine congrArg ValueIdx.ix1 (Fin.ext ?_)
  have h : ((grid0.coords t) 0).val = t.val := (maps t).2.2.2.2.2.2.2.2.2
  have e := congrFun (k0_off1_eq (grid0.coords t)) 0
  have e' : k0_off1 (grid0.coords t) 0 = t.val := e.trans h
  show k0_off1 (grid0.coords t) 0 + 0 * 1 = t.val
  omega

/-- What a point reads of the second table. -/
theorem entry1 (x : (View.whole main_c_0).ty.Contents (Elt Ideal)) (t : Fin (cfgM m (ok m)).N) :
    (View.whole main_c_0).readAt (Elt Ideal) (Rect.unit (s := S64) (k0_off1 (grid0.coords t)) S1.size (k0_off1_inb _)).toLoadRect x
      (Shape.Idx.first (Nat.lt_of_lt_of_eq Nat.zero_lt_one numel1_S1.symm)) = x (at64 m t) := entry0 m x t

/-- The factor on the row before. -/
theorem before_eq (t : Fin (cfgM m (ok m)).N) : before m (tbl m 0) t = if t.val % 8 = 0 ∧ t.val ≤ 32 then 0 else 1 := by
  unfold before k0_pay6
  pointwise
  have h := bit0 ⟨t.val, t.isLt⟩
  rw [← table0 m t, ← entry0 m (tbl m 0) t] at h
  refine (congrArg (fun z : ℤ => ((z : ℝ) : EReal)) h).trans ?_
  show (((if t.val % 8 = 0 ∧ t.val ≤ 32 then 0 else 1 : ℤ) : ℝ) : EReal) = _
  split_ifs <;> simp

/-- The factor on the row after. -/
theorem after_eq (t : Fin (cfgM m (ok m)).N) : after m (tbl m 1) t = if t.val % 8 = 7 ∧ t.val < 32 ∨ t.val = 63 then 0 else 1 := by
  unfold after k0_pay7
  pointwise
  have h := bit1 ⟨t.val, t.isLt⟩
  rw [← table1 m t, ← entry1 m (tbl m 1) t] at h
  refine (congrArg (fun z : ℤ => ((z : ℝ) : EReal)) h).trans ?_
  show (((if t.val % 8 = 7 ∧ t.val < 32 ∨ t.val = 63 then 0 else 1 : ℤ) : ℝ) : EReal) = _
  split_ifs <;> simp

/-- What a point leaves, entry by entry. -/
theorem out_apply (c : Dev nD) (t : Fin (cfgM m (ok m)).N) (r : Fin 512) (k : Fin 1024) :
    outsAt0 m (ok m) c t (ValueIdx.ix2 r k)
      = Cert.FfnReferenceIdeal.Read.val_main_v100 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (ValueIdx.ix2 ⟨512 * t.val + r.val, by have h : t.val < 64 := t.isLt; omega⟩ k) := by
  rw [out_eq]
  exact (entry_eq (fun r k => m ((c.tc : Thread nD τ).loc main_arg0) (ValueIdx.ix2 r k)) (fun k => m ((c.tc : Thread nD τ).loc main_arg1) (ValueIdx.ix2 0 k))
    (fun j q => m ((c.tc : Thread nD τ).loc main_arg2) (ValueIdx.ix2 j q)) (fun i q => m ((c.tc : Thread nD τ).loc main_arg3) (ValueIdx.ix2 i q))
    (fun q => m ((c.tc : Thread nD τ).loc main_arg4) (ValueIdx.ix2 0 q)) (fun q k => m ((c.tc : Thread nD τ).loc main_arg5) (ValueIdx.ix2 q k)) ⟨t.val, t.isLt⟩
    (iblk m (ok m) c 0 t) (iblk m (ok m) c 1 t) (iblk m (ok m) c 2 t) (iblk m (ok m) c 3 t) (iblk m (ok m) c 4 t) (iblk m (ok m) c 5 t) (iblk m (ok m) c 6 t) (iblk m (ok m) c 7 t)
    _ _ (before_eq m t) (after_eq m t) (own_rows m c t) (prev_rows m c t) (next_rows m c t) (scale_entry m c t) (upper_entry m c t) (taps_entry m c t) (bias_entry m c t)
    (lower_entry m c t) r k).trans (Cert.FfnRef.reference_apply _ _ _ _ _ _ _ _).symm

/-- Where an entry of a point's block lies in the array. -/
theorem place (t : Fin (cfgM m (ok m)).N) (r : Fin 512) (k : Fin 1024) :
    (((cfgM m (ok m)).win 8).blk t).view.emb (ValueIdx.ix2 r k) = ValueIdx.ix2 ⟨512 * t.val + r.val, by have h : t.val < 64 := t.isLt; omega⟩ k := by
  have e : ((cfgM m (ok m)).win 8).index t = ![t.val, 0] := (maps t).2.2.2.2.2.2.2.2.1
  refine (ValueIdx.eq_ix2 _).trans (ix2_congr ?_ ?_)
  · blk_simp [e]
    show t.val * 512 + r.val = 512 * t.val + r.val
    omega
  · blk_simp [e]

/-- How many blocks the array has along each axis. -/
theorem blocks (m : (ℓ : Loc nD τ sig) → Buf (Elt Ideal) ℓ) : ((cfgM m (ok m)).win 8).nblk (0 : Fin 2) = 64 ∧ ((cfgM m (ok m)).win 8).nblk (1 : Fin 2) = 1 := by
  have s0 : ((cfgM m (ok m)).win 8).shape.size (0 : Fin 2) = 32768 := rfl
  have s1 : ((cfgM m (ok m)).win 8).shape.size (1 : Fin 2) = 1024 := rfl
  have b0 : ((cfgM m (ok m)).win 8).size (0 : Fin 2) = 512 := rfl
  have b1 : ((cfgM m (ok m)).win 8).size (1 : Fin 2) = 1024 := rfl
  unfold Window.nblk
  rw [s0, s1, b0, b1]
  decide

/-- The points' blocks cover the array. -/
theorem covers (m : (ℓ : Loc nD τ sig) → Buf (Elt Ideal) ℓ) : ((cfgM m (ok m)).win 8).Covers := by
  refine ((cfgM m (ok m)).win 8).covers_of_index_surj rfl ?_ fun β => ?_
  · exact (by decide : ∀ a, 0 < S512x1024.size a)
  · have h0 : (β (0 : Fin 2)).val < 64 := lt_of_lt_of_eq (β (0 : Fin 2)).isLt (blocks m).1
    have h1 : (β (1 : Fin 2)).val < 1 := lt_of_lt_of_eq (β (1 : Fin 2)).isLt (blocks m).2
    refine ⟨⟨(β (0 : Fin 2)).val, h0⟩, fun a => ?_⟩
    refine (congrFun (maps (⟨(β (0 : Fin 2)).val, h0⟩ : Fin 64)).2.2.2.2.2.2.2.2.1 a).trans ?_
    match a with
    | ⟨0, _⟩ => rfl
    | ⟨1, _⟩ => show 0 = (β (1 : Fin 2)).val; omega

/-- The array after the run is the plain block of the arguments. -/
theorem array_eq (c : Dev nD) :
    (dats m (ok m) 0 c).arrAt 8 (cfgM m (ok m)).N
      = Cert.FfnReferenceIdeal.Read.val_main_v100 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (dats m (ok m) 0 c).arrAt_eq_of_covers 8 _ (covers m) fun t hf y => ?_
  blk_simp
  rw [after0_8]
  refine (congrArg (outsAt0 m (ok m) c t) (ValueIdx.eq_ix2 (y : S512x1024.Idx))).trans ?_
  refine (out_apply m c t _ _).trans (congrArg _ ?_)
  exact (place m t _ _).symm.trans (congrArg _ (ValueIdx.eq_ix2 (y : S512x1024.Idx)).symm)

end Cert.FfnIdeal.Ffn

end
-- ==== Proof.FfnClaim.lean ====
module

/-
The value claim of the feed-forward block: the launch ends with the plain block's array, and so does the reference.
-/
public import proofs.«01_k».proof.Defs
public import proofs.«01_k».proof.Proof.FfnArray
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import Idealize.ShloMosaic.Lib.Quiescent

@[expose] public section

set_option maxRecDepth 16384

noncomputable section

namespace Cert.FfnClaim

open Idealize.ShloMosaic Idealize.ShloMosaic.TcCoe Idealize.SL.Sem

/-- Every run of the kernel leaves the plain block of its arguments in the result, the arguments as they were. -/
theorem kernel_run (m : (ℓ : Loc FfnIdeal.nD FfnIdeal.τ FfnIdeal.sig) → Buf (Elt Ideal) ℓ) (ρ : Dev FfnIdeal.nD → PrngReg) :
    θ_run FfnIdeal.defs (onTc (τ := FfnIdeal.τ) (FfnIdeal.main (F := Ideal))) ⟨m, fun _ => 0, ρ⟩ (fun r => ∀ c : Dev FfnIdeal.nD,
      r.2.mem ((c.tc : Thread FfnIdeal.nD FfnIdeal.τ).loc FfnIdeal.main_v0)
        = FfnReferenceIdeal.Read.val_main_v100 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg4)) (m ((c.tc : Thread FfnIdeal.nD FfnIdeal.τ).loc FfnIdeal.main_arg5))
      ∧ r.2.mem ((c.tc : Thread FfnIdeal.nD FfnIdeal.τ).loc FfnIdeal.main_arg0) = m ((c.tc : Thread FfnIdeal.nD FfnIdeal.τ).loc FfnIdeal.main_arg0)
      ∧ r.2.mem ((c.tc : Thread FfnIdeal.nD FfnIdeal.τ).loc FfnIdeal.main_arg1) = m ((c.tc : Thread FfnIdeal.nD FfnIdeal.τ).loc FfnIdeal.main_arg1)
      ∧ r.2.mem ((c.tc : Thread FfnIdeal.nD FfnIdeal.τ).loc FfnIdeal.main_arg2) = m ((c.tc : Thread FfnIdeal.nD FfnIdeal.τ).loc FfnIdeal.main_arg2)
      ∧ r.2.mem ((c.tc : Thread FfnIdeal.nD FfnIdeal.τ).loc FfnIdeal.main_arg3) = m ((c.tc : Thread FfnIdeal.nD FfnIdeal.τ).loc FfnIdeal.main_arg3)
      ∧ r.2.mem ((c.tc : Thread FfnIdeal.nD FfnIdeal.τ).loc FfnIdeal.main_arg4) = m ((c.tc : Thread FfnIdeal.nD FfnIdeal.τ).loc FfnIdeal.main_arg4)
      ∧ r.2.mem ((c.tc : Thread FfnIdeal.nD FfnIdeal.τ).loc FfnIdeal.main_arg5) = m ((c.tc : Thread FfnIdeal.nD FfnIdeal.τ).loc FfnIdeal.main_arg5)) := by
  refine (θ_run _ _ _).mono (fun r hr c => ?_) (θ_run_and (FfnIdeal.Gen.run_main m ρ (FfnIdeal.Ffn.ok m)) (FfnIdeal.Gen.frame m ρ (FfnIdeal.Ffn.ok m)))
  exact ⟨(Pipeline.FramePost.out_eq hr.1 c 8).trans (FfnIdeal.Ffn.array_eq m c), hr.2.1 c⟩

/-- The kernel and the reference leave one and the same array. -/
theorem algebraic : Cert.algebraic_FfnIdeal_FfnReferenceIdeal (hFfnIdeal := Cert.FfnIdeal.Gen.facts)
    (hFfnReferenceIdeal := Cert.FfnReferenceIdeal.Gen.facts) := by
  intro m ρ m' ρ' hpre hagree
  refine ⟨_, kernel_run m ρ, ?_⟩
  refine (θ_run _ _ _).mono (fun _ h c => ⟨(h c).1.trans ?_, (h c).2⟩) (FfnReferenceIdeal.Value.run m' ρ')
  rw [← (hagree c).1, ← (hagree c).2.1, ← (hagree c).2.2.1, ← (hagree c).2.2.2.1, ← (hagree c).2.2.2.2.1, ← (hagree c).2.2.2.2.2]
  exact FfnReferenceIdeal.Read.val_main_v100_eq _ _

/-- The reference ends, its arguments as they were and its counters at zero. -/
theorem reference_frame (m : (ℓ : Loc FfnReferenceIdeal.nD FfnReferenceIdeal.τ FfnReferenceIdeal.sig) → Buf (Elt Ideal) ℓ) (ρ : Dev FfnReferenceIdeal.nD → PrngReg) :
    θ_run (FfnReferenceIdeal.defs (F := Ideal)) (onTc (τ := FfnReferenceIdeal.τ) (FfnReferenceIdeal.main (F := Ideal))) ⟨m, fun _ => 0, ρ⟩ (fun r => (∀ c : Dev FfnReferenceIdeal.nD,
      r.2.mem ((c.tc : Thread FfnReferenceIdeal.nD FfnReferenceIdeal.τ).loc FfnReferenceIdeal.main_arg0) = m ((c.tc : Thread FfnReferenceIdeal.nD FfnReferenceIdeal.τ).loc FfnReferenceIdeal.main_arg0)
      ∧ r.2.mem ((c.tc : Thread FfnReferenceIdeal.nD FfnReferenceIdeal.τ).loc FfnReferenceIdeal.main_arg1) = m ((c.tc : Thread FfnReferenceIdeal.nD FfnReferenceIdeal.τ).loc FfnReferenceIdeal.main_arg1)
      ∧ r.2.mem ((c.tc : Thread FfnReferenceIdeal.nD FfnReferenceIdeal.τ).loc FfnReferenceIdeal.main_arg2) = m ((c.tc : Thread FfnReferenceIdeal.nD FfnReferenceIdeal.τ).loc FfnReferenceIdeal.main_arg2)
      ∧ r.2.mem ((c.tc : Thread FfnReferenceIdeal.nD FfnReferenceIdeal.τ).loc FfnReferenceIdeal.main_arg3) = m ((c.tc : Thread FfnReferenceIdeal.nD FfnReferenceIdeal.τ).loc FfnReferenceIdeal.main_arg3)
      ∧ r.2.mem ((c.tc : Thread FfnReferenceIdeal.nD FfnReferenceIdeal.τ).loc FfnReferenceIdeal.main_arg4) = m ((c.tc : Thread FfnReferenceIdeal.nD FfnReferenceIdeal.τ).loc FfnReferenceIdeal.main_arg4)
      ∧ r.2.mem ((c.tc : Thread FfnReferenceIdeal.nD FfnReferenceIdeal.τ).loc FfnReferenceIdeal.main_arg5) = m ((c.tc : Thread FfnReferenceIdeal.nD FfnReferenceIdeal.τ).loc FfnReferenceIdeal.main_arg5))
      ∧ r.2.sem = fun _ => 0) :=
  (θ_run _ _ _).mono (fun r h => ⟨fun c => (h c).2, sem_eq_zero_of_no_sems (by decide) r.2⟩) (FfnReferenceIdeal.Value.run m ρ)

end Cert.FfnClaim

end
-- ==== Proof.MergeMath.lean ====
module

/-
The mixing of the three branches as plain arithmetic: a softmax average of three attentions, a normalized and gated sum of two
scans, and the three gates over the products.
-/
public import proofs.«01_k».proof.Proof.FlashMath
public import proofs.«01_k».proof.Proof.FfnMath

@[expose] public section

noncomputable section

namespace Cert.MergeMath

open Idealize.ShloMosaic

/-- A gate. -/
def gate (z : EReal) : EReal := Ideal.div 1 (1 + Ideal.exp (0 - z))

/-- The average of three numbers, weighted by exponentials shifted by their maximum. -/
def pooled (l o : Fin 3 → EReal) : EReal :=
  Ideal.div (Ideal.exp (l 0 - max (max (l 0) (l 1)) (l 2)) * o 0 + Ideal.exp (l 1 - max (max (l 0) (l 1)) (l 2)) * o 1
      + Ideal.exp (l 2 - max (max (l 0) (l 1)) (l 2)) * o 2)
    (Ideal.exp (l 0 - max (max (l 0) (l 1)) (l 2)) + Ideal.exp (l 1 - max (max (l 0) (l 1)) (l 2))
      + Ideal.exp (l 2 - max (max (l 0) (l 1)) (l 2)))

/-- The quotient of the weighted sum is the average with normalised weights, and the shift may be any real number. -/
theorem average (o : Fin 3 → EReal) (l : Fin 3 → ℝ) (m M : ℝ) :
    Ideal.div (∑ k, Ideal.exp ((l k : EReal) - (m : EReal)) * o k) (∑ k, Ideal.exp ((l k : EReal) - (m : EReal)))
      = ∑ k, Ideal.div (Ideal.exp ((l k : EReal) - (M : EReal))) (0 + ∑ k, Ideal.exp ((l k : EReal) - (M : EReal))) * o k := by
  have e : ∀ (c : ℝ) k, Ideal.exp ((l k : EReal) - (c : EReal)) = ((Real.exp (l k - c) : ℝ) : EReal) := fun c k => by
    rw [← EReal.coe_sub, Ideal.exp_coe]
  simp only [e]
  rw [Finset.sum_congr rfl fun k _ => mul_comm ((Real.exp (l k - m) : ℝ) : EReal) (o k)]
  rw [FlashMath.div_sum o (fun k => Real.exp (l k - m)) fun k => Real.exp_pos _]
  refine Finset.sum_congr rfl fun k _ => ?_
  rw [FlashMath.div_weight (fun k => Real.exp (l k - M)) (fun k => Real.exp_pos _) k, mul_comm]
  rw [FlashMath.ratio (fun k => Real.exp (l k - M)) (fun k => Real.exp (l k - m)) (Real.exp (M - m)) (Real.exp_pos _) _ k]
  intro k
  show Real.exp (l k - m) = _
  rw [← Real.exp_add]
  congr 1; ring

/-- The average of real logarithms' weights, in the normalised form. -/
theorem pooled_eq (l o : Fin 3 → EReal) (M : EReal) (hl : ∀ k, ∃ r : ℝ, l k = r) (hM : ∃ r : ℝ, M = r) :
    pooled l o = ∑ k, Ideal.div (Ideal.exp (l k - M)) (0 + ∑ k, Ideal.exp (l k - M)) * o k := by
  choose z hz using hl
  obtain ⟨M', rfl⟩ := hM
  have hm : max (max (l 0) (l 1)) (l 2) = ((max (max (z 0) (z 1)) (z 2) : ℝ) : EReal) := by
    rw [hz 0, hz 1, hz 2]
    rw [EReal.coe_strictMono.monotone.map_max, EReal.coe_strictMono.monotone.map_max]
  unfold pooled
  rw [hm]
  have h := average o z (max (max (z 0) (z 1)) (z 2)) M'
  simp only [hz]
  rw [← h, Fin.sum_univ_three, Fin.sum_univ_three]

/-- One entry of the mixed rows: the row plus the product of the gated sum of the three branches. -/
def result (x : EReal) (a : Fin 1024 → EReal) (b : Fin 256 → EReal) (c g : Fin 1024 → EReal) (z : Fin 1024 → EReal) (t : Fin 3072 → EReal)
    (wa : Fin 1024 → Fin 1024 → EReal) (wb : Fin 256 → Fin 1024 → EReal) (wc wm : Fin 1024 → Fin 1024 → EReal) (k : Fin 1024) : EReal :=
  x + ∑ j : Fin 1024, (gate (t ⟨j.val, by omega⟩) * (∑ i : Fin 1024, a i * wa i j) + gate (t ⟨1024 + j.val, by omega⟩) * (∑ i : Fin 256, b i * wb i j)
    + gate (t ⟨2048 + j.val, by omega⟩) * (∑ i : Fin 1024, FfnMath.norm (fun _ : Fin 1 => c) g 0 i * (z i * gate (z i)) * wc i j)) * wm j k

/-- Rows of two halves. -/
def halves (u v : Fin 16384 → Fin 1024 → EReal) (r : Fin 32768) (j : Fin 1024) : EReal :=
  if h : r.val < 16384 then u ⟨r.val, h⟩ j else v ⟨r.val - 16384, by omega⟩ j

end Cert.MergeMath

end
-- ==== Proof.MergeBlock.lean ====
module

/-
What one grid point of the mixing computes, entry by entry.
-/
public import proofs.«01_k».proof.Proof.Gen.MergeIdeal.Value
public import proofs.«01_k».proof.Proof.MergeMath
public import Idealize.ShloMosaic.Lib.Pipeline.ValueKit
public import Idealize.ShloMosaic.Lib.Pipeline.ReadBack

@[expose] public section

set_option maxRecDepth 16384

noncomputable section

namespace Cert.MergeIdeal.Merge

open Cert.MergeIdeal.Gen Cert.MergeMath
open Idealize.ShloMosaic Idealize.ShloMosaic.TcCoe Idealize.ShloMosaic.Tactic Idealize.ShloMosaic.Pipeline

/-- The average of the three attentions. -/
theorem pooled_apply (l0 l1 l2 : Vec Ideal S512x256 .f32) (o0 o1 o2 : Vec Ideal S512x256 .bf16) (r : Fin 512) (i : Fin 256) :
    k0_pay3 l0 l1 l2 o0 o1 o2 (ValueIdx.ix2 r i)
      = pooled ![l0 (ValueIdx.ix2 r i), l1 (ValueIdx.ix2 r i), l2 (ValueIdx.ix2 r i)] ![o0 (ValueIdx.ix2 r i), o1 (ValueIdx.ix2 r i), o2 (ValueIdx.ix2 r i)] := by
  unfold k0_pay3
  pointwise
  rfl

/-- The product of the first branch. -/
theorem first_apply (a : Vec Ideal S512x1024 .bf16) (w : Vec Ideal S1024x1024 .bf16) (r : Fin 512) (j : Fin 1024) :
    k0_pay6 a w (ValueIdx.ix2 r j) = ∑ i : Fin 1024, a (ValueIdx.ix2 r i) * w (ValueIdx.ix2 i j) := by
  unfold k0_pay6
  pointwise
  rfl

/-- The product of the second branch. -/
theorem second_apply (b : FVec Ideal S512x256 .f32) (w : Vec Ideal S256x1024 .bf16) (r : Fin 512) (j : Fin 1024) :
    k0_pay7 b w (ValueIdx.ix2 r j) = ∑ i : Fin 256, b (ValueIdx.ix2 r i) * w (ValueIdx.ix2 i j) := by
  unfold k0_pay7
  pointwise
  rfl

/-- The sum of the two scans. -/
theorem scans_apply (f b : Vec Ideal S512x1024 .bf16) (r : Fin 512) (i : Fin 1024) :
    k0_pay4 f b (ValueIdx.ix2 r i) = f (ValueIdx.ix2 r i) + b (ValueIdx.ix2 r i) := by
  unfold k0_pay4
  pointwise

/-- The gating columns. -/
theorem cols_apply (z : Vec Ideal S512x1024 .bf16) (r : Fin 512) (i : Fin 1024) : k0_pay5 z (ValueIdx.ix2 r i) = z (ValueIdx.ix2 r i) := by
  unfold k0_pay5
  pointwise

/-- The product of the third branch. -/
theorem third_apply (c z : FVec Ideal S512x1024 .f32) (g : Vec Ideal S1x1024 .f32) (w : Vec Ideal S1024x1024 .bf16) (r : Fin 512) (j : Fin 1024) :
    k0_pay8 c z g w (ValueIdx.ix2 r j)
      = ∑ i : Fin 1024, FfnMath.norm (fun (_ : Fin 1) i => c (ValueIdx.ix2 r i)) (fun i => g (ValueIdx.ix2 0 i)) 0 i
          * (z (ValueIdx.ix2 r i) * gate (z (ValueIdx.ix2 r i))) * w (ValueIdx.ix2 i j) := by
  unfold k0_pay8
  pointwise
  rfl

/-- The denominators of the gates. -/
theorem gates_apply (t : Vec Ideal S512x3072 .bf16) (r : Fin 512) (q : Fin 3072) :
    k0_pay9 t (ValueIdx.ix2 r q) = 1 + Ideal.exp (0 - t (ValueIdx.ix2 r q)) := by
  unfold k0_pay9
  pointwise

/-- The gated sum through the last weights. -/
theorem mixed_apply (a b c : FVec Ideal S512x1024 .f32) (d : FVec Ideal S512x3072 .f32) (x : Vec Ideal S512x1024 .f32) (w : Vec Ideal S1024x1024 .bf16)
    (r : Fin 512) (k : Fin 1024) :
    k0_pay1 a b c d k0_pay10 x w (ValueIdx.ix2 r k)
      = x (ValueIdx.ix2 r k) + ∑ j : Fin 1024, (Ideal.div 1 (d (ValueIdx.ix2 r ⟨j.val, by omega⟩)) * a (ValueIdx.ix2 r j)
          + Ideal.div 1 (d (ValueIdx.ix2 r ⟨1024 + j.val, by omega⟩)) * b (ValueIdx.ix2 r j)
          + Ideal.div 1 (d (ValueIdx.ix2 r ⟨2048 + j.val, by omega⟩)) * c (ValueIdx.ix2 r j)) * w (ValueIdx.ix2 j k) := by
  unfold k0_pay1 k0_pay10
  pointwise
  rfl

/-- The first branch's rows: the first half's before row block 32, the second half's from it on. -/
theorem pick_apply (i : grid0.Coords) (u v : Vec Ideal S512x1024 .bf16) : k0_pay2 i u v = if (i 0).val < 32 then u else v := by
  have h : ∀ n : Fin 64, IntOp.cmpi CmpIPredicate.sge (BitVec.ofNat 32 n.val) 32#32 = if n.val < 32 then 0#1 else 1#1 := by decide +kernel
  unfold k0_pay2
  refine Eq.trans (congrArg (fun e => Scalar.select e v u) (h (i 0))) ?_
  by_cases hi : (i 0).val < 32
  · rw [if_pos hi, if_pos hi]
    rfl
  · rw [if_neg hi, if_neg hi]
    rfl

variable (i : grid0.Coords) (x0 : Vec Ideal S512x1024 .f32) (x1 x2 : Vec Ideal S512x1024 .bf16) (x3 x4 x5 : Vec Ideal S512x256 .bf16)
  (x6 x7 x8 : Vec Ideal S512x256 .f32) (x9 x10 x11 : Vec Ideal S512x1024 .bf16) (x12 : Vec Ideal S512x3072 .bf16) (x13 : Vec Ideal S1x1024 .f32)
  (x14 : Vec Ideal S1024x1024 .bf16) (x15 : Vec Ideal S256x1024 .bf16) (x16 x17 : Vec Ideal S1024x1024 .bf16)

/-- What the point writes. -/
theorem out_eq : out0_18 i x0 x1 x2 x3 x4 x5 x6 x7 x8 x9 x10 x11 x12 x13 x14 x15 x16 x17
    = k0_pay1 (k0_pay6 (k0_pay2 i x1 x2) x14) (k0_pay7 (k0_pay3 x6 x7 x8 x3 x4 x5) x15) (k0_pay8 (k0_pay4 x9 x10) (k0_pay5 x11) x13 x16) (k0_pay9 x12) k0_pay10 x0 x17 := by
  unfold out0_18
  frame_out

/-- An entry of what the point writes. -/
theorem entry (r : Fin 512) (k : Fin 1024) :
    out0_18 i x0 x1 x2 x3 x4 x5 x6 x7 x8 x9 x10 x11 x12 x13 x14 x15 x16 x17 (ValueIdx.ix2 r k)
      = result (x0 (ValueIdx.ix2 r k)) (fun j => (if (i 0).val < 32 then x1 else x2) (ValueIdx.ix2 r j))
          (fun j => pooled ![x6 (ValueIdx.ix2 r j), x7 (ValueIdx.ix2 r j), x8 (ValueIdx.ix2 r j)] ![x3 (ValueIdx.ix2 r j), x4 (ValueIdx.ix2 r j), x5 (ValueIdx.ix2 r j)])
          (fun j => x9 (ValueIdx.ix2 r j) + x10 (ValueIdx.ix2 r j)) (fun j => x13 (ValueIdx.ix2 0 j)) (fun j => x11 (ValueIdx.ix2 r j)) (fun q => x12 (ValueIdx.ix2 r q))
          (fun p q => x14 (ValueIdx.ix2 p q)) (fun p q => x15 (ValueIdx.ix2 p q)) (fun p q => x16 (ValueIdx.ix2 p q)) (fun p q => x17 (ValueIdx.ix2 p q)) k := by
  rw [out_eq, mixed_apply]
  simp only [first_apply, second_apply, third_apply, gates_apply, pooled_apply, scans_apply, cols_apply, pick_apply]
  rfl

end Cert.MergeIdeal.Merge

end
-- ==== Proof.MergeRef.lean ====
module

/-
The reference's mixing of the three branches, read entry by entry.
-/
public import proofs.«01_k».proof.Proof.Gen.MergeReferenceIdeal.Read
public import proofs.«01_k».proof.Proof.MergeMath
public import Idealize.ShloMosaic.Lib.KernelVsHost

@[expose] public section

set_option maxRecDepth 16384

noncomputable section

namespace Cert.MergeRef

open Cert.MergeReferenceIdeal Cert.MergeReferenceIdeal.Gen Cert.MergeReferenceIdeal.Read Cert.MergeMath
open Idealize.ShloMosaic Idealize.ShloMosaic.TcCoe Idealize.ShloMosaic.Tactic

variable (x0 : (⟨S32768x1024, .f32⟩ : BufTy).Contents (Elt Ideal)) (x1 x2 : (⟨S16384x1024, .bf16⟩ : BufTy).Contents (Elt Ideal))
  (x3 x4 x5 : (⟨S32768x256, .bf16⟩ : BufTy).Contents (Elt Ideal)) (x6 x7 x8 : (⟨S32768x256, .f32⟩ : BufTy).Contents (Elt Ideal))
  (x9 x10 : (⟨S32768x1024, .bf16⟩ : BufTy).Contents (Elt Ideal)) (x11 : (⟨S32768x12288, .bf16⟩ : BufTy).Contents (Elt Ideal))
  (x12 : (⟨S1x1024, .f32⟩ : BufTy).Contents (Elt Ideal)) (x13 : (⟨S1024x1024, .bf16⟩ : BufTy).Contents (Elt Ideal))
  (x14 : (⟨S256x1024, .bf16⟩ : BufTy).Contents (Elt Ideal)) (x15 x16 : (⟨S1024x1024, .bf16⟩ : BufTy).Contents (Elt Ideal))

/-- The joined halves of the first branch. -/
theorem halves_apply (r : Fin 32768) (j : Fin 1024) :
    val_main_v0 (F := Ideal) x1 x2 (ValueIdx.ix2 r j) = halves (fun d j => x1 (ValueIdx.ix2 d j)) (fun d j => x2 (ValueIdx.ix2 d j)) r j := by
  unfold val_main_v0 halves
  by_cases hr : r.val < 16384
  · rw [dif_pos hr]
    refine concatenate_pair_apply_left (t := S32768x1024) (s₁ := S16384x1024) (s₂ := S16384x1024) 0 _ _
      concatenates_S16384x1024_S16384x1024_S32768x1024_d0 (ValueIdx.ix2 r j) rfl (ValueIdx.ix2 (⟨r.val, hr⟩ : Fin 16384) j) fun a => ?_
    match a with
    | ⟨0, _⟩ => rfl
    | ⟨1, _⟩ => rfl
  · rw [dif_neg hr]
    obtain ⟨d, hd⟩ : ∃ d : Fin 16384, d.val + 16384 = r.val := ⟨⟨r.val - 16384, by omega⟩, Nat.sub_add_cancel (Nat.le_of_not_lt hr)⟩
    have e : (⟨r.val - 16384, by omega⟩ : Fin 16384) = d := Fin.ext (show r.val - 16384 = d.val by omega)
    rw [e]
    refine concatenate_pair_apply_right (t := S32768x1024) (s₁ := S16384x1024) (s₂ := S16384x1024) 0 _ _
      concatenates_S16384x1024_S16384x1024_S32768x1024_d0 (ValueIdx.ix2 r j) rfl rfl (ValueIdx.ix2 d j) (fun a => ?_) hd
    match a with
    | ⟨0, _⟩ => exact fun h => absurd rfl h
    | ⟨1, _⟩ => exact fun _ => rfl

/-- The first branch. -/
theorem first_apply (r : Fin 32768) (j : Fin 1024) :
    val_main_v3 (F := Ideal) x1 x2 x13 (ValueIdx.ix2 r j)
      = ∑ i : Fin 1024, halves (fun d j => x1 (ValueIdx.ix2 d j)) (fun d j => x2 (ValueIdx.ix2 d j)) r i * x13 (ValueIdx.ix2 i j) := by
  rw [val_main_v3_apply]
  refine Finset.sum_congr rfl fun i _ => ?_
  have el : lidx_main_v3 (ValueIdx.ix2 r j) i = ValueIdx.ix2 r i := ValueIdx.eq_ix2 _
  have er : ridx_main_v3 (ValueIdx.ix2 r j) i = ValueIdx.ix2 i j := ValueIdx.eq_ix2 _
  rw [el, er, val_main_v1_apply, val_main_v2_apply, halves_apply]
  rfl

/-- Three arrays stacked, read at an entry. -/
theorem stack_apply {α : Type} (u v w : S1x32768x256.Idx → α) (s : Fin 3) (r : Fin 32768) (i : Fin 256) :
    concatenate S3x32768x256 0 [⟨S1x32768x256, u⟩, ⟨S1x32768x256, v⟩, ⟨S1x32768x256, w⟩] concatenates_S1x32768x256_S1x32768x256_S1x32768x256_S3x32768x256_d0 (ValueIdx.ix3 s r i)
      = (![u, v, w] s) (ValueIdx.ix3 0 r i) := by
  have off : ∀ (s : Fin 3) (b : Fin S1x32768x256.rank), b.cast (rfl : S1x32768x256.rank = S3x32768x256.rank) ≠ 0 →
      ((ValueIdx.ix3 (0 : Fin 1) r i : S1x32768x256.Idx) b).val = ((ValueIdx.ix3 s r i : S3x32768x256.Idx) (b.cast rfl)).val := fun s b => by
    match b with
    | ⟨0, _⟩ => exact fun h => absurd rfl h
    | ⟨1, _⟩ => exact fun _ => rfl
    | ⟨2, _⟩ => exact fun _ => rfl
  match s with
  | ⟨0, _⟩ => exact concatenate_apply_piece (t := S3x32768x256) 0 _ _ _ 0 (by simp) S1x32768x256 u rfl rfl 0 rfl (ValueIdx.ix3 0 r i) (off 0) rfl
  | ⟨1, _⟩ => exact concatenate_apply_piece (t := S3x32768x256) 0 _ _ _ 1 (by simp) S1x32768x256 v rfl rfl 1 rfl (ValueIdx.ix3 0 r i) (off 1) rfl
  | ⟨2, _⟩ => exact concatenate_apply_piece (t := S3x32768x256) 0 _ _ _ 2 (by simp) S1x32768x256 w rfl rfl 2 rfl (ValueIdx.ix3 0 r i) (off 2) rfl

/-- The stacked logarithms. -/
theorem logs_apply (s : Fin 3) (r : Fin 32768) (i : Fin 256) :
    val_main_v7 (F := Ideal) x6 x7 x8 (ValueIdx.ix3 s r i) = (![x6 (ValueIdx.ix2 r i), x7 (ValueIdx.ix2 r i), x8 (ValueIdx.ix2 r i)] : Fin 3 → EReal) s := by
  unfold val_main_v7
  refine (stack_apply _ _ _ s r i).trans ?_
  match s with
  | ⟨0, _⟩ => exact (val_main_v4_apply _ _).trans (congrArg x6 (ValueIdx.eq_ix2 _))
  | ⟨1, _⟩ => exact (val_main_v5_apply _ _).trans (congrArg x7 (ValueIdx.eq_ix2 _))
  | ⟨2, _⟩ => exact (val_main_v6_apply _ _).trans (congrArg x8 (ValueIdx.eq_ix2 _))

/-- The stacked attentions. -/
theorem values_apply (s : Fin 3) (r : Fin 32768) (i : Fin 256) :
    val_main_v22 (F := Ideal) x3 x4 x5 (ValueIdx.ix3 s r i) = (![x3 (ValueIdx.ix2 r i), x4 (ValueIdx.ix2 r i), x5 (ValueIdx.ix2 r i)] : Fin 3 → EReal) s := by
  unfold val_main_v22
  refine (stack_apply _ _ _ s r i).trans ?_
  match s with
  | ⟨0, _⟩ => exact (val_main_v19_apply _ _).trans (congrArg x3 (ValueIdx.eq_ix2 _))
  | ⟨1, _⟩ => exact (val_main_v20_apply _ _).trans (congrArg x4 (ValueIdx.eq_ix2 _))
  | ⟨2, _⟩ => exact (val_main_v21_apply _ _).trans (congrArg x5 (ValueIdx.eq_ix2 _))

/-- The greatest logarithm is real when the three are. -/
theorem max_real (r : Fin 32768) (i : Fin 256) (h : ∀ s : Fin 3, ∃ z : ℝ, val_main_v7 (F := Ideal) x6 x7 x8 (ValueIdx.ix3 s r i) = z) :
    ∃ M : ℝ, val_main_v10 (F := Ideal) x6 x7 x8 (ValueIdx.ix2 r i) = M := by
  have hb : Ideal.ofBits .f32 0xFF800000#32 = ⊥ := by simp [Ideal.ofBits, Ideal.ieee]
  have hred : S3x32768x256.Reduces [0] S32768x256 := by decide
  have hf : ∃ M : ℝ, val_main_v8 (F := Ideal) x6 x7 x8 (ValueIdx.ix2 r i) = M := by
    unfold val_main_v8
    generalize val_main_v7 (F := Ideal) x6 x7 x8 = y at h
    refine Eq.mpr (congrArg (fun z => ∃ M : ℝ, z = (M : EReal)) (Host.reduce_eq_fold_single _ y _ _ hred _ _)) ?_
    have he : (val_main_cst (F := Ideal)) (Shape.Idx.first h_S_) = ⊥ := hb
    rw [he]
    refine FlashMath.fold_max_real _ _ ⟨(⟨0, by decide⟩ : Fin 3), Finset.mem_univ _⟩ fun k _ => ?_
    have hi : hred.lift (ValueIdx.ix2 r i) k = ValueIdx.ix3 (⟨k.val, k.isLt⟩ : Fin 3) r i := by
      funext b; apply Fin.ext; fin_cases b <;> rfl
    rw [Function.comp_apply, hi]
    exact h _
  obtain ⟨M, hM⟩ := hf
  refine ⟨M, ?_⟩
  rw [val_main_v10_apply, hM, val_main_v9_apply, val_main_cst_0_apply, Ideal.ofBits_def, hb, Ideal.maximumf_def]
  exact max_eq_right bot_le

/-- One weight before it is normalised. -/
theorem weight_apply (s : Fin 3) (r : Fin 32768) (i : Fin 256) :
    val_main_v14 (F := Ideal) x6 x7 x8 (ValueIdx.ix3 s r i)
      = Ideal.exp (val_main_v7 (F := Ideal) x6 x7 x8 (ValueIdx.ix3 s r i) - val_main_v10 (F := Ideal) x6 x7 x8 (ValueIdx.ix2 r i)) := by
  rw [val_main_v14_apply, val_main_v13_apply, val_main_v12_apply, val_main_v11_apply, Ideal.hostUnary_exp_def, Ideal.subf_def]
  exact congrArg (fun e => Ideal.exp (_ - val_main_v10 (F := Ideal) x6 x7 x8 e)) (ValueIdx.eq_ix2 _)

/-- The average of the three attentions. -/
theorem pooled_apply (r : Fin 32768) (i : Fin 256) (h6 : ∀ i, ∃ z : ℝ, x6 i = z) (h7 : ∀ i, ∃ z : ℝ, x7 i = z) (h8 : ∀ i, ∃ z : ℝ, x8 i = z) :
    val_main_v25 (F := Ideal) x3 x4 x5 x6 x7 x8 (ValueIdx.ix2 r i)
      = pooled ![x6 (ValueIdx.ix2 r i), x7 (ValueIdx.ix2 r i), x8 (ValueIdx.ix2 r i)] ![x3 (ValueIdx.ix2 r i), x4 (ValueIdx.ix2 r i), x5 (ValueIdx.ix2 r i)] := by
  have hl : ∀ s : Fin 3, ∃ z : ℝ, (![x6 (ValueIdx.ix2 r i), x7 (ValueIdx.ix2 r i), x8 (ValueIdx.ix2 r i)] : Fin 3 → EReal) s = z := fun s => by
    match s with
    | ⟨0, _⟩ => exact h6 _
    | ⟨1, _⟩ => exact h7 _
    | ⟨2, _⟩ => exact h8 _
  have hM := max_real x6 x7 x8 r i fun s => by rw [logs_apply]; exact hl s
  rw [pooled_eq _ _ _ hl hM]
  rw [val_main_v25_apply, val_main_cst_2_apply, Ideal.ofBits_def, Ideal.ofBits_zero_f32, zero_add]
  refine Finset.sum_congr rfl fun s _ => ?_
  have e : idx_main_v25 (ValueIdx.ix2 r i) s = ValueIdx.ix3 s r i := ValueIdx.eq_ix3 _
  have e' : idx_main_v16 (idx_main_v17 (ValueIdx.ix3 s r i)) = ValueIdx.ix2 r i := ValueIdx.eq_ix2 _
  have e'' : ∀ k, idx_main_v15 (ValueIdx.ix2 r i) k = ValueIdx.ix3 k r i := fun k => ValueIdx.eq_ix3 _
  rw [e, val_main_v24_apply, val_main_v23_apply, val_main_v18_apply, val_main_v17_apply, val_main_v16_apply, e', val_main_v15_apply, val_main_cst_1_apply,
    Ideal.ofBits_def, Ideal.ofBits_zero_f32, values_apply]
  simp only [e'', weight_apply, logs_apply]
  rfl

/-- The second branch. -/
theorem second_apply (r : Fin 32768) (j : Fin 1024) (h6 : ∀ i, ∃ z : ℝ, x6 i = z) (h7 : ∀ i, ∃ z : ℝ, x7 i = z) (h8 : ∀ i, ∃ z : ℝ, x8 i = z) :
    val_main_v27 (F := Ideal) x3 x4 x5 x6 x7 x8 x14 (ValueIdx.ix2 r j)
      = ∑ i : Fin 256, pooled ![x6 (ValueIdx.ix2 r i), x7 (ValueIdx.ix2 r i), x8 (ValueIdx.ix2 r i)] ![x3 (ValueIdx.ix2 r i), x4 (ValueIdx.ix2 r i), x5 (ValueIdx.ix2 r i)]
          * x14 (ValueIdx.ix2 i j) := by
  rw [val_main_v27_apply]
  refine Finset.sum_congr rfl fun i _ => ?_
  have el : lidx_main_v27 (ValueIdx.ix2 r j) i = ValueIdx.ix2 r i := ValueIdx.eq_ix2 _
  have er : ridx_main_v27 (ValueIdx.ix2 r j) i = ValueIdx.ix2 i j := ValueIdx.eq_ix2 _
  rw [el, er, val_main_v26_apply, pooled_apply x3 x4 x5 x6 x7 x8 r i h6 h7 h8]
  rfl

/-- The sum of the two scans. -/
theorem scans_apply (r : Fin 32768) (i : Fin 1024) :
    val_main_v30 (F := Ideal) x9 x10 (ValueIdx.ix2 r i) = x9 (ValueIdx.ix2 r i) + x10 (ValueIdx.ix2 r i) := by
  rw [val_main_v30_apply, val_main_v28_apply, val_main_v29_apply]
  rfl

/-- The sum of the squares of a row. -/
theorem square_sum (r : Fin 32768) :
    val_main_v32 (F := Ideal) x9 x10 (ValueIdx.ix1 r)
      = ∑ j : Fin 1024, (x9 (ValueIdx.ix2 r j) + x10 (ValueIdx.ix2 r j)) * (x9 (ValueIdx.ix2 r j) + x10 (ValueIdx.ix2 r j)) := by
  rw [val_main_v32_apply, val_main_cst_3_apply, Ideal.ofBits_def, Ideal.ofBits_zero_f32, zero_add]
  refine Finset.sum_congr rfl fun j _ => ?_
  have e : idx_main_v32 (ValueIdx.ix1 r) j = ValueIdx.ix2 r j := ValueIdx.eq_ix2 _
  rw [e, val_main_v31_apply, scans_apply]
  rfl

/-- The normalized sum of the scans. -/
theorem norm_apply (r : Fin 32768) (i : Fin 1024) :
    val_main_v42 (F := Ideal) x9 x10 x12 (ValueIdx.ix2 r i)
      = FfnMath.norm (fun (_ : Fin 1) i => x9 (ValueIdx.ix2 r i) + x10 (ValueIdx.ix2 r i)) (fun i => x12 (ValueIdx.ix2 0 i)) 0 i := by
  simp only [val_main_v42_apply, val_main_v41_apply, val_main_v40_apply, val_main_v39_apply, val_main_v38_apply, val_main_v37_apply, val_main_v36_apply,
    val_main_v35_apply, val_main_v34_apply, val_main_v33_apply, val_main_cst_4_apply, val_main_cst_5_apply]
  have e : idx_main_v33 (idx_main_v39 (ValueIdx.ix2 r i)) = ValueIdx.ix1 r := ValueIdx.eq_ix1 _
  have eg : idx_main_v41 (ValueIdx.ix2 r i) = ValueIdx.ix2 0 i := ValueIdx.eq_ix2 _
  rw [e, eg, square_sum, scans_apply]
  rfl

/-- The gating columns and their gates. -/
theorem silu_apply (r : Fin 32768) (i : Fin 1024) :
    val_main_v45 (F := Ideal) x11 (ValueIdx.ix2 r i) = x11 (ValueIdx.ix2 r ⟨11264 + i.val, by omega⟩) * gate (x11 (ValueIdx.ix2 r ⟨11264 + i.val, by omega⟩)) := by
  have e : idx_main_v43 (ValueIdx.ix2 r i) = ValueIdx.ix2 r ⟨11264 + i.val, by omega⟩ := ValueIdx.eq_ix2 _
  simp only [val_main_v45_apply, val_main_v44_apply, val_main_v43_apply, val_main_call0_v5_apply, val_main_call0_v4_apply, val_main_call0_v3_apply,
    val_main_call0_v2_apply, val_main_call0_v1_apply, val_main_call0_v0_apply, val_main_call0_cst_apply, val_main_call0_cst_0_apply, e]
  simp only [gate, zero_sub, Ideal.mulf_def, Ideal.addf_def, Ideal.hostDivf_def, Ideal.hostUnary_exp_def, Ideal.hostNegf_def, Ideal.negf_def, Ideal.extf_def,
    Ideal.ofBits_def, Ideal.ofBits_one_f32]

/-- The third branch. -/
theorem third_apply (r : Fin 32768) (j : Fin 1024) :
    val_main_v48 (F := Ideal) x9 x10 x11 x12 x15 (ValueIdx.ix2 r j)
      = ∑ i : Fin 1024, FfnMath.norm (fun (_ : Fin 1) i => x9 (ValueIdx.ix2 r i) + x10 (ValueIdx.ix2 r i)) (fun i => x12 (ValueIdx.ix2 0 i)) 0 i
          * (x11 (ValueIdx.ix2 r ⟨11264 + i.val, by omega⟩) * gate (x11 (ValueIdx.ix2 r ⟨11264 + i.val, by omega⟩))) * x15 (ValueIdx.ix2 i j) := by
  rw [val_main_v48_apply]
  refine Finset.sum_congr rfl fun i _ => ?_
  have el : lidx_main_v48 (ValueIdx.ix2 r j) i = ValueIdx.ix2 r i := ValueIdx.eq_ix2 _
  have er : ridx_main_v48 (ValueIdx.ix2 r j) i = ValueIdx.ix2 i j := ValueIdx.eq_ix2 _
  rw [el, er, val_main_v47_apply, val_main_v46_apply, norm_apply, silu_apply]
  rfl

/-- The gates of the branches. -/
theorem gates_apply (r : Fin 32768) (q : Fin 3072) :
    val_main_v56 (F := Ideal) x11 (ValueIdx.ix2 r q) = gate (x11 (ValueIdx.ix2 r ⟨q.val, by omega⟩)) := by
  have e : idx_main_v49 (ValueIdx.ix2 r q) = ValueIdx.ix2 r ⟨q.val, by omega⟩ := ValueIdx.eq_ix2 _
  simp only [val_main_v56_apply, val_main_v55_apply, val_main_v54_apply, val_main_v53_apply, val_main_v52_apply, val_main_v51_apply, val_main_v50_apply,
    val_main_v49_apply, val_main_cst_6_apply, val_main_cst_7_apply, e]
  simp only [gate, zero_sub, Ideal.addf_def, Ideal.hostDivf_def, Ideal.hostUnary_exp_def, Ideal.hostNegf_def, Ideal.negf_def, Ideal.extf_def,
    Ideal.ofBits_def, Ideal.ofBits_one_f32]

/-- The reference's result is the plain mixing of its arguments. -/
theorem reference_apply (h6 : ∀ i, ∃ z : ℝ, x6 i = z) (h7 : ∀ i, ∃ z : ℝ, x7 i = z) (h8 : ∀ i, ∃ z : ℝ, x8 i = z) (r : Fin 32768) (k : Fin 1024) :
    val_main_v67 (F := Ideal) x0 x1 x2 x3 x4 x5 x6 x7 x8 x9 x10 x11 x12 x13 x14 x15 x16 (ValueIdx.ix2 r k)
      = result (x0 (ValueIdx.ix2 r k)) (fun j => halves (fun d j => x1 (ValueIdx.ix2 d j)) (fun d j => x2 (ValueIdx.ix2 d j)) r j)
          (fun j => pooled ![x6 (ValueIdx.ix2 r j), x7 (ValueIdx.ix2 r j), x8 (ValueIdx.ix2 r j)] ![x3 (ValueIdx.ix2 r j), x4 (ValueIdx.ix2 r j), x5 (ValueIdx.ix2 r j)])
          (fun j => x9 (ValueIdx.ix2 r j) + x10 (ValueIdx.ix2 r j)) (fun j => x12 (ValueIdx.ix2 0 j)) (fun j => x11 (ValueIdx.ix2 r ⟨11264 + j.val, by omega⟩))
          (fun q => x11 (ValueIdx.ix2 r ⟨q.val, by omega⟩))
          (fun p q => x13 (ValueIdx.ix2 p q)) (fun p q => x14 (ValueIdx.ix2 p q)) (fun p q => x15 (ValueIdx.ix2 p q)) (fun p q => x16 (ValueIdx.ix2 p q)) k := by
  rw [val_main_v67_apply, val_main_v66_apply]
  unfold result
  refine congrArg (x0 (ValueIdx.ix2 r k) + ·) (Finset.sum_congr rfl fun j _ => ?_)
  have el : lidx_main_v66 (ValueIdx.ix2 r k) j = ValueIdx.ix2 r j := ValueIdx.eq_ix2 _
  have er : ridx_main_v66 (ValueIdx.ix2 r k) j = ValueIdx.ix2 j k := ValueIdx.eq_ix2 _
  have e7 : idx_main_v57 (ValueIdx.ix2 r j) = ValueIdx.ix2 r (⟨j.val, by omega⟩ : Fin 3072) := ValueIdx.eq_ix2 _
  have e8 : idx_main_v58 (ValueIdx.ix2 r j) = ValueIdx.ix2 r (⟨1024 + j.val, by omega⟩ : Fin 3072) := ValueIdx.eq_ix2 _
  have e9 : idx_main_v59 (ValueIdx.ix2 r j) = ValueIdx.ix2 r (⟨2048 + j.val, by omega⟩ : Fin 3072) := ValueIdx.eq_ix2 _
  rw [el, er, val_main_v65_apply, val_main_v64_apply, val_main_v63_apply, val_main_v62_apply, val_main_v61_apply, val_main_v60_apply,
    val_main_v57_apply, val_main_v58_apply, val_main_v59_apply, e7, e8, e9, gates_apply, gates_apply, gates_apply,
    first_apply, second_apply x3 x4 x5 x6 x7 x8 x14 r j h6 h7 h8, third_apply]
  rfl

end Cert.MergeRef

end
-- ==== Proof.MergeArray.lean ====
module

/-
The array the mixing leaves is the plain mixing of its arguments.
-/
public import proofs.«01_k».proof.Proof.MergeBlock
public import proofs.«01_k».proof.Proof.MergeRef
public import Idealize.ShloMosaic.Lib.Pipeline.Covers

@[expose] public section

set_option maxRecDepth 16384

noncomputable section

namespace Cert.MergeIdeal.Merge

open Cert.MergeIdeal.Gen Cert.MergeMath
open Idealize.ShloMosaic Idealize.ShloMosaic.TcCoe Idealize.ShloMosaic.Tactic Idealize.ShloMosaic.Pipeline

theorem ix2_congr {a b : ℕ} {p p' : Fin a} {q q' : Fin b} (h : p.val = p'.val) (h' : q.val = q'.val) :
    ValueIdx.ix2 p q = ValueIdx.ix2 p' q' := by
  rw [Fin.ext h, Fin.ext h']

/-- The point's coordinate. -/
theorem coord : ∀ t : Fin grid0.N, ((grid0.coords t) 0).val = t.val := by decide +kernel

/-- The row blocks the windows of the rows take. -/
theorem mapsRows : ∀ t : Fin grid0.N, win0_0.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0] ∧ win0_10.index t = ![t.val, 0]
    ∧ win0_11.index t = ![t.val, 11] ∧ win0_12.index t = ![t.val, 0] ∧ win0_18.index t = ![t.val, 0] := by decide +kernel

/-- The row blocks of the two halves, and the blocks of the weights. -/
theorem mapsRest : ∀ t : Fin grid0.N, win0_1.index t = ![min t.val 31, 0] ∧ win0_2.index t = ![t.val - 32, 0] ∧ win0_13.index t = ![0, 0] ∧ win0_14.index t = ![0, 0]
    ∧ win0_15.index t = ![0, 0] ∧ win0_16.index t = ![0, 0] ∧ win0_17.index t = ![0, 0] := by decide +kernel

variable (m : (ℓ : Loc nD τ sig) → Buf (Elt Ideal) ℓ)

/-- The point's row of the whole array. -/
def row (t : Fin cfg0.N) (r : Fin 512) : Fin 32768 := ⟨512 * t.val + r.val, by have h : t.val < 64 := t.isLt; omega⟩

/-- The rows. -/
theorem win0_apply (c : Dev nD) (t : Fin cfg0.N) (r : Fin 512) (k : Fin 1024) :
    iblk m c 0 t (ValueIdx.ix2 r k) = m ((c.tc : Thread nD τ).loc main_arg0) (ValueIdx.ix2 (row t r) k) := by
  have e : win0_0.index t = ![t.val, 0] := (mapsRows t).1
  blk_simp [iblk, V, e]
  refine congrArg (m ((c.tc : Thread nD τ).loc main_arg0)) ((ValueIdx.eq_ix2 _).trans (ix2_congr ?_ ?_))
  · blk_simp [e]
    show t.val * 512 + r.val = 512 * t.val + r.val
    omega
  · blk_simp [e]

/-- The first attention. -/
theorem win3_apply (c : Dev nD) (t : Fin cfg0.N) (r : Fin 512) (k : Fin 256) :
    iblk m c 3 t (ValueIdx.ix2 r k) = m ((c.tc : Thread nD τ).loc main_arg3) (ValueIdx.ix2 (row t r) k) := by
  have e : win0_3.index t = ![t.val, 0] := (mapsRows t).2.1
  blk_simp [iblk, V, e]
  refine congrArg (m ((c.tc : Thread nD τ).loc main_arg3)) ((ValueIdx.eq_ix2 _).trans (ix2_congr ?_ ?_))
  · blk_simp [e]
    show t.val * 512 + r.val = 512 * t.val + r.val
    omega
  · blk_simp [e]

/-- The second attention. -/
theorem win4_apply (c : Dev nD) (t : Fin cfg0.N) (r : Fin 512) (k : Fin 256) :
    iblk m c 4 t (ValueIdx.ix2 r k) = m ((c.tc : Thread nD τ).loc main_arg4) (ValueIdx.ix2 (row t r) k) := by
  have e : win0_4.index t = ![t.val, 0] := (mapsRows t).2.2.1
  blk_simp [iblk, V, e]
  refine congrArg (m ((c.tc : Thread nD τ).loc main_arg4)) ((ValueIdx.eq_ix2 _).trans (ix2_congr ?_ ?_))
  · blk_simp [e]
    show t.val * 512 + r.val = 512 * t.val + r.val
    omega
  · blk_simp [e]

/-- The third attention. -/
theorem win5_apply (c : Dev nD) (t : Fin cfg0.N) (r : Fin 512) (k : Fin 256) :
    iblk m c 5 t (ValueIdx.ix2 r k) = m ((c.tc : Thread nD τ).loc main_arg5) (ValueIdx.ix2 (row t r) k) := by
  have e : win0_5.index t = ![t.val, 0] := (mapsRows t).2.2.2.1
  blk_simp [iblk, V, e]
  refine congrArg (m ((c.tc : Thread nD τ).loc main_arg5)) ((ValueIdx.eq_ix2 _).trans (ix2_congr ?_ ?_))
  · blk_simp [e]
    show t.val * 512 + r.val = 512 * t.val + r.val
    omega
  · blk_simp [e]

/-- The first attention's logarithms. -/
theorem win6_apply (c : Dev nD) (t : Fin cfg0.N) (r : Fin 512) (k : Fin 256) :
    iblk m c 6 t (ValueIdx.ix2 r k) = m ((c.tc : Thread nD τ).loc main_arg6) (ValueIdx.ix2 (row t r) k) := by
  have e : win0_6.index t = ![t.val, 0] := (mapsRows t).2.2.2.2.1
  blk_simp [iblk, V, e]
  refine congrArg (m ((c.tc : Thread nD τ).loc main_arg6)) ((ValueIdx.eq_ix2 _).trans (ix2_congr ?_ ?_))
  · blk_simp [e]
    show t.val * 512 + r.val = 512 * t.val + r.val
    omega
  · blk_simp [e]

/-- The second attention's logarithms. -/
theorem win7_apply (c : Dev nD) (t : Fin cfg0.N) (r : Fin 512) (k : Fin 256) :
    iblk m c 7 t (ValueIdx.ix2 r k) = m ((c.tc : Thread nD τ).loc main_arg7) (ValueIdx.ix2 (row t r) k) := by
  have e : win0_7.index t = ![t.val, 0] := (mapsRows t).2.2.2.2.2.1
  blk_simp [iblk, V, e]
  refine congrArg (m ((c.tc : Thread nD τ).loc main_arg7)) ((ValueIdx.eq_ix2 _).trans (ix2_congr ?_ ?_))
  · blk_simp [e]
    show t.val * 512 + r.val = 512 * t.val + r.val
    omega
  · blk_simp [e]

/-- The third attention's logarithms. -/
theorem win8_apply (c : Dev nD) (t : Fin cfg0.N) (r : Fin 512) (k : Fin 256) :
    iblk m c 8 t (ValueIdx.ix2 r k) = m ((c.tc : Thread nD τ).loc main_arg8) (ValueIdx.ix2 (row t r) k) := by
  have e : win0_8.index t = ![t.val, 0] := (mapsRows t).2.2.2.2.2.2.1
  blk_simp [iblk, V, e]
  refine congrArg (m ((c.tc : Thread nD τ).loc main_arg8)) ((ValueIdx.eq_ix2 _).trans (ix2_congr ?_ ?_))
  · blk_simp [e]
    show t.val * 512 + r.val = 512 * t.val + r.val
    omega
  · blk_simp [e]

/-- The first scan. -/
theorem win9_apply (c : Dev nD) (t : Fin cfg0.N) (r : Fin 512) (k : Fin 1024) :
    iblk m c 9 t (ValueIdx.ix2 r k) = m ((c.tc : Thread nD τ).loc main_arg9) (ValueIdx.ix2 (row t r) k) := by
  have e : win0_9.index t = ![t.val, 0] := (mapsRows t).2.2.2.2.2.2.2.1
  blk_simp [iblk, V, e]
  refine congrArg (m ((c.tc : Thread nD τ).loc main_arg9)) ((ValueIdx.eq_ix2 _).trans (ix2_congr ?_ ?_))
  · blk_simp [e]
    show t.val * 512 + r.val = 512 * t.val + r.val
    omega
  · blk_simp [e]

/-- The second scan. -/
theorem win10_apply (c : Dev nD) (t : Fin cfg0.N) (r : Fin 512) (k : Fin 1024) :
    iblk m c 10 t (ValueIdx.ix2 r k) = m ((c.tc : Thread nD τ).loc main_arg10) (ValueIdx.ix2 (row t r) k) := by
  have e : win0_10.index t = ![t.val, 0] := (mapsRows t).2.2.2.2.2.2.2.2.1
  blk_simp [iblk, V, e]
  refine congrArg (m ((c.tc : Thread nD τ).loc main_arg10)) ((ValueIdx.eq_ix2 _).trans (ix2_congr ?_ ?_))
  · blk_simp [e]
    show t.val * 512 + r.val = 512 * t.val + r.val
    omega
  · blk_simp [e]

/-- The gating columns. -/
theorem win11_apply (c : Dev nD) (t : Fin cfg0.N) (r : Fin 512) (k : Fin 1024) :
    iblk m c 11 t (ValueIdx.ix2 r k) = m ((c.tc : Thread nD τ).loc main_arg11) (ValueIdx.ix2 (row t r) ⟨11264 + k.val, by omega⟩) := by
  have e : win0_11.index t = ![t.val, 11] := (mapsRows t).2.2.2.2.2.2.2.2.2.1
  blk_simp [iblk, V, e]
  refine congrArg (m ((c.tc : Thread nD τ).loc main_arg11)) ((ValueIdx.eq_ix2 _).trans (ix2_congr ?_ ?_))
  · blk_simp [e]
    show t.val * 512 + r.val = 512 * t.val + r.val
    omega
  · blk_simp [e]

/-- The branches' gates. -/
theorem win12_apply (c : Dev nD) (t : Fin cfg0.N) (r : Fin 512) (k : Fin 3072) :
    iblk m c 12 t (ValueIdx.ix2 r k) = m ((c.tc : Thread nD τ).loc main_arg11) (ValueIdx.ix2 (row t r) ⟨k.val, by omega⟩) := by
  have e : win0_12.index t = ![t.val, 0] := (mapsRows t).2.2.2.2.2.2.2.2.2.2.1
  blk_simp [iblk, V, e]
  refine congrArg (m ((c.tc : Thread nD τ).loc main_arg11)) ((ValueIdx.eq_ix2 _).trans (ix2_congr ?_ ?_))
  · blk_simp [e]
    show t.val * 512 + r.val = 512 * t.val + r.val
    omega
  · blk_simp [e]

/-- The first half of the first branch. -/
theorem win1_apply (c : Dev nD) (t : Fin cfg0.N) (h : t.val < 32) (r : Fin 512) (k : Fin 1024) :
    iblk m c 1 t (ValueIdx.ix2 r k) = m ((c.tc : Thread nD τ).loc main_arg1) (ValueIdx.ix2 ⟨512 * t.val + r.val, by have h' : t.val < 64 := t.isLt; omega⟩ k) := by
  have h' : t.val < 64 := t.isLt
  have e : win0_1.index t = ![min t.val 31, 0] := (mapsRest t).1
  blk_simp [iblk, V, e]
  refine congrArg (m ((c.tc : Thread nD τ).loc main_arg1)) ((ValueIdx.eq_ix2 _).trans (ix2_congr ?_ ?_))
  · blk_simp [e]
    show min t.val 31 * 512 + r.val = 512 * t.val + r.val
    omega
  · blk_simp [e]

/-- The second half of the first branch. -/
theorem win2_apply (c : Dev nD) (t : Fin cfg0.N) (h : ¬t.val < 32) (r : Fin 512) (k : Fin 1024) :
    iblk m c 2 t (ValueIdx.ix2 r k) = m ((c.tc : Thread nD τ).loc main_arg2) (ValueIdx.ix2 ⟨512 * t.val + r.val - 16384, by have h' : t.val < 64 := t.isLt; omega⟩ k) := by
  have h' : t.val < 64 := t.isLt
  have e : win0_2.index t = ![t.val - 32, 0] := (mapsRest t).2.1
  blk_simp [iblk, V, e]
  refine congrArg (m ((c.tc : Thread nD τ).loc main_arg2)) ((ValueIdx.eq_ix2 _).trans (ix2_congr ?_ ?_))
  · blk_simp [e]
    show (t.val - 32) * 512 + r.val = 512 * t.val + r.val - 16384
    omega
  · blk_simp [e]

/-- The scale. -/
theorem win13_apply (c : Dev nD) (t : Fin cfg0.N) (q : Fin 1024) :
    iblk m c 13 t (ValueIdx.ix2 0 q) = m ((c.tc : Thread nD τ).loc main_arg12) (ValueIdx.ix2 0 q) := by
  have e : win0_13.index t = ![0, 0] := (mapsRest t).2.2.1
  blk_simp [iblk, V, e]
  refine congrArg (m ((c.tc : Thread nD τ).loc main_arg12)) ((ValueIdx.eq_ix2 _).trans (ix2_congr ?_ ?_))
  · blk_simp [e]
    rfl
  · blk_simp [e]

/-- The first branch's weights. -/
theorem win14_apply (c : Dev nD) (t : Fin cfg0.N) (p : Fin 1024) (q : Fin 1024) :
    iblk m c 14 t (ValueIdx.ix2 p q) = m ((c.tc : Thread nD τ).loc main_arg13) (ValueIdx.ix2 p q) := by
  have e : win0_14.index t = ![0, 0] := (mapsRest t).2.2.2.1
  blk_simp [iblk, V, e]
  refine congrArg (m ((c.tc : Thread nD τ).loc main_arg13)) ((ValueIdx.eq_ix2 _).trans (ix2_congr ?_ ?_))
  · blk_simp [e]
  · blk_simp [e]

/-- The second branch's weights. -/
theorem win15_apply (c : Dev nD) (t : Fin cfg0.N) (p : Fin 256) (q : Fin 1024) :
    iblk m c 15 t (ValueIdx.ix2 p q) = m ((c.tc : Thread nD τ).loc main_arg14) (ValueIdx.ix2 p q) := by
  have e : win0_15.index t = ![0, 0] := (mapsRest t).2.2.2.2.1
  blk_simp [iblk, V, e]
  refine congrArg (m ((c.tc : Thread nD τ).loc main_arg14)) ((ValueIdx.eq_ix2 _).trans (ix2_congr ?_ ?_))
  · blk_simp [e]
  · blk_simp [e]

/-- The third branch's weights. -/
theorem win16_apply (c : Dev nD) (t : Fin cfg0.N) (p : Fin 1024) (q : Fin 1024) :
    iblk m c 16 t (ValueIdx.ix2 p q) = m ((c.tc : Thread nD τ).loc main_arg15) (ValueIdx.ix2 p q) := by
  have e : win0_16.index t = ![0, 0] := (mapsRest t).2.2.2.2.2.1
  blk_simp [iblk, V, e]
  refine congrArg (m ((c.tc : Thread nD τ).loc main_arg15)) ((ValueIdx.eq_ix2 _).trans (ix2_congr ?_ ?_))
  · blk_simp [e]
  · blk_simp [e]

/-- The last weights. -/
theorem win17_apply (c : Dev nD) (t : Fin cfg0.N) (p : Fin 1024) (q : Fin 1024) :
    iblk m c 17 t (ValueIdx.ix2 p q) = m ((c.tc : Thread nD τ).loc main_arg16) (ValueIdx.ix2 p q) := by
  have e : win0_17.index t = ![0, 0] := (mapsRest t).2.2.2.2.2.2
  blk_simp [iblk, V, e]
  refine congrArg (m ((c.tc : Thread nD τ).loc main_arg16)) ((ValueIdx.eq_ix2 _).trans (ix2_congr ?_ ?_))
  · blk_simp [e]
  · blk_simp [e]

/-- The rows of the first branch a point takes. -/
theorem halves_apply (c : Dev nD) (t : Fin cfg0.N) (r : Fin 512) (k : Fin 1024) :
    (if ((grid0.coords t) 0).val < 32 then iblk m c 1 t else iblk m c 2 t) (ValueIdx.ix2 r k)
      = halves (fun d j => m ((c.tc : Thread nD τ).loc main_arg1) (ValueIdx.ix2 d j)) (fun d j => m ((c.tc : Thread nD τ).loc main_arg2) (ValueIdx.ix2 d j)) (row t r) k := by
  rw [coord t]
  unfold halves
  by_cases h : t.val < 32
  · have hr : (row t r).val < 16384 := by show 512 * t.val + r.val < 16384; omega
    rw [if_pos h, dif_pos hr]
    exact win1_apply m c t h r k
  · have hr : ¬(row t r).val < 16384 := by show ¬512 * t.val + r.val < 16384; omega
    rw [if_neg h, dif_neg hr]
    exact win2_apply m c t h r k

/-- An entry of what a point writes, in terms of the arguments. -/
theorem out_apply (c : Dev nD) (t : Fin cfg0.N) (h6 : ∀ i, ∃ z : ℝ, m ((c.tc : Thread nD τ).loc main_arg6) i = (z : EReal)) (h7 : ∀ i, ∃ z : ℝ, m ((c.tc : Thread nD τ).loc main_arg7) i = (z : EReal)) (h8 : ∀ i, ∃ z : ℝ, m ((c.tc : Thread nD τ).loc main_arg8) i = (z : EReal))
    (r : Fin 512) (k : Fin 1024) :
    out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ValueIdx.ix2 r k)
      = MergeReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (ValueIdx.ix2 (row t r) k) := by
  rw [MergeRef.reference_apply _ _ _ _ _ _ _ _ _ _ _ _ _ _ _ _ _ h6 h7 h8, entry]
  simp only [win0_apply, win3_apply, win4_apply, win5_apply, win6_apply, win7_apply, win8_apply, win9_apply, win10_apply, win11_apply, win12_apply,
    win13_apply, win14_apply, win15_apply, win16_apply, win17_apply]
  exact congrArg (fun a => result _ a _ _ _ _ _ _ _ _ _ k) (funext fun j => halves_apply m c t r j)

/-- Where an entry of a point's block lies in the array. -/
theorem place (t : Fin cfg0.N) (y : S512x1024.Idx) : ValueIdx.ix2 (row t (y 0)) (y 1) = (win0_18.blk t).view.emb y := by
  have e : win0_18.index t = ![t.val, 0] := (mapsRows t).2.2.2.2.2.2.2.2.2.2.2
  refine Eq.symm ((ValueIdx.eq_ix2 _).trans (ix2_congr ?_ ?_))
  · show (((win0_18.blk t).view.emb y 0)).val = 512 * t.val + (y 0).val
    blk_simp [e]
    omega
  · show (((win0_18.blk t).view.emb y 1)).val = (y 1).val
    blk_simp [e]

/-- The array after the run is the plain mixing of the arguments. -/
theorem array_eq (c : Dev nD) (h6 : ∀ i, ∃ z : ℝ, m ((c.tc : Thread nD τ).loc main_arg6) i = (z : EReal)) (h7 : ∀ i, ∃ z : ℝ, m ((c.tc : Thread nD τ).loc main_arg7) i = (z : EReal)) (h8 : ∀ i, ∃ z : ℝ, m ((c.tc : Thread nD τ).loc main_arg8) i = (z : EReal)) :
    (dats m 0 c).arrAt 18 cfg0.N = MergeReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (dats m 0 c).arrAt_eq_of_covers 18 _ ((cfg0.win 18).covers_of_index_surj rfl (by decide) fun β => ?_) fun t hf y => ?_
  · have h0 : (β 0).val < 64 := (β 0).isLt
    have h1 : (β 1).val < 1 := (β 1).isLt
    refine ⟨⟨(β 0).val, lt_of_lt_of_eq h0 N_0.symm⟩, fun a => ?_⟩
    refine (congrFun (mapsRows _).2.2.2.2.2.2.2.2.2.2.2 a).trans ?_
    match a with
    | ⟨0, _⟩ => rfl
    | ⟨1, _⟩ => show 0 = (β 1).val; omega
  blk_simp
  rw [after0_18]
  refine Eq.trans (congrArg _ (ValueIdx.eq_ix2 (y : S512x1024.Idx))) ?_
  exact (out_apply m c t h6 h7 h8 ((y : S512x1024.Idx) 0) ((y : S512x1024.Idx) 1)).trans (congrArg _ (place t y))

end Cert.MergeIdeal.Merge

end
-- ==== Proof.MergePre.lean ====
module

/-
What the precondition of the mixing says, element by element: the three logarithms of the attentions' weights are real numbers.
-/
public import proofs.«01_k».proof.Proof.Gen.Pre_weighable
public import proofs.«01_k».proof.Proof.FlashPre

@[expose] public section

set_option maxRecDepth 16384

noncomputable section

namespace Cert.MergePre

open Cert.Pre_weighable Cert.Pre_weighable.Facts
open Idealize.ShloMosaic

variable [Facts]

theorem holds (x0 : FVec Ideal S32768x1024 .f32) (x1 x2 : FVec Ideal S16384x1024 .bf16) (x3 x4 x5 : FVec Ideal S32768x256 .bf16) (x6 x7 x8 : FVec Ideal S32768x256 .f32)
    (x9 x10 : FVec Ideal S32768x1024 .bf16) (x11 : FVec Ideal S32768x12288 .bf16) (x12 : FVec Ideal S1x1024 .f32) (x13 : FVec Ideal S1024x1024 .bf16)
    (x14 : FVec Ideal S256x1024 .bf16) (x15 x16 : FVec Ideal S1024x1024 .bf16)
    (h : fn (F := Ideal) x0 x1 x2 x3 x4 x5 x6 x7 x8 x9 x10 x11 x12 x13 x14 x15 x16 = fun _ => 1#1) :
    (∀ i, ∃ r : ℝ, x6 i = r) ∧ (∀ i, ∃ r : ℝ, x7 i = r) ∧ (∀ i, ∃ r : ℝ, x8 i = r) := by
  have hss : Subsingleton S_.Idx := ⟨fun a b => funext fun x => x.elim0⟩
  have h' := congrFun h ValueIdx.ix0
  simp only [fn] at h'
  obtain ⟨h12, h3⟩ := IntOp.andi_eq_one.1 h'
  obtain ⟨h1, h2⟩ := IntOp.andi_eq_one.1 h12
  exact ⟨fun i => FlashPre.real_of_abs_lt _ (Host.reduce_andi_all _ _ _ _ _ h1 i), fun i => FlashPre.real_of_abs_lt _ (Host.reduce_andi_all _ _ _ _ _ h2 i),
    fun i => FlashPre.real_of_abs_lt _ (Host.reduce_andi_all _ _ _ _ _ h3 i)⟩

end Cert.MergePre

end
-- ==== Proof.MergeClaim.lean ====
module

/-
The value claim of the mixing: the launch ends with the plain mixing's array, and so does the reference.
-/
public import proofs.«01_k».proof.Defs
public import proofs.«01_k».proof.Proof.MergeArray
public import proofs.«01_k».proof.Proof.MergePre
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import Idealize.ShloMosaic.Lib.Quiescent

@[expose] public section

set_option maxRecDepth 16384

noncomputable section

namespace Cert.MergeClaim

open Idealize.ShloMosaic Idealize.ShloMosaic.TcCoe Idealize.SL.Sem

/-- Every run of the kernel leaves the plain mixing of its arguments in the result, the arguments as they were. -/
theorem kernel_run (m : (ℓ : Loc MergeIdeal.nD MergeIdeal.τ MergeIdeal.sig) → Buf (Elt Ideal) ℓ) (ρ : Dev MergeIdeal.nD → PrngReg)
    (h : ∀ c : Dev MergeIdeal.nD, (∀ i, ∃ z : ℝ, m ((c.tc : Thread MergeIdeal.nD MergeIdeal.τ).loc MergeIdeal.main_arg6) i = (z : EReal)) ∧ (∀ i, ∃ z : ℝ, m ((c.tc : Thread MergeIdeal.nD MergeIdeal.τ).loc MergeIdeal.main_arg7) i = (z : EReal)) ∧ (∀ i, ∃ z : ℝ, m ((c.tc : Thread MergeIdeal.nD MergeIdeal.τ).loc MergeIdeal.main_arg8) i = (z : EReal))) :
    θ_run MergeIdeal.defs (onTc (τ := MergeIdeal.τ) (MergeIdeal.main (F := Ideal))) ⟨m, fun _ => 0, ρ⟩ (fun r => ∀ c : Dev MergeIdeal.nD,
      r.2.mem ((c.tc : Thread MergeIdeal.nD MergeIdeal.τ).loc MergeIdeal.main_v0)
        = MergeReferenceIdeal.Read.val_main_v67 (F := Ideal) (m ((c.tc : Thread MergeIdeal.nD MergeIdeal.τ).loc MergeIdeal.main_arg0)) (m ((c.tc : Thread MergeIdeal.nD MergeIdeal.τ).loc MergeIdeal.main_arg1)) (m ((c.tc : Thread MergeIdeal.nD MergeIdeal.τ).loc MergeIdeal.main_arg2)) (m ((c.tc : Thread MergeIdeal.nD MergeIdeal.τ).loc MergeIdeal.main_arg3)) (m ((c.tc : Thread MergeIdeal.nD MergeIdeal.τ).loc MergeIdeal.main_arg4)) (m ((c.tc : Thread MergeIdeal.nD MergeIdeal.τ).loc MergeIdeal.main_arg5)) (m ((c.tc : Thread MergeIdeal.nD MergeIdeal.τ).loc MergeIdeal.main_arg6)) (m ((c.tc : Thread MergeIdeal.nD MergeIdeal.τ).loc MergeIdeal.main_arg7)) (m ((c.tc : Thread MergeIdeal.nD MergeIdeal.τ).loc MergeIdeal.main_arg8)) (m ((c.tc : Thread MergeIdeal.nD MergeIdeal.τ).loc MergeIdeal.main_arg9)) (m ((c.tc : Thread MergeIdeal.nD MergeIdeal.τ).loc MergeIdeal.main_arg10)) (m ((c.tc : Thread MergeIdeal.nD MergeIdeal.τ).loc MergeIdeal.main_arg11)) (m ((c.tc : Thread MergeIdeal.nD MergeIdeal.τ).loc MergeIdeal.main_arg12)) (m ((c.tc : Thread MergeIdeal.nD MergeIdeal.τ).loc MergeIdeal.main_arg13)) (m ((c.tc : Thread MergeIdeal.nD MergeIdeal.τ).loc MergeIdeal.main_arg14)) (m ((c.tc : Thread MergeIdeal.nD MergeIdeal.τ).loc MergeIdeal.main_arg15)) (m ((c.tc : Thread MergeIdeal.nD MergeIdeal.τ).loc MergeIdeal.main_arg16))
      ∧ r.2.mem ((c.tc : Thread MergeIdeal.nD MergeIdeal.τ).loc MergeIdeal.main_arg0) = m ((c.tc : Thread MergeIdeal.nD MergeIdeal.τ).loc MergeIdeal.main_arg0)
      ∧ r.2.mem ((c.tc : Thread MergeIdeal.nD MergeIdeal.τ).loc MergeIdeal.main_arg1) = m ((c.tc : Thread MergeIdeal.nD MergeIdeal.τ).loc MergeIdeal.main_arg1)
      ∧ r.2.mem ((c.tc : Thread MergeIdeal.nD MergeIdeal.τ).loc MergeIdeal.main_arg2) = m ((c.tc : Thread MergeIdeal.nD MergeIdeal.τ).loc MergeIdeal.main_arg2)
      ∧ r.2.mem ((c.tc : Thread MergeIdeal.nD MergeIdeal.τ).loc MergeIdeal.main_arg3) = m ((c.tc : Thread MergeIdeal.nD MergeIdeal.τ).loc MergeIdeal.main_arg3)
      ∧ r.2.mem ((c.tc : Thread MergeIdeal.nD MergeIdeal.τ).loc MergeIdeal.main_arg4) = m ((c.tc : Thread MergeIdeal.nD MergeIdeal.τ).loc MergeIdeal.main_arg4)
      ∧ r.2.mem ((c.tc : Thread MergeIdeal.nD MergeIdeal.τ).loc MergeIdeal.main_arg5) = m ((c.tc : Thread MergeIdeal.nD MergeIdeal.τ).loc MergeIdeal.main_arg5)
      ∧ r.2.mem ((c.tc : Thread MergeIdeal.nD MergeIdeal.τ).loc MergeIdeal.main_arg6) = m ((c.tc : Thread MergeIdeal.nD MergeIdeal.τ).loc MergeIdeal.main_arg6)
      ∧ r.2.mem ((c.tc : Thread MergeIdeal.nD MergeIdeal.τ).loc MergeIdeal.main_arg7) = m ((c.tc : Thread MergeIdeal.nD MergeIdeal.τ).loc MergeIdeal.main_arg7)
      ∧ r.2.mem ((c.tc : Thread MergeIdeal.nD MergeIdeal.τ).loc MergeIdeal.main_arg8) = m ((c.tc : Thread MergeIdeal.nD MergeIdeal.τ).loc MergeIdeal.main_arg8)
      ∧ r.2.mem ((c.tc : Thread MergeIdeal.nD MergeIdeal.τ).loc MergeIdeal.main_arg9) = m ((c.tc : Thread MergeIdeal.nD MergeIdeal.τ).loc MergeIdeal.main_arg9)
      ∧ r.2.mem ((c.tc : Thread MergeIdeal.nD MergeIdeal.τ).loc MergeIdeal.main_arg10) = m ((c.tc : Thread MergeIdeal.nD MergeIdeal.τ).loc MergeIdeal.main_arg10)
      ∧ r.2.mem ((c.tc : Thread MergeIdeal.nD MergeIdeal.τ).loc MergeIdeal.main_arg11) = m ((c.tc : Thread MergeIdeal.nD MergeIdeal.τ).loc MergeIdeal.main_arg11)
      ∧ r.2.mem ((c.tc : Thread MergeIdeal.nD MergeIdeal.τ).loc MergeIdeal.main_arg12) = m ((c.tc : Thread MergeIdeal.nD MergeIdeal.τ).loc MergeIdeal.main_arg12)
      ∧ r.2.mem ((c.tc : Thread MergeIdeal.nD MergeIdeal.τ).loc MergeIdeal.main_arg13) = m ((c.tc : Thread MergeIdeal.nD MergeIdeal.τ).loc MergeIdeal.main_arg13)
      ∧ r.2.mem ((c.tc : Thread MergeIdeal.nD MergeIdeal.τ).loc MergeIdeal.main_arg14) = m ((c.tc : Thread MergeIdeal.nD MergeIdeal.τ).loc MergeIdeal.main_arg14)
      ∧ r.2.mem ((c.tc : Thread MergeIdeal.nD MergeIdeal.τ).loc MergeIdeal.main_arg15) = m ((c.tc : Thread MergeIdeal.nD MergeIdeal.τ).loc MergeIdeal.main_arg15)
      ∧ r.2.mem ((c.tc : Thread MergeIdeal.nD MergeIdeal.τ).loc MergeIdeal.main_arg16) = m ((c.tc : Thread MergeIdeal.nD MergeIdeal.τ).loc MergeIdeal.main_arg16)) :=
  (θ_run _ _ _).mono (fun r hr c => ⟨(hr c).1.trans (MergeIdeal.Merge.array_eq m c (h c).1 (h c).2.1 (h c).2.2), (hr c).2⟩) (MergeIdeal.Value.run_blocks m ρ)

/-- The kernel and the reference leave one and the same array. -/
theorem algebraic : Cert.algebraic_MergeIdeal_MergeReferenceIdeal_pre_weighable (hMergeIdeal := Cert.MergeIdeal.Gen.facts)
    (hMergeReferenceIdeal := Cert.MergeReferenceIdeal.Gen.facts) (hPre_weighable := Cert.Pre_weighable.Gen.facts) := by
  intro m ρ m' ρ' hpre hagree
  refine ⟨_, kernel_run m ρ fun c => MergePre.holds _ _ _ _ _ _ _ _ _ _ _ _ _ _ _ _ _ (hpre c), ?_⟩
  refine (θ_run _ _ _).mono (fun _ h c => ⟨(h c).1.trans ?_, (h c).2⟩) (MergeReferenceIdeal.Value.run m' ρ')
  rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2.1, ← (hagree c).2.2.2.2.2.2.2.2.2.2.1, ← (hagree c).2.2.2.2.2.2.2.2.2.2.2.1, ← (hagree c).2.2.2.2.2.2.2.2.2.2.2.2.1, ← (hagree c).2.2.2.2.2.2.2.2.2.2.2.2.2.1, ← (hagree c).2.2.2.2.2.2.2.2.2.2.2.2.2.2.1, ← (hagree c).2.2.2.2.2.2.2.2.2.2.2.2.2.2.2.1, ← (hagree c).2.2.2.2.2.2.2.2.2.2.2.2.2.2.2.2]
  exact MergeReferenceIdeal.Read.val_main_v67_eq _ _

/-- The reference ends, its arguments as they were and its counters at zero. -/
theorem reference_frame (m : (ℓ : Loc MergeReferenceIdeal.nD MergeReferenceIdeal.τ MergeReferenceIdeal.sig) → Buf (Elt Ideal) ℓ) (ρ : Dev MergeReferenceIdeal.nD → PrngReg) :
    θ_run (MergeReferenceIdeal.defs (F := Ideal)) (onTc (τ := MergeReferenceIdeal.τ) (MergeReferenceIdeal.main (F := Ideal))) ⟨m, fun _ => 0, ρ⟩ (fun r => (∀ c : Dev MergeReferenceIdeal.nD,
      r.2.mem ((c.tc : Thread MergeReferenceIdeal.nD MergeReferenceIdeal.τ).loc MergeReferenceIdeal.main_arg0) = m ((c.tc : Thread MergeReferenceIdeal.nD MergeReferenceIdeal.τ).loc MergeReferenceIdeal.main_arg0)
      ∧ r.2.mem ((c.tc : Thread MergeReferenceIdeal.nD MergeReferenceIdeal.τ).loc MergeReferenceIdeal.main_arg1) = m ((c.tc : Thread MergeReferenceIdeal.nD MergeReferenceIdeal.τ).loc MergeReferenceIdeal.main_arg1)
      ∧ r.2.mem ((c.tc : Thread MergeReferenceIdeal.nD MergeReferenceIdeal.τ).loc MergeReferenceIdeal.main_arg2) = m ((c.tc : Thread MergeReferenceIdeal.nD MergeReferenceIdeal.τ).loc MergeReferenceIdeal.main_arg2)
      ∧ r.2.mem ((c.tc : Thread MergeReferenceIdeal.nD MergeReferenceIdeal.τ).loc MergeReferenceIdeal.main_arg3) = m ((c.tc : Thread MergeReferenceIdeal.nD MergeReferenceIdeal.τ).loc MergeReferenceIdeal.main_arg3)
      ∧ r.2.mem ((c.tc : Thread MergeReferenceIdeal.nD MergeReferenceIdeal.τ).loc MergeReferenceIdeal.main_arg4) = m ((c.tc : Thread MergeReferenceIdeal.nD MergeReferenceIdeal.τ).loc MergeReferenceIdeal.main_arg4)
      ∧ r.2.mem ((c.tc : Thread MergeReferenceIdeal.nD MergeReferenceIdeal.τ).loc MergeReferenceIdeal.main_arg5) = m ((c.tc : Thread MergeReferenceIdeal.nD MergeReferenceIdeal.τ).loc MergeReferenceIdeal.main_arg5)
      ∧ r.2.mem ((c.tc : Thread MergeReferenceIdeal.nD MergeReferenceIdeal.τ).loc MergeReferenceIdeal.main_arg6) = m ((c.tc : Thread MergeReferenceIdeal.nD MergeReferenceIdeal.τ).loc MergeReferenceIdeal.main_arg6)
      ∧ r.2.mem ((c.tc : Thread MergeReferenceIdeal.nD MergeReferenceIdeal.τ).loc MergeReferenceIdeal.main_arg7) = m ((c.tc : Thread MergeReferenceIdeal.nD MergeReferenceIdeal.τ).loc MergeReferenceIdeal.main_arg7)
      ∧ r.2.mem ((c.tc : Thread MergeReferenceIdeal.nD MergeReferenceIdeal.τ).loc MergeReferenceIdeal.main_arg8) = m ((c.tc : Thread MergeReferenceIdeal.nD MergeReferenceIdeal.τ).loc MergeReferenceIdeal.main_arg8)
      ∧ r.2.mem ((c.tc : Thread MergeReferenceIdeal.nD MergeReferenceIdeal.τ).loc MergeReferenceIdeal.main_arg9) = m ((c.tc : Thread MergeReferenceIdeal.nD MergeReferenceIdeal.τ).loc MergeReferenceIdeal.main_arg9)
      ∧ r.2.mem ((c.tc : Thread MergeReferenceIdeal.nD MergeReferenceIdeal.τ).loc MergeReferenceIdeal.main_arg10) = m ((c.tc : Thread MergeReferenceIdeal.nD MergeReferenceIdeal.τ).loc MergeReferenceIdeal.main_arg10)
      ∧ r.2.mem ((c.tc : Thread MergeReferenceIdeal.nD MergeReferenceIdeal.τ).loc MergeReferenceIdeal.main_arg11) = m ((c.tc : Thread MergeReferenceIdeal.nD MergeReferenceIdeal.τ).loc MergeReferenceIdeal.main_arg11)
      ∧ r.2.mem ((c.tc : Thread MergeReferenceIdeal.nD MergeReferenceIdeal.τ).loc MergeReferenceIdeal.main_arg12) = m ((c.tc : Thread MergeReferenceIdeal.nD MergeReferenceIdeal.τ).loc MergeReferenceIdeal.main_arg12)
      ∧ r.2.mem ((c.tc : Thread MergeReferenceIdeal.nD MergeReferenceIdeal.τ).loc MergeReferenceIdeal.main_arg13) = m ((c.tc : Thread MergeReferenceIdeal.nD MergeReferenceIdeal.τ).loc MergeReferenceIdeal.main_arg13)
      ∧ r.2.mem ((c.tc : Thread MergeReferenceIdeal.nD MergeReferenceIdeal.τ).loc MergeReferenceIdeal.main_arg14) = m ((c.tc : Thread MergeReferenceIdeal.nD MergeReferenceIdeal.τ).loc MergeReferenceIdeal.main_arg14)
      ∧ r.2.mem ((c.tc : Thread MergeReferenceIdeal.nD MergeReferenceIdeal.τ).loc MergeReferenceIdeal.main_arg15) = m ((c.tc : Thread MergeReferenceIdeal.nD MergeReferenceIdeal.τ).loc MergeReferenceIdeal.main_arg15)
      ∧ r.2.mem ((c.tc : Thread MergeReferenceIdeal.nD MergeReferenceIdeal.τ).loc MergeReferenceIdeal.main_arg16) = m ((c.tc : Thread MergeReferenceIdeal.nD MergeReferenceIdeal.τ).loc MergeReferenceIdeal.main_arg16))
      ∧ r.2.sem = fun _ => 0) :=
  (θ_run _ _ _).mono (fun r h => ⟨fun c => (h c).2, sem_eq_zero_of_no_sems (by decide) r.2⟩) (MergeReferenceIdeal.Value.run m ρ)

end Cert.MergeClaim

end
-- ==== Proof.CrossOk.lean ====
module

/-
The table of the cross-attention names memories that exist, so that every block of the memories lies in its array.
-/
public import proofs.«01_k».proof.Proof.Gen.Cross.Frame
public import proofs.«01_k».proof.Proof.Gen.CrossIdeal.Frame

@[expose] public section

set_option maxRecDepth 16384

noncomputable section

namespace Cert.CrossIdeal.Gen

open Cert.CrossIdeal
open Idealize.ShloMosaic Idealize.ShloMosaic.TcCoe Idealize.ShloMosaic.Tactic Idealize.ShloMosaic.Pipeline

variable {F : FTy → Type} [FloatOps F] (m : (ℓ : Loc nD τ sig) → Buf (Elt F) ℓ)

/-- Every entry of the table names a memory. -/
theorem lit0_lt : ∀ t : Fin 64, (lit0 t).toNat < 5 := by decide +kernel

/-- A point's offset in the table. -/
theorem off_val : ∀ i : grid0.Coords, (Scalar.indexCast (BitVec.ofNat 32 (i 0).val)).toNat = (i 0).val := fun i => congrFun (k0_off1_eq i) 0

/-- What a point reads of the table. -/
theorem table_at (i : grid0.Coords) (h : ∀ a, (![(Scalar.indexCast (BitVec.ofNat 32 (i 0).val)).toNat] : Fin 1 → ℕ) a + S1.size a ≤ S64.size a) :
    (tbl m).at 0 (Rect.unit (s := S64) ![(Scalar.indexCast (BitVec.ofNat 32 (i 0).val)).toNat] S1.size h) numel1_S1 = lit0 ⟨(i 0).val, (i 0).isLt⟩ := by
  have e' : ∀ y : S64.Idx, tbl m 0 y = lit0 (S64.rowMajor y) := fun _ => rfl
  have e : ∀ y : S64.Idx, tbl m 0 y = lit0 ⟨(y 0).val, (y 0).isLt⟩ := fun y => (e' y).trans (congrArg lit0 (Fin.ext (Shape.rowMajor_val_one y)))
  refine (e _).trans (congrArg lit0 (Fin.ext ?_))
  have h' := off_val i
  show (Scalar.indexCast (BitVec.ofNat 32 (i 0).val)).toNat + 0 * 1 = (i 0).val
  omega

/-- The keys' block at a point. -/
theorem keys_map (i : grid0.Coords) : cc0_transform_4 k0_off1_inb numel1_S1 (tbl m) i = ![(lit0 ⟨(i 0).val, (i 0).isLt⟩).toNat, 0, 0] :=
  congrArg (fun z : BitVec 32 => ![z.toNat, 0, 0]) (table_at m i _)

/-- The values' block at a point. -/
theorem vals_map (i : grid0.Coords) : cc0_transform_5 k0_off1_inb numel1_S1 (tbl m) i = ![(lit0 ⟨(i 0).val, (i 0).isLt⟩).toNat, 0, 0] :=
  congrArg (fun z : BitVec 32 => ![z.toNat, 0, 0]) (table_at m i _)

/-- A named memory lies in the array. -/
theorem block_in (f : Fin 3 → ℕ) (t : Fin 64) (e : f = ![(lit0 t).toNat, 0, 0]) (a : Fin 3) : (f a + 1) * S1x256x1024.size a ≤ S5x256x1024.size a := by
  subst e
  have h := lit0_lt t
  match a with
  | ⟨0, _⟩ => show ((lit0 t).toNat + 1) * 1 ≤ 5; omega
  | ⟨1, _⟩ => show (0 + 1) * 256 ≤ 256; omega
  | ⟨2, _⟩ => show (0 + 1) * 1024 ≤ 1024; omega

/-- The table's side condition. -/
theorem ok : Ok m :=
  ⟨fun i => ⟨block_in _ _ (keys_map m i), .inr (Affine.block_words_dvd (of_decide_eq_true rfl) (by decide))⟩,
    fun i => ⟨block_in _ _ (vals_map m i), .inr (Affine.block_words_dvd (of_decide_eq_true rfl) (by decide))⟩⟩

end Cert.CrossIdeal.Gen

namespace Cert.Cross.Gen

open Cert.Cross
open Idealize.ShloMosaic Idealize.ShloMosaic.TcCoe Idealize.ShloMosaic.Tactic Idealize.ShloMosaic.Pipeline

variable {F : FTy → Type} [FloatOps F] (m : (ℓ : Loc nD τ sig) → Buf (Elt F) ℓ)

/-- Every entry of the table names a memory. -/
theorem lit0_lt : ∀ t : Fin 64, (lit0 t).toNat < 5 := by decide +kernel

/-- A point's offset in the table. -/
theorem off_val : ∀ i : grid0.Coords, (Scalar.indexCast (BitVec.ofNat 32 (i 0).val)).toNat = (i 0).val := fun i => congrFun (k0_off1_eq i) 0

/-- What a point reads of the table. -/
theorem table_at (i : grid0.Coords) (h : ∀ a, (![(Scalar.indexCast (BitVec.ofNat 32 (i 0).val)).toNat] : Fin 1 → ℕ) a + S1.size a ≤ S64.size a) :
    (tbl m).at 0 (Rect.unit (s := S64) ![(Scalar.indexCast (BitVec.ofNat 32 (i 0).val)).toNat] S1.size h) numel1_S1 = lit0 ⟨(i 0).val, (i 0).isLt⟩ := by
  have e' : ∀ y : S64.Idx, tbl m 0 y = lit0 (S64.rowMajor y) := fun _ => rfl
  have e : ∀ y : S64.Idx, tbl m 0 y = lit0 ⟨(y 0).val, (y 0).isLt⟩ := fun y => (e' y).trans (congrArg lit0 (Fin.ext (Shape.rowMajor_val_one y)))
  refine (e _).trans (congrArg lit0 (Fin.ext ?_))
  have h' := off_val i
  show (Scalar.indexCast (BitVec.ofNat 32 (i 0).val)).toNat + 0 * 1 = (i 0).val
  omega

/-- The keys' block at a point. -/
theorem keys_map (i : grid0.Coords) : cc0_transform_4 k0_off1_inb numel1_S1 (tbl m) i = ![(lit0 ⟨(i 0).val, (i 0).isLt⟩).toNat, 0, 0] :=
  congrArg (fun z : BitVec 32 => ![z.toNat, 0, 0]) (table_at m i _)

/-- The values' block at a point. -/
theorem vals_map (i : grid0.Coords) : cc0_transform_5 k0_off1_inb numel1_S1 (tbl m) i = ![(lit0 ⟨(i 0).val, (i 0).isLt⟩).toNat, 0, 0] :=
  congrArg (fun z : BitVec 32 => ![z.toNat, 0, 0]) (table_at m i _)

/-- A named memory lies in the array. -/
theorem block_in (f : Fin 3 → ℕ) (t : Fin 64) (e : f = ![(lit0 t).toNat, 0, 0]) (a : Fin 3) : (f a + 1) * S1x256x1024.size a ≤ S5x256x1024.size a := by
  subst e
  have h := lit0_lt t
  match a with
  | ⟨0, _⟩ => show ((lit0 t).toNat + 1) * 1 ≤ 5; omega
  | ⟨1, _⟩ => show (0 + 1) * 256 ≤ 256; omega
  | ⟨2, _⟩ => show (0 + 1) * 1024 ≤ 1024; omega

/-- The table's side condition. -/
theorem ok : Ok m :=
  ⟨fun i => ⟨block_in _ _ (keys_map m i), .inr (Affine.block_words_dvd (of_decide_eq_true rfl) (by decide))⟩,
    fun i => ⟨block_in _ _ (vals_map m i), .inr (Affine.block_words_dvd (of_decide_eq_true rfl) (by decide))⟩⟩

end Cert.Cross.Gen

end
-- ==== Proof.CrossMath.lean ====
module

/-
The cross-attention as plain arithmetic: rows normalized and multiplied by the query weights, four heads of normalized queries
against the memory's keys, the softmax average of the memory's values, and the last weights.
-/
public import proofs.«01_k».proof.Proof.FlashMath
public import proofs.«01_k».proof.Proof.FfnMath

@[expose] public section

noncomputable section

namespace Cert.CrossMath

open Idealize.ShloMosaic

/-- The scale of the logits. -/
def scale : EReal := Ideal.ofBits .f32 0x3D800000#32

/-- The scale is a sixteenth. -/
theorem scale_eq : scale = ((1 / 16 : ℝ) : EReal) := by
  simp [scale, Ideal.ofBits, Ideal.ieee]
  rw [← EReal.coe_mul]
  norm_num

/-- An entry of a head's normalized query. -/
def query (p g : Fin 256 → EReal) (d : Fin 256) : EReal :=
  p d * Ideal.rsqrt (Ideal.div (∑ j : Fin 256, p j * p j) (Ideal.ofBits .f32 0x43800000#32) + Ideal.ofBits .f32 0x358637BD#32) * g d

/-- A logit: the scaled query against a key. -/
def logit (q k : Fin 256 → EReal) : EReal := ∑ d : Fin 256, q d * scale * k d

/-- The scale may be taken out of the product. -/
theorem logit_eq (q k : Fin 256 → EReal) : (∑ d : Fin 256, q d * k d) * scale = logit q k := by
  unfold logit
  rw [scale_eq, FlashMath.sum_mul_coe _ _ _ (by norm_num)]
  exact Finset.sum_congr rfl fun d _ => mul_right_comm _ _ _

/-- The greatest logit. -/
def top (s : Fin 256 → EReal) : EReal := Finset.univ.fold max ⊥ s

/-- A softmax weight. -/
def weight (s : Fin 256 → EReal) (m : Fin 256) : EReal :=
  Ideal.div (Ideal.exp (s m - top s)) (∑ k : Fin 256, Ideal.exp (s k - top s))

/-- An entry of a head's result. -/
def head (p g : Fin 256 → EReal) (k v : Fin 256 → Fin 256 → EReal) (d : Fin 256) : EReal :=
  ∑ m : Fin 256, weight (fun m => logit (query p g) (k m)) m * v m d

/-- An entry of the queries of a row before they are normalized. -/
def proj (x g : Fin 1024 → EReal) (w : Fin 1024 → Fin 1024 → EReal) (q : Fin 1024) : EReal :=
  ∑ j : Fin 1024, FfnMath.norm (fun _ : Fin 1 => x) g 0 j * w j q

/-- The column `d` of head `h`. -/
def col (h : Fin 4) (d : Fin 256) : Fin 1024 := ⟨256 * h.val + d.val, by omega⟩

/-- The head of a column. -/
def hd (j : Fin 1024) : Fin 4 := ⟨j.val / 256, by omega⟩
/-- The column's place in its head. -/
def off (j : Fin 1024) : Fin 256 := ⟨j.val % 256, by omega⟩

/-- One entry of the result: the row plus the product of its four heads. -/
def result (x g : Fin 1024 → EReal) (wq : Fin 1024 → Fin 1024 → EReal) (gq : Fin 256 → EReal) (k v : Fin 256 → Fin 1024 → EReal)
    (wo : Fin 1024 → Fin 1024 → EReal) (c : Fin 1024) : EReal :=
  x c + ∑ j : Fin 1024, head (fun d => proj x g wq (col (hd j) d)) gq (fun m d => k m (col (hd j) d)) (fun m d => v m (col (hd j) d)) (off j) * wo j c

/-- Equal arguments, equal results. -/
theorem result_congr {x x' g g' : Fin 1024 → EReal} {wq wq' wo wo' : Fin 1024 → Fin 1024 → EReal} {gq gq' : Fin 256 → EReal} {k k' v v' : Fin 256 → Fin 1024 → EReal}
    (h0 : x = x') (h1 : g = g') (h2 : wq = wq') (h3 : gq = gq') (h4 : k = k') (h5 : v = v') (h6 : wo = wo') (c : Fin 1024) :
    result x g wq gq k v wo c = result x' g' wq' gq' k' v' wo' c := by
  rw [h0, h1, h2, h3, h4, h5, h6]

/-- The sequence of a row: four of 4096 rows and one of 16384. -/
def seq (r : Fin 32768) : Fin 5 := if h : r.val < 16384 then ⟨r.val / 4096, by omega⟩ else 4

end Cert.CrossMath

end
-- ==== Proof.CrossBlock.lean ====
module

/-
What one grid point of the cross-attention computes, head by head and entry by entry.
-/
public import proofs.«01_k».proof.Proof.CrossOk
public import proofs.«01_k».proof.Proof.CrossMath
public import Idealize.ShloMosaic.Lib.Pipeline.ValueKit
public import Idealize.ShloMosaic.Lib.Pipeline.ReadBack

@[expose] public section

set_option maxRecDepth 16384

noncomputable section

namespace Cert.CrossIdeal.Cross

open Cert.CrossIdeal.Gen Cert.CrossMath
open Idealize.ShloMosaic Idealize.ShloMosaic.TcCoe Idealize.ShloMosaic.Tactic Idealize.ShloMosaic.Pipeline

/-- Minus infinity's pattern. -/
theorem bot_bits : Ideal.ofBits .f32 0xFF800000#32 = ⊥ := by simp [Ideal.ofBits, Ideal.ieee]

/-- A head's logits, from its columns of the queries. -/
def scores (p : FVec Ideal S512x256 .f32) (g : Vec Ideal S1x256 .f32) (k : Vec Ideal S1x256x256 .bf16) : FVec Ideal S512x256 .f32 :=
  matmul dot_S512x256_S256x256_S512x256_1_1_0_0_n_n none
    (truncf .bf16 (mulf (mulf (mulf p (broadcastTo S512x256 (rsqrt (addf (divf (shapeCast S512x1 (multiReduction .add [1] S512 (mulf p p) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256)) (broadcastTo S512x256 g broadcasts_S1x256_S512x256))
      (broadcast S512x256 (Scalar.ofBits .f32 0x3D800000#32))) bitsLt_bf16_f32 : FVec Ideal S512x256 .bf16)
    (shapeCast S256x256 k shapeCasts_S1x256x256_S256x256 : FVec Ideal S256x256 .bf16) (constant S512x256 .f32 0x00000000#32)

/-- A head's weights, from its logits. -/
def weights (s : FVec Ideal S512x256 .f32) : FVec Ideal S512x256 .bf16 :=
  truncf .bf16 (divf (exp (subf s (broadcastTo S512x256 (shapeCast S512x1 (multiReduction .maximumf [1] S512 s 0xFF800000#32 reduces_S512x256_S512 (.inl rfl) rfl) shapeCasts_S512_S512x1) broadcasts_S512x1_S512x256)))
    (broadcastTo S512x256 (shapeCast S512x1 (multiReduction .add [1] S512 (exp (subf s (broadcastTo S512x256 (shapeCast S512x1 (multiReduction .maximumf [1] S512 s 0xFF800000#32 reduces_S512x256_S512 (.inl rfl) rfl) shapeCasts_S512_S512x1) broadcasts_S512x1_S512x256))) 0x00000000#32 reduces_S512x256_S512 (.inl rfl) rfl) shapeCasts_S512_S512x1) broadcasts_S512x1_S512x256)) bitsLt_bf16_f32

/-- The queries of a block of rows. -/
theorem proj_apply (x : Vec Ideal S512x1024 .f32) (g : Vec Ideal S1x1024 .f32) (w : Vec Ideal S1024x1024 .bf16) (r : Fin 512) (q : Fin 1024) :
    k0_pay1 x g w (ValueIdx.ix2 r q)
      = proj (fun k => x (ValueIdx.ix2 r k)) (fun k => g (ValueIdx.ix2 0 k)) (fun j q => w (ValueIdx.ix2 j q)) q := by
  unfold k0_pay1
  pointwise
  rfl

/-- A logit. -/
theorem scores_apply (p : FVec Ideal S512x256 .f32) (g : Vec Ideal S1x256 .f32) (k : Vec Ideal S1x256x256 .bf16) (r : Fin 512) (m : Fin 256) :
    scores p g k (ValueIdx.ix2 r m) = logit (query (fun d => p (ValueIdx.ix2 r d)) (fun d => g (ValueIdx.ix2 0 d))) (fun d => k (ValueIdx.ix3 0 m d)) := by
  unfold scores
  pointwise
  rfl

/-- A weight. -/
theorem weights_apply (s : FVec Ideal S512x256 .f32) (r : Fin 512) (m : Fin 256) :
    weights s (ValueIdx.ix2 r m) = weight (fun m => s (ValueIdx.ix2 r m)) m := by
  unfold weights weight top
  pointwise
  rw [bot_bits]
  rfl

/-- A head's result. -/
theorem head_apply (a : FVec Ideal S512x256 .bf16) (v : Vec Ideal S1x256x256 .bf16) (r : Fin 512) (d : Fin 256) :
    k0_pay6 a v (ValueIdx.ix2 r d) = ∑ m : Fin 256, a (ValueIdx.ix2 r m) * v (ValueIdx.ix3 0 m d) := by
  unfold k0_pay6
  pointwise
  rfl

/-- The first head's logits. -/
theorem scores0 (x : Vec Ideal S512x1024 .f32) (g : Vec Ideal S1x1024 .f32) (w : Vec Ideal S1024x1024 .bf16) (q : Vec Ideal S1x256 .f32) (k : Vec Ideal S1x256x256 .bf16) :
    k0_pay2 x g w q k = scores (extractStridedSlice S512x256 ![0, 0] (k0_pay1 x g w) slices_S512x1024_o0_0_S512x256) q k := rfl

/-- The first head's result. -/
theorem head0 (s : FVec Ideal S512x256 .f32) (v : Vec Ideal S1x256x256 .bf16) :
    k0_pay4 s (multiReduction .maximumf [1] S512 s 0xFF800000#32 reduces_S512x256_S512 (.inl rfl) rfl) v = k0_pay6 (weights s) v := rfl

/-- The second head's weights. -/
theorem weights1 (p : FVec Ideal S512x1024 .f32) (q : Vec Ideal S1x256 .f32) (k : Vec Ideal S1x256x256 .bf16) :
    k0_pay5 p q k = weights (scores (extractStridedSlice S512x256 ![0, 256] p slices_S512x1024_o0_256_S512x256) q k) := rfl

/-- The third head's result. -/
theorem head2 (p : FVec Ideal S512x1024 .f32) (q : Vec Ideal S1x256 .f32) (k v : Vec Ideal S1x256x256 .bf16) :
    k0_pay7 p q k v = k0_pay6 (weights (scores (extractStridedSlice S512x256 ![0, 512] p slices_S512x1024_o0_512_S512x256) q k)) v := rfl

/-- The four heads side by side. -/
def heads (a b c d : FVec Ideal S512x256 .bf16) : FVec Ideal S512x1024 .bf16 :=
  concatenate S512x1024 1 [⟨S512x256, a⟩, ⟨S512x256, b⟩, ⟨S512x256, c⟩, ⟨S512x256, d⟩] concatenates_S512x256_S512x256_S512x256_S512x256_S512x1024_d1

/-- The heads through the output weights, onto the rows. -/
def closing (x : Vec Ideal S512x1024 .f32) (a : FVec Ideal S512x1024 .bf16) (w : Vec Ideal S1024x1024 .bf16) : FVec Ideal S512x1024 .f32 :=
  addf x (matmul (φ₂ := .bf16) dot_S512x1024_S1024x1024_S512x1024_1_0_0_1_n_n none a w (constant S512x1024 .f32 0x00000000#32))

/-- What the point leaves, from the heads. -/
theorem closing_eq (x : Vec Ideal S512x1024 .f32) (a b c : FVec Ideal S512x256 .bf16) (p : FVec Ideal S512x256 .f32) (q : Vec Ideal S1x256 .f32)
    (k v : Vec Ideal S1x256x256 .bf16) (w : Vec Ideal S1024x1024 .bf16) :
    k0_pay9 x a b c p q k v w = closing x (heads a b c (k0_pay6 (weights (scores p q k)) v)) w := rfl

/-- An entry of the closing sum. -/
theorem closing_apply (x : Vec Ideal S512x1024 .f32) (a : FVec Ideal S512x1024 .bf16) (w : Vec Ideal S1024x1024 .bf16) (r : Fin 512) (c : Fin 1024) :
    closing x a w (ValueIdx.ix2 r c) = x (ValueIdx.ix2 r c) + ∑ j : Fin 1024, a (ValueIdx.ix2 r j) * w (ValueIdx.ix2 j c) := by
  unfold closing
  pointwise
  rfl

/-- The columns of a memory from `o` on. -/
def colsAt (x : Vec Ideal S1x256x1024 .bf16) (o : ℕ) (h : ∀ a, (![0, 0, o] : Fin 3 → ℕ) a + S1x256x256.size a ≤ S1x256x1024.size a) : Vec Ideal S1x256x256 .bf16 :=
  View.ld (Val := Elt Ideal) (e' := .bf16) x (Rect.unit (s := S1x256x1024) ![0, 0, o] S1x256x256.size h)

/-- An entry of them. -/
theorem colsAt_apply (x : Vec Ideal S1x256x1024 .bf16) (h : Fin 4) (hi : ∀ a, (![0, 0, 256 * h.val] : Fin 3 → ℕ) a + S1x256x256.size a ≤ S1x256x1024.size a) (m d : Fin 256) :
    colsAt x (256 * h.val) hi (ValueIdx.ix3 0 m d) = x (ValueIdx.ix3 0 m (col h d)) := by
  refine View.ld_unit_apply_of _ _ _ _ _ _ fun a => ?_
  match a with
  | ⟨0, _⟩ => rfl
  | ⟨1, _⟩ => exact (Nat.zero_add _).symm
  | ⟨2, _⟩ => rfl

/-- One head's result, its columns starting at `o`. -/
def one (p : FVec Ideal S512x1024 .f32) (q : Vec Ideal S1x256 .f32) (k v : Vec Ideal S1x256x1024 .bf16) (o : ℕ) (hs : S512x1024.Slices ![0, o] S512x256)
    (hi : ∀ a, (![0, 0, o] : Fin 3 → ℕ) a + S1x256x256.size a ≤ S1x256x1024.size a) : FVec Ideal S512x256 .bf16 :=
  k0_pay6 (weights (scores (extractStridedSlice S512x256 ![0, o] p hs) q (colsAt k o hi))) (colsAt v o hi)

/-- An entry of a head's result. -/
theorem one_apply (p : FVec Ideal S512x1024 .f32) (q : Vec Ideal S1x256 .f32) (k v : Vec Ideal S1x256x1024 .bf16) (h : Fin 4) (hs : S512x1024.Slices ![0, 256 * h.val] S512x256)
    (hi : ∀ a, (![0, 0, 256 * h.val] : Fin 3 → ℕ) a + S1x256x256.size a ≤ S1x256x1024.size a) (r : Fin 512) (d : Fin 256) :
    one p q k v (256 * h.val) hs hi (ValueIdx.ix2 r d)
      = head (fun d => p (ValueIdx.ix2 r (col h d))) (fun d => q (ValueIdx.ix2 0 d)) (fun m d => k (ValueIdx.ix3 0 m (col h d))) (fun m d => v (ValueIdx.ix3 0 m (col h d))) d := by
  unfold one
  have e : ∀ d : Fin 256, extractStridedSlice S512x256 ![0, 256 * h.val] p hs (ValueIdx.ix2 r d) = p (ValueIdx.ix2 r (col h d)) := fun d => by
    refine extractStridedSlice_apply _ _ _ _ _ fun a => ?_
    match a with
    | ⟨0, _⟩ => exact (Nat.zero_add _).symm
    | ⟨1, _⟩ => rfl
  rw [head_apply]
  refine Finset.sum_congr rfl fun m _ => ?_
  rw [weights_apply, colsAt_apply]
  refine congrArg (fun s => weight s m * v (ValueIdx.ix3 0 m (col h d))) (funext fun n => ?_)
  rw [scores_apply]
  exact congrArg₂ logit (congrArg (query · _) (funext e)) (funext fun d => colsAt_apply k h hi n d)

/-- An entry of the heads side by side. -/
theorem heads_apply (f : Fin 4 → FVec Ideal S512x256 .bf16) (r : Fin 512) (j : Fin 1024) :
    heads (f 0) (f 1) (f 2) (f 3) (ValueIdx.ix2 r j) = f (hd j) (ValueIdx.ix2 r (off j)) := by
  unfold heads
  obtain ⟨h, d, rfl⟩ : ∃ h d, j = col h d := ⟨hd j, off j, Fin.ext (Nat.div_add_mod _ _).symm⟩
  have eh : hd (col h d) = h := Fin.ext (by show (256 * h.val + d.val) / 256 = h.val; omega)
  have ed : off (col h d) = d := Fin.ext (by show (256 * h.val + d.val) % 256 = d.val; omega)
  rw [eh, ed]
  have side : ∀ h : Fin 4, ∀ b : Fin 2, b ≠ (1 : Fin 2) → ((ValueIdx.ix2 r d : S512x256.Idx) b).val = ((ValueIdx.ix2 r (col h d) : S512x1024.Idx) b).val := fun h b hb => by
    match b with
    | ⟨0, _⟩ => rfl
    | ⟨1, _⟩ => exact absurd rfl hb
  match h with
  | ⟨0, _⟩ => exact concatenate_apply_piece (t := S512x1024) 1 _ _ _ 0 (by simp) S512x256 (f 0) rfl rfl 0 rfl (ValueIdx.ix2 r d) (side 0) rfl
  | ⟨1, _⟩ => exact concatenate_apply_piece (t := S512x1024) 1 _ _ _ 1 (by simp) S512x256 (f 1) rfl rfl 256 rfl (ValueIdx.ix2 r d) (side 1) rfl
  | ⟨2, _⟩ => exact concatenate_apply_piece (t := S512x1024) 1 _ _ _ 2 (by simp) S512x256 (f 2) rfl rfl 512 rfl (ValueIdx.ix2 r d) (side 2) rfl
  | ⟨3, _⟩ => exact concatenate_apply_piece (t := S512x1024) 1 _ _ _ 3 (by simp) S512x256 (f 3) rfl rfl 768 rfl (ValueIdx.ix2 r d) (side 3) rfl

/-- What a point leaves, from its blocks. -/
def tile (x : Vec Ideal S512x1024 .f32) (g : Vec Ideal S1x1024 .f32) (wq : Vec Ideal S1024x1024 .bf16) (gq : Vec Ideal S1x256 .f32) (k v : Vec Ideal S1x256x1024 .bf16)
    (wo : Vec Ideal S1024x1024 .bf16) : FVec Ideal S512x1024 .f32 :=
  closing x (heads (one (k0_pay1 x g wq) gq k v 0 slices_S512x1024_o0_0_S512x256 inb_S1x256x1024_S1x256x256_0_0_0)
    (one (k0_pay1 x g wq) gq k v 256 slices_S512x1024_o0_256_S512x256 inb_S1x256x1024_S1x256x256_0_0_256)
    (one (k0_pay1 x g wq) gq k v 512 slices_S512x1024_o0_512_S512x256 inb_S1x256x1024_S1x256x256_0_0_512)
    (one (k0_pay1 x g wq) gq k v 768 slices_S512x1024_o0_768_S512x256 inb_S1x256x1024_S1x256x256_0_0_768)) wo

/-- An entry of what a point leaves. -/
theorem tile_apply (x : Vec Ideal S512x1024 .f32) (g : Vec Ideal S1x1024 .f32) (wq : Vec Ideal S1024x1024 .bf16) (gq : Vec Ideal S1x256 .f32) (k v : Vec Ideal S1x256x1024 .bf16)
    (wo : Vec Ideal S1024x1024 .bf16) (r : Fin 512) (c : Fin 1024) :
    tile x g wq gq k v wo (ValueIdx.ix2 r c)
      = result (fun c => x (ValueIdx.ix2 r c)) (fun c => g (ValueIdx.ix2 0 c)) (fun j q => wq (ValueIdx.ix2 j q)) (fun d => gq (ValueIdx.ix2 0 d))
          (fun m j => k (ValueIdx.ix3 0 m j)) (fun m j => v (ValueIdx.ix3 0 m j)) (fun j c => wo (ValueIdx.ix2 j c)) c := by
  unfold tile
  rw [closing_apply]
  refine congrArg (x (ValueIdx.ix2 r c) + ·) (Finset.sum_congr rfl fun j _ => congrArg (· * wo (ValueIdx.ix2 j c)) ?_)
  have hs : ∀ h : Fin 4, S512x1024.Slices ![0, 256 * h.val] S512x256 := by decide
  have hi : ∀ h : Fin 4, ∀ a, (![0, 0, 256 * h.val] : Fin 3 → ℕ) a + S1x256x256.size a ≤ S1x256x1024.size a := by decide
  refine (heads_apply (fun h => one (k0_pay1 x g wq) gq k v (256 * h.val) (hs h) (hi h)) r j).trans ?_
  refine (one_apply _ gq k v (hd j) (hs _) (hi _) r (off j)).trans ?_
  exact congrArg (fun p => head p (fun d => gq (ValueIdx.ix2 0 d)) (fun m d => k (ValueIdx.ix3 0 m (col (hd j) d))) (fun m d => v (ValueIdx.ix3 0 m (col (hd j) d))) (off j))
    (funext fun d => proj_apply x g wq r (col (hd j) d))

variable (m : (ℓ : Loc nD τ sig) → Buf (Elt Ideal) ℓ)

/-- What the run's stores leave. -/
theorem run_eq (c : Dev nD) (t : Fin (cfgM m (ok m)).N) (x0 : Vec Ideal S512x1024 .f32) (x1 : Vec Ideal S1x1024 .f32) (x2 : Vec Ideal S1024x1024 .bf16) (x3 : Vec Ideal S1x256 .f32)
    (x4 x5 : Vec Ideal S1x256x1024 .bf16) (x6 : Vec Ideal S1024x1024 .bf16) (xt0 : (View.whole main_c).ty.Contents (Elt Ideal)) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
      (ms0_4 m (ok m) t) (hs0_4 m (ok m) t) (ms0_5 m (ok m) t) (hs0_5 m (ok m) t) (ms0_6 m (ok m) t) (hs0_6 m (ok m) t) (ms0_7 m (ok m) t) (hs0_7 m (ok m) t)
      x0 x1 x2 x3 x4 x5 x6 xt0 = tile x0 x1 x2 x3 x4 x5 x6 := by
  unfold out0_A_7
  frame_out
  rfl

/-- What a point leaves. -/
theorem out_eq (c : Dev nD) (t : Fin (cfgM m (ok m)).N) :
    outsAt0 m (ok m) c t = tile (iblk m (ok m) c 0 t) (iblk m (ok m) c 1 t) (iblk m (ok m) c 2 t) (iblk m (ok m) c 3 t) (iblk m (ok m) c 4 t) (iblk m (ok m) c 5 t) (iblk m (ok m) c 6 t) :=
  run_eq m c t _ _ _ _ _ _ _ _

end Cert.CrossIdeal.Cross

end
-- ==== Proof.CrossPrompt.lean ====
module

/-
The reference's cross-attention on the prompt, read entry by entry.
-/
public import proofs.«01_k».proof.Proof.Gen.CrossReferenceIdeal.Read
public import proofs.«01_k».proof.Proof.CrossMath
public import Idealize.ShloMosaic.Lib.KernelVsHost

@[expose] public section

set_option maxRecDepth 16384

noncomputable section

namespace Cert.CrossRef.Prompt

open Cert.CrossReferenceIdeal Cert.CrossReferenceIdeal.Gen Cert.CrossReferenceIdeal.Read Cert.CrossMath
open Idealize.ShloMosaic Idealize.ShloMosaic.TcCoe Idealize.ShloMosaic.Tactic

/-- The row of the whole array. -/
def row (b : Fin 4) (s : Fin 4096) : Fin 32768 := ⟨b.val * 4096 + s.val, by omega⟩

/-- The memory of a sequence. -/
def mem (b : Fin 4) : Fin 5 := ⟨b.val, by omega⟩

variable (x0 : (⟨S32768x1024, .f32⟩ : BufTy).Contents (Elt Ideal)) (x1 : (⟨S1x1024, .f32⟩ : BufTy).Contents (Elt Ideal))
  (x2 : (⟨S1024x1024, .bf16⟩ : BufTy).Contents (Elt Ideal)) (x3 : (⟨S1x256, .f32⟩ : BufTy).Contents (Elt Ideal))
  (x4 x5 : (⟨S5x256x1024, .bf16⟩ : BufTy).Contents (Elt Ideal)) (x6 : (⟨S1024x1024, .bf16⟩ : BufTy).Contents (Elt Ideal))

/-- The rows. -/
abbrev X (r : Fin 32768) (k : Fin 1024) : EReal := x0 (ValueIdx.ix2 r k)
/-- The scale. -/
abbrev G (k : Fin 1024) : EReal := x1 (ValueIdx.ix2 0 k)
/-- The queries' weights. -/
abbrev W (j q : Fin 1024) : EReal := x2 (ValueIdx.ix2 j q)
/-- The queries' scale. -/
abbrev Q (d : Fin 256) : EReal := x3 (ValueIdx.ix2 0 d)
/-- The keys or the values of a sequence. -/
abbrev K (n : Fin 5) (m : Fin 256) (j : Fin 1024) : EReal := x4 (ValueIdx.ix3 n m j)
/-- The output weights. -/
abbrev O (j c : Fin 1024) : EReal := x6 (ValueIdx.ix2 j c)

theorem source_apply (b : Fin 4) (s : Fin 4096) (k : Fin 1024) : val_main_v5 (F := Ideal) x0 (ValueIdx.ix3 b s k) = x0 (ValueIdx.ix2 (row b s) k) := by
  simp only [val_main_v5_apply, val_main_v4_apply]
  refine congrArg x0 ((ValueIdx.eq_ix2 _).trans ?_)
  have e0 : idx_main_v4 (idx_main_v5 (ValueIdx.ix3 b s k)) 0 = row b s := Fin.ext (by
    show ((b.val * 4096 + s.val) * 1024 + k.val) / 1024 = b.val * 4096 + s.val
    omega)
  have e1 : idx_main_v4 (idx_main_v5 (ValueIdx.ix3 b s k)) 1 = k := Fin.ext (by
    show ((b.val * 4096 + s.val) * 1024 + k.val) % 1024 = k.val
    omega)
  rw [e0, e1]
  rfl

theorem keys_apply (b : Fin 4) (m : Fin 256) (h : Fin 4) (d : Fin 256) : val_main_v6 (F := Ideal) x4 (ValueIdx.ix4 b m h d) = K x4 (mem b) m (col h d) := by
  simp only [val_main_v6_apply, val_main_v1_apply, val_main_v0_apply]
  refine congrArg x4 ((ValueIdx.eq_ix3 _).trans ?_)
  have e0 : idx_main_v1 (idx_main_v6 (ValueIdx.ix4 b m h d)) 0 = mem b := Fin.ext (by
    show (((b.val * 256 + m.val) * 4 + h.val) * 256 + d.val) / 262144 = b.val
    omega)
  have e1 : idx_main_v1 (idx_main_v6 (ValueIdx.ix4 b m h d)) 1 = m := Fin.ext (by
    show (((b.val * 256 + m.val) * 4 + h.val) * 256 + d.val) / 1024 % 256 = m.val
    omega)
  have e2 : idx_main_v1 (idx_main_v6 (ValueIdx.ix4 b m h d)) 2 = col h d := Fin.ext (by
    show (((b.val * 256 + m.val) * 4 + h.val) * 256 + d.val) % 1024 = 256 * h.val + d.val
    omega)
  rw [e0, e1, e2]
  rfl

theorem vals_apply (b : Fin 4) (m : Fin 256) (h : Fin 4) (d : Fin 256) : val_main_v7 (F := Ideal) x5 (ValueIdx.ix4 b m h d) = K x5 (mem b) m (col h d) :=
  keys_apply x5 b m h d

theorem square_sum (b : Fin 4) (s : Fin 4096) : val_main_v10 (F := Ideal) x0 (ValueIdx.ix2 b s) = ∑ j : Fin 1024, X x0 (row b s) j * X x0 (row b s) j := by
  simp only [val_main_v10_apply, val_main_cst_apply, Ideal.ofBits_def, Ideal.ofBits_zero_f32, zero_add]
  refine Finset.sum_congr rfl fun j _ => ?_
  have e : idx_main_v10 (ValueIdx.ix2 b s) j = ValueIdx.ix3 b s j := ValueIdx.eq_ix3 _
  rw [e, val_main_v9_apply, source_apply]
  rfl

theorem norm_apply (b : Fin 4) (s : Fin 4096) (k : Fin 1024) :
    val_main_v21 (F := Ideal) x0 x1 (ValueIdx.ix3 b s k) = FfnMath.norm (fun _ : Fin 1 => X x0 (row b s)) (G x1) 0 k := by
  simp only [val_main_v21_apply, val_main_v18_apply, val_main_v17_apply, val_main_v16_apply, val_main_v15_apply, val_main_v14_apply, val_main_v13_apply, val_main_v12_apply, val_main_v11_apply, val_main_v20_apply, val_main_v19_apply, val_main_v8_apply, val_main_cst_0_apply, val_main_cst_1_apply]
  have e : idx_main_v11 (idx_main_v17 (ValueIdx.ix3 b s k)) = ValueIdx.ix2 b s := ValueIdx.eq_ix2 _
  have eg : idx_main_v8 (idx_main_v19 (idx_main_v20 (ValueIdx.ix3 b s k))) = ValueIdx.ix2 0 k :=
    (ValueIdx.eq_ix2 _).trans (congrArg (ValueIdx.ix2 0) (Fin.ext (Nat.mod_eq_of_lt k.isLt)))
  rw [e, eg, square_sum, source_apply]
  rfl

theorem proj_apply (b : Fin 4) (s : Fin 4096) (q : Fin 1024) :
    val_main_v23 (F := Ideal) x0 x1 x2 (ValueIdx.ix3 b s q) = proj (X x0 (row b s)) (G x1) (W x2) q := by
  rw [val_main_v23_apply]
  refine Finset.sum_congr rfl fun j _ => ?_
  have el : lidx_main_v23 (ValueIdx.ix3 b s q) j = ValueIdx.ix3 b s j := ValueIdx.eq_ix3 _
  have er : ridx_main_v23 (ValueIdx.ix3 b s q) j = ValueIdx.ix2 j q := ValueIdx.eq_ix2 _
  rw [el, er, norm_apply, val_main_v22_apply]
  rfl

theorem split_apply (b : Fin 4) (s : Fin 4096) (h : Fin 4) (d : Fin 256) :
    val_main_v24 (F := Ideal) x0 x1 x2 (ValueIdx.ix4 b s h d) = proj (X x0 (row b s)) (G x1) (W x2) (col h d) := by
  rw [val_main_v24_apply]
  have e : idx_main_v24 (ValueIdx.ix4 b s h d) = ValueIdx.ix3 b s (col h d) := by
    refine (ValueIdx.eq_ix3 _).trans ?_
    have e0 : idx_main_v24 (ValueIdx.ix4 b s h d) 0 = b := Fin.ext (by
      show (((b.val * 4096 + s.val) * 4 + h.val) * 256 + d.val) / 4194304 = b.val
      omega)
    have e1 : idx_main_v24 (ValueIdx.ix4 b s h d) 1 = s := Fin.ext (by
      show (((b.val * 4096 + s.val) * 4 + h.val) * 256 + d.val) / 1024 % 4096 = s.val
      omega)
    have e2 : idx_main_v24 (ValueIdx.ix4 b s h d) 2 = col h d := Fin.ext (by
      show (((b.val * 4096 + s.val) * 4 + h.val) * 256 + d.val) % 1024 = 256 * h.val + d.val
      omega)
    rw [e0, e1, e2]
    rfl
  rw [e, proj_apply]

/-- A row's columns of one head, before they are normalized. -/
abbrev P (r : Fin 32768) (h : Fin 4) (d : Fin 256) : EReal := proj (X x0 r) (G x1) (W x2) (col h d)

theorem query_sum (b : Fin 4) (s : Fin 4096) (h : Fin 4) :
    val_main_v27 (F := Ideal) x0 x1 x2 (ValueIdx.ix3 b s h) = ∑ d : Fin 256, P x0 x1 x2 (row b s) h d * P x0 x1 x2 (row b s) h d := by
  simp only [val_main_v27_apply, val_main_cst_2_apply, Ideal.ofBits_def, Ideal.ofBits_zero_f32, zero_add]
  refine Finset.sum_congr rfl fun d _ => ?_
  have e : idx_main_v27 (ValueIdx.ix3 b s h) d = ValueIdx.ix4 b s h d := ValueIdx.eq_ix4 _
  rw [e, val_main_v26_apply, split_apply]
  rfl

theorem query_apply (b : Fin 4) (s : Fin 4096) (h : Fin 4) (d : Fin 256) :
    val_main_v38 (F := Ideal) x0 x1 x2 x3 (ValueIdx.ix4 b s h d) = query (P x0 x1 x2 (row b s) h) (Q x3) d := by
  simp only [val_main_v38_apply, val_main_v35_apply, val_main_v34_apply, val_main_v33_apply, val_main_v32_apply, val_main_v31_apply, val_main_v30_apply, val_main_v29_apply, val_main_v28_apply, val_main_v37_apply, val_main_v36_apply, val_main_v25_apply, val_main_cst_3_apply, val_main_cst_4_apply]
  have e : idx_main_v28 (idx_main_v34 (ValueIdx.ix4 b s h d)) = ValueIdx.ix3 b s h := ValueIdx.eq_ix3 _
  have eg : idx_main_v25 (idx_main_v36 (idx_main_v37 (ValueIdx.ix4 b s h d))) = ValueIdx.ix2 0 d :=
    (ValueIdx.eq_ix2 _).trans (congrArg (ValueIdx.ix2 0) (Fin.ext (Nat.mod_eq_of_lt d.isLt)))
  rw [e, eg, query_sum, split_apply]
  rfl

/-- A row's logits of one head. -/
abbrev L (b : Fin 4) (s : Fin 4096) (h : Fin 4) (m : Fin 256) : EReal := logit (query (P x0 x1 x2 (row b s) h) (Q x3)) (fun d => K x4 (mem b) m (col h d))

theorem logit_apply (b : Fin 4) (h : Fin 4) (s : Fin 4096) (m : Fin 256) :
    val_main_v41 (F := Ideal) x0 x1 x2 x3 x4 (ValueIdx.ix4 b h s m) = L x0 x1 x2 x3 x4 b s h m := by
  rw [val_main_v41_apply, val_main_v39_apply, val_main_v40_apply, val_main_cst_5_apply]
  refine Eq.trans ?_ (logit_eq _ _)
  refine congrArg (· * scale) (Finset.sum_congr rfl fun d _ => ?_)
  have el : lidx_main_v39 (ValueIdx.ix4 b h s m) d = ValueIdx.ix4 b s h d := ValueIdx.eq_ix4 _
  have er : ridx_main_v39 (ValueIdx.ix4 b h s m) d = ValueIdx.ix4 b m h d := ValueIdx.eq_ix4 _
  rw [el, er, query_apply, keys_apply]

theorem top_apply (b : Fin 4) (h : Fin 4) (s : Fin 4096) :
    val_main_v42 (F := Ideal) x0 x1 x2 x3 x4 (ValueIdx.ix3 b h s) = top (L x0 x1 x2 x3 x4 b s h) := by
  have hb : Ideal.ofBits .f32 0xFF800000#32 = ⊥ := by simp [Ideal.ofBits, Ideal.ieee]
  have hred : S4x4x4096x256.Reduces [3] S4x4x4096 := by decide
  have hy := fun m => logit_apply x0 x1 x2 x3 x4 b h s m
  unfold val_main_v42
  generalize val_main_v41 (F := Ideal) x0 x1 x2 x3 x4 = y at hy ⊢
  refine (Host.reduce_eq_fold_single _ y _ _ hred _ _).trans ?_
  have he : (val_main_cst_6 (F := Ideal)) (Shape.Idx.first h_S_) = ⊥ := hb
  rw [he]
  unfold top
  refine congrArg (fun f => Finset.univ.fold max ⊥ f) (funext fun k : Fin 256 => ?_)
  have hi : hred.lift (ValueIdx.ix3 b h s) k = ValueIdx.ix4 b h s k := by
    funext a; apply Fin.ext; fin_cases a <;> rfl
  exact (congrArg y hi).trans (hy k)

theorem exp_apply (b : Fin 4) (h : Fin 4) (s : Fin 4096) (m : Fin 256) :
    val_main_v48 (F := Ideal) x0 x1 x2 x3 x4 (ValueIdx.ix4 b h s m) = Ideal.exp (L x0 x1 x2 x3 x4 b s h m - top (L x0 x1 x2 x3 x4 b s h)) := by
  have hb : Ideal.ofBits .f32 0xFF800000#32 = ⊥ := by simp [Ideal.ofBits, Ideal.ieee]
  rw [val_main_v48_apply, val_main_v47_apply, val_main_v46_apply, val_main_v45_apply, val_main_v44_apply, val_main_v43_apply, val_main_cst_7_apply]
  have e : idx_main_v45 (idx_main_v46 (ValueIdx.ix4 b h s m)) = ValueIdx.ix3 b h s := ValueIdx.eq_ix3 _
  rw [e, logit_apply, top_apply, Ideal.ofBits_def, hb, Ideal.maximumf_def, max_eq_right bot_le]
  rfl

theorem weight_apply (b : Fin 4) (h : Fin 4) (s : Fin 4096) (m : Fin 256) :
    val_main_v52 (F := Ideal) x0 x1 x2 x3 x4 (ValueIdx.ix4 b h s m) = weight (L x0 x1 x2 x3 x4 b s h) m := by
  rw [val_main_v52_apply, val_main_v51_apply, val_main_v50_apply, exp_apply]
  have e : idx_main_v50 (idx_main_v51 (ValueIdx.ix4 b h s m)) = ValueIdx.ix3 b h s := ValueIdx.eq_ix3 _
  have es : val_main_v49 (F := Ideal) x0 x1 x2 x3 x4 (ValueIdx.ix3 b h s) = ∑ k : Fin 256, Ideal.exp (L x0 x1 x2 x3 x4 b s h k - top (L x0 x1 x2 x3 x4 b s h)) := by
    simp only [val_main_v49_apply, val_main_cst_8_apply, Ideal.ofBits_def, Ideal.ofBits_zero_f32, zero_add]
    refine Finset.sum_congr rfl fun k _ => ?_
    have e : idx_main_v49 (ValueIdx.ix3 b h s) k = ValueIdx.ix4 b h s k := ValueIdx.eq_ix4 _
    rw [e, exp_apply]
  rw [e, es]
  rfl

/-- A head's entry. -/
abbrev H (b : Fin 4) (s : Fin 4096) (h : Fin 4) (d : Fin 256) : EReal :=
  head (P x0 x1 x2 (row b s) h) (Q x3) (fun m d => K x4 (mem b) m (col h d)) (fun m d => K x5 (mem b) m (col h d)) d

theorem head_apply (b : Fin 4) (s : Fin 4096) (j : Fin 1024) :
    val_main_v55 (F := Ideal) x0 x1 x2 x3 x4 x5 (ValueIdx.ix3 b s j) = H x0 x1 x2 x3 x4 x5 b s (hd j) (off j) := by
  rw [val_main_v55_apply]
  have e : idx_main_v55 (ValueIdx.ix3 b s j) = ValueIdx.ix4 b s (hd j) (off j) := by
    refine (ValueIdx.eq_ix4 _).trans ?_
    have e0 : idx_main_v55 (ValueIdx.ix3 b s j) 0 = b := Fin.ext (by
      show ((b.val * 4096 + s.val) * 1024 + j.val) / 4194304 = b.val
      omega)
    have e1 : idx_main_v55 (ValueIdx.ix3 b s j) 1 = s := Fin.ext (by
      show ((b.val * 4096 + s.val) * 1024 + j.val) / 1024 % 4096 = s.val
      omega)
    have e2 : idx_main_v55 (ValueIdx.ix3 b s j) 2 = hd j := Fin.ext (by
      show ((b.val * 4096 + s.val) * 1024 + j.val) / 256 % 4 = j.val / 256
      omega)
    have e3 : idx_main_v55 (ValueIdx.ix3 b s j) 3 = off j := Fin.ext (by
      show ((b.val * 4096 + s.val) * 1024 + j.val) % 256 = j.val % 256
      omega)
    rw [e0, e1, e2, e3]
    rfl
  have et : idx_main_v54 (ValueIdx.ix4 b s (hd j) (off j)) = ValueIdx.ix4 b (hd j) (off j) s := ValueIdx.eq_ix4 _
  rw [e, val_main_v54_apply, et, val_main_v53_apply]
  refine Finset.sum_congr rfl fun m _ => ?_
  have el : lidx_main_v53 (ValueIdx.ix4 b (hd j) (off j) s) m = ValueIdx.ix4 b m (hd j) (off j) := ValueIdx.eq_ix4 _
  have er : ridx_main_v53 (ValueIdx.ix4 b (hd j) (off j) s) m = ValueIdx.ix4 b (hd j) s m := ValueIdx.eq_ix4 _
  rw [el, er, vals_apply, weight_apply, mul_comm]

theorem result_apply (b : Fin 4) (s : Fin 4096) (c : Fin 1024) :
    val_main_v58 (F := Ideal) x0 x1 x2 x3 x4 x5 x6 (ValueIdx.ix3 b s c)
      = result (X x0 (row b s)) (G x1) (W x2) (Q x3) (K x4 (mem b)) (K x5 (mem b)) (O x6) c := by
  rw [val_main_v58_apply, source_apply, val_main_v57_apply]
  refine congrArg (x0 (ValueIdx.ix2 (row b s) c) + ·) (Finset.sum_congr rfl fun j _ => ?_)
  have el : lidx_main_v57 (ValueIdx.ix3 b s c) j = ValueIdx.ix3 b s j := ValueIdx.eq_ix3 _
  have er : ridx_main_v57 (ValueIdx.ix3 b s c) j = ValueIdx.ix2 j c := ValueIdx.eq_ix2 _
  rw [el, er, head_apply, val_main_v56_apply]
  rfl

theorem half_apply (r : Fin 16384) (c : Fin 1024) (n : Fin 5) (hn : n.val = r.val / 4096) :
    val_main_v59 (F := Ideal) x0 x1 x2 x3 x4 x5 x6 (ValueIdx.ix2 r c)
      = result (X x0 ⟨r.val, by omega⟩) (G x1) (W x2) (Q x3) (K x4 n) (K x5 n) (O x6) c := by
  rw [val_main_v59_apply]
  have e : idx_main_v59 (ValueIdx.ix2 r c) = ValueIdx.ix3 ⟨r.val / 4096, by omega⟩ ⟨r.val % 4096, Nat.mod_lt _ (by omega)⟩ c := by
    refine (ValueIdx.eq_ix3 _).trans ?_
    have e0 : idx_main_v59 (ValueIdx.ix2 r c) 0 = (⟨r.val / 4096, by omega⟩ : Fin 4) := Fin.ext (by
      show (r.val * 1024 + c.val) / 4194304 = r.val / 4096
      omega)
    have e1 : idx_main_v59 (ValueIdx.ix2 r c) 1 = (⟨r.val % 4096, Nat.mod_lt _ (by omega)⟩ : Fin 4096) := Fin.ext (by
      show (r.val * 1024 + c.val) / 1024 % 4096 = r.val % 4096
      omega)
    have e2 : idx_main_v59 (ValueIdx.ix2 r c) 2 = c := Fin.ext (by
      show (r.val * 1024 + c.val) % 1024 = c.val
      omega)
    rw [e0, e1, e2]
    rfl
  rw [e, result_apply]
  have er : row (⟨r.val / 4096, by omega⟩ : Fin 4) ⟨r.val % 4096, Nat.mod_lt _ (by omega)⟩ = ⟨r.val, by omega⟩ := Fin.ext (by
    show r.val / 4096 * 4096 + r.val % 4096 = r.val
    omega)
  have em : mem (⟨r.val / 4096, by omega⟩ : Fin 4) = n := Fin.ext (by
    show r.val / 4096 = n.val
    omega)
  rw [er, em]

end Cert.CrossRef.Prompt

end
-- ==== Proof.CrossSample.lean ====
module

/-
The reference's cross-attention on the sample, read entry by entry.
-/
public import proofs.«01_k».proof.Proof.Gen.CrossReferenceIdeal.Read
public import proofs.«01_k».proof.Proof.CrossMath
public import Idealize.ShloMosaic.Lib.KernelVsHost

@[expose] public section

set_option maxRecDepth 16384

noncomputable section

namespace Cert.CrossRef.Sample

open Cert.CrossReferenceIdeal Cert.CrossReferenceIdeal.Gen Cert.CrossReferenceIdeal.Read Cert.CrossMath
open Idealize.ShloMosaic Idealize.ShloMosaic.TcCoe Idealize.ShloMosaic.Tactic

/-- The row of the whole array. -/
def row (b : Fin 1) (s : Fin 16384) : Fin 32768 := ⟨16384 + b.val * 16384 + s.val, by omega⟩

/-- The memory of a sequence. -/
def mem (b : Fin 1) : Fin 5 := ⟨4 + b.val, by omega⟩

variable (x0 : (⟨S32768x1024, .f32⟩ : BufTy).Contents (Elt Ideal)) (x1 : (⟨S1x1024, .f32⟩ : BufTy).Contents (Elt Ideal))
  (x2 : (⟨S1024x1024, .bf16⟩ : BufTy).Contents (Elt Ideal)) (x3 : (⟨S1x256, .f32⟩ : BufTy).Contents (Elt Ideal))
  (x4 x5 : (⟨S5x256x1024, .bf16⟩ : BufTy).Contents (Elt Ideal)) (x6 : (⟨S1024x1024, .bf16⟩ : BufTy).Contents (Elt Ideal))

/-- The rows. -/
abbrev X (r : Fin 32768) (k : Fin 1024) : EReal := x0 (ValueIdx.ix2 r k)
/-- The scale. -/
abbrev G (k : Fin 1024) : EReal := x1 (ValueIdx.ix2 0 k)
/-- The queries' weights. -/
abbrev W (j q : Fin 1024) : EReal := x2 (ValueIdx.ix2 j q)
/-- The queries' scale. -/
abbrev Q (d : Fin 256) : EReal := x3 (ValueIdx.ix2 0 d)
/-- The keys or the values of a sequence. -/
abbrev K (n : Fin 5) (m : Fin 256) (j : Fin 1024) : EReal := x4 (ValueIdx.ix3 n m j)
/-- The output weights. -/
abbrev O (j c : Fin 1024) : EReal := x6 (ValueIdx.ix2 j c)

theorem source_apply (b : Fin 1) (s : Fin 16384) (k : Fin 1024) : val_main_v61 (F := Ideal) x0 (ValueIdx.ix3 b s k) = x0 (ValueIdx.ix2 (row b s) k) := by
  simp only [val_main_v61_apply, val_main_v60_apply]
  refine congrArg x0 ((ValueIdx.eq_ix2 _).trans ?_)
  have e0 : idx_main_v60 (idx_main_v61 (ValueIdx.ix3 b s k)) 0 = row b s := Fin.ext (by
    show 16384 + ((b.val * 16384 + s.val) * 1024 + k.val) / 1024 = 16384 + b.val * 16384 + s.val
    omega)
  have e1 : idx_main_v60 (idx_main_v61 (ValueIdx.ix3 b s k)) 1 = k := Fin.ext (by
    show ((b.val * 16384 + s.val) * 1024 + k.val) % 1024 = k.val
    omega)
  rw [e0, e1]
  rfl

theorem keys_apply (b : Fin 1) (m : Fin 256) (h : Fin 4) (d : Fin 256) : val_main_v62 (F := Ideal) x4 (ValueIdx.ix4 b m h d) = K x4 (mem b) m (col h d) := by
  simp only [val_main_v62_apply, val_main_v1_apply, val_main_v0_apply]
  refine congrArg x4 ((ValueIdx.eq_ix3 _).trans ?_)
  have e0 : idx_main_v1 (idx_main_v62 (ValueIdx.ix4 b m h d)) 0 = mem b := Fin.ext (by
    show ((((4 + b.val) * 256 + m.val) * 4 + h.val) * 256 + d.val) / 262144 = 4 + b.val
    omega)
  have e1 : idx_main_v1 (idx_main_v62 (ValueIdx.ix4 b m h d)) 1 = m := Fin.ext (by
    show ((((4 + b.val) * 256 + m.val) * 4 + h.val) * 256 + d.val) / 1024 % 256 = m.val
    omega)
  have e2 : idx_main_v1 (idx_main_v62 (ValueIdx.ix4 b m h d)) 2 = col h d := Fin.ext (by
    show ((((4 + b.val) * 256 + m.val) * 4 + h.val) * 256 + d.val) % 1024 = 256 * h.val + d.val
    omega)
  rw [e0, e1, e2]
  rfl

theorem vals_apply (b : Fin 1) (m : Fin 256) (h : Fin 4) (d : Fin 256) : val_main_v63 (F := Ideal) x5 (ValueIdx.ix4 b m h d) = K x5 (mem b) m (col h d) :=
  keys_apply x5 b m h d

theorem square_sum (b : Fin 1) (s : Fin 16384) : val_main_v66 (F := Ideal) x0 (ValueIdx.ix2 b s) = ∑ j : Fin 1024, X x0 (row b s) j * X x0 (row b s) j := by
  simp only [val_main_v66_apply, val_main_cst_9_apply, Ideal.ofBits_def, Ideal.ofBits_zero_f32, zero_add]
  refine Finset.sum_congr rfl fun j _ => ?_
  have e : idx_main_v66 (ValueIdx.ix2 b s) j = ValueIdx.ix3 b s j := ValueIdx.eq_ix3 _
  rw [e, val_main_v65_apply, source_apply]
  rfl

theorem norm_apply (b : Fin 1) (s : Fin 16384) (k : Fin 1024) :
    val_main_v77 (F := Ideal) x0 x1 (ValueIdx.ix3 b s k) = FfnMath.norm (fun _ : Fin 1 => X x0 (row b s)) (G x1) 0 k := by
  simp only [val_main_v77_apply, val_main_v74_apply, val_main_v73_apply, val_main_v72_apply, val_main_v71_apply, val_main_v70_apply, val_main_v69_apply, val_main_v68_apply, val_main_v67_apply, val_main_v76_apply, val_main_v75_apply, val_main_v64_apply, val_main_cst_10_apply, val_main_cst_11_apply]
  have e : idx_main_v67 (idx_main_v73 (ValueIdx.ix3 b s k)) = ValueIdx.ix2 b s := by obtain rfl : b = 0 := Subsingleton.elim _ _; exact ValueIdx.eq_ix2 _
  have eg : idx_main_v64 (idx_main_v75 (idx_main_v76 (ValueIdx.ix3 b s k))) = ValueIdx.ix2 0 k :=
    (ValueIdx.eq_ix2 _).trans (congrArg (ValueIdx.ix2 0) (Fin.ext (Nat.mod_eq_of_lt k.isLt)))
  rw [e, eg, square_sum, source_apply]
  rfl

theorem proj_apply (b : Fin 1) (s : Fin 16384) (q : Fin 1024) :
    val_main_v79 (F := Ideal) x0 x1 x2 (ValueIdx.ix3 b s q) = proj (X x0 (row b s)) (G x1) (W x2) q := by
  rw [val_main_v79_apply]
  refine Finset.sum_congr rfl fun j _ => ?_
  have el : lidx_main_v79 (ValueIdx.ix3 b s q) j = ValueIdx.ix3 b s j := ValueIdx.eq_ix3 _
  have er : ridx_main_v79 (ValueIdx.ix3 b s q) j = ValueIdx.ix2 j q := ValueIdx.eq_ix2 _
  rw [el, er, norm_apply, val_main_v78_apply]
  rfl

theorem split_apply (b : Fin 1) (s : Fin 16384) (h : Fin 4) (d : Fin 256) :
    val_main_v80 (F := Ideal) x0 x1 x2 (ValueIdx.ix4 b s h d) = proj (X x0 (row b s)) (G x1) (W x2) (col h d) := by
  rw [val_main_v80_apply]
  have e : idx_main_v80 (ValueIdx.ix4 b s h d) = ValueIdx.ix3 b s (col h d) := by
    refine (ValueIdx.eq_ix3 _).trans ?_
    have e0 : idx_main_v80 (ValueIdx.ix4 b s h d) 0 = b := Subsingleton.elim (α := Fin 1) _ _
    have e1 : idx_main_v80 (ValueIdx.ix4 b s h d) 1 = s := Fin.ext (by
      show (((b.val * 16384 + s.val) * 4 + h.val) * 256 + d.val) / 1024 % 16384 = s.val
      omega)
    have e2 : idx_main_v80 (ValueIdx.ix4 b s h d) 2 = col h d := Fin.ext (by
      show (((b.val * 16384 + s.val) * 4 + h.val) * 256 + d.val) % 1024 = 256 * h.val + d.val
      omega)
    rw [e0, e1, e2]
    rfl
  rw [e, proj_apply]

/-- A row's columns of one head, before they are normalized. -/
abbrev P (r : Fin 32768) (h : Fin 4) (d : Fin 256) : EReal := proj (X x0 r) (G x1) (W x2) (col h d)

theorem query_sum (b : Fin 1) (s : Fin 16384) (h : Fin 4) :
    val_main_v83 (F := Ideal) x0 x1 x2 (ValueIdx.ix3 b s h) = ∑ d : Fin 256, P x0 x1 x2 (row b s) h d * P x0 x1 x2 (row b s) h d := by
  simp only [val_main_v83_apply, val_main_cst_12_apply, Ideal.ofBits_def, Ideal.ofBits_zero_f32, zero_add]
  refine Finset.sum_congr rfl fun d _ => ?_
  have e : idx_main_v83 (ValueIdx.ix3 b s h) d = ValueIdx.ix4 b s h d := ValueIdx.eq_ix4 _
  rw [e, val_main_v82_apply, split_apply]
  rfl

theorem query_apply (b : Fin 1) (s : Fin 16384) (h : Fin 4) (d : Fin 256) :
    val_main_v94 (F := Ideal) x0 x1 x2 x3 (ValueIdx.ix4 b s h d) = query (P x0 x1 x2 (row b s) h) (Q x3) d := by
  simp only [val_main_v94_apply, val_main_v91_apply, val_main_v90_apply, val_main_v89_apply, val_main_v88_apply, val_main_v87_apply, val_main_v86_apply, val_main_v85_apply, val_main_v84_apply, val_main_v93_apply, val_main_v92_apply, val_main_v81_apply, val_main_cst_13_apply, val_main_cst_14_apply]
  have e : idx_main_v84 (idx_main_v90 (ValueIdx.ix4 b s h d)) = ValueIdx.ix3 b s h := by obtain rfl : b = 0 := Subsingleton.elim _ _; exact ValueIdx.eq_ix3 _
  have eg : idx_main_v81 (idx_main_v92 (idx_main_v93 (ValueIdx.ix4 b s h d))) = ValueIdx.ix2 0 d :=
    (ValueIdx.eq_ix2 _).trans (congrArg (ValueIdx.ix2 0) (Fin.ext (Nat.mod_eq_of_lt d.isLt)))
  rw [e, eg, query_sum, split_apply]
  rfl

/-- A row's logits of one head. -/
abbrev L (b : Fin 1) (s : Fin 16384) (h : Fin 4) (m : Fin 256) : EReal := logit (query (P x0 x1 x2 (row b s) h) (Q x3)) (fun d => K x4 (mem b) m (col h d))

theorem logit_apply (b : Fin 1) (h : Fin 4) (s : Fin 16384) (m : Fin 256) :
    val_main_v97 (F := Ideal) x0 x1 x2 x3 x4 (ValueIdx.ix4 b h s m) = L x0 x1 x2 x3 x4 b s h m := by
  rw [val_main_v97_apply, val_main_v95_apply, val_main_v96_apply, val_main_cst_15_apply]
  refine Eq.trans ?_ (logit_eq _ _)
  refine congrArg (· * scale) (Finset.sum_congr rfl fun d _ => ?_)
  have el : lidx_main_v95 (ValueIdx.ix4 b h s m) d = ValueIdx.ix4 b s h d := ValueIdx.eq_ix4 _
  have er : ridx_main_v95 (ValueIdx.ix4 b h s m) d = ValueIdx.ix4 b m h d := ValueIdx.eq_ix4 _
  rw [el, er, query_apply, keys_apply]

theorem top_apply (b : Fin 1) (h : Fin 4) (s : Fin 16384) :
    val_main_v98 (F := Ideal) x0 x1 x2 x3 x4 (ValueIdx.ix3 b h s) = top (L x0 x1 x2 x3 x4 b s h) := by
  have hb : Ideal.ofBits .f32 0xFF800000#32 = ⊥ := by simp [Ideal.ofBits, Ideal.ieee]
  have hred : S1x4x16384x256.Reduces [3] S1x4x16384 := by decide
  have hy := fun m => logit_apply x0 x1 x2 x3 x4 b h s m
  unfold val_main_v98
  generalize val_main_v97 (F := Ideal) x0 x1 x2 x3 x4 = y at hy ⊢
  refine (Host.reduce_eq_fold_single _ y _ _ hred _ _).trans ?_
  have he : (val_main_cst_16 (F := Ideal)) (Shape.Idx.first h_S_) = ⊥ := hb
  rw [he]
  unfold top
  refine congrArg (fun f => Finset.univ.fold max ⊥ f) (funext fun k : Fin 256 => ?_)
  have hi : hred.lift (ValueIdx.ix3 b h s) k = ValueIdx.ix4 b h s k := by
    funext a; apply Fin.ext; fin_cases a <;> rfl
  exact (congrArg y hi).trans (hy k)

theorem exp_apply (b : Fin 1) (h : Fin 4) (s : Fin 16384) (m : Fin 256) :
    val_main_v104 (F := Ideal) x0 x1 x2 x3 x4 (ValueIdx.ix4 b h s m) = Ideal.exp (L x0 x1 x2 x3 x4 b s h m - top (L x0 x1 x2 x3 x4 b s h)) := by
  have hb : Ideal.ofBits .f32 0xFF800000#32 = ⊥ := by simp [Ideal.ofBits, Ideal.ieee]
  rw [val_main_v104_apply, val_main_v103_apply, val_main_v102_apply, val_main_v101_apply, val_main_v100_apply, val_main_v99_apply, val_main_cst_17_apply]
  have e : idx_main_v101 (idx_main_v102 (ValueIdx.ix4 b h s m)) = ValueIdx.ix3 b h s := by obtain rfl : b = 0 := Subsingleton.elim _ _; exact ValueIdx.eq_ix3 _
  rw [e, logit_apply, top_apply, Ideal.ofBits_def, hb, Ideal.maximumf_def, max_eq_right bot_le]
  rfl

theorem weight_apply (b : Fin 1) (h : Fin 4) (s : Fin 16384) (m : Fin 256) :
    val_main_v108 (F := Ideal) x0 x1 x2 x3 x4 (ValueIdx.ix4 b h s m) = weight (L x0 x1 x2 x3 x4 b s h) m := by
  rw [val_main_v108_apply, val_main_v107_apply, val_main_v106_apply, exp_apply]
  have e : idx_main_v106 (idx_main_v107 (ValueIdx.ix4 b h s m)) = ValueIdx.ix3 b h s := by obtain rfl : b = 0 := Subsingleton.elim _ _; exact ValueIdx.eq_ix3 _
  have es : val_main_v105 (F := Ideal) x0 x1 x2 x3 x4 (ValueIdx.ix3 b h s) = ∑ k : Fin 256, Ideal.exp (L x0 x1 x2 x3 x4 b s h k - top (L x0 x1 x2 x3 x4 b s h)) := by
    simp only [val_main_v105_apply, val_main_cst_18_apply, Ideal.ofBits_def, Ideal.ofBits_zero_f32, zero_add]
    refine Finset.sum_congr rfl fun k _ => ?_
    have e : idx_main_v105 (ValueIdx.ix3 b h s) k = ValueIdx.ix4 b h s k := ValueIdx.eq_ix4 _
    rw [e, exp_apply]
  rw [e, es]
  rfl

/-- A head's entry. -/
abbrev H (b : Fin 1) (s : Fin 16384) (h : Fin 4) (d : Fin 256) : EReal :=
  head (P x0 x1 x2 (row b s) h) (Q x3) (fun m d => K x4 (mem b) m (col h d)) (fun m d => K x5 (mem b) m (col h d)) d

theorem head_apply (b : Fin 1) (s : Fin 16384) (j : Fin 1024) :
    val_main_v111 (F := Ideal) x0 x1 x2 x3 x4 x5 (ValueIdx.ix3 b s j) = H x0 x1 x2 x3 x4 x5 b s (hd j) (off j) := by
  rw [val_main_v111_apply]
  have e : idx_main_v111 (ValueIdx.ix3 b s j) = ValueIdx.ix4 b s (hd j) (off j) := by
    refine (ValueIdx.eq_ix4 _).trans ?_
    have e0 : idx_main_v111 (ValueIdx.ix3 b s j) 0 = b := Subsingleton.elim (α := Fin 1) _ _
    have e1 : idx_main_v111 (ValueIdx.ix3 b s j) 1 = s := Fin.ext (by
      show ((b.val * 16384 + s.val) * 1024 + j.val) / 1024 % 16384 = s.val
      omega)
    have e2 : idx_main_v111 (ValueIdx.ix3 b s j) 2 = hd j := Fin.ext (by
      show ((b.val * 16384 + s.val) * 1024 + j.val) / 256 % 4 = j.val / 256
      omega)
    have e3 : idx_main_v111 (ValueIdx.ix3 b s j) 3 = off j := Fin.ext (by
      show ((b.val * 16384 + s.val) * 1024 + j.val) % 256 = j.val % 256
      omega)
    rw [e0, e1, e2, e3]
    rfl
  have et : idx_main_v110 (ValueIdx.ix4 b s (hd j) (off j)) = ValueIdx.ix4 b (hd j) (off j) s := ValueIdx.eq_ix4 _
  rw [e, val_main_v110_apply, et, val_main_v109_apply]
  refine Finset.sum_congr rfl fun m _ => ?_
  have el : lidx_main_v109 (ValueIdx.ix4 b (hd j) (off j) s) m = ValueIdx.ix4 b m (hd j) (off j) := ValueIdx.eq_ix4 _
  have er : ridx_main_v109 (ValueIdx.ix4 b (hd j) (off j) s) m = ValueIdx.ix4 b (hd j) s m := ValueIdx.eq_ix4 _
  rw [el, er, vals_apply, weight_apply, mul_comm]

theorem result_apply (b : Fin 1) (s : Fin 16384) (c : Fin 1024) :
    val_main_v114 (F := Ideal) x0 x1 x2 x3 x4 x5 x6 (ValueIdx.ix3 b s c)
      = result (X x0 (row b s)) (G x1) (W x2) (Q x3) (K x4 (mem b)) (K x5 (mem b)) (O x6) c := by
  rw [val_main_v114_apply, source_apply, val_main_v113_apply]
  refine congrArg (x0 (ValueIdx.ix2 (row b s) c) + ·) (Finset.sum_congr rfl fun j _ => ?_)
  have el : lidx_main_v113 (ValueIdx.ix3 b s c) j = ValueIdx.ix3 b s j := ValueIdx.eq_ix3 _
  have er : ridx_main_v113 (ValueIdx.ix3 b s c) j = ValueIdx.ix2 j c := ValueIdx.eq_ix2 _
  rw [el, er, head_apply, val_main_v112_apply]
  rfl

theorem half_apply (r : Fin 16384) (c : Fin 1024) (n : Fin 5) (hn : n.val = 4) :
    val_main_v115 (F := Ideal) x0 x1 x2 x3 x4 x5 x6 (ValueIdx.ix2 r c)
      = result (X x0 ⟨16384 + r.val, by omega⟩) (G x1) (W x2) (Q x3) (K x4 n) (K x5 n) (O x6) c := by
  rw [val_main_v115_apply]
  have e : idx_main_v115 (ValueIdx.ix2 r c) = ValueIdx.ix3 ⟨r.val / 16384, by omega⟩ ⟨r.val % 16384, Nat.mod_lt _ (by omega)⟩ c := by
    refine (ValueIdx.eq_ix3 _).trans ?_
    have e0 : idx_main_v115 (ValueIdx.ix2 r c) 0 = (⟨r.val / 16384, by omega⟩ : Fin 1) := Fin.ext (by
      show 0 = r.val / 16384
      omega)
    have e1 : idx_main_v115 (ValueIdx.ix2 r c) 1 = (⟨r.val % 16384, Nat.mod_lt _ (by omega)⟩ : Fin 16384) := Fin.ext (by
      show (r.val * 1024 + c.val) / 1024 % 16384 = r.val % 16384
      omega)
    have e2 : idx_main_v115 (ValueIdx.ix2 r c) 2 = c := Fin.ext (by
      show (r.val * 1024 + c.val) % 1024 = c.val
      omega)
    rw [e0, e1, e2]
    rfl
  rw [e, result_apply]
  have er : row (⟨r.val / 16384, by omega⟩ : Fin 1) ⟨r.val % 16384, Nat.mod_lt _ (by omega)⟩ = ⟨16384 + r.val, by omega⟩ := Fin.ext (by
    show 16384 + r.val / 16384 * 16384 + r.val % 16384 = 16384 + r.val
    omega)
  have em : mem (⟨r.val / 16384, by omega⟩ : Fin 1) = n := Fin.ext (by
    show 4 + r.val / 16384 = n.val
    omega)
  rw [er, em]

end Cert.CrossRef.Sample

end
-- ==== Proof.CrossRef.lean ====
module

/-
The reference's cross-attention, both halves joined.
-/
public import proofs.«01_k».proof.Proof.CrossPrompt
public import proofs.«01_k».proof.Proof.CrossSample

@[expose] public section

set_option maxRecDepth 16384

noncomputable section

namespace Cert.CrossRef

open Cert.CrossReferenceIdeal Cert.CrossReferenceIdeal.Gen Cert.CrossReferenceIdeal.Read Cert.CrossMath
open Idealize.ShloMosaic Idealize.ShloMosaic.TcCoe Idealize.ShloMosaic.Tactic

variable (x0 : (⟨S32768x1024, .f32⟩ : BufTy).Contents (Elt Ideal)) (x1 : (⟨S1x1024, .f32⟩ : BufTy).Contents (Elt Ideal))
  (x2 : (⟨S1024x1024, .bf16⟩ : BufTy).Contents (Elt Ideal)) (x3 : (⟨S1x256, .f32⟩ : BufTy).Contents (Elt Ideal))
  (x4 x5 : (⟨S5x256x1024, .bf16⟩ : BufTy).Contents (Elt Ideal)) (x6 : (⟨S1024x1024, .bf16⟩ : BufTy).Contents (Elt Ideal))

/-- The reference's result is the plain cross-attention of its arguments. -/
theorem reference_apply (r : Fin 32768) (c : Fin 1024) :
    val_main_v116 (F := Ideal) x0 x1 x2 x3 x4 x5 x6 (ValueIdx.ix2 r c)
      = result (fun k => x0 (ValueIdx.ix2 r k)) (fun k => x1 (ValueIdx.ix2 0 k)) (fun j q => x2 (ValueIdx.ix2 j q)) (fun d => x3 (ValueIdx.ix2 0 d))
          (fun m j => x4 (ValueIdx.ix3 (seq r) m j)) (fun m j => x5 (ValueIdx.ix3 (seq r) m j)) (fun j c => x6 (ValueIdx.ix2 j c)) c := by
  unfold val_main_v116
  by_cases hr : r.val < 16384
  · refine (concatenate_pair_apply_left (t := S32768x1024) (s₁ := S16384x1024) (s₂ := S16384x1024) 0 _ _
      concatenates_S16384x1024_S16384x1024_S32768x1024_d0 (ValueIdx.ix2 r c) rfl (ValueIdx.ix2 (⟨r.val, hr⟩ : Fin 16384) c) fun a => ?_).trans ?_
    · match a with
      | ⟨0, _⟩ => rfl
      | ⟨1, _⟩ => rfl
    · exact Prompt.half_apply x0 x1 x2 x3 x4 x5 x6 ⟨r.val, hr⟩ c (seq r) (by unfold seq; rw [dif_pos hr])
  · obtain ⟨d, hd⟩ : ∃ d : Fin 16384, d.val + 16384 = r.val := ⟨⟨r.val - 16384, by omega⟩, Nat.sub_add_cancel (Nat.le_of_not_lt hr)⟩
    refine (concatenate_pair_apply_right (t := S32768x1024) (s₁ := S16384x1024) (s₂ := S16384x1024) 0 _ _
      concatenates_S16384x1024_S16384x1024_S32768x1024_d0 (ValueIdx.ix2 r c) rfl rfl (ValueIdx.ix2 d c) (fun a => ?_) hd).trans ?_
    · match a with
      | ⟨0, _⟩ => exact fun h => absurd rfl h
      | ⟨1, _⟩ => exact fun _ => rfl
    · have e : (⟨16384 + d.val, by omega⟩ : Fin 32768) = r := Fin.ext ((Nat.add_comm _ _).trans hd)
      exact (Sample.half_apply x0 x1 x2 x3 x4 x5 x6 d c (seq r) (by unfold seq; rw [dif_neg hr]; rfl)).trans
        (congrArg (fun i => result (Sample.X x0 i) (Sample.G x1) (Sample.W x2) (Sample.Q x3) (Sample.K x4 (seq r)) (Sample.K x5 (seq r)) (Sample.O x6) c) e)

end Cert.CrossRef

end
-- ==== Proof.CrossArray.lean ====
module

/-
The array the cross-attention leaves is the plain cross-attention of its arguments.
-/
public import proofs.«01_k».proof.Proof.CrossBlock
public import proofs.«01_k».proof.Proof.CrossRef
public import Idealize.ShloMosaic.Lib.Pipeline.Covers

@[expose] public section

set_option maxRecDepth 16384

noncomputable section

namespace Cert.CrossIdeal.Cross

open Cert.CrossIdeal.Gen Cert.CrossMath
open Idealize.ShloMosaic Idealize.ShloMosaic.TcCoe Idealize.ShloMosaic.Tactic Idealize.ShloMosaic.Pipeline

theorem ix2_congr {a b : ℕ} {p p' : Fin a} {q q' : Fin b} (h : p.val = p'.val) (h' : q.val = q'.val) :
    ValueIdx.ix2 p q = ValueIdx.ix2 p' q' := by
  rw [Fin.ext h, Fin.ext h']

theorem ix3_congr {a b d : ℕ} {p p' : Fin a} {q q' : Fin b} {s s' : Fin d} (h : p.val = p'.val) (h' : q.val = q'.val) (h'' : s.val = s'.val) :
    ValueIdx.ix3 p q s = ValueIdx.ix3 p' q' s' := by
  rw [Fin.ext h, Fin.ext h', Fin.ext h'']

/-- The block each window takes at a point. -/
theorem maps : ∀ t : Fin grid0.N, cc0_transform_0 (grid0.coords t) = ![t.val, 0] ∧ cc0_transform_1 (grid0.coords t) = ![0, 0]
    ∧ cc0_transform_2 (grid0.coords t) = ![0, 0] ∧ cc0_transform_3 (grid0.coords t) = ![0, 0] ∧ cc0_transform_6 (grid0.coords t) = ![0, 0]
    ∧ cc0_transform_7 (grid0.coords t) = ![t.val, 0] ∧ ((grid0.coords t) 0).val = t.val := by decide +kernel

/-- The memory the table names at a point. -/
theorem lit0_val : ∀ t : Fin 64, (lit0 t).toNat = if t.val < 32 then t.val / 8 else 4 := by decide +kernel

/-- It is the memory of the point's rows. -/
theorem seq_val (t : Fin 64) (r : Fin 512) : (seq ⟨512 * t.val + r.val, by omega⟩).val = (lit0 t).toNat := by
  rw [lit0_val]
  unfold seq
  by_cases h : t.val < 32
  · rw [if_pos h, dif_pos (show 512 * t.val + r.val < 16384 by omega)]
    show (512 * t.val + r.val) / 4096 = t.val / 8
    omega
  · rw [if_neg h, dif_neg (show ¬512 * t.val + r.val < 16384 by omega)]
    rfl

variable (m : (ℓ : Loc nD τ sig) → Buf (Elt Ideal) ℓ)

/-- The keys' block at a point. -/
theorem keys_at (t : Fin grid0.N) : cc0_transform_4 k0_off1_inb numel1_S1 (tbl m) (grid0.coords t) = ![(lit0 ⟨t.val, t.isLt⟩).toNat, 0, 0] :=
  (keys_map m (grid0.coords t)).trans (congrArg (fun i => ![(lit0 i).toNat, 0, 0]) (Fin.ext (maps t).2.2.2.2.2.2))

/-- The values' block at a point. -/
theorem vals_at (t : Fin grid0.N) : cc0_transform_5 k0_off1_inb numel1_S1 (tbl m) (grid0.coords t) = ![(lit0 ⟨t.val, t.isLt⟩).toNat, 0, 0] :=
  (vals_map m (grid0.coords t)).trans (congrArg (fun i => ![(lit0 i).toNat, 0, 0]) (Fin.ext (maps t).2.2.2.2.2.2))

/-- The point's rows. -/
theorem own_rows (c : Dev nD) (t : Fin (cfgM m (ok m)).N) (r : Fin 512) (k : Fin 1024) :
    iblk m (ok m) c 0 t (ValueIdx.ix2 r k) = m ((c.tc : Thread nD τ).loc main_arg0) (ValueIdx.ix2 ⟨512 * t.val + r.val, by have h : t.val < 64 := t.isLt; omega⟩ k) := by
  have e : ((cfgM m (ok m)).win 0).index t = ![t.val, 0] := (maps t).1
  blk_simp [iblk, e]
  refine (congrFun (V_main_arg0 m c) _).trans ?_
  refine congrArg (m ((c.tc : Thread nD τ).loc main_arg0)) ((ValueIdx.eq_ix2 _).trans (ix2_congr ?_ ?_))
  · blk_simp [e]
    show t.val * 512 + r.val = 512 * t.val + r.val
    omega
  · blk_simp [e]

/-- The scale. -/
theorem scale_entry (c : Dev nD) (t : Fin (cfgM m (ok m)).N) (k : Fin 1024) :
    iblk m (ok m) c 1 t (ValueIdx.ix2 0 k) = m ((c.tc : Thread nD τ).loc main_arg1) (ValueIdx.ix2 0 k) := by
  have e : ((cfgM m (ok m)).win 1).index t = ![0, 0] := (maps t).2.1
  blk_simp [iblk, e]
  refine (congrFun (V_main_arg1 m c) _).trans ?_
  refine congrArg (m ((c.tc : Thread nD τ).loc main_arg1)) ((ValueIdx.eq_ix2 _).trans (ix2_congr ?_ ?_))
  · blk_simp [e]
    rfl
  · blk_simp [e]

/-- The queries' weights. -/
theorem query_weights (c : Dev nD) (t : Fin (cfgM m (ok m)).N) (j q : Fin 1024) :
    iblk m (ok m) c 2 t (ValueIdx.ix2 j q) = m ((c.tc : Thread nD τ).loc main_arg2) (ValueIdx.ix2 j q) := by
  have e : ((cfgM m (ok m)).win 2).index t = ![0, 0] := (maps t).2.2.1
  blk_simp [iblk, e]
  refine (congrFun (V_main_arg2 m c) _).trans ?_
  refine congrArg (m ((c.tc : Thread nD τ).loc main_arg2)) ((ValueIdx.eq_ix2 _).trans (ix2_congr ?_ ?_))
  · blk_simp [e]
  · blk_simp [e]

/-- The queries' scale. -/
theorem query_scale (c : Dev nD) (t : Fin (cfgM m (ok m)).N) (d : Fin 256) :
    iblk m (ok m) c 3 t (ValueIdx.ix2 0 d) = m ((c.tc : Thread nD τ).loc main_arg3) (ValueIdx.ix2 0 d) := by
  have e : ((cfgM m (ok m)).win 3).index t = ![0, 0] := (maps t).2.2.2.1
  blk_simp [iblk, e]
  refine (congrFun (V_main_arg3 m c) _).trans ?_
  refine congrArg (m ((c.tc : Thread nD τ).loc main_arg3)) ((ValueIdx.eq_ix2 _).trans (ix2_congr ?_ ?_))
  · blk_simp [e]
    rfl
  · blk_simp [e]

/-- The keys. -/
theorem keys_entry (c : Dev nD) (t : Fin (cfgM m (ok m)).N) (r : Fin 512) (n : Fin 256) (j : Fin 1024) :
    iblk m (ok m) c 4 t (ValueIdx.ix3 0 n j) = m ((c.tc : Thread nD τ).loc main_arg4) (ValueIdx.ix3 (seq ⟨512 * t.val + r.val, by have h : t.val < 64 := t.isLt; omega⟩) n j) := by
  have e : ((cfgM m (ok m)).win 4).index t = ![(lit0 ⟨t.val, t.isLt⟩).toNat, 0, 0] := keys_at m t
  blk_simp [iblk, e]
  refine (congrFun (V_main_arg4 m c) _).trans ?_
  refine congrArg (m ((c.tc : Thread nD τ).loc main_arg4)) ((ValueIdx.eq_ix3 _).trans (ix3_congr ?_ ?_ ?_))
  · blk_simp [e]
    exact (seq_val ⟨t.val, t.isLt⟩ r).symm
  · blk_simp [e]
  · blk_simp [e]

/-- The values. -/
theorem vals_entry (c : Dev nD) (t : Fin (cfgM m (ok m)).N) (r : Fin 512) (n : Fin 256) (j : Fin 1024) :
    iblk m (ok m) c 5 t (ValueIdx.ix3 0 n j) = m ((c.tc : Thread nD τ).loc main_arg5) (ValueIdx.ix3 (seq ⟨512 * t.val + r.val, by have h : t.val < 64 := t.isLt; omega⟩) n j) := by
  have e : ((cfgM m (ok m)).win 5).index t = ![(lit0 ⟨t.val, t.isLt⟩).toNat, 0, 0] := vals_at m t
  blk_simp [iblk, e]
  refine (congrFun (V_main_arg5 m c) _).trans ?_
  refine congrArg (m ((c.tc : Thread nD τ).loc main_arg5)) ((ValueIdx.eq_ix3 _).trans (ix3_congr ?_ ?_ ?_))
  · blk_simp [e]
    exact (seq_val ⟨t.val, t.isLt⟩ r).symm
  · blk_simp [e]
  · blk_simp [e]

/-- The output weights. -/
theorem out_weights (c : Dev nD) (t : Fin (cfgM m (ok m)).N) (j k : Fin 1024) :
    iblk m (ok m) c 6 t (ValueIdx.ix2 j k) = m ((c.tc : Thread nD τ).loc main_arg6) (ValueIdx.ix2 j k) := by
  have e : ((cfgM m (ok m)).win 6).index t = ![0, 0] := (maps t).2.2.2.2.1
  blk_simp [iblk, e]
  refine (congrFun (V_main_arg6 m c) _).trans ?_
  refine congrArg (m ((c.tc : Thread nD τ).loc main_arg6)) ((ValueIdx.eq_ix2 _).trans (ix2_congr ?_ ?_))
  · blk_simp [e]
  · blk_simp [e]

/-- What a point leaves, entry by entry. -/
theorem out_apply (c : Dev nD) (t : Fin (cfgM m (ok m)).N) (r : Fin 512) (k : Fin 1024) :
    outsAt0 m (ok m) c t (ValueIdx.ix2 r k)
      = Cert.CrossReferenceIdeal.Read.val_main_v116 (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (ValueIdx.ix2 ⟨512 * t.val + r.val, by have h : t.val < 64 := t.isLt; omega⟩ k) := by
  rw [out_eq]
  refine (tile_apply (iblk m (ok m) c 0 t) (iblk m (ok m) c 1 t) (iblk m (ok m) c 2 t) (iblk m (ok m) c 3 t) (iblk m (ok m) c 4 t) (iblk m (ok m) c 5 t) (iblk m (ok m) c 6 t) r k).trans ?_
  refine Eq.trans ?_ (Cert.CrossRef.reference_apply _ _ _ _ _ _ _ _ k).symm
  have h0 := funext fun k => own_rows m c t r k
  have h1 := funext fun k => scale_entry m c t k
  have h2 := funext fun j => funext fun q => query_weights m c t j q
  have h3 := funext fun d => query_scale m c t d
  have h4 := funext fun n => funext fun j => keys_entry m c t r n j
  have h5 := funext fun n => funext fun j => vals_entry m c t r n j
  have h6 := funext fun j => funext fun k => out_weights m c t j k
  exact result_congr h0 h1 h2 h3 h4 h5 h6 k

/-- Where an entry of a point's block lies in the array. -/
theorem place (t : Fin (cfgM m (ok m)).N) (r : Fin 512) (k : Fin 1024) :
    (((cfgM m (ok m)).win 7).blk t).view.emb (ValueIdx.ix2 r k) = ValueIdx.ix2 ⟨512 * t.val + r.val, by have h : t.val < 64 := t.isLt; omega⟩ k := by
  have e : ((cfgM m (ok m)).win 7).index t = ![t.val, 0] := (maps t).2.2.2.2.2.1
  refine (ValueIdx.eq_ix2 _).trans (ix2_congr ?_ ?_)
  · blk_simp [e]
    show t.val * 512 + r.val = 512 * t.val + r.val
    omega
  · blk_simp [e]

/-- How many blocks the array has along each axis. -/
theorem blocks (m : (ℓ : Loc nD τ sig) → Buf (Elt Ideal) ℓ) : ((cfgM m (ok m)).win 7).nblk (0 : Fin 2) = 64 ∧ ((cfgM m (ok m)).win 7).nblk (1 : Fin 2) = 1 := by
  have s0 : ((cfgM m (ok m)).win 7).shape.size (0 : Fin 2) = 32768 := rfl
  have s1 : ((cfgM m (ok m)).win 7).shape.size (1 : Fin 2) = 1024 := rfl
  have b0 : ((cfgM m (ok m)).win 7).size (0 : Fin 2) = 512 := rfl
  have b1 : ((cfgM m (ok m)).win 7).size (1 : Fin 2) = 1024 := rfl
  unfold Window.nblk
  rw [s0, s1, b0, b1]
  decide

/-- The points' blocks cover the array. -/
theorem covers (m : (ℓ : Loc nD τ sig) → Buf (Elt Ideal) ℓ) : ((cfgM m (ok m)).win 7).Covers := by
  refine ((cfgM m (ok m)).win 7).covers_of_index_surj rfl ?_ fun β => ?_
  · exact (by decide : ∀ a, 0 < S512x1024.size a)
  · have h0 : (β (0 : Fin 2)).val < 64 := lt_of_lt_of_eq (β (0 : Fin 2)).isLt (blocks m).1
    have h1 : (β (1 : Fin 2)).val < 1 := lt_of_lt_of_eq (β (1 : Fin 2)).isLt (blocks m).2
    refine ⟨⟨(β (0 : Fin 2)).val, h0⟩, fun a => ?_⟩
    refine (congrFun (maps (⟨(β (0 : Fin 2)).val, h0⟩ : Fin 64)).2.2.2.2.2.1 a).trans ?_
    match a with
    | ⟨0, _⟩ => rfl
    | ⟨1, _⟩ => show 0 = (β (1 : Fin 2)).val; omega

/-- The array after the run is the plain cross-attention of the arguments. -/
theorem array_eq (c : Dev nD) :
    (dats m (ok m) 0 c).arrAt 7 (cfgM m (ok m)).N
      = Cert.CrossReferenceIdeal.Read.val_main_v116 (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  refine (dats m (ok m) 0 c).arrAt_eq_of_covers 7 _ (covers m) fun t hf y => ?_
  blk_simp
  rw [after0_7]
  refine (congrArg (outsAt0 m (ok m) c t) (ValueIdx.eq_ix2 (y : S512x1024.Idx))).trans ?_
  refine (out_apply m c t _ _).trans (congrArg _ ?_)
  exact (place m t _ _).symm.trans (congrArg _ (ValueIdx.eq_ix2 (y : S512x1024.Idx)).symm)

end Cert.CrossIdeal.Cross

end
-- ==== Proof.CrossClaim.lean ====
module

/-
The value claim of the cross-attention: the launch ends with the plain cross-attention's array, and so does the reference.
-/
public import proofs.«01_k».proof.Defs
public import proofs.«01_k».proof.Proof.CrossArray
public import proofs.«01_k».proof.Proof.Gen.CrossIdeal
public import proofs.«01_k».proof.Proof.Gen.CrossIdeal.Frame
public import proofs.«01_k».proof.Proof.Gen.CrossReferenceIdeal
public import proofs.«01_k».proof.Proof.Gen.CrossReferenceIdeal.Run
public import Idealize.ShloMosaic.Lib.Quiescent

@[expose] public section

set_option maxRecDepth 16384

noncomputable section

namespace Cert.CrossClaim

open Idealize.ShloMosaic Idealize.ShloMosaic.TcCoe Idealize.SL.Sem

/-- Every run of the kernel leaves the plain cross-attention of its arguments in the result, the arguments as they were. -/
theorem kernel_run (m : (ℓ : Loc CrossIdeal.nD CrossIdeal.τ CrossIdeal.sig) → Buf (Elt Ideal) ℓ) (ρ : Dev CrossIdeal.nD → PrngReg) :
    θ_run CrossIdeal.defs (onTc (τ := CrossIdeal.τ) (CrossIdeal.main (F := Ideal))) ⟨m, fun _ => 0, ρ⟩ (fun r => ∀ c : Dev CrossIdeal.nD,
      r.2.mem ((c.tc : Thread CrossIdeal.nD CrossIdeal.τ).loc CrossIdeal.main_v0)
        = CrossReferenceIdeal.Read.val_main_v116 (F := Ideal) (m ((c.tc : Thread CrossIdeal.nD CrossIdeal.τ).loc CrossIdeal.main_arg0)) (m ((c.tc : Thread CrossIdeal.nD CrossIdeal.τ).loc CrossIdeal.main_arg1)) (m ((c.tc : Thread CrossIdeal.nD CrossIdeal.τ).loc CrossIdeal.main_arg2)) (m ((c.tc : Thread CrossIdeal.nD CrossIdeal.τ).loc CrossIdeal.main_arg3)) (m ((c.tc : Thread CrossIdeal.nD CrossIdeal.τ).loc CrossIdeal.main_arg4)) (m ((c.tc : Thread CrossIdeal.nD CrossIdeal.τ).loc CrossIdeal.main_arg5)) (m ((c.tc : Thread CrossIdeal.nD CrossIdeal.τ).loc CrossIdeal.main_arg6))
      ∧ r.2.mem ((c.tc : Thread CrossIdeal.nD CrossIdeal.τ).loc CrossIdeal.main_arg0) = m ((c.tc : Thread CrossIdeal.nD CrossIdeal.τ).loc CrossIdeal.main_arg0)
      ∧ r.2.mem ((c.tc : Thread CrossIdeal.nD CrossIdeal.τ).loc CrossIdeal.main_arg1) = m ((c.tc : Thread CrossIdeal.nD CrossIdeal.τ).loc CrossIdeal.main_arg1)
      ∧ r.2.mem ((c.tc : Thread CrossIdeal.nD CrossIdeal.τ).loc CrossIdeal.main_arg2) = m ((c.tc : Thread CrossIdeal.nD CrossIdeal.τ).loc CrossIdeal.main_arg2)
      ∧ r.2.mem ((c.tc : Thread CrossIdeal.nD CrossIdeal.τ).loc CrossIdeal.main_arg3) = m ((c.tc : Thread CrossIdeal.nD CrossIdeal.τ).loc CrossIdeal.main_arg3)
      ∧ r.2.mem ((c.tc : Thread CrossIdeal.nD CrossIdeal.τ).loc CrossIdeal.main_arg4) = m ((c.tc : Thread CrossIdeal.nD CrossIdeal.τ).loc CrossIdeal.main_arg4)
      ∧ r.2.mem ((c.tc : Thread CrossIdeal.nD CrossIdeal.τ).loc CrossIdeal.main_arg5) = m ((c.tc : Thread CrossIdeal.nD CrossIdeal.τ).loc CrossIdeal.main_arg5)
      ∧ r.2.mem ((c.tc : Thread CrossIdeal.nD CrossIdeal.τ).loc CrossIdeal.main_arg6) = m ((c.tc : Thread CrossIdeal.nD CrossIdeal.τ).loc CrossIdeal.main_arg6)) := by
  refine (θ_run _ _ _).mono (fun r hr c => ?_) (θ_run_and (CrossIdeal.Gen.run_main m ρ (CrossIdeal.Gen.ok m)) (CrossIdeal.Gen.frame m ρ (CrossIdeal.Gen.ok m)))
  exact ⟨(Pipeline.FramePost.out_eq hr.1 c 7).trans (CrossIdeal.Cross.array_eq m c), hr.2.1 c⟩

/-- The kernel and the reference leave one and the same array. -/
theorem algebraic : Cert.algebraic_CrossIdeal_CrossReferenceIdeal (hCrossIdeal := Cert.CrossIdeal.Gen.facts)
    (hCrossReferenceIdeal := Cert.CrossReferenceIdeal.Gen.facts) := by
  intro m ρ m' ρ' hpre hagree
  refine ⟨_, kernel_run m ρ, ?_⟩
  refine (θ_run _ _ _).mono (fun _ h c => ⟨(h c).1.trans ?_, (h c).2⟩) (CrossReferenceIdeal.Value.run m' ρ')
  rw [← (hagree c).1, ← (hagree c).2.1, ← (hagree c).2.2.1, ← (hagree c).2.2.2.1, ← (hagree c).2.2.2.2.1, ← (hagree c).2.2.2.2.2.1, ← (hagree c).2.2.2.2.2.2]
  exact CrossReferenceIdeal.Read.val_main_v116_eq _ _

/-- The reference ends, its arguments as they were and its counters at zero. -/
theorem reference_frame (m : (ℓ : Loc CrossReferenceIdeal.nD CrossReferenceIdeal.τ CrossReferenceIdeal.sig) → Buf (Elt Ideal) ℓ) (ρ : Dev CrossReferenceIdeal.nD → PrngReg) :
    θ_run (CrossReferenceIdeal.defs (F := Ideal)) (onTc (τ := CrossReferenceIdeal.τ) (CrossReferenceIdeal.main (F := Ideal))) ⟨m, fun _ => 0, ρ⟩ (fun r => (∀ c : Dev CrossReferenceIdeal.nD,
      r.2.mem ((c.tc : Thread CrossReferenceIdeal.nD CrossReferenceIdeal.τ).loc CrossReferenceIdeal.main_arg0) = m ((c.tc : Thread CrossReferenceIdeal.nD CrossReferenceIdeal.τ).loc CrossReferenceIdeal.main_arg0)
      ∧ r.2.mem ((c.tc : Thread CrossReferenceIdeal.nD CrossReferenceIdeal.τ).loc CrossReferenceIdeal.main_arg1) = m ((c.tc : Thread CrossReferenceIdeal.nD CrossReferenceIdeal.τ).loc CrossReferenceIdeal.main_arg1)
      ∧ r.2.mem ((c.tc : Thread CrossReferenceIdeal.nD CrossReferenceIdeal.τ).loc CrossReferenceIdeal.main_arg2) = m ((c.tc : Thread CrossReferenceIdeal.nD CrossReferenceIdeal.τ).loc CrossReferenceIdeal.main_arg2)
      ∧ r.2.mem ((c.tc : Thread CrossReferenceIdeal.nD CrossReferenceIdeal.τ).loc CrossReferenceIdeal.main_arg3) = m ((c.tc : Thread CrossReferenceIdeal.nD CrossReferenceIdeal.τ).loc CrossReferenceIdeal.main_arg3)
      ∧ r.2.mem ((c.tc : Thread CrossReferenceIdeal.nD CrossReferenceIdeal.τ).loc CrossReferenceIdeal.main_arg4) = m ((c.tc : Thread CrossReferenceIdeal.nD CrossReferenceIdeal.τ).loc CrossReferenceIdeal.main_arg4)
      ∧ r.2.mem ((c.tc : Thread CrossReferenceIdeal.nD CrossReferenceIdeal.τ).loc CrossReferenceIdeal.main_arg5) = m ((c.tc : Thread CrossReferenceIdeal.nD CrossReferenceIdeal.τ).loc CrossReferenceIdeal.main_arg5)
      ∧ r.2.mem ((c.tc : Thread CrossReferenceIdeal.nD CrossReferenceIdeal.τ).loc CrossReferenceIdeal.main_arg6) = m ((c.tc : Thread CrossReferenceIdeal.nD CrossReferenceIdeal.τ).loc CrossReferenceIdeal.main_arg6))
      ∧ r.2.sem = fun _ => 0) :=
  (θ_run _ _ _).mono (fun r h => ⟨fun c => (h c).2, sem_eq_zero_of_no_sems (by decide) r.2⟩) (CrossReferenceIdeal.Value.run m ρ)

end Cert.CrossClaim

end
-- ==== Proof.MemoryMath.lean ====
module

/-
The memory's keys and values as plain arithmetic: rows normalized and multiplied by the weights, the first half of the columns
normalized again head by head.
-/
public import proofs.«01_k».proof.Proof.CrossMath

@[expose] public section

noncomputable section

namespace Cert.MemoryMath

open Idealize.ShloMosaic Cert.CrossMath

/-- An entry of the normalized row times the weights. -/
def raw (x g : Fin 1024 → EReal) (w : Fin 1024 → Fin 2048 → EReal) (q : Fin 2048) : EReal :=
  ∑ j : Fin 1024, FfnMath.norm (fun _ : Fin 1 => x) g 0 j * w j q

/-- A column of the keys. -/
def low (j : Fin 1024) : Fin 2048 := ⟨j.val, by omega⟩
/-- A column of the values. -/
def high (j : Fin 1024) : Fin 2048 := ⟨1024 + j.val, by omega⟩

/-- An entry of the keys. -/
def key (x g : Fin 1024 → EReal) (w : Fin 1024 → Fin 2048 → EReal) (gk : Fin 256 → EReal) (j : Fin 1024) : EReal :=
  query (fun d => raw x g w (low (col (hd j) d))) gk (off j)

theorem hd_col (h : Fin 4) (d : Fin 256) : hd (col h d) = h := Fin.ext (by show (256 * h.val + d.val) / 256 = h.val; omega)
theorem off_col (h : Fin 4) (d : Fin 256) : off (col h d) = d := Fin.ext (by show (256 * h.val + d.val) % 256 = d.val; omega)

end Cert.MemoryMath

end
-- ==== Proof.MemoryBlock.lean ====
module

/-
What one grid point of the memory's keys and values computes, entry by entry.
-/
public import proofs.«01_k».proof.Proof.Gen.MemoryIdeal.Value
public import proofs.«01_k».proof.Proof.MemoryMath
public import Idealize.ShloMosaic.Lib.Pipeline.ValueKit
public import Idealize.ShloMosaic.Lib.Pipeline.ReadBack

@[expose] public section

set_option maxRecDepth 16384

noncomputable section

namespace Cert.MemoryIdeal.Memory

open Cert.MemoryIdeal.Gen Cert.CrossMath Cert.MemoryMath
open Idealize.ShloMosaic Idealize.ShloMosaic.TcCoe Idealize.ShloMosaic.Tactic Idealize.ShloMosaic.Pipeline

variable (x : Vec Ideal S1x256x1024 .f32) (g : Vec Ideal S1x1024 .f32) (w : Vec Ideal S1024x2048 .bf16) (gk : Vec Ideal S1x256 .f32)

theorem ix2_congr {a b : ℕ} {p p' : Fin a} {q q' : Fin b} (h : p.val = p'.val) (h' : q.val = q'.val) :
    ValueIdx.ix2 p q = ValueIdx.ix2 p' q' := by
  rw [Fin.ext h, Fin.ext h']

theorem ix3_congr {a b d : ℕ} {p p' : Fin a} {q q' : Fin b} {s s' : Fin d} (h : p.val = p'.val) (h' : q.val = q'.val) (h'' : s.val = s'.val) :
    ValueIdx.ix3 p q s = ValueIdx.ix3 p' q' s' := by
  rw [Fin.ext h, Fin.ext h', Fin.ext h'']

/-- The normalized rows times the weights. -/
theorem raw_apply (r : Fin 256) (q : Fin 2048) :
    k0_pay3 x g w (ValueIdx.ix2 r q) = raw (fun k => x (ValueIdx.ix3 0 r k)) (fun k => g (ValueIdx.ix2 0 k)) (fun j q => w (ValueIdx.ix2 j q)) q := by
  unfold k0_pay3
  pointwise
  rfl

/-- A head's normalized columns. -/
theorem head_apply (p : FVec Ideal S256x256 .f32) (r d : Fin 256) :
    k0_pay6 p gk (ValueIdx.ix3 0 r d) = query (fun d => p (ValueIdx.ix2 r d)) (fun d => gk (ValueIdx.ix2 0 d)) d := by
  unfold k0_pay6
  pointwise
  rfl

/-- The first head. -/
theorem head0 : k0_pay4 x g w gk = k0_pay6 (extractStridedSlice S256x256 ![0, 0] (k0_pay3 x g w) slices_S256x2048_o0_0_S256x256) gk := rfl
/-- The third head. -/
theorem head2 (p : FVec Ideal S256x2048 .f32) : k0_pay7 p gk = k0_pay6 (extractStridedSlice S256x256 ![0, 512] p slices_S256x2048_o0_512_S256x256) gk := rfl
/-- The fourth head. -/
theorem head3 (p : FVec Ideal S256x2048 .f32) : k0_pay1 (k0_pay8 p) gk (k0_pay9 p) (Scalar.ofBits .f32 0x43800000#32)
    = k0_pay6 (extractStridedSlice S256x256 ![0, 768] p slices_S256x2048_o0_768_S256x256) gk := rfl

/-- The keys of a block, as one function of the block's index. -/
def keys (y : S1x256x1024.Idx) : EReal :=
  key (fun k => x (ValueIdx.ix3 0 (y 1) k)) (fun k => g (ValueIdx.ix2 0 k)) (fun j q => w (ValueIdx.ix2 j q)) (fun d => gk (ValueIdx.ix2 0 d)) (y 2)

/-- A head's columns are the keys' columns from `256 * h` on. -/
theorem piece (h : Fin 4) (hs : S256x2048.Slices ![0, 256 * h.val] S256x256)
    (hi : ∀ a, (![0, 0, 256 * h.val] : Fin 3 → ℕ) a + S1x256x256.size a ≤ S1x256x1024.size a) (r d : Fin 256) :
    k0_pay6 (extractStridedSlice S256x256 ![0, 256 * h.val] (k0_pay3 x g w) hs) gk (ValueIdx.ix3 0 r d)
      = keys x g w gk ((Rect.unit (s := S1x256x1024) ![0, 0, 256 * h.val] S1x256x256.size hi).emb (ValueIdx.ix3 0 r d)) := by
  have e : (Rect.unit (s := S1x256x1024) ![0, 0, 256 * h.val] S1x256x256.size hi).emb (ValueIdx.ix3 0 r d) = ValueIdx.ix3 0 r (col h d) := by
    refine (ValueIdx.eq_ix3 _).trans (ix3_congr ?_ ?_ ?_)
    · rfl
    · show 0 + 1 * r.val = r.val
      omega
    · show 256 * h.val + 1 * d.val = 256 * h.val + d.val
      omega
  rw [e, head_apply]
  unfold keys key
  show _ = query (fun d' => raw _ _ _ (low (col (hd (col h d)) d'))) _ (off (col h d))
  rw [hd_col, off_col]
  refine congrArg (fun f => query f _ d) (funext fun d' => ?_)
  refine Eq.trans ?_ (raw_apply x g w r (low (col h d')))
  refine extractStridedSlice_apply _ _ _ _ _ fun a => ?_
  match a with
  | ⟨0, _⟩ => exact (Nat.zero_add _).symm
  | ⟨1, _⟩ => rfl

/-- The same at any index of the head's block. -/
theorem piece_any (h : Fin 4) (hs : S256x2048.Slices ![0, 256 * h.val] S256x256)
    (hi : ∀ a, (![0, 0, 256 * h.val] : Fin 3 → ℕ) a + S1x256x256.size a ≤ S1x256x1024.size a) (y : S1x256x256.Idx) :
    k0_pay6 (extractStridedSlice S256x256 ![0, 256 * h.val] (k0_pay3 x g w) hs) gk y
      = keys x g w gk ((Rect.unit (s := S1x256x1024) ![0, 0, 256 * h.val] S1x256x256.size hi).emb y) := by
  have hy : ∃ r d : Fin 256, y = ValueIdx.ix3 0 r d :=
    ⟨y 1, y 2, (ValueIdx.eq_ix3 y).trans (congrArg (fun a : Fin 1 => ValueIdx.ix3 a (y 1 : Fin 256) (y 2 : Fin 256)) (Subsingleton.elim _ _))⟩
  obtain ⟨r, d, rfl⟩ := hy
  exact piece x g w gk h hs hi r d

/-- What a point leaves in the keys' block. -/
theorem keys_eq (y : S1x256x1024.Idx) : out0_4 x g w gk y = keys x g w gk y := by
  unfold_out out0_4
  have l0 : View.ld x r0_0 = x := View.ld_unit_lit _ x (by decide)
  have l1 : View.ld g r0_1 = g := View.ld_unit_lit _ g (by decide)
  have l2 : View.ld w r0_2 = w := View.ld_unit_lit _ w (by decide)
  have l3 : View.ld gk r0_3 = gk := View.ld_unit_lit _ gk (by decide)
  rw [l0, l1, l2, l3]
  rw [head0, head2, head3]
  refine View.canon_apply_of_pieces (Val := Elt Ideal) (e := .bf16) (keys x g w gk) _ ?_ y (cover0_4 _ _ _ _ y)
  intro pc hpc
  rcases List.mem_cons.mp hpc with rfl | hpc
  · exact piece_any x g w gk 3 slices_S256x2048_o0_768_S256x256 inb_S1x256x1024_S1x256x256_0_0_768
  rcases List.mem_cons.mp hpc with rfl | hpc
  · exact piece_any x g w gk 2 slices_S256x2048_o0_512_S256x256 inb_S1x256x1024_S1x256x256_0_0_512
  rcases List.mem_cons.mp hpc with rfl | hpc
  · exact piece_any x g w gk 1 slices_S256x2048_o0_256_S256x256 inb_S1x256x1024_S1x256x256_0_0_256
  rcases List.mem_cons.mp hpc with rfl | hpc
  · exact piece_any x g w gk 0 slices_S256x2048_o0_0_S256x256 inb_S1x256x1024_S1x256x256_0_0_0
  nomatch hpc

/-- What a point leaves in the values' block. -/
theorem vals_eq (r : Fin 256) (j : Fin 1024) : out0_5 x g w gk (ValueIdx.ix3 0 r j)
    = raw (fun k => x (ValueIdx.ix3 0 r k)) (fun k => g (ValueIdx.ix2 0 k)) (fun j q => w (ValueIdx.ix2 j q)) (high j) := by
  unfold_out out0_5
  have l0 : View.ld x r0_0 = x := View.ld_unit_lit _ x (by decide)
  have l1 : View.ld g r0_1 = g := View.ld_unit_lit _ g (by decide)
  have l2 : View.ld w r0_2 = w := View.ld_unit_lit _ w (by decide)
  rw [l0, l1, l2]
  refine (Value.canon5_eq x g w (ValueIdx.ix3 0 r j)).trans ?_
  refine Eq.trans (congrArg (k0_pay3 x g w) ((ValueIdx.eq_ix2 _).trans (ix2_congr ?_ ?_))) (raw_apply x g w r (high j))
  · rfl
  · exact Nat.add_comm _ _

end Cert.MemoryIdeal.Memory

end
-- ==== Proof.MemoryRef.lean ====
module

/-
The reference's keys and values of the memory, read entry by entry.
-/
public import proofs.«01_k».proof.Proof.Gen.MemoryReferenceIdeal.Read
public import proofs.«01_k».proof.Proof.MemoryMath
public import Idealize.ShloMosaic.Lib.KernelVsHost

@[expose] public section

set_option maxRecDepth 16384

noncomputable section

namespace Cert.MemoryRef

open Cert.MemoryReferenceIdeal Cert.MemoryReferenceIdeal.Gen Cert.MemoryReferenceIdeal.Read Cert.CrossMath Cert.MemoryMath
open Idealize.ShloMosaic Idealize.ShloMosaic.TcCoe Idealize.ShloMosaic.Tactic

variable (x0 : (⟨S5x256x1024, .f32⟩ : BufTy).Contents (Elt Ideal)) (x1 : (⟨S1x1024, .f32⟩ : BufTy).Contents (Elt Ideal))
  (x2 : (⟨S1024x2048, .bf16⟩ : BufTy).Contents (Elt Ideal)) (x3 : (⟨S1x256, .f32⟩ : BufTy).Contents (Elt Ideal))

/-- A row of the memory. -/
abbrev X (b : Fin 5) (s : Fin 256) (k : Fin 1024) : EReal := x0 (ValueIdx.ix3 b s k)
/-- The scale. -/
abbrev G (k : Fin 1024) : EReal := x1 (ValueIdx.ix2 0 k)
/-- The weights. -/
abbrev W (j : Fin 1024) (q : Fin 2048) : EReal := x2 (ValueIdx.ix2 j q)
/-- The keys' scale. -/
abbrev Q (d : Fin 256) : EReal := x3 (ValueIdx.ix2 0 d)

theorem square_sum (b : Fin 5) (s : Fin 256) : val_main_v2 (F := Ideal) x0 (ValueIdx.ix2 b s) = ∑ j : Fin 1024, X x0 b s j * X x0 b s j := by
  simp only [val_main_v2_apply, val_main_cst_apply, Ideal.ofBits_def, Ideal.ofBits_zero_f32, zero_add]
  refine Finset.sum_congr rfl fun j _ => ?_
  have e : idx_main_v2 (ValueIdx.ix2 b s) j = ValueIdx.ix3 b s j := ValueIdx.eq_ix3 _
  rw [e, val_main_v1_apply]
  rfl

theorem norm_apply (b : Fin 5) (s : Fin 256) (k : Fin 1024) :
    val_main_v13 (F := Ideal) x0 x1 (ValueIdx.ix3 b s k) = FfnMath.norm (fun _ : Fin 1 => X x0 b s) (G x1) 0 k := by
  simp only [val_main_v13_apply, val_main_v10_apply, val_main_v9_apply, val_main_v8_apply, val_main_v7_apply, val_main_v6_apply, val_main_v5_apply, val_main_v4_apply, val_main_v3_apply, val_main_v12_apply, val_main_v11_apply, val_main_v0_apply, val_main_cst_0_apply, val_main_cst_1_apply]
  have e : idx_main_v3 (idx_main_v9 (ValueIdx.ix3 b s k)) = ValueIdx.ix2 b s := ValueIdx.eq_ix2 _
  have eg : idx_main_v0 (idx_main_v11 (idx_main_v12 (ValueIdx.ix3 b s k))) = ValueIdx.ix2 0 k :=
    (ValueIdx.eq_ix2 _).trans (congrArg (ValueIdx.ix2 0) (Fin.ext (Nat.mod_eq_of_lt k.isLt)))
  rw [e, eg, square_sum]
  rfl

theorem raw_apply (b : Fin 5) (s : Fin 256) (q : Fin 2048) :
    val_main_v15 (F := Ideal) x0 x1 x2 (ValueIdx.ix3 b s q) = raw (X x0 b s) (G x1) (W x2) q := by
  rw [val_main_v15_apply]
  refine Finset.sum_congr rfl fun j _ => ?_
  have el : lidx_main_v15 (ValueIdx.ix3 b s q) j = ValueIdx.ix3 b s j := ValueIdx.eq_ix3 _
  have er : ridx_main_v15 (ValueIdx.ix3 b s q) j = ValueIdx.ix2 j q := ValueIdx.eq_ix2 _
  rw [el, er, norm_apply, val_main_v14_apply]
  rfl

/-- The reference's values. -/
theorem vals_apply (b : Fin 5) (s : Fin 256) (j : Fin 1024) :
    val_main_v35 (F := Ideal) x0 x1 x2 (ValueIdx.ix3 b s j) = raw (X x0 b s) (G x1) (W x2) (high j) := by
  rw [val_main_v35_apply, val_main_v17_apply]
  have e : idx_main_v17 (ValueIdx.ix3 b s j) = ValueIdx.ix3 b s (high j) := ValueIdx.eq_ix3 _
  rw [e, raw_apply]
  rfl

/-- A row's columns of one head, before they are normalized. -/
abbrev C (b : Fin 5) (s : Fin 256) (h : Fin 4) (d : Fin 256) : EReal := raw (X x0 b s) (G x1) (W x2) (low (col h d))

theorem split_apply (b : Fin 5) (s : Fin 256) (h : Fin 4) (d : Fin 256) :
    val_main_v18 (F := Ideal) x0 x1 x2 (ValueIdx.ix4 b s h d) = C x0 x1 x2 b s h d := by
  rw [val_main_v18_apply, val_main_v16_apply]
  have e : idx_main_v18 (ValueIdx.ix4 b s h d) = ValueIdx.ix3 b s (col h d) := by
    refine (ValueIdx.eq_ix3 _).trans ?_
    have e0 : idx_main_v18 (ValueIdx.ix4 b s h d) 0 = b := Fin.ext (by
      show (((b.val * 256 + s.val) * 4 + h.val) * 256 + d.val) / 262144 = b.val
      omega)
    have e1 : idx_main_v18 (ValueIdx.ix4 b s h d) 1 = s := Fin.ext (by
      show (((b.val * 256 + s.val) * 4 + h.val) * 256 + d.val) / 1024 % 256 = s.val
      omega)
    have e2 : idx_main_v18 (ValueIdx.ix4 b s h d) 2 = col h d := Fin.ext (by
      show (((b.val * 256 + s.val) * 4 + h.val) * 256 + d.val) % 1024 = 256 * h.val + d.val
      omega)
    rw [e0, e1, e2]
    rfl
  have e' : idx_main_v16 (ValueIdx.ix3 b s (col h d)) = ValueIdx.ix3 b s (low (col h d)) := ValueIdx.eq_ix3 _
  rw [e, e', raw_apply]

theorem head_sum (b : Fin 5) (s : Fin 256) (h : Fin 4) :
    val_main_v21 (F := Ideal) x0 x1 x2 (ValueIdx.ix3 b s h) = ∑ d : Fin 256, C x0 x1 x2 b s h d * C x0 x1 x2 b s h d := by
  simp only [val_main_v21_apply, val_main_cst_2_apply, Ideal.ofBits_def, Ideal.ofBits_zero_f32, zero_add]
  refine Finset.sum_congr rfl fun d _ => ?_
  have e : idx_main_v21 (ValueIdx.ix3 b s h) d = ValueIdx.ix4 b s h d := ValueIdx.eq_ix4 _
  rw [e, val_main_v20_apply, split_apply]
  rfl

theorem head_apply (b : Fin 5) (s : Fin 256) (h : Fin 4) (d : Fin 256) :
    val_main_v32 (F := Ideal) x0 x1 x2 x3 (ValueIdx.ix4 b s h d) = query (C x0 x1 x2 b s h) (Q x3) d := by
  simp only [val_main_v32_apply, val_main_v29_apply, val_main_v28_apply, val_main_v27_apply, val_main_v26_apply, val_main_v25_apply, val_main_v24_apply, val_main_v23_apply, val_main_v22_apply, val_main_v31_apply, val_main_v30_apply, val_main_v19_apply, val_main_cst_3_apply, val_main_cst_4_apply]
  have e : idx_main_v22 (idx_main_v28 (ValueIdx.ix4 b s h d)) = ValueIdx.ix3 b s h := ValueIdx.eq_ix3 _
  have eg : idx_main_v19 (idx_main_v30 (idx_main_v31 (ValueIdx.ix4 b s h d))) = ValueIdx.ix2 0 d :=
    (ValueIdx.eq_ix2 _).trans (congrArg (ValueIdx.ix2 0) (Fin.ext (Nat.mod_eq_of_lt d.isLt)))
  rw [e, eg, head_sum, split_apply]
  rfl

/-- The reference's keys. -/
theorem keys_apply (b : Fin 5) (s : Fin 256) (j : Fin 1024) :
    val_main_v34 (F := Ideal) x0 x1 x2 x3 (ValueIdx.ix3 b s j) = key (X x0 b s) (G x1) (W x2) (Q x3) j := by
  rw [val_main_v34_apply, val_main_v33_apply]
  have e : idx_main_v33 (ValueIdx.ix3 b s j) = ValueIdx.ix4 b s (hd j) (off j) := by
    refine (ValueIdx.eq_ix4 _).trans ?_
    have e0 : idx_main_v33 (ValueIdx.ix3 b s j) 0 = b := Fin.ext (by
      show ((b.val * 256 + s.val) * 1024 + j.val) / 262144 = b.val
      omega)
    have e1 : idx_main_v33 (ValueIdx.ix3 b s j) 1 = s := Fin.ext (by
      show ((b.val * 256 + s.val) * 1024 + j.val) / 1024 % 256 = s.val
      omega)
    have e2 : idx_main_v33 (ValueIdx.ix3 b s j) 2 = hd j := Fin.ext (by
      show ((b.val * 256 + s.val) * 1024 + j.val) / 256 % 4 = j.val / 256
      omega)
    have e3 : idx_main_v33 (ValueIdx.ix3 b s j) 3 = off j := Fin.ext (by
      show ((b.val * 256 + s.val) * 1024 + j.val) % 256 = j.val % 256
      omega)
    rw [e0, e1, e2, e3]
    rfl
  rw [e, head_apply]
  rfl

end Cert.MemoryRef

end
-- ==== Proof.MemoryArray.lean ====
module

/-
The arrays the launch leaves are the plain keys and values of the memory.
-/
public import proofs.«01_k».proof.Proof.MemoryBlock
public import proofs.«01_k».proof.Proof.MemoryRef
public import Idealize.ShloMosaic.Lib.Pipeline.Covers

@[expose] public section

set_option maxRecDepth 16384

noncomputable section

namespace Cert.MemoryIdeal.Memory

open Cert.MemoryIdeal.Gen Cert.CrossMath Cert.MemoryMath
open Idealize.ShloMosaic Idealize.ShloMosaic.TcCoe Idealize.ShloMosaic.Tactic Idealize.ShloMosaic.Pipeline

/-- The block each window takes at a point. -/
theorem maps : ∀ t : Fin grid0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] := by decide +kernel

/-- The memory a point works on. -/
def point (t : Fin cfg0.N) : Fin 5 := ⟨t.val, lt_of_lt_of_eq t.isLt N_0⟩

/-- An index of a block. -/
theorem index (y : S1x256x1024.Idx) : ∃ (r : Fin 256) (j : Fin 1024), y = ValueIdx.ix3 0 r j :=
  ⟨y 1, y 2, (ValueIdx.eq_ix3 y).trans (congrArg (fun a : Fin 1 => ValueIdx.ix3 a (y 1 : Fin 256) (y 2 : Fin 1024)) (Subsingleton.elim _ _))⟩

theorem raw_congr {x x' g g' : Fin 1024 → EReal} {w w' : Fin 1024 → Fin 2048 → EReal} (h0 : x = x') (h1 : g = g') (h2 : w = w') (q : Fin 2048) :
    raw x g w q = raw x' g' w' q := by
  rw [h0, h1, h2]

theorem key_congr {x x' g g' : Fin 1024 → EReal} {w w' : Fin 1024 → Fin 2048 → EReal} {k k' : Fin 256 → EReal} (h0 : x = x') (h1 : g = g') (h2 : w = w')
    (h3 : k = k') (j : Fin 1024) : key x g w k j = key x' g' w' k' j := by
  rw [h0, h1, h2, h3]

variable (m : (ℓ : Loc nD τ sig) → Buf (Elt Ideal) ℓ)

/-- The memory's rows. -/
theorem own_rows (c : Dev nD) (t : Fin cfg0.N) (r : Fin 256) (k : Fin 1024) :
    iblk m c 0 t (ValueIdx.ix3 0 r k) = m ((c.tc : Thread nD τ).loc main_arg0) (ValueIdx.ix3 (point t) r k) := by
  have e : win0_0.index t = ![t.val, 0, 0] := (maps t).1
  blk_simp [iblk, V, e]
  refine congrArg (m ((c.tc : Thread nD τ).loc main_arg0)) ((ValueIdx.eq_ix3 _).trans (ix3_congr ?_ ?_ ?_))
  · blk_simp [e]
    rfl
  · blk_simp [e]
  · blk_simp [e]

/-- The scale. -/
theorem scale_entry (c : Dev nD) (t : Fin cfg0.N) (k : Fin 1024) :
    iblk m c 1 t (ValueIdx.ix2 0 k) = m ((c.tc : Thread nD τ).loc main_arg1) (ValueIdx.ix2 0 k) := by
  have e : win0_1.index t = ![0, 0] := (maps t).2.1
  blk_simp [iblk, V, e]
  refine congrArg (m ((c.tc : Thread nD τ).loc main_arg1)) ((ValueIdx.eq_ix2 _).trans (ix2_congr ?_ ?_))
  · blk_simp [e]
    rfl
  · blk_simp [e]

/-- The weights. -/
theorem weights (c : Dev nD) (t : Fin cfg0.N) (j : Fin 1024) (q : Fin 2048) :
    iblk m c 2 t (ValueIdx.ix2 j q) = m ((c.tc : Thread nD τ).loc main_arg2) (ValueIdx.ix2 j q) := by
  have e : win0_2.index t = ![0, 0] := (maps t).2.2.1
  blk_simp [iblk, V, e]
  refine congrArg (m ((c.tc : Thread nD τ).loc main_arg2)) ((ValueIdx.eq_ix2 _).trans (ix2_congr ?_ ?_))
  · blk_simp [e]
  · blk_simp [e]

/-- The keys' scale. -/
theorem key_scale (c : Dev nD) (t : Fin cfg0.N) (d : Fin 256) :
    iblk m c 3 t (ValueIdx.ix2 0 d) = m ((c.tc : Thread nD τ).loc main_arg3) (ValueIdx.ix2 0 d) := by
  have e : win0_3.index t = ![0, 0] := (maps t).2.2.2.1
  blk_simp [iblk, V, e]
  refine congrArg (m ((c.tc : Thread nD τ).loc main_arg3)) ((ValueIdx.eq_ix2 _).trans (ix2_congr ?_ ?_))
  · blk_simp [e]
    rfl
  · blk_simp [e]

/-- What a point leaves of the keys, entry by entry. -/
theorem keys_entry (c : Dev nD) (t : Fin cfg0.N) (r : Fin 256) (j : Fin 1024) :
    out0_4 (iblk m c 0 t) (iblk m c 1 t) (iblk m c 2 t) (iblk m c 3 t) (ValueIdx.ix3 0 r j)
      = Cert.MemoryReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (ValueIdx.ix3 (point t) r j) := by
  refine (keys_eq (iblk m c 0 t) (iblk m c 1 t) (iblk m c 2 t) (iblk m c 3 t) (ValueIdx.ix3 0 r j)).trans ?_
  refine Eq.trans ?_ (Cert.MemoryRef.keys_apply _ _ _ _ (point t) r j).symm
  have h0 := funext fun k => own_rows m c t r k
  have h1 := funext fun k => scale_entry m c t k
  have h2 := funext fun j => funext fun q => weights m c t j q
  have h3 := funext fun d => key_scale m c t d
  exact key_congr h0 h1 h2 h3 j

/-- Where an entry of a point's block lies in the array. -/
theorem keys_place (t : Fin cfg0.N) (r : Fin 256) (j : Fin 1024) :
    (win0_4.blk t).view.emb (ValueIdx.ix3 0 r j) = ValueIdx.ix3 (point t) r j := by
  have e : win0_4.index t = ![t.val, 0, 0] := (maps t).2.2.2.2.1
  refine (ValueIdx.eq_ix3 _).trans (ix3_congr ?_ ?_ ?_)
  · blk_simp [e]
    rfl
  · blk_simp [e]
  · blk_simp [e]

/-- The points' blocks cover the array. -/
theorem keys_covers : (cfg0.win 4).Covers := by
  refine (cfg0.win 4).covers_of_index_surj rfl ?_ fun β => ?_
  · exact (by decide : ∀ a, 0 < S1x256x1024.size a)
  · have h0 : (β (0 : Fin 3)).val < 5 := lt_of_lt_of_eq (β (0 : Fin 3)).isLt (by decide)
    have h1 : (β (1 : Fin 3)).val < 1 := lt_of_lt_of_eq (β (1 : Fin 3)).isLt (by decide)
    have h2 : (β (2 : Fin 3)).val < 1 := lt_of_lt_of_eq (β (2 : Fin 3)).isLt (by decide)
    refine ⟨⟨(β (0 : Fin 3)).val, h0⟩, fun a => ?_⟩
    refine (congrFun (maps (⟨(β (0 : Fin 3)).val, h0⟩ : Fin 5)).2.2.2.2.1 a).trans ?_
    match a with
    | ⟨0, _⟩ => rfl
    | ⟨1, _⟩ => show 0 = (β (1 : Fin 3)).val; omega
    | ⟨2, _⟩ => show 0 = (β (2 : Fin 3)).val; omega

/-- The keys after the run are the plain keys of the arguments. -/
theorem keys_array_eq (c : Dev nD) :
    (dats m 0 c).arrAt 4 cfg0.N = Cert.MemoryReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ keys_covers fun t hf y => ?_
  blk_simp
  rw [after0_4]
  have hy : ∃ (r : Fin 256) (j : Fin 1024), (y : S1x256x1024.Idx) = ValueIdx.ix3 0 r j := index y
  obtain ⟨r, j, rfl⟩ := hy
  refine (keys_entry m c t r j).trans (congrArg _ ?_)
  exact (keys_place t r j).symm

/-- What a point leaves of the values, entry by entry. -/
theorem vals_entry (c : Dev nD) (t : Fin cfg0.N) (r : Fin 256) (j : Fin 1024) :
    out0_5 (iblk m c 0 t) (iblk m c 1 t) (iblk m c 2 t) (iblk m c 3 t) (ValueIdx.ix3 0 r j)
      = Cert.MemoryReferenceIdeal.Read.val_main_v35 (F := Ideal) (m ((c.tc : Thread nD τ).loc main_arg0)) (m ((c.tc : Thread nD τ).loc main_arg1)) (m ((c.tc : Thread nD τ).loc main_arg2)) (ValueIdx.ix3 (point t) r j) := by
  refine (vals_eq (iblk m c 0 t) (iblk m c 1 t) (iblk m c 2 t) (iblk m c 3 t) r j).trans ?_
  refine Eq.trans ?_ (Cert.MemoryRef.vals_apply _ _ _ (point t) r j).symm
  have h0 := funext fun k => own_rows m c t r k
  have h1 := funext fun k => scale_entry m c t k
  have h2 := funext fun j => funext fun q => weights m c t j q
  have h3 := funext fun d => key_scale m c t d
  exact raw_congr h0 h1 h2 (high j)

/-- Where an entry of a point's block lies in the array. -/
theorem vals_place (t : Fin cfg0.N) (r : Fin 256) (j : Fin 1024) :
    (win0_5.blk t).view.emb (ValueIdx.ix3 0 r j) = ValueIdx.ix3 (point t) r j := by
  have e : win0_5.index t = ![t.val, 0, 0] := (maps t).2.2.2.2.2
  refine (ValueIdx.eq_ix3 _).trans (ix3_congr ?_ ?_ ?_)
  · blk_simp [e]
    rfl
  · blk_simp [e]
  · blk_simp [e]

/-- The points' blocks cover the array. -/
theorem vals_covers : (cfg0.win 5).Covers := by
  refine (cfg0.win 5).covers_of_index_surj rfl ?_ fun β => ?_
  · exact (by decide : ∀ a, 0 < S1x256x1024.size a)
  · have h0 : (β (0 : Fin 3)).val < 5 := lt_of_lt_of_eq (β (0 : Fin 3)).isLt (by decide)
    have h1 : (β (1 : Fin 3)).val < 1 := lt_of_lt_of_eq (β (1 : Fin 3)).isLt (by decide)
    have h2 : (β (2 : Fin 3)).val < 1 := lt_of_lt_of_eq (β (2 : Fin 3)).isLt (by decide)
    refine ⟨⟨(β (0 : Fin 3)).val, h0⟩, fun a => ?_⟩
    refine (congrFun (maps (⟨(β (0 : Fin 3)).val, h0⟩ : Fin 5)).2.2.2.2.2 a).trans ?_
    match a with
    | ⟨0, _⟩ => rfl
    | ⟨1, _⟩ => show 0 = (β (1 : Fin 3)).val; omega
    | ⟨2, _⟩ => show 0 = (β (2 : Fin 3)).val; omega

/-- The values after the run are the plain values of the arguments. -/
theorem vals_array_eq (c : Dev nD) :
    (dats m 0 c).arrAt 5 cfg0.N = Cert.MemoryReferenceIdeal.Read.val_main_v35 (F := Ideal) (m ((c.tc : Thread nD τ).loc main_arg0)) (m ((c.tc : Thread nD τ).loc main_arg1)) (m ((c.tc : Thread nD τ).loc main_arg2)) := by
  refine (dats m 0 c).arrAt_eq_of_covers 5 _ vals_covers fun t hf y => ?_
  blk_simp
  rw [after0_5]
  have hy : ∃ (r : Fin 256) (j : Fin 1024), (y : S1x256x1024.Idx) = ValueIdx.ix3 0 r j := index y
  obtain ⟨r, j, rfl⟩ := hy
  refine (vals_entry m c t r j).trans (congrArg _ ?_)
  exact (vals_place t r j).symm

end Cert.MemoryIdeal.Memory

end
-- ==== Proof.MemoryClaim.lean ====
module

/-
The value claim of the memory's keys and values: the launch ends with the plain keys and values, and so does the reference.
-/
public import proofs.«01_k».proof.Defs
public import proofs.«01_k».proof.Proof.MemoryArray
public import proofs.«01_k».proof.Proof.Gen.MemoryIdeal
public import proofs.«01_k».proof.Proof.Gen.MemoryIdeal.Frame
public import proofs.«01_k».proof.Proof.Gen.MemoryReferenceIdeal
public import proofs.«01_k».proof.Proof.Gen.MemoryReferenceIdeal.Run
public import Idealize.ShloMosaic.Lib.Quiescent

@[expose] public section

set_option maxRecDepth 16384

noncomputable section

namespace Cert.MemoryClaim

open Idealize.ShloMosaic Idealize.ShloMosaic.TcCoe Idealize.SL.Sem

/-- Every run of the kernel leaves the plain keys and values in the results, the arguments as they were. -/
theorem kernel_run (m : (ℓ : Loc MemoryIdeal.nD MemoryIdeal.τ MemoryIdeal.sig) → Buf (Elt Ideal) ℓ) (ρ : Dev MemoryIdeal.nD → PrngReg) :
    θ_run MemoryIdeal.defs (onTc (τ := MemoryIdeal.τ) (MemoryIdeal.main (F := Ideal))) ⟨m, fun _ => 0, ρ⟩ (fun r => ∀ c : Dev MemoryIdeal.nD,
      r.2.mem ((c.tc : Thread MemoryIdeal.nD MemoryIdeal.τ).loc MemoryIdeal.main_v0_0) = MemoryReferenceIdeal.Read.val_main_v34 (F := Ideal) (m ((c.tc : Thread MemoryIdeal.nD MemoryIdeal.τ).loc MemoryIdeal.main_arg0)) (m ((c.tc : Thread MemoryIdeal.nD MemoryIdeal.τ).loc MemoryIdeal.main_arg1)) (m ((c.tc : Thread MemoryIdeal.nD MemoryIdeal.τ).loc MemoryIdeal.main_arg2)) (m ((c.tc : Thread MemoryIdeal.nD MemoryIdeal.τ).loc MemoryIdeal.main_arg3))
      ∧ r.2.mem ((c.tc : Thread MemoryIdeal.nD MemoryIdeal.τ).loc MemoryIdeal.main_v0_1) = MemoryReferenceIdeal.Read.val_main_v35 (F := Ideal) (m ((c.tc : Thread MemoryIdeal.nD MemoryIdeal.τ).loc MemoryIdeal.main_arg0)) (m ((c.tc : Thread MemoryIdeal.nD MemoryIdeal.τ).loc MemoryIdeal.main_arg1)) (m ((c.tc : Thread MemoryIdeal.nD MemoryIdeal.τ).loc MemoryIdeal.main_arg2))
      ∧ r.2.mem ((c.tc : Thread MemoryIdeal.nD MemoryIdeal.τ).loc MemoryIdeal.main_arg0) = m ((c.tc : Thread MemoryIdeal.nD MemoryIdeal.τ).loc MemoryIdeal.main_arg0)
      ∧ r.2.mem ((c.tc : Thread MemoryIdeal.nD MemoryIdeal.τ).loc MemoryIdeal.main_arg1) = m ((c.tc : Thread MemoryIdeal.nD MemoryIdeal.τ).loc MemoryIdeal.main_arg1)
      ∧ r.2.mem ((c.tc : Thread MemoryIdeal.nD MemoryIdeal.τ).loc MemoryIdeal.main_arg2) = m ((c.tc : Thread MemoryIdeal.nD MemoryIdeal.τ).loc MemoryIdeal.main_arg2)
      ∧ r.2.mem ((c.tc : Thread MemoryIdeal.nD MemoryIdeal.τ).loc MemoryIdeal.main_arg3) = m ((c.tc : Thread MemoryIdeal.nD MemoryIdeal.τ).loc MemoryIdeal.main_arg3)) :=
  (θ_run _ _ _).mono (fun r hr c => ⟨(hr c).1.trans (MemoryIdeal.Memory.keys_array_eq m c), (hr c).2.1.trans (MemoryIdeal.Memory.vals_array_eq m c), (hr c).2.2⟩) (MemoryIdeal.Value.run_blocks m ρ)

/-- The kernel and the reference leave the same arrays. -/
theorem algebraic : Cert.algebraic_MemoryIdeal_MemoryReferenceIdeal (hMemoryIdeal := Cert.MemoryIdeal.Gen.facts)
    (hMemoryReferenceIdeal := Cert.MemoryReferenceIdeal.Gen.facts) := by
  intro m ρ m' ρ' hpre hagree
  refine ⟨_, _, kernel_run m ρ, ?_⟩
  refine (θ_run _ _ _).mono (fun _ h c => ⟨(h c).1.trans ?_, (h c).2.1.trans ?_, (h c).2.2⟩) (MemoryReferenceIdeal.Value.run m' ρ')
  · rw [← (hagree c).1, ← (hagree c).2.1, ← (hagree c).2.2.1, ← (hagree c).2.2.2]
    exact MemoryReferenceIdeal.Read.val_main_v34_eq _ _ _ _
  · rw [← (hagree c).1, ← (hagree c).2.1, ← (hagree c).2.2.1]
    exact MemoryReferenceIdeal.Read.val_main_v35_eq _ _ _

/-- The reference ends, its arguments as they were and its counters at zero. -/
theorem reference_frame (m : (ℓ : Loc MemoryReferenceIdeal.nD MemoryReferenceIdeal.τ MemoryReferenceIdeal.sig) → Buf (Elt Ideal) ℓ) (ρ : Dev MemoryReferenceIdeal.nD → PrngReg) :
    θ_run (MemoryReferenceIdeal.defs (F := Ideal)) (onTc (τ := MemoryReferenceIdeal.τ) (MemoryReferenceIdeal.main (F := Ideal))) ⟨m, fun _ => 0, ρ⟩ (fun r => (∀ c : Dev MemoryReferenceIdeal.nD,
      r.2.mem ((c.tc : Thread MemoryReferenceIdeal.nD MemoryReferenceIdeal.τ).loc MemoryReferenceIdeal.main_arg0) = m ((c.tc : Thread MemoryReferenceIdeal.nD MemoryReferenceIdeal.τ).loc MemoryReferenceIdeal.main_arg0)
      ∧ r.2.mem ((c.tc : Thread MemoryReferenceIdeal.nD MemoryReferenceIdeal.τ).loc MemoryReferenceIdeal.main_arg1) = m ((c.tc : Thread MemoryReferenceIdeal.nD MemoryReferenceIdeal.τ).loc MemoryReferenceIdeal.main_arg1)
      ∧ r.2.mem ((c.tc : Thread MemoryReferenceIdeal.nD MemoryReferenceIdeal.τ).loc MemoryReferenceIdeal.main_arg2) = m ((c.tc : Thread MemoryReferenceIdeal.nD MemoryReferenceIdeal.τ).loc MemoryReferenceIdeal.main_arg2)
      ∧ r.2.mem ((c.tc : Thread MemoryReferenceIdeal.nD MemoryReferenceIdeal.τ).loc MemoryReferenceIdeal.main_arg3) = m ((c.tc : Thread MemoryReferenceIdeal.nD MemoryReferenceIdeal.τ).loc MemoryReferenceIdeal.main_arg3))
      ∧ r.2.sem = fun _ => 0) :=
  (θ_run _ _ _).mono (fun r h => ⟨fun c => (h c).2.2, sem_eq_zero_of_no_sems (by decide) r.2⟩) (MemoryReferenceIdeal.Value.run m ρ)

end Cert.MemoryClaim

end
-- ==== Proof.BandMath.lean ====
module

/-
The masked softmax average: over finitely many scores, some of them masked, the greatest kept score, the weights, their sum, the
average of the values and the logarithm of the sum. Two such averages over differently numbered keys agree when they keep the
same keys, provided the weights do not add up to nothing.
-/
public import proofs.«01_k».proof.Proof.FlashMath
public import Idealize.ShloMosaic.Lib.IdealHost

@[expose] public section

noncomputable section

namespace Cert.BandMath

open Idealize.ShloMosaic

variable {ι κ : Type} [Fintype ι] [Fintype κ]

/-- The score where it is kept, minus infinity elsewhere. -/
def kept (b : ι → BitVec 1) (s : ι → EReal) (i : ι) : EReal := Scalar.select (b i) (s i) ⊥

/-- The greatest kept score. -/
def top (b : ι → BitVec 1) (s : ι → EReal) : EReal := Finset.univ.fold max ⊥ (kept b s)

/-- A weight before it is divided by the sum. -/
def wt (b : ι → BitVec 1) (s : ι → EReal) (i : ι) : EReal := Scalar.select (b i) (Ideal.exp (kept b s i - top b s)) 0

/-- The sum of the weights. -/
def den (b : ι → BitVec 1) (s : ι → EReal) : EReal := ∑ i, wt b s i

/-- The average of the values. -/
def mean (b : ι → BitVec 1) (s v : ι → EReal) : EReal := ∑ i, Ideal.div (wt b s i) (den b s) * v i

/-- The logarithm of the sum of the exponentials. -/
def lse (b : ι → BitVec 1) (s : ι → EReal) : EReal := top b s + Ideal.log (den b s)

theorem select_one {α : Type} {b : BitVec 1} (h : b = 1#1) (x y : α) : Scalar.select b x y = x := by subst h; rfl

theorem select_not {α : Type} {b : BitVec 1} (h : b ≠ 1#1) (x y : α) : Scalar.select b x y = y := by
  have h : b = 0#1 := by revert h; revert b; decide
  subst h; rfl

section Reindex

variable (b : ι → BitVec 1) (b' : κ → BitVec 1) (s v : ι → EReal) (s' v' : κ → EReal) (f : κ → ι)
variable (hf : Function.Injective f) (hb : ∀ i, b i = 1#1 → ∃ k, f k = i) (hb' : ∀ k, b' k = b (f k))
variable (hs : ∀ k, b' k = 1#1 → s' k = s (f k)) (hv : ∀ k, b' k = 1#1 → v' k = v (f k))

include hb' hs in
theorem kept_eq (k : κ) : kept b' s' k = kept b s (f k) := by
  unfold kept
  rw [← hb' k]
  by_cases h : b' k = 1#1
  · rw [select_one h, select_one h, hs k h]
  · rw [select_not h, select_not h]

include hb hb' hs in
/-- The greatest kept score is the same. -/
theorem top_eq : top b' s' = top b s := by
  show Finset.univ.sup (kept b' s') = Finset.univ.sup (kept b s)
  apply le_antisymm
  · refine Finset.sup_le fun k _ => ?_
    rw [kept_eq b b' s s' f hb' hs k]
    exact Finset.le_sup (f := kept b s) (Finset.mem_univ (f k))
  · refine Finset.sup_le fun i _ => ?_
    by_cases h : b i = 1#1
    · obtain ⟨k, rfl⟩ := hb i h
      rw [← kept_eq b b' s s' f hb' hs k]
      exact Finset.le_sup (f := kept b' s') (Finset.mem_univ k)
    · unfold kept
      rw [select_not h]
      exact bot_le

include hb hb' hs in
theorem wt_eq (k : κ) : wt b' s' k = wt b s (f k) := by
  unfold wt
  rw [top_eq b b' s s' f hb hb' hs, kept_eq b b' s s' f hb' hs k, hb' k]

theorem wt_masked (i : ι) (h : b i ≠ 1#1) : wt b s i = 0 := select_not h _ _

include hf hb in
/-- A sum of terms that vanish where the score is masked. -/
theorem sum_eq (g : ι → EReal) (g' : κ → EReal) (h : ∀ k, g' k = g (f k)) (h0 : ∀ i, b i ≠ 1#1 → g i = 0) : ∑ k, g' k = ∑ i, g i := by
  refine Finset.sum_of_injOn f (fun x _ y _ e => hf e) (fun _ _ => Finset.mem_coe.2 (Finset.mem_univ _)) (fun i _ hi => ?_) (fun k _ => h k)
  by_cases hbi : b i = 1#1
  · obtain ⟨k, rfl⟩ := hb i hbi
    exact absurd ⟨k, Finset.mem_coe.2 (Finset.mem_univ _), rfl⟩ hi
  · exact h0 i hbi

include hf hb hb' hs in
/-- The sum of the weights is the same. -/
theorem den_eq : den b' s' = den b s :=
  sum_eq b f hf hb _ _ (wt_eq b b' s s' f hb hb' hs) (wt_masked b s)

include hf hb hb' hs in
/-- So is its logarithm. -/
theorem lse_eq : lse b' s' = lse b s := by
  unfold lse
  rw [top_eq b b' s s' f hb hb' hs, den_eq b b' s s' f hf hb hb' hs]

include hf hb hb' hs hv in
/-- So is the average, when the weights do not add up to nothing. -/
theorem mean_eq (hd : den b s ≠ 0) : mean b' s' v' = mean b s v := by
  unfold mean
  refine sum_eq b f hf hb _ _ (fun k => ?_) (fun i hi => ?_)
  · rw [wt_eq b b' s s' f hb hb' hs, den_eq b b' s s' f hf hb hb' hs]
    by_cases h : b' k = 1#1
    · rw [hv k h]
    · rw [wt_masked b s (f k) (by rw [← hb' k]; exact h), Ideal.zero_div hd, zero_mul, zero_mul]
  · rw [wt_masked b s i hi, Ideal.zero_div hd, zero_mul]

end Reindex

/-- With real scores and one of them kept the weights add up to something. -/
theorem den_ne (b : ι → BitVec 1) (s : ι → EReal) (i : ι) (hi : b i = 1#1) (hs : ∀ i, ∃ r : ℝ, s i = r) : den b s ≠ 0 := by
  have ht : ∃ r : ℝ, top b s = r := by
    show ∃ r : ℝ, Finset.univ.sup (kept b s) = r
    obtain ⟨j, _, e⟩ := Finset.exists_mem_eq_sup Finset.univ ⟨i, Finset.mem_univ i⟩ (kept b s)
    by_cases hj : b j = 1#1
    · obtain ⟨r, hr⟩ := hs j
      exact ⟨r, by rw [e, kept, select_one hj, hr]⟩
    · exfalso
      have h1 : kept b s i ≤ Finset.univ.sup (kept b s) := Finset.le_sup (Finset.mem_univ i)
      obtain ⟨r, hr⟩ := hs i
      rw [e, kept, kept, select_one hi, select_not hj, hr] at h1
      exact absurd (le_bot_iff.1 h1) (EReal.coe_ne_bot r)
  obtain ⟨T, hT⟩ := ht
  have pos : ∀ j, b j = 1#1 → 0 < wt b s j := fun j hj => by
    obtain ⟨r, hr⟩ := hs j
    rw [wt, select_one hj, kept, select_one hj, hT, hr, ← EReal.coe_sub, Ideal.exp_coe]
    exact_mod_cast Real.exp_pos _
  have nn : ∀ j, 0 ≤ wt b s j := fun j => by
    by_cases hj : b j = 1#1
    · exact (pos j hj).le
    · rw [wt_masked b s j hj]
  have : wt b s i ≤ den b s := Finset.single_le_sum (f := wt b s) (fun j _ => nn j) (Finset.mem_univ i)
  exact (lt_of_lt_of_le (pos i hi) this).ne'

end Cert.BandMath

end
-- ==== Proof.BandBlock.lean ====
module

/-
What one grid point of the band attention computes, head by head and entry by entry.
-/
public import proofs.«01_k».proof.Proof.BandMath
public import proofs.«01_k».proof.Proof.Gen.BandIdeal.Frame
public import Idealize.ShloMosaic.Lib.Pipeline.ValueKit
public import Idealize.ShloMosaic.Lib.Pipeline.ReadBack

@[expose] public section

set_option maxRecDepth 16384

noncomputable section

namespace Cert.BandIdeal.Band

open Cert.BandIdeal Cert.BandIdeal.Gen
open Idealize.ShloMosaic Idealize.ShloMosaic.TcCoe Idealize.ShloMosaic.Tactic Idealize.ShloMosaic.Pipeline

/-- Minus infinity's pattern. -/
theorem bot_bits : Ideal.ofBits .f32 0xFF800000#32 = ⊥ := by simp [Ideal.ofBits, Ideal.ieee]

/-- The mask is minus infinity. -/
theorem mask_val : (Named.named (F := Ideal) κ "mask" (φ := .f32) 0xF149F2CA#32) = ⊥ :=
  IdealRules.named_const.ideal_named_scalar _ _ _ _ rfl

/-- The lanes of one head. -/
def lane (n : BitVec 32) : IVec S1x256 1 :=
  cmpi .eq (k0_pay10 (iota .tc S1x256 32 [1] iota_S1x256_d1_w32) 64#32 k0_pay7 k0_pay8 k0_pay9) (broadcast S1x256 n)

/-- The lanes of one head, over the rows. -/
def lanes (n : BitVec 32) : IVec S128x256 1 := broadcastTo S128x256 (shapeCast S1x256 (lane n) shapeCasts_S1x256_S1x256) broadcasts_S1x256_S128x256

/-- A head's scores. -/
def scores (n : BitVec 32) (k : FVec Ideal S256x256 .bf16) (q : Vec Ideal S128x256 .bf16) : FVec Ideal S128x256 .f32 :=
  matmul (φ₁ := .bf16) dot_S128x256_S256x256_S128x256_1_1_0_0_n_n none (select (lanes n) q (broadcast S128x256 (Scalar.ofBits .bf16 0x0000#16)))
    k (constant S128x256 .f32 0x00000000#32)

/-- An entry of a head's result. -/
theorem prod_apply (p : FVec Ideal S128x256 .bf16) (v : FVec Ideal S256x256 .bf16) (r : Fin 128) (d : Fin 256) :
    matmul dot_S128x256_S256x256_S128x256_1_0_0_1_n_n none p v (constant S128x256 .f32 0x00000000#32) (ValueIdx.ix2 r d)
      = ∑ c : Fin 256, p (ValueIdx.ix2 r c) * v (ValueIdx.ix2 c d) := by
  pointwise
  rfl

/-- A head's score. -/
theorem scores_apply (n : BitVec 32) (k : FVec Ideal S256x256 .bf16) (q : Vec Ideal S128x256 .bf16) (r : Fin 128) (c : Fin 256) :
    scores n k q (ValueIdx.ix2 r c) = ∑ d : Fin 256, Scalar.select (lanes n (ValueIdx.ix2 r d)) (q (ValueIdx.ix2 r d)) (Ideal.ofBits .bf16 0x0000#16) * k (ValueIdx.ix2 c d) := by
  unfold scores
  pointwise
  rfl

/-- The greatest kept score of a row. -/
theorem top_apply (a b : IVec S128x256 1) (s : FVec Ideal S128x256 .f32) (r : Fin 128) :
    k0_pay22 a b s (ValueIdx.ix2 r 0) = BandMath.top (fun c => k0_pay20 a b (ValueIdx.ix2 r c)) (fun c : Fin 256 => s (ValueIdx.ix2 r c)) := by
  unfold k0_pay22 k0_pay21 BandMath.top BandMath.kept
  pointwise
  rw [bot_bits]
  simp only [mask_val]
  rfl

/-- A weight before the division. -/
theorem wt_apply (a b : IVec S128x256 1) (s : FVec Ideal S128x256 .f32) (r : Fin 128) (c : Fin 256) :
    k0_pay23 a b s (ValueIdx.ix2 r c) = BandMath.wt (fun c => k0_pay20 a b (ValueIdx.ix2 r c)) (fun c : Fin 256 => s (ValueIdx.ix2 r c)) c := by
  unfold k0_pay23 BandMath.wt BandMath.kept
  pointwise
  show Scalar.select _ (Ideal.exp (k0_pay21 a b s (ValueIdx.ix2 r c) - k0_pay22 a b s (ValueIdx.ix2 r 0))) 0 = _
  rw [top_apply]
  have e : k0_pay21 a b s (ValueIdx.ix2 r c) = Scalar.select (k0_pay20 a b (ValueIdx.ix2 r c)) (s (ValueIdx.ix2 r c)) ⊥ := by
    rw [← mask_val]
    rfl
  rw [e]

/-- The sum of a row's weights. -/
theorem den_apply (a b : IVec S128x256 1) (s : FVec Ideal S128x256 .f32) (r : Fin 128) :
    k0_pay24 a b s (ValueIdx.ix2 r 0) = BandMath.den (fun c => k0_pay20 a b (ValueIdx.ix2 r c)) (fun c : Fin 256 => s (ValueIdx.ix2 r c)) := by
  unfold k0_pay24 BandMath.den
  pointwise
  exact Finset.sum_congr rfl fun c _ => wt_apply a b s r c

/-- A weight. -/
theorem prob_apply (a b : IVec S128x256 1) (s : FVec Ideal S128x256 .f32) (r : Fin 128) (c : Fin 256) :
    k0_pay25 a b s (ValueIdx.ix2 r c) = Ideal.div (BandMath.wt (fun c => k0_pay20 a b (ValueIdx.ix2 r c)) (fun c : Fin 256 => s (ValueIdx.ix2 r c)) c)
      (BandMath.den (fun c => k0_pay20 a b (ValueIdx.ix2 r c)) (fun c : Fin 256 => s (ValueIdx.ix2 r c))) := by
  unfold k0_pay25
  pointwise
  rw [wt_apply]
  exact congrArg (Ideal.div _) (den_apply a b s r)

/-- The logarithm of the sum of the exponentials of a row. -/
theorem lse_apply (a b : IVec S128x256 1) (s : FVec Ideal S128x256 .f32) (r : Fin 128) :
    k0_pay26 a b s (ValueIdx.ix2 r 0) = BandMath.lse (fun c => k0_pay20 a b (ValueIdx.ix2 r c)) (fun c : Fin 256 => s (ValueIdx.ix2 r c)) := by
  unfold k0_pay26 BandMath.lse
  pointwise
  rw [top_apply, den_apply]

/-- The four heads' results, each in its own lanes. -/
def choose (f0 f1 f2 f3 : FVec Ideal S128x256 .f32) : FVec Ideal S128x256 .f32 :=
  select (lanes 3#32) f3 (select (lanes 2#32) f2 (select (lanes 1#32) f1 (select (lanes 0#32) f0 (broadcast S128x256 (Scalar.ofBits .f32 0x00000000#32)))))

/-- A head's result. -/
def one (n : BitVec 32) (a b : IVec S128x256 1) (q : Vec Ideal S128x256 .bf16) (k v : FVec Ideal S256x256 .bf16) : FVec Ideal S128x256 .f32 :=
  matmul dot_S128x256_S256x256_S128x256_1_0_0_1_n_n none (k0_pay25 a b (scores n k q)) v (constant S128x256 .f32 0x00000000#32)

/-- A head's logarithms, over its lanes. -/
def two (n : BitVec 32) (a b : IVec S128x256 1) (q : Vec Ideal S128x256 .bf16) (k : FVec Ideal S256x256 .bf16) : FVec Ideal S128x256 .f32 :=
  broadcastTo S128x256 (shapeCast S128x1 (k0_pay26 a b (scores n k q)) shapeCasts_S128x1_S128x1) broadcasts_S128x1_S128x256

/-- What a point leaves of the averages. -/
def tileO (a b : IVec S128x256 1) (q : Vec Ideal S128x256 .bf16) (k v : FVec Ideal S256x256 .bf16) : FVec Ideal S128x256 .bf16 :=
  truncf .bf16 (choose (one 0#32 a b q k v) (one 1#32 a b q k v) (one 2#32 a b q k v) (one 3#32 a b q k v)) bitsLt_bf16_f32

/-- What a point leaves of the logarithms. -/
def tileL (a b : IVec S128x256 1) (q : Vec Ideal S128x256 .bf16) (k : FVec Ideal S256x256 .bf16) : FVec Ideal S128x256 .f32 :=
  choose (two 0#32 a b q k) (two 1#32 a b q k) (two 2#32 a b q k) (two 3#32 a b q k)

/-- The lanes of a head are the columns of its quarter. -/
theorem lane_apply : ∀ n : Fin 4, ∀ j : Fin 256, lane (BitVec.ofNat 32 n.val) (ValueIdx.ix2 0 j) = if j.val / 64 = n.val then 1#1 else 0#1 := by
  decide +kernel

theorem lanes_apply (n : Fin 4) (r : Fin 128) (j : Fin 256) : lanes (BitVec.ofNat 32 n.val) (ValueIdx.ix2 r j) = if j.val / 64 = n.val then 1#1 else 0#1 := by
  rw [← lane_apply]
  unfold lanes
  pointwise
  rfl

end Cert.BandIdeal.Band

end
-- ==== Proof.BandSpec.lean ====
module

/-
The band attention of the two groups of sequences, as a formula of the queries, keys and values of all the rows: each row attends
to the rows of its own sequence at a distance of at most sixty-four. Taken over the two hundred and fifty-six rows a block stages
instead of the hundred and twenty-nine of the band, the average and the logarithm are the same.
-/
public import proofs.«01_k».proof.Proof.BandMath

@[expose] public section

noncomputable section

namespace Cert.BandSpec

open Idealize.ShloMosaic

/-- The first row of a row's sequence. -/
def lo (R : ℕ) : ℕ := if R < 16384 then R / 4096 * 4096 else 16384

/-- The row after the last of a row's sequence. -/
def hi (R : ℕ) : ℕ := if R < 16384 then R / 4096 * 4096 + 4096 else 32768

/-- Whether the row at the offset `o − 64` is of the same sequence. -/
def bit (R : Fin 32768) (o : Fin 129) : BitVec 1 := if lo R.val + 64 ≤ R.val + o.val ∧ R.val + o.val < hi R.val + 64 then 1#1 else 0#1

theorem lo_le (R : Fin 32768) : lo R.val ≤ R.val := by
  unfold lo; split_ifs <;> omega

theorem lt_hi (R : Fin 32768) : R.val < hi R.val := by
  unfold hi; split_ifs <;> omega

theorem hi_le (R : Fin 32768) : hi R.val ≤ 32768 := by
  unfold hi; split_ifs <;> omega

/-- The row at the offset `o − 64`, kept inside the sequence. -/
def key (R : Fin 32768) (o : Fin 129) : Fin 32768 :=
  ⟨max (lo R.val) (min (hi R.val - 1) (R.val + o.val - 64)), by have := lo_le R; have := hi_le R; have := lt_hi R; omega⟩

/-- A head's column. -/
def col (h : Fin 4) (d : Fin 64) : Fin 256 := ⟨64 * h.val + d.val, by omega⟩

/-- A column's head. -/
def hd (c : Fin 256) : Fin 4 := ⟨c.val / 64, by omega⟩

/-- A head's score of a row against a row of its band. -/
def score (X Y : Fin 32768 → Fin 256 → EReal) (R : Fin 32768) (h : Fin 4) (o : Fin 129) : EReal :=
  ∑ d : Fin 64, X R (col h d) * Y (key R o) (col h d)

/-- The averages. -/
def outO (X Y V : Fin 32768 → Fin 256 → EReal) (R : Fin 32768) (c : Fin 256) : EReal :=
  BandMath.mean (bit R) (score X Y R (hd c)) (fun o => V (key R o) c)

/-- The logarithms. -/
def outL (X Y : Fin 32768 → Fin 256 → EReal) (R : Fin 32768) (h : Fin 4) : EReal := BandMath.lse (bit R) (score X Y R h)

/-- The array's row of a block's row of the queries. -/
def row (t : Fin 256) (r : Fin 128) : Fin 32768 := ⟨128 * t.val + r.val, by omega⟩

/-- The array's row of a staged row of the keys. -/
def krow (t : Fin 256) (c : Fin 256) : Fin 32768 :=
  ⟨if c.val < 64 then 64 * (2 * t.val - 1) + c.val else if c.val < 192 then 128 * t.val + (c.val - 64) else 64 * min (2 * (t.val + 1)) 511 + (c.val - 192), by
    split_ifs <;> omega⟩

/-- Whether a staged row is kept for a row of the block. -/
def bits (t : Fin 256) (r : Fin 128) (c : Fin 256) : BitVec 1 :=
  if (r.val ≤ c.val ∧ c.val ≤ r.val + 128) ∧ lo (128 * t.val) + 64 ≤ 128 * t.val + c.val ∧ 128 * t.val + c.val < hi (128 * t.val) + 64 then 1#1 else 0#1

/-- The staged row of an offset. -/
def shift (r : Fin 128) (o : Fin 129) : Fin 256 := ⟨r.val + o.val, by omega⟩

theorem lo_row (t : Fin 256) (r : Fin 128) : lo (row t r).val = lo (128 * t.val) := by
  unfold lo row
  dsimp only
  split_ifs <;> omega

theorem hi_row (t : Fin 256) (r : Fin 128) : hi (row t r).val = hi (128 * t.val) := by
  unfold hi row
  dsimp only
  split_ifs <;> omega

theorem bit_one {p : Prop} [Decidable p] : (if p then 1#1 else 0#1) = 1#1 ↔ p := by
  split_ifs with h <;> simp [h]

theorem shift_inj (r : Fin 128) : Function.Injective (shift r) := fun a b h => by
  have := congrArg Fin.val h
  unfold shift at this
  dsimp only at this
  exact Fin.ext (by omega)

theorem shift_hit (t : Fin 256) (r : Fin 128) (c : Fin 256) (h : bits t r c = 1#1) : ∃ o, shift r o = c := by
  have h := (bit_one.1 h).1
  exact ⟨⟨c.val - r.val, by omega⟩, Fin.ext (by unfold shift; dsimp only; omega)⟩

theorem bit_eq (t : Fin 256) (r : Fin 128) (o : Fin 129) : bit (row t r) o = bits t r (shift r o) := by
  unfold bit bits
  rw [lo_row, hi_row]
  refine if_congr ?_ rfl rfl
  unfold row shift
  dsimp only
  constructor
  · intro h; refine ⟨⟨?_, ?_⟩, ?_, ?_⟩ <;> omega
  · intro h; constructor <;> omega

theorem key_eq (t : Fin 256) (r : Fin 128) (o : Fin 129) (h : bit (row t r) o = 1#1) : key (row t r) o = krow t (shift r o) := by
  have h := bit_one.1 h
  rw [lo_row, hi_row] at h
  have h1 : lo (128 * t.val) ≤ 32768 := by unfold lo; split_ifs <;> omega
  have h2 : hi (128 * t.val) ≤ 32768 := by unfold hi; split_ifs <;> omega
  refine Fin.ext ?_
  unfold key krow
  dsimp only
  rw [lo_row, hi_row]
  generalize lo (128 * t.val) = L at *
  generalize hi (128 * t.val) = H at *
  unfold row shift at *
  dsimp only at *
  split_ifs <;> omega

theorem bit_self (R : Fin 32768) : bit R ⟨64, by omega⟩ = 1#1 := by
  refine bit_one.2 ?_
  have := lo_le R
  have := lt_hi R
  dsimp only
  omega

section Block

variable (X Y V : Fin 32768 → Fin 256 → EReal) (t : Fin 256) (r : Fin 128) (h : Fin 4)
variable (B : Fin 256 → BitVec 1) (hB : ∀ c, B c = bits t r c)
variable (S : Fin 256 → EReal) (hS : ∀ c, S c = ∑ d : Fin 64, X (row t r) (col h d) * Y (krow t c) (col h d))

include hB hS in
/-- The logarithm over the staged rows. -/
theorem lse_block : BandMath.lse B S = outL X Y (row t r) h := by
  obtain rfl : B = bits t r := funext hB
  refine (BandMath.lse_eq (bits t r) (bit (row t r)) S (score X Y (row t r) h) (shift r) (shift_inj r) (shift_hit t r) (bit_eq t r) fun o ho => ?_).symm
  rw [hS]
  unfold score
  rw [key_eq t r o ho]

include hB hS in
/-- The average over the staged rows. -/
theorem mean_block (hX : ∀ R c, ∃ x : ℝ, X R c = x) (hY : ∀ R c, ∃ x : ℝ, Y R c = x) (c : Fin 256) (hc : hd c = h) :
    BandMath.mean B S (fun k => V (krow t k) c) = outO X Y V (row t r) c := by
  obtain rfl : B = bits t r := funext hB
  unfold outO
  rw [hc]
  refine (BandMath.mean_eq (bits t r) (bit (row t r)) S (fun k => V (krow t k) c) (score X Y (row t r) h) (fun o => V (key (row t r) o) c)
    (shift r) (shift_inj r) (shift_hit t r) (bit_eq t r) (fun o ho => ?_) (fun o ho => ?_) ?_).symm
  · rw [hS]
    unfold score
    rw [key_eq t r o ho]
  · show V (key (row t r) o) c = V (krow t (shift r o)) c
    rw [key_eq t r o ho]
  · refine BandMath.den_ne (bits t r) S (shift r ⟨64, by omega⟩) ((bit_eq t r _).symm.trans (bit_self _)) fun k => ?_
    rw [hS]
    refine FlashMath.sum_real _ _ fun d _ => ?_
    obtain ⟨x, hx⟩ := hX (row t r) (col h d)
    obtain ⟨y, hy⟩ := hY (krow t k) (col h d)
    exact ⟨x * y, by rw [hx, hy, EReal.coe_mul]⟩

end Block

end Cert.BandSpec

end
-- ==== Proof.BandTile.lean ====
module

/-
What one grid point of the band attention leaves, entry by entry: each column takes its own head's average and logarithm.
-/
public import proofs.«01_k».proof.Proof.BandBlock
public import proofs.«01_k».proof.Proof.BandSpec

@[expose] public section

set_option maxRecDepth 16384

noncomputable section

namespace Cert.BandIdeal.Band

open Cert.BandIdeal Cert.BandIdeal.Gen Cert.BandSpec
open Idealize.ShloMosaic Idealize.ShloMosaic.TcCoe Idealize.ShloMosaic.Tactic Idealize.ShloMosaic.Pipeline

/-- Each column takes its own head's entry. -/
theorem choose_apply (f : Fin 4 → FVec Ideal S128x256 .f32) (r : Fin 128) (c : Fin 256) :
    choose (f 0) (f 1) (f 2) (f 3) (ValueIdx.ix2 r c) = f (hd c) (ValueIdx.ix2 r c) := by
  have e := fun n : Fin 4 => lanes_apply n r c
  have e0 : lanes 0#32 (ValueIdx.ix2 r c) = _ := e 0
  have e1 : lanes 1#32 (ValueIdx.ix2 r c) = _ := e 1
  have e2 : lanes 2#32 (ValueIdx.ix2 r c) = _ := e 2
  have e3 : lanes 3#32 (ValueIdx.ix2 r c) = _ := e 3
  show Scalar.select (lanes 3#32 (ValueIdx.ix2 r c)) _ (Scalar.select (lanes 2#32 (ValueIdx.ix2 r c)) _ (Scalar.select (lanes 1#32 (ValueIdx.ix2 r c)) _
    (Scalar.select (lanes 0#32 (ValueIdx.ix2 r c)) _ _))) = _
  rw [e0, e1, e2, e3]
  have hc : c.val / 64 = (hd c).val := rfl
  rw [hc]
  generalize hd c = h
  match h with
  | ⟨0, _⟩ => rfl
  | ⟨1, _⟩ => rfl
  | ⟨2, _⟩ => rfl
  | ⟨3, _⟩ => rfl

/-- A sum over all columns of terms that vanish outside a head is the sum over the head. -/
theorem sum_head (h : Fin 4) (g : Fin 256 → EReal) (h0 : ∀ j, hd j ≠ h → g j = 0) : ∑ j, g j = ∑ d : Fin 64, g (col h d) := by
  refine (Finset.sum_of_injOn (col h) (fun a _ b _ e => ?_) (fun _ _ => Finset.mem_coe.2 (Finset.mem_univ _)) (fun j _ hj => ?_) (fun _ _ => rfl)).symm
  · have := congrArg Fin.val e
    unfold col at this
    dsimp only at this
    exact Fin.ext (by omega)
  · refine h0 j fun e => hj ⟨⟨j.val % 64, by omega⟩, Finset.mem_coe.2 (Finset.mem_univ _), ?_⟩
    subst e
    exact Fin.ext (by unfold col hd; dsimp only; omega)

/-- A head's score reads the head's columns. -/
theorem scores_head (h : Fin 4) (k : FVec Ideal S256x256 .bf16) (q : Vec Ideal S128x256 .bf16) (r : Fin 128) (c : Fin 256) :
    scores (BitVec.ofNat 32 h.val) k q (ValueIdx.ix2 r c) = ∑ d : Fin 64, q (ValueIdx.ix2 r (col h d)) * k (ValueIdx.ix2 c (col h d)) := by
  rw [scores_apply, sum_head h]
  · refine Finset.sum_congr rfl fun d _ => ?_
    have e : (col h d).val / 64 = h.val := by unfold col; dsimp only; omega
    rw [lanes_apply, if_pos e]
    rfl
  · intro j hj
    have e : ¬ j.val / 64 = h.val := fun e => hj (Fin.ext e)
    rw [lanes_apply, if_neg e]
    show Ideal.ofBits .bf16 0x0000#16 * _ = 0
    rw [show Ideal.ofBits .bf16 0x0000#16 = 0 from by simp [Ideal.ofBits, Ideal.ieee], zero_mul]

/-- An entry of the averages a point leaves. -/
theorem tileO_apply (a b : IVec S128x256 1) (q : Vec Ideal S128x256 .bf16) (k v : FVec Ideal S256x256 .bf16) (r : Fin 128) (c : Fin 256) :
    tileO a b q k v (ValueIdx.ix2 r c)
      = BandMath.mean (fun j => k0_pay20 a b (ValueIdx.ix2 r j)) (fun j : Fin 256 => scores (BitVec.ofNat 32 (hd c).val) k q (ValueIdx.ix2 r j))
          (fun j => v (ValueIdx.ix2 j c)) := by
  refine (choose_apply (fun h => one (BitVec.ofNat 32 h.val) a b q k v) r c).trans ?_
  refine (prod_apply _ _ r c).trans ?_
  exact Finset.sum_congr rfl fun j _ => congrArg (· * v (ValueIdx.ix2 j c)) (prob_apply a b _ r j)

/-- An entry of the logarithms a point leaves. -/
theorem tileL_apply (a b : IVec S128x256 1) (q : Vec Ideal S128x256 .bf16) (k : FVec Ideal S256x256 .bf16) (r : Fin 128) (c : Fin 256) :
    tileL a b q k (ValueIdx.ix2 r c)
      = BandMath.lse (fun j => k0_pay20 a b (ValueIdx.ix2 r j)) (fun j : Fin 256 => scores (BitVec.ofNat 32 (hd c).val) k q (ValueIdx.ix2 r j)) := by
  refine (choose_apply (fun h => two (BitVec.ofNat 32 h.val) a b q k) r c).trans ?_
  unfold two
  refine Eq.trans ?_ (lse_apply a b _ r)
  pointwise
  rfl

/-- The rows a point stages, one window after the other. -/
theorem rows_apply (x : Vec Ideal S64x256 .bf16) (y : Vec Ideal S128x256 .bf16) (z : Vec Ideal S64x256 .bf16) (j d : Fin 256) :
    k0_pay3 x y z (ValueIdx.ix2 j d)
      = if h : j.val < 64 then x (ValueIdx.ix2 ⟨j.val, h⟩ d) else if h' : j.val < 192 then y (ValueIdx.ix2 ⟨j.val - 64, by omega⟩ d) else z (ValueIdx.ix2 ⟨j.val - 192, by omega⟩ d) := by
  unfold k0_pay3
  split_ifs with h h'
  · refine concatenate_apply_piece (t := S256x256) 0 _ _ _ 0 (by simp) S64x256 x rfl rfl 0 rfl (ValueIdx.ix2 ⟨j.val, h⟩ d) (fun b hb => ?_) (Nat.zero_add _)
    match b with
    | ⟨0, _⟩ => exact absurd rfl hb
    | ⟨1, _⟩ => rfl
  · refine concatenate_apply_piece (t := S256x256) 0 _ _ _ 1 (by simp) S128x256 y rfl rfl 64 rfl (ValueIdx.ix2 ⟨j.val - 64, by omega⟩ d) (fun b hb => ?_)
      (by show 64 + (j.val - 64) = j.val; omega)
    match b with
    | ⟨0, _⟩ => exact absurd rfl hb
    | ⟨1, _⟩ => rfl
  · refine concatenate_apply_piece (t := S256x256) 0 _ _ _ 2 (by simp) S64x256 z rfl rfl 192 rfl (ValueIdx.ix2 ⟨j.val - 192, by omega⟩ d) (fun b hb => ?_)
      (by show 192 + (j.val - 192) = j.val; omega)
    match b with
    | ⟨0, _⟩ => exact absurd rfl hb
    | ⟨1, _⟩ => rfl

theorem ok (m : (ℓ : Loc nD τ sig) → Buf (Elt Ideal) ℓ) : Ok m := trivial

variable (m : (ℓ : Loc nD τ sig) → Buf (Elt Ideal) ℓ)

/-- A table's entry at a point, as the body reads it. -/
def read0 (t : Fin (cfgM m (ok m)).N) (x : (View.whole main_c).ty.Contents (Elt Ideal)) : BitVec 32 :=
  (View.whole main_c).readAt (Elt Ideal) (Rect.unit (s := S256) (k0_off1 (grid0.coords t)) S1.size (k0_off1_inb _)).toLoadRect x
      (Shape.Idx.first (Nat.lt_of_lt_of_eq Nat.zero_lt_one numel1_S1.symm))

/-- The averages the run's stores leave. -/
theorem runO_eq (c : Dev nD) (t : Fin (cfgM m (ok m)).N) (x0 : Vec Ideal S128x256 .bf16) (x1 : Vec Ideal S64x256 .bf16) (x2 : Vec Ideal S128x256 .bf16) (x3 x4 : Vec Ideal S64x256 .bf16)
    (x5 : Vec Ideal S128x256 .bf16) (x6 : Vec Ideal S64x256 .bf16) (xt0 : (View.whole main_c).ty.Contents (Elt Ideal)) (xt1 : (View.whole main_c_0).ty.Contents (Elt Ideal)) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
      (ms0_4 m (ok m) t) (hs0_4 m (ok m) t) (ms0_5 m (ok m) t) (hs0_5 m (ok m) t) (ms0_6 m (ok m) t) (hs0_6 m (ok m) t) (ms0_7 m (ok m) t) (hs0_7 m (ok m) t)
      (ms0_8 m (ok m) t) (hs0_8 m (ok m) t) x0 x1 x2 x3 x4 x5 x6 xt0 xt1
      = tileO (k0_pay5 (F := Ideal) (grid0.coords t) (read0 m t xt0) (read0 m t xt1)) k0_pay6 x0 (k0_pay3 x1 x2 x3) (k0_pay3 x4 x5 x6) := by
  unfold out0_A_7
  frame_out
  rfl

/-- The logarithms the run's stores leave. -/
theorem runL_eq (c : Dev nD) (t : Fin (cfgM m (ok m)).N) (x0 : Vec Ideal S128x256 .bf16) (x1 : Vec Ideal S64x256 .bf16) (x2 : Vec Ideal S128x256 .bf16) (x3 x4 : Vec Ideal S64x256 .bf16)
    (x5 : Vec Ideal S128x256 .bf16) (x6 : Vec Ideal S64x256 .bf16) (xt0 : (View.whole main_c).ty.Contents (Elt Ideal)) (xt1 : (View.whole main_c_0).ty.Contents (Elt Ideal)) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
      (ms0_4 m (ok m) t) (hs0_4 m (ok m) t) (ms0_5 m (ok m) t) (hs0_5 m (ok m) t) (ms0_6 m (ok m) t) (hs0_6 m (ok m) t) (ms0_7 m (ok m) t) (hs0_7 m (ok m) t)
      (ms0_8 m (ok m) t) (hs0_8 m (ok m) t) x0 x1 x2 x3 x4 x5 x6 xt0 xt1
      = tileL (k0_pay5 (F := Ideal) (grid0.coords t) (read0 m t xt0) (read0 m t xt1)) k0_pay6 x0 (k0_pay3 x1 x2 x3) := by
  unfold out0_A_8
  frame_out
  rfl

end Cert.BandIdeal.Band

end
-- ==== Proof.BandNear.lean ====
module

/-
Which staged rows lie in the band of a row.
-/
public import proofs.«01_k».proof.Proof.BandTile

@[expose] public section

set_option maxRecDepth 16384

noncomputable section

namespace Cert.BandIdeal.Band

open Cert.BandIdeal Cert.BandIdeal.Gen Cert.BandSpec
open Idealize.ShloMosaic Idealize.ShloMosaic.TcCoe Idealize.ShloMosaic.Tactic Idealize.ShloMosaic.Pipeline

/-- The band. -/
theorem near : ∀ r : Fin 128, ∀ c : Fin 256, k0_pay6 (ValueIdx.ix2 r c) = if r.val ≤ c.val ∧ c.val ≤ r.val + 128 then 1#1 else 0#1 := by
  decide +kernel

end Cert.BandIdeal.Band

end
-- ==== Proof.BandWords.lean ====
module

/-
The words the band attention keeps its positions in, as integers.
-/
public import proofs.«01_k».proof.Proof.BandSpec

@[expose] public section

noncomputable section

namespace Cert.BandWords

open Idealize.ShloMosaic

/-- A word of a small integer. -/
theorem toInt_small (z : ℤ) (h0 : -2147483648 ≤ z) (h1 : z < 2147483648) : (BitVec.ofInt 32 z).toInt = z := by
  rw [BitVec.toInt_ofInt, Int.bmod_def]
  split_ifs <;> omega

theorem ofNat_eq (n : ℕ) : BitVec.ofNat 32 n = BitVec.ofInt 32 (n : ℤ) := (BitVec.ofInt_natCast 32 n).symm

/-- Words of integers add up. -/
theorem add_eq (a b : ℤ) : BitVec.ofInt 32 a + BitVec.ofInt 32 b = BitVec.ofInt 32 (a + b) := (BitVec.ofInt_add a b).symm

theorem mul_eq (a b : ℤ) : BitVec.ofInt 32 a * BitVec.ofInt 32 b = BitVec.ofInt 32 (a * b) := (BitVec.ofInt_mul a b).symm

theorem neg_eq (a : ℤ) : -BitVec.ofInt 32 a = BitVec.ofInt 32 (-a) := BitVec.ofInt_neg.symm

theorem sub_eq (a b : ℤ) : BitVec.ofInt 32 a - BitVec.ofInt 32 b = BitVec.ofInt 32 (a - b) := by
  rw [BitVec.sub_eq_add_neg, neg_eq, add_eq, sub_eq_add_neg]

/-- The comparisons of words of small integers. -/
theorem sge_eq (a b : ℤ) (ha : -2147483648 ≤ a) (ha' : a < 2147483648) (hb : -2147483648 ≤ b) (hb' : b < 2147483648) :
    IntOp.cmpi .sge (BitVec.ofInt 32 a) (BitVec.ofInt 32 b) = if b ≤ a then 1#1 else 0#1 := by
  show BitVec.ofBool ((BitVec.ofInt 32 b).sle (BitVec.ofInt 32 a)) = _
  rw [BitVec.sle_eq_decide, toInt_small a ha ha', toInt_small b hb hb']
  by_cases h : b ≤ a <;> simp [h]

theorem slt_eq (a b : ℤ) (ha : -2147483648 ≤ a) (ha' : a < 2147483648) (hb : -2147483648 ≤ b) (hb' : b < 2147483648) :
    IntOp.cmpi .slt (BitVec.ofInt 32 a) (BitVec.ofInt 32 b) = if a < b then 1#1 else 0#1 := by
  show BitVec.ofBool ((BitVec.ofInt 32 a).slt (BitVec.ofInt 32 b)) = _
  rw [BitVec.slt_eq_decide, toInt_small a ha ha', toInt_small b hb hb']
  by_cases h : a < b <;> simp [h]

/-- The conjunction of two conditions' bits. -/
theorem and_bits (p q : Prop) [Decidable p] [Decidable q] : IntOp.andi (if p then 1#1 else 0#1) (if q then 1#1 else 0#1) = if p ∧ q then 1#1 else 0#1 := by
  by_cases hp : p <;> by_cases hq : q <;> simp [hp, hq, IntOp.andi]

end Cert.BandWords

end
-- ==== Proof.BandBits.lean ====
module

/-
Which staged rows the kernel keeps for a row: those of the band that belong to the row's own sequence.
-/
public import proofs.«01_k».proof.Proof.BandNear
public import proofs.«01_k».proof.Proof.BandWords

@[expose] public section

set_option maxRecDepth 16384

noncomputable section

namespace Cert.BandIdeal.Band

open Cert.BandIdeal Cert.BandIdeal.Gen Cert.BandSpec Cert.BandWords
open Idealize.ShloMosaic Idealize.ShloMosaic.TcCoe Idealize.ShloMosaic.Tactic Idealize.ShloMosaic.Pipeline

/-- The first table: where a block's sequence starts. -/
theorem table_lo : ∀ t : Fin 256, lit0 t = BitVec.ofNat 32 (lo (128 * t.val)) := by decide +kernel

/-- The second table: where it ends. -/
theorem table_hi : ∀ t : Fin 256, lit1 t = BitVec.ofNat 32 (hi (128 * t.val)) := by decide +kernel

/-- The sequence. -/
theorem inside (i : grid0.Coords) (t : Fin 256) (hi' : (i 0).val = t.val) (r : Fin 128) (c : Fin 256) :
    k0_pay5 (F := Ideal) i (lit0 t) (lit1 t) (ValueIdx.ix2 r c)
      = if lo (128 * t.val) + 64 ≤ 128 * t.val + c.val ∧ 128 * t.val + c.val < hi (128 * t.val) + 64 then 1#1 else 0#1 := by
  have h1 : lo (128 * t.val) ≤ 32768 := by unfold lo; split_ifs <;> omega
  have h2 : hi (128 * t.val) ≤ 32768 := by unfold hi; split_ifs <;> omega
  rw [table_lo, table_hi]
  have e : ∀ p q : BitVec 32, k0_pay5 (F := Ideal) i p q (ValueIdx.ix2 r c)
      = IntOp.andi (IntOp.cmpi .sge (BitVec.ofNat 32 (i 0).val * 128#32 - 64#32 + BitVec.ofNat 32 c.val) p)
          (IntOp.cmpi .slt (BitVec.ofNat 32 (i 0).val * 128#32 - 64#32 + BitVec.ofNat 32 c.val) q) := fun p q => by
    unfold k0_pay5
    pointwise
    rfl
  have w : BitVec.ofNat 32 (i 0).val * 128#32 - 64#32 + BitVec.ofNat 32 c.val = BitVec.ofInt 32 ((t.val : ℤ) * 128 - 64 + c.val) := by
    rw [hi', show (128#32 : BitVec 32) = BitVec.ofInt 32 128 from rfl, show (64#32 : BitVec 32) = BitVec.ofInt 32 64 from rfl, ofNat_eq t.val, ofNat_eq c.val, mul_eq, sub_eq, add_eq]
  rw [e, w, ofNat_eq (lo _), ofNat_eq (hi _), sge_eq _ _ (by omega) (by omega) (by omega) (by omega), slt_eq _ _ (by omega) (by omega) (by omega) (by omega), and_bits]
  exact if_congr (by omega) rfl rfl

/-- The rows kept. -/
theorem kept_bits (i : grid0.Coords) (t : Fin 256) (hi' : (i 0).val = t.val) (r : Fin 128) (c : Fin 256) :
    k0_pay20 (k0_pay5 (F := Ideal) i (lit0 t) (lit1 t)) k0_pay6 (ValueIdx.ix2 r c) = bits t r c := by
  show IntOp.andi (k0_pay6 (ValueIdx.ix2 r c)) (k0_pay5 (F := Ideal) i (lit0 t) (lit1 t) (ValueIdx.ix2 r c)) = _
  rw [near, inside i t hi' r c, and_bits]
  rfl

end Cert.BandIdeal.Band

end
-- ==== Proof.BandArray.lean ====
module

/-
The arrays the band attention leaves: the averages and the logarithms of the plain formula.
-/
public import proofs.«01_k».proof.Proof.BandBits
public import Idealize.ShloMosaic.Lib.Pipeline.Covers

@[expose] public section

set_option maxRecDepth 16384

noncomputable section

namespace Cert.BandIdeal.Band

open Cert.BandIdeal Cert.BandIdeal.Gen Cert.BandSpec
open Idealize.ShloMosaic Idealize.ShloMosaic.TcCoe Idealize.ShloMosaic.Tactic Idealize.ShloMosaic.Pipeline

theorem ix2_congr {a b : ℕ} {p p' : Fin a} {q q' : Fin b} (h : p.val = p'.val) (h' : q.val = q'.val) :
    ValueIdx.ix2 p q = ValueIdx.ix2 p' q' := by
  rw [Fin.ext h, Fin.ext h']

/-- The block each window takes at a point. -/
theorem maps : ∀ t : Fin grid0.N, cc0_transform_0 (grid0.coords t) = ![t.val, 0] ∧ cc0_transform_1 (grid0.coords t) = ![2 * t.val - 1, 0]
    ∧ cc0_transform_2 (grid0.coords t) = ![t.val, 0] ∧ cc0_transform_3 (grid0.coords t) = ![min (2 * (t.val + 1)) 511, 0]
    ∧ cc0_transform_4 (grid0.coords t) = ![2 * t.val - 1, 18] ∧ cc0_transform_5 (grid0.coords t) = ![t.val, 18] ∧ cc0_transform_6 (grid0.coords t) = ![min (2 * (t.val + 1)) 511, 18]
    ∧ cc0_transform_7 (grid0.coords t) = ![t.val, 0] ∧ cc0_transform_8 (grid0.coords t) = ![t.val, 0]
    ∧ ((grid0.coords t) 0).val = t.val ∧ k0_off1 (grid0.coords t) 0 = t.val := by decide +kernel

/-- The columns the call reads of the queries, and of the keys. -/
def left (x : S32768x768.Idx → EReal) (R : Fin 32768) (c : Fin 256) : EReal := x (ValueIdx.ix2 R ⟨c.val, by omega⟩)

/-- The columns the call reads of the values. -/
def right (x : S32768x12288.Idx → EReal) (R : Fin 32768) (c : Fin 256) : EReal := x (ValueIdx.ix2 R ⟨4608 + c.val, by omega⟩)

variable (m : (ℓ : Loc nD τ sig) → Buf (Elt Ideal) ℓ)

/-- The call's queries. -/
abbrev X (c : Dev nD) : Fin 32768 → Fin 256 → EReal := left (m ((c.tc : Thread nD τ).loc main_arg0))
/-- The call's keys. -/
abbrev Y (c : Dev nD) : Fin 32768 → Fin 256 → EReal := left (m ((c.tc : Thread nD τ).loc main_arg1))
/-- The call's values. -/
abbrev Z (c : Dev nD) : Fin 32768 → Fin 256 → EReal := right (m ((c.tc : Thread nD τ).loc main_arg2))

/-- The point's queries. -/
theorem q_entry (c : Dev nD) (t : Fin (cfgM m (ok m)).N) (r : Fin 128) (d : Fin 256) :
    iblk m (ok m) c 0 t (ValueIdx.ix2 r d) = X m c (row ⟨t.val, t.isLt⟩ r) d := by
  have e : ((cfgM m (ok m)).win 0).index t = ![t.val, 0] := (maps t).1
  blk_simp [iblk, e]
  refine (congrFun (V_main_arg0 m c) _).trans ?_
  refine congrArg (m ((c.tc : Thread nD τ).loc main_arg0)) ((ValueIdx.eq_ix2 _).trans (ix2_congr ?_ ?_))
  · blk_simp [e]
    show t.val * 128 + r.val = 128 * t.val + r.val
    omega
  · blk_simp [e]

/-- The keys before. -/
theorem k_prev (c : Dev nD) (t : Fin (cfgM m (ok m)).N) (r : Fin 64) (d : Fin 256) :
    iblk m (ok m) c 1 t (ValueIdx.ix2 r d) = Y m c ⟨64 * (2 * t.val - 1) + r.val, by have h : t.val < 256 := t.isLt; omega⟩ d := by
  have e : ((cfgM m (ok m)).win 1).index t = ![2 * t.val - 1, 0] := (maps t).2.1
  blk_simp [iblk, e]
  refine (congrFun (V_main_arg1 m c) _).trans ?_
  refine congrArg (m ((c.tc : Thread nD τ).loc main_arg1)) ((ValueIdx.eq_ix2 _).trans (ix2_congr ?_ ?_))
  · blk_simp [e]
    show (2 * t.val - 1) * 64 + r.val = 64 * (2 * t.val - 1) + r.val
    omega
  · blk_simp [e]

/-- The keys of the block. -/
theorem k_cur (c : Dev nD) (t : Fin (cfgM m (ok m)).N) (r : Fin 128) (d : Fin 256) :
    iblk m (ok m) c 2 t (ValueIdx.ix2 r d) = Y m c ⟨128 * t.val + r.val, by have h : t.val < 256 := t.isLt; omega⟩ d := by
  have e : ((cfgM m (ok m)).win 2).index t = ![t.val, 0] := (maps t).2.2.1
  blk_simp [iblk, e]
  refine (congrFun (V_main_arg1 m c) _).trans ?_
  refine congrArg (m ((c.tc : Thread nD τ).loc main_arg1)) ((ValueIdx.eq_ix2 _).trans (ix2_congr ?_ ?_))
  · blk_simp [e]
    show t.val * 128 + r.val = 128 * t.val + r.val
    omega
  · blk_simp [e]

/-- The keys after. -/
theorem k_next (c : Dev nD) (t : Fin (cfgM m (ok m)).N) (r : Fin 64) (d : Fin 256) :
    iblk m (ok m) c 3 t (ValueIdx.ix2 r d) = Y m c ⟨64 * min (2 * (t.val + 1)) 511 + r.val, by omega⟩ d := by
  have e : ((cfgM m (ok m)).win 3).index t = ![min (2 * (t.val + 1)) 511, 0] := (maps t).2.2.2.1
  blk_simp [iblk, e]
  refine (congrFun (V_main_arg1 m c) _).trans ?_
  refine congrArg (m ((c.tc : Thread nD τ).loc main_arg1)) ((ValueIdx.eq_ix2 _).trans (ix2_congr ?_ ?_))
  · blk_simp [e]
    show min (2 * (t.val + 1)) 511 * 64 + r.val = 64 * min (2 * (t.val + 1)) 511 + r.val
    omega
  · blk_simp [e]

/-- The values before. -/
theorem v_prev (c : Dev nD) (t : Fin (cfgM m (ok m)).N) (r : Fin 64) (d : Fin 256) :
    iblk m (ok m) c 4 t (ValueIdx.ix2 r d) = Z m c ⟨64 * (2 * t.val - 1) + r.val, by have h : t.val < 256 := t.isLt; omega⟩ d := by
  have e : ((cfgM m (ok m)).win 4).index t = ![2 * t.val - 1, 18] := (maps t).2.2.2.2.1
  blk_simp [iblk, e]
  refine (congrFun (V_main_arg2 m c) _).trans ?_
  refine congrArg (m ((c.tc : Thread nD τ).loc main_arg2)) ((ValueIdx.eq_ix2 _).trans (ix2_congr ?_ ?_))
  · blk_simp [e]
    show (2 * t.val - 1) * 64 + r.val = 64 * (2 * t.val - 1) + r.val
    omega
  · blk_simp [e]

/-- The values of the block. -/
theorem v_cur (c : Dev nD) (t : Fin (cfgM m (ok m)).N) (r : Fin 128) (d : Fin 256) :
    iblk m (ok m) c 5 t (ValueIdx.ix2 r d) = Z m c ⟨128 * t.val + r.val, by have h : t.val < 256 := t.isLt; omega⟩ d := by
  have e : ((cfgM m (ok m)).win 5).index t = ![t.val, 18] := (maps t).2.2.2.2.2.1
  blk_simp [iblk, e]
  refine (congrFun (V_main_arg2 m c) _).trans ?_
  refine congrArg (m ((c.tc : Thread nD τ).loc main_arg2)) ((ValueIdx.eq_ix2 _).trans (ix2_congr ?_ ?_))
  · blk_simp [e]
    show t.val * 128 + r.val = 128 * t.val + r.val
    omega
  · blk_simp [e]

/-- The values after. -/
theorem v_next (c : Dev nD) (t : Fin (cfgM m (ok m)).N) (r : Fin 64) (d : Fin 256) :
    iblk m (ok m) c 6 t (ValueIdx.ix2 r d) = Z m c ⟨64 * min (2 * (t.val + 1)) 511 + r.val, by omega⟩ d := by
  have e : ((cfgM m (ok m)).win 6).index t = ![min (2 * (t.val + 1)) 511, 18] := (maps t).2.2.2.2.2.2.1
  blk_simp [iblk, e]
  refine (congrFun (V_main_arg2 m c) _).trans ?_
  refine congrArg (m ((c.tc : Thread nD τ).loc main_arg2)) ((ValueIdx.eq_ix2 _).trans (ix2_congr ?_ ?_))
  · blk_simp [e]
    show min (2 * (t.val + 1)) 511 * 64 + r.val = 64 * min (2 * (t.val + 1)) 511 + r.val
    omega
  · blk_simp [e]

/-- The staged rows, in one. -/
theorem staged (W : Fin 32768 → Fin 256 → EReal) (t : Fin 256) (x : Vec Ideal S64x256 .bf16) (y : Vec Ideal S128x256 .bf16) (z : Vec Ideal S64x256 .bf16)
    (hx : ∀ r d, x (ValueIdx.ix2 r d) = W ⟨64 * (2 * t.val - 1) + r.val, by omega⟩ d) (hy : ∀ r d, y (ValueIdx.ix2 r d) = W ⟨128 * t.val + r.val, by omega⟩ d)
    (hz : ∀ r d, z (ValueIdx.ix2 r d) = W ⟨64 * min (2 * (t.val + 1)) 511 + r.val, by omega⟩ d) (j d : Fin 256) :
    k0_pay3 x y z (ValueIdx.ix2 j d) = W (krow t j) d := by
  rw [rows_apply]
  split_ifs with h h'
  · rw [hx]
    exact congrArg (W · d) (Fin.ext (by unfold krow; dsimp only; rw [if_pos h]))
  · rw [hy]
    exact congrArg (W · d) (Fin.ext (by unfold krow; dsimp only; rw [if_neg h, if_pos h']))
  · rw [hz]
    exact congrArg (W · d) (Fin.ext (by unfold krow; dsimp only; rw [if_neg h, if_neg h']))

/-- The entry of a table at a point. -/
abbrev at256 (t : Fin (cfgM m (ok m)).N) : S256.Idx := ValueIdx.ix1 ⟨t.val, t.isLt⟩

/-- What a point reads of a table. -/
theorem entry (x : (View.whole main_c).ty.Contents (Elt Ideal)) (t : Fin (cfgM m (ok m)).N) : read0 m t x = x (at256 m t) := by
  refine congrArg x ((ValueIdx.eq_ix1 _).trans ?_)
  refine congrArg ValueIdx.ix1 (Fin.ext ?_)
  have e' : k0_off1 (grid0.coords t) 0 = t.val := (maps t).2.2.2.2.2.2.2.2.2.2
  show k0_off1 (grid0.coords t) 0 + 0 * 1 = t.val
  omega

/-- The first table at a point. -/
theorem table0 (t : Fin (cfgM m (ok m)).N) : read0 m t (tbl m 0) = lit0 ⟨t.val, t.isLt⟩ := by
  have h : tbl m 0 (at256 m t) = lit0 (S256.rowMajor (at256 m t)) := rfl
  refine (entry m _ t).trans (h.trans (congrArg lit0 (Fin.ext ?_)))
  exact Shape.rowMajor_val_one (at256 m t)

/-- The second table at a point. -/
theorem table1 (t : Fin (cfgM m (ok m)).N) : read0 m t (tbl m 1) = lit1 ⟨t.val, t.isLt⟩ := by
  have h : tbl m 1 (at256 m t) = lit1 (S256.rowMajor (at256 m t)) := rfl
  refine (entry m _ t).trans (h.trans (congrArg lit1 (Fin.ext ?_)))
  exact Shape.rowMajor_val_one (at256 m t)

/-- The averages the run's stores leave, with the tables' entries known. -/
theorem runO_at (c : Dev nD) (t : Fin (cfgM m (ok m)).N) (x0 : Vec Ideal S128x256 .bf16) (x1 : Vec Ideal S64x256 .bf16) (x2 : Vec Ideal S128x256 .bf16) (x3 x4 : Vec Ideal S64x256 .bf16)
    (x5 : Vec Ideal S128x256 .bf16) (x6 : Vec Ideal S64x256 .bf16) (xt0 : (View.whole main_c).ty.Contents (Elt Ideal)) (xt1 : (View.whole main_c_0).ty.Contents (Elt Ideal))
    (p q : BitVec 32) (hp : read0 m t xt0 = p) (hq : read0 m t xt1 = q) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
      (ms0_4 m (ok m) t) (hs0_4 m (ok m) t) (ms0_5 m (ok m) t) (hs0_5 m (ok m) t) (ms0_6 m (ok m) t) (hs0_6 m (ok m) t) (ms0_7 m (ok m) t) (hs0_7 m (ok m) t)
      (ms0_8 m (ok m) t) (hs0_8 m (ok m) t) x0 x1 x2 x3 x4 x5 x6 xt0 xt1
      = tileO (k0_pay5 (F := Ideal) (grid0.coords t) p q) k0_pay6 x0 (k0_pay3 x1 x2 x3) (k0_pay3 x4 x5 x6) := by
  rw [← hp, ← hq]
  exact runO_eq m c t x0 x1 x2 x3 x4 x5 x6 xt0 xt1

/-- The logarithms the run's stores leave, with the tables' entries known. -/
theorem runL_at (c : Dev nD) (t : Fin (cfgM m (ok m)).N) (x0 : Vec Ideal S128x256 .bf16) (x1 : Vec Ideal S64x256 .bf16) (x2 : Vec Ideal S128x256 .bf16) (x3 x4 : Vec Ideal S64x256 .bf16)
    (x5 : Vec Ideal S128x256 .bf16) (x6 : Vec Ideal S64x256 .bf16) (xt0 : (View.whole main_c).ty.Contents (Elt Ideal)) (xt1 : (View.whole main_c_0).ty.Contents (Elt Ideal))
    (p q : BitVec 32) (hp : read0 m t xt0 = p) (hq : read0 m t xt1 = q) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
      (ms0_4 m (ok m) t) (hs0_4 m (ok m) t) (ms0_5 m (ok m) t) (hs0_5 m (ok m) t) (ms0_6 m (ok m) t) (hs0_6 m (ok m) t) (ms0_7 m (ok m) t) (hs0_7 m (ok m) t)
      (ms0_8 m (ok m) t) (hs0_8 m (ok m) t) x0 x1 x2 x3 x4 x5 x6 xt0 xt1
      = tileL (k0_pay5 (F := Ideal) (grid0.coords t) p q) k0_pay6 x0 (k0_pay3 x1 x2 x3) := by
  rw [← hp, ← hq]
  exact runL_eq m c t x0 x1 x2 x3 x4 x5 x6 xt0 xt1

/-- The averages a point leaves, from its blocks. -/
theorem outs_O (c : Dev nD) (t : Fin (cfgM m (ok m)).N) :
    (outsAt0 m (ok m) c t).1 = tileO (k0_pay5 (F := Ideal) (grid0.coords t) (lit0 ⟨t.val, t.isLt⟩) (lit1 ⟨t.val, t.isLt⟩)) k0_pay6 (iblk m (ok m) c 0 t)
      (k0_pay3 (iblk m (ok m) c 1 t) (iblk m (ok m) c 2 t) (iblk m (ok m) c 3 t)) (k0_pay3 (iblk m (ok m) c 4 t) (iblk m (ok m) c 5 t) (iblk m (ok m) c 6 t)) := by
  unfold outsAt0
  dsimp only
  exact runO_at m c t _ _ _ _ _ _ _ _ _ _ _ (table0 m t) (table1 m t)

/-- The logarithms a point leaves, from its blocks. -/
theorem outs_L (c : Dev nD) (t : Fin (cfgM m (ok m)).N) :
    (outsAt0 m (ok m) c t).2 = tileL (k0_pay5 (F := Ideal) (grid0.coords t) (lit0 ⟨t.val, t.isLt⟩) (lit1 ⟨t.val, t.isLt⟩)) k0_pay6 (iblk m (ok m) c 0 t)
      (k0_pay3 (iblk m (ok m) c 1 t) (iblk m (ok m) c 2 t) (iblk m (ok m) c 3 t)) := by
  unfold outsAt0
  dsimp only
  exact runL_at m c t _ _ _ _ _ _ _ _ _ _ _ (table0 m t) (table1 m t)

/-- The averages a point leaves. -/
theorem out_O (c : Dev nD) (t : Fin (cfgM m (ok m)).N) (hX : ∀ R d, ∃ x : ℝ, X m c R d = x) (hY : ∀ R d, ∃ x : ℝ, Y m c R d = x) (r : Fin 128) (d : Fin 256) :
    (outsAt0 m (ok m) c t).1 (ValueIdx.ix2 r d) = outO (X m c) (Y m c) (Z m c) (row ⟨t.val, t.isLt⟩ r) d := by
  refine (congrFun (outs_O m c t) _).trans ((tileO_apply _ _ _ _ _ r d).trans ?_)
  have ev : (fun j => k0_pay3 (iblk m (ok m) c 4 t) (iblk m (ok m) c 5 t) (iblk m (ok m) c 6 t) (ValueIdx.ix2 j d)) = fun j => Z m c (krow ⟨t.val, t.isLt⟩ j) d :=
    funext fun j => staged (Z m c) ⟨t.val, t.isLt⟩ _ _ _ (v_prev m c t) (v_cur m c t) (v_next m c t) j d
  rw [ev]
  refine mean_block (X m c) (Y m c) (Z m c) ⟨t.val, t.isLt⟩ r (hd d) _ (fun j => kept_bits _ ⟨t.val, t.isLt⟩ (maps t).2.2.2.2.2.2.2.2.2.1 r j) _ (fun j => ?_) hX hY d rfl
  refine (scores_head _ _ _ r j).trans (Finset.sum_congr rfl fun i _ => congrArg₂ (· * ·) (q_entry m c t r _) ?_)
  exact staged (Y m c) ⟨t.val, t.isLt⟩ _ _ _ (k_prev m c t) (k_cur m c t) (k_next m c t) j _

/-- The logarithms a point leaves. -/
theorem out_L (c : Dev nD) (t : Fin (cfgM m (ok m)).N) (r : Fin 128) (d : Fin 256) :
    (outsAt0 m (ok m) c t).2 (ValueIdx.ix2 r d) = outL (X m c) (Y m c) (row ⟨t.val, t.isLt⟩ r) (hd d) := by
  refine (congrFun (outs_L m c t) _).trans ((tileL_apply _ _ _ _ r d).trans ?_)
  refine lse_block (X m c) (Y m c) ⟨t.val, t.isLt⟩ r (hd d) _ (fun j => kept_bits _ ⟨t.val, t.isLt⟩ (maps t).2.2.2.2.2.2.2.2.2.1 r j) _ (fun j => ?_)
  refine (scores_head _ _ _ r j).trans (Finset.sum_congr rfl fun i _ => congrArg₂ (· * ·) (q_entry m c t r _) ?_)
  exact staged (Y m c) ⟨t.val, t.isLt⟩ _ _ _ (k_prev m c t) (k_cur m c t) (k_next m c t) j _

/-- Where an entry of a point's averages lies in the array. -/
theorem place7 (t : Fin (cfgM m (ok m)).N) (r : Fin 128) (d : Fin 256) :
    (((cfgM m (ok m)).win 7).blk t).view.emb (ValueIdx.ix2 r d) = ValueIdx.ix2 (row ⟨t.val, t.isLt⟩ r) d := by
  have e : ((cfgM m (ok m)).win 7).index t = ![t.val, 0] := (maps t).2.2.2.2.2.2.2.1
  refine (ValueIdx.eq_ix2 _).trans (ix2_congr ?_ ?_)
  · blk_simp [e]
    show t.val * 128 + r.val = 128 * t.val + r.val
    omega
  · blk_simp [e]

/-- Where an entry of a point's logarithms lies in the array. -/
theorem place8 (t : Fin (cfgM m (ok m)).N) (r : Fin 128) (d : Fin 256) :
    (((cfgM m (ok m)).win 8).blk t).view.emb (ValueIdx.ix2 r d) = ValueIdx.ix2 (row ⟨t.val, t.isLt⟩ r) d := by
  have e : ((cfgM m (ok m)).win 8).index t = ![t.val, 0] := (maps t).2.2.2.2.2.2.2.2.1
  refine (ValueIdx.eq_ix2 _).trans (ix2_congr ?_ ?_)
  · blk_simp [e]
    show t.val * 128 + r.val = 128 * t.val + r.val
    omega
  · blk_simp [e]

/-- How many blocks the array of the averages has along each axis. -/
theorem blocks7 (m : (ℓ : Loc nD τ sig) → Buf (Elt Ideal) ℓ) : ((cfgM m (ok m)).win 7).nblk (0 : Fin 2) = 256 ∧ ((cfgM m (ok m)).win 7).nblk (1 : Fin 2) = 1 := by
  have s0 : ((cfgM m (ok m)).win 7).shape.size (0 : Fin 2) = 32768 := rfl
  have s1 : ((cfgM m (ok m)).win 7).shape.size (1 : Fin 2) = 256 := rfl
  have b0 : ((cfgM m (ok m)).win 7).size (0 : Fin 2) = 128 := rfl
  have b1 : ((cfgM m (ok m)).win 7).size (1 : Fin 2) = 256 := rfl
  unfold Window.nblk
  rw [s0, s1, b0, b1]
  decide

/-- How many blocks the array of the logarithms has along each axis. -/
theorem blocks8 (m : (ℓ : Loc nD τ sig) → Buf (Elt Ideal) ℓ) : ((cfgM m (ok m)).win 8).nblk (0 : Fin 2) = 256 ∧ ((cfgM m (ok m)).win 8).nblk (1 : Fin 2) = 1 := by
  have s0 : ((cfgM m (ok m)).win 8).shape.size (0 : Fin 2) = 32768 := rfl
  have s1 : ((cfgM m (ok m)).win 8).shape.size (1 : Fin 2) = 256 := rfl
  have b0 : ((cfgM m (ok m)).win 8).size (0 : Fin 2) = 128 := rfl
  have b1 : ((cfgM m (ok m)).win 8).size (1 : Fin 2) = 256 := rfl
  unfold Window.nblk
  rw [s0, s1, b0, b1]
  decide

/-- The points' blocks cover the averages. -/
theorem covers7 (m : (ℓ : Loc nD τ sig) → Buf (Elt Ideal) ℓ) : ((cfgM m (ok m)).win 7).Covers := by
  refine ((cfgM m (ok m)).win 7).covers_of_index_surj rfl ?_ fun β => ?_
  · exact (by decide : ∀ a, 0 < S128x256.size a)
  · have h0 : (β (0 : Fin 2)).val < 256 := lt_of_lt_of_eq (β (0 : Fin 2)).isLt (blocks7 m).1
    have h1 : (β (1 : Fin 2)).val < 1 := lt_of_lt_of_eq (β (1 : Fin 2)).isLt (blocks7 m).2
    refine ⟨⟨(β (0 : Fin 2)).val, h0⟩, fun a => ?_⟩
    refine (congrFun (maps (⟨(β (0 : Fin 2)).val, h0⟩ : Fin 256)).2.2.2.2.2.2.2.1 a).trans ?_
    match a with
    | ⟨0, _⟩ => rfl
    | ⟨1, _⟩ => show 0 = (β (1 : Fin 2)).val; omega

/-- The points' blocks cover the logarithms. -/
theorem covers8 (m : (ℓ : Loc nD τ sig) → Buf (Elt Ideal) ℓ) : ((cfgM m (ok m)).win 8).Covers := by
  refine ((cfgM m (ok m)).win 8).covers_of_index_surj rfl ?_ fun β => ?_
  · exact (by decide : ∀ a, 0 < S128x256.size a)
  · have h0 : (β (0 : Fin 2)).val < 256 := lt_of_lt_of_eq (β (0 : Fin 2)).isLt (blocks8 m).1
    have h1 : (β (1 : Fin 2)).val < 1 := lt_of_lt_of_eq (β (1 : Fin 2)).isLt (blocks8 m).2
    refine ⟨⟨(β (0 : Fin 2)).val, h0⟩, fun a => ?_⟩
    refine (congrFun (maps (⟨(β (0 : Fin 2)).val, h0⟩ : Fin 256)).2.2.2.2.2.2.2.2.1 a).trans ?_
    match a with
    | ⟨0, _⟩ => rfl
    | ⟨1, _⟩ => show 0 = (β (1 : Fin 2)).val; omega

/-- The array of the averages, as a function of the arguments. -/
def allO (x y : S32768x768.Idx → EReal) (z : S32768x12288.Idx → EReal) : Vec Ideal S32768x256 .bf16 :=
  fun i => outO (left x) (left y) (right z) (i 0) (i 1)

/-- The array of the logarithms, as a function of the arguments. -/
def allL (x y : S32768x768.Idx → EReal) : Vec Ideal S32768x256 .f32 :=
  fun i => outL (left x) (left y) (i 0) (hd (i 1))

/-- The averages after the run. -/
theorem array7 (c : Dev nD) (hX : ∀ R d, ∃ x : ℝ, X m c R d = x) (hY : ∀ R d, ∃ x : ℝ, Y m c R d = x) :
    (dats m (ok m) 0 c).arrAt 7 (cfgM m (ok m)).N
      = allO (m ((c.tc : Thread nD τ).loc main_arg0)) (m ((c.tc : Thread nD τ).loc main_arg1)) (m ((c.tc : Thread nD τ).loc main_arg2)) := by
  refine (dats m (ok m) 0 c).arrAt_eq_of_covers 7 _ (covers7 m) fun t hf y => ?_
  blk_simp
  rw [after0_7]
  refine (congrArg (outsAt0 m (ok m) c t).1 (ValueIdx.eq_ix2 (y : S128x256.Idx))).trans ?_
  refine (out_O m c t hX hY _ _).trans ?_
  refine Eq.trans ?_ (congrArg (allO _ _ _) ((place7 m t _ _).symm.trans (congrArg _ (ValueIdx.eq_ix2 (y : S128x256.Idx)).symm)))
  rfl

/-- The logarithms after the run. -/
theorem array8 (c : Dev nD) :
    (dats m (ok m) 0 c).arrAt 8 (cfgM m (ok m)).N = allL (m ((c.tc : Thread nD τ).loc main_arg0)) (m ((c.tc : Thread nD τ).loc main_arg1)) := by
  refine (dats m (ok m) 0 c).arrAt_eq_of_covers 8 _ (covers8 m) fun t hf y => ?_
  blk_simp
  rw [after0_8]
  refine (congrArg (outsAt0 m (ok m) c t).2 (ValueIdx.eq_ix2 (y : S128x256.Idx))).trans ?_
  refine (out_L m c t _ _).trans ?_
  refine Eq.trans ?_ (congrArg (allL _ _) ((place8 m t _ _).symm.trans (congrArg _ (ValueIdx.eq_ix2 (y : S128x256.Idx)).symm)))
  rfl

end Cert.BandIdeal.Band

end
-- ==== Proof.BandPre.lean ====
module

/-
What the precondition of the band attention says, element by element: the queries and keys it reads are real numbers.
-/
public import proofs.«01_k».proof.Proof.Gen.Pre_comparable
public import proofs.«01_k».proof.Proof.FlashPre

@[expose] public section

set_option maxRecDepth 16384

noncomputable section

namespace Cert.BandPre

open Cert.Pre_comparable Cert.Pre_comparable.Facts
open Idealize.ShloMosaic

variable [Facts]

/-- The first columns of an array at an index. -/
theorem slice_apply (x : FVec Ideal S32768x768 .bf16) (R : Fin 32768) (c : Fin 256) :
    extractStridedSlice S32768x256 ![0, 0] x slices_S32768x768_S32768x256_0_0 (ValueIdx.ix2 R c) = x (ValueIdx.ix2 R ⟨c.val, by omega⟩) :=
  extractStridedSlice_apply ![0, 0] x slices_S32768x768_S32768x256_0_0 (ValueIdx.ix2 R c) (ValueIdx.ix2 R ⟨c.val, by omega⟩) (fun a => match a with
    | ⟨0, _⟩ => by show R.val = 0 + R.val; omega
    | ⟨1, _⟩ => by show c.val = 0 + c.val; omega)

theorem holds (x0 x1 : FVec Ideal S32768x768 .bf16) (x2 : FVec Ideal S32768x12288 .bf16) (h : fn (F := Ideal) x0 x1 x2 = fun _ => 1#1) :
    (∀ (R : Fin 32768) (c : Fin 256), ∃ r : ℝ, x0 (ValueIdx.ix2 R ⟨c.val, by omega⟩) = (r : EReal))
      ∧ (∀ (R : Fin 32768) (c : Fin 256), ∃ r : ℝ, x1 (ValueIdx.ix2 R ⟨c.val, by omega⟩) = (r : EReal)) := by
  have hss : Subsingleton S_.Idx := ⟨fun a b => funext fun x => x.elim0⟩
  have h' := congrFun h ValueIdx.ix0
  simp only [fn] at h'
  obtain ⟨h1, h2⟩ := IntOp.andi_eq_one.1 h'
  refine ⟨fun R c => ?_, fun R c => ?_⟩
  · obtain ⟨r, hr⟩ := FlashPre.real_of_abs_lt _ (Host.reduce_andi_all _ _ _ _ _ h1 (ValueIdx.ix2 R c))
    exact ⟨r, (slice_apply x0 R c).symm.trans hr⟩
  · obtain ⟨r, hr⟩ := FlashPre.real_of_abs_lt _ (Host.reduce_andi_all _ _ _ _ _ h2 (ValueIdx.ix2 R c))
    exact ⟨r, (slice_apply x1 R c).symm.trans hr⟩

end Cert.BandPre

end
-- ==== Proof.BandGather.lean ====
module

/-
Reading the rows of a band out of an array of sequences, and the positions and conditions of the band as words.
-/
public import proofs.«01_k».proof.Proof.BandWords
public import Idealize.ShloMosaic.Lib.ValueIdxCore

@[expose] public section

noncomputable section

namespace Cert.BandGather

open Idealize.ShloMosaic

variable {α : Type}

/-- The dimension numbers: of every sequence the rows at the given positions, all heads and columns. -/
abbrev dims (B N : Nat) (wf : GatherDims.WF ⟨4, ![B, N, 4, 64]⟩ ⟨3, ![N, 129, 1]⟩ ⟨5, ![B, N, 129, 4, 64]⟩ [0, 3, 4] [1] [] [1] [] 2 ![B, 1, 4, 64]) :
    GatherDims ⟨4, ![B, N, 4, 64]⟩ ⟨3, ![N, 129, 1]⟩ ⟨5, ![B, N, 129, 4, 64]⟩ where
  offsetDims := [0, 3, 4]
  collapsedSliceDims := [1]
  operandBatchingDims := []
  startIndicesBatchingDims := []
  startIndexMap := [1]
  indexVectorDim := 2
  sliceSizes := ![B, 1, 4, 64]
  wf := wf

/-- The gather at an index: the row is the word's, kept inside the sequence. -/
theorem gather_apply {B N : Nat} (hN : 0 < N)
    (wf : GatherDims.WF ⟨4, ![B, N, 4, 64]⟩ ⟨3, ![N, 129, 1]⟩ ⟨5, ![B, N, 129, 4, 64]⟩ [0, 3, 4] [1] [] [1] [] 2 ![B, 1, 4, 64])
    (x : (⟨4, ![B, N, 4, 64]⟩ : Shape).Idx → α) (idx : IVec ⟨3, ![N, 129, 1]⟩ 32) (b : Fin B) (s : Fin N) (o : Fin 129) (h : Fin 4) (d : Fin 64) :
    Host.gather (dims B N wf) x idx (ValueIdx.ix5 b s o h d)
      = x (ValueIdx.ix4 b ⟨min (idx (ValueIdx.ix3 s o 0)).toInt.toNat (N - 1), by omega⟩ h d) := by
  unfold Host.gather
  congr 1
  funext a
  refine Fin.ext ?_
  show (dims B N wf).start (ValueIdx.ix5 b s o h d) idx a + (dims B N wf).batchCoord (ValueIdx.ix5 b s o h d) a + (dims B N wf).offCoord (ValueIdx.ix5 b s o h d) a = _
  rw [GatherDims.batchCoord_eq_zero _ _ _ List.not_mem_nil, Nat.add_zero]
  have start0 : ∀ a : Fin 4, a ≠ 1 → (dims B N wf).start (ValueIdx.ix5 b s o h d) idx a = 0 := fun a ha => by
    unfold GatherDims.start
    rw [dif_neg (fun hm => ha (List.mem_singleton.mp hm))]
  match a with
  | ⟨0, _⟩ =>
    show (dims B N wf).start (ValueIdx.ix5 b s o h d) idx 0 + (dims B N wf).offCoord (ValueIdx.ix5 b s o h d) 0 = _
    rw [start0 0 (by decide), Nat.zero_add]
    rfl
  | ⟨1, _⟩ =>
    show (dims B N wf).start (ValueIdx.ix5 b s o h d) idx 1 + (dims B N wf).offCoord (ValueIdx.ix5 b s o h d) 1 = _
    rw [GatherDims.offCoord_eq_zero _ _ _ (fun h => ((GatherDims.mem_sKept _ _).mp h).1 (List.mem_singleton.mpr rfl)), Nat.add_zero]
    unfold GatherDims.start
    rw [dif_pos (show (1 : Fin 4) ∈ (dims B N wf).startIndexMap from List.mem_singleton.mpr rfl)]
    have hsi : (dims B N wf).siIdx (ValueIdx.ix5 b s o h d) ⟨List.idxOf (1 : Fin 4) (dims B N wf).startIndexMap,
        List.idxOf_lt_length_iff.2 (List.mem_singleton.mpr rfl)⟩ = ValueIdx.ix3 s o 0 := by
      funext b; refine Fin.ext ?_
      match b with
      | ⟨0, _⟩ => rfl
      | ⟨1, _⟩ => rfl
      | ⟨2, _⟩ => rfl
    rw [hsi]
    rfl
  | ⟨2, _⟩ =>
    show (dims B N wf).start (ValueIdx.ix5 b s o h d) idx 2 + (dims B N wf).offCoord (ValueIdx.ix5 b s o h d) 2 = _
    rw [start0 2 (by decide), Nat.zero_add]
    rfl
  | ⟨3, _⟩ =>
    show (dims B N wf).start (ValueIdx.ix5 b s o h d) idx 3 + (dims B N wf).offCoord (ValueIdx.ix5 b s o h d) 3 = _
    rw [start0 3 (by decide), Nat.zero_add]
    rfl

/-- A position of the band. -/
theorem pos_eq (s o : ℕ) : IntOp.addi (BitVec.ofNat 32 s) (IntOp.addi 4294967232#32 (BitVec.ofNat 32 o)) = BitVec.ofInt 32 ((s : ℤ) + o - 64) := by
  show BitVec.ofNat 32 s + ((4294967232#32 : BitVec 32) + BitVec.ofNat 32 o) = _
  rw [show (4294967232#32 : BitVec 32) = BitVec.ofInt 32 (-64) from rfl, BandWords.ofNat_eq, BandWords.ofNat_eq, BandWords.add_eq, BandWords.add_eq]
  exact congrArg _ (by omega)

/-- Whether a position is inside the sequence. -/
theorem valid_eq (N s o : ℕ) (hN : N ≤ 16384) (hs : s < N) (ho : o < 129) :
    IntOp.andi (IntOp.cmpi .sge (BitVec.ofInt 32 ((s : ℤ) + o - 64)) 0#32) (IntOp.cmpi .slt (BitVec.ofInt 32 ((s : ℤ) + o - 64)) (BitVec.ofNat 32 N))
      = if 64 ≤ s + o ∧ s + o < N + 64 then 1#1 else 0#1 := by
  rw [show (0#32 : BitVec 32) = BitVec.ofInt 32 0 from rfl, BandWords.ofNat_eq,
    BandWords.sge_eq _ _ (by omega) (by omega) (by omega) (by omega), BandWords.slt_eq _ _ (by omega) (by omega) (by omega) (by omega), BandWords.and_bits]
  exact if_congr (by omega) rfl rfl

theorem maxsi_eq (a b : ℤ) (ha : -2147483648 ≤ a) (ha' : a < 2147483648) (hb : -2147483648 ≤ b) (hb' : b < 2147483648) :
    IntOp.maxsi (BitVec.ofInt 32 a) (BitVec.ofInt 32 b) = BitVec.ofInt 32 (max a b) := by
  unfold IntOp.maxsi
  rw [BitVec.slt_eq_decide, BandWords.toInt_small a ha ha', BandWords.toInt_small b hb hb']
  by_cases h : b < a
  · rw [if_pos (decide_eq_true h), max_eq_left h.le]
  · rw [if_neg (by simpa using h), max_eq_right (not_lt.1 h)]

theorem minsi_eq (a b : ℤ) (ha : -2147483648 ≤ a) (ha' : a < 2147483648) (hb : -2147483648 ≤ b) (hb' : b < 2147483648) :
    IntOp.minsi (BitVec.ofInt 32 a) (BitVec.ofInt 32 b) = BitVec.ofInt 32 (min a b) := by
  unfold IntOp.minsi
  rw [BitVec.slt_eq_decide, BandWords.toInt_small a ha ha', BandWords.toInt_small b hb hb']
  by_cases h : a < b
  · rw [if_pos (decide_eq_true h), min_eq_left h.le]
  · rw [if_neg (by simpa using h), min_eq_right (not_lt.1 h)]

/-- The row read: the position kept inside the sequence. -/
theorem clamp_eq (N s o : ℕ) (hN : N ≤ 16384) (hs : s < N) (ho : o < 129) (q m : BitVec 32) (hm : m = BitVec.ofNat 32 (N - 1))
    (hq : q = IntOp.minsi (IntOp.maxsi (BitVec.ofInt 32 ((s : ℤ) + o - 64)) 0#32) m) :
    min (Scalar.select (IntOp.cmpi .slt q 0#32) (IntOp.addi q (BitVec.ofNat 32 N)) q).toInt.toNat (N - 1) = min (s + o - 64) (N - 1) := by
  subst hm hq
  have e : IntOp.minsi (IntOp.maxsi (BitVec.ofInt 32 ((s : ℤ) + o - 64)) 0#32) (BitVec.ofNat 32 (N - 1))
      = BitVec.ofInt 32 (min (max ((s : ℤ) + o - 64) 0) ((N - 1 : ℕ) : ℤ)) := by
    rw [show (0#32 : BitVec 32) = BitVec.ofInt 32 0 from rfl, BandWords.ofNat_eq, maxsi_eq _ _ (by omega) (by omega) (by omega) (by omega),
      minsi_eq _ _ (by omega) (by omega) (by omega) (by omega)]
  rw [e]
  have c : IntOp.cmpi .slt (BitVec.ofInt 32 (min (max ((s : ℤ) + o - 64) 0) ((N - 1 : ℕ) : ℤ))) 0#32 = 0#1 := by
    rw [show (0#32 : BitVec 32) = BitVec.ofInt 32 0 from rfl, BandWords.slt_eq _ _ (by omega) (by omega) (by omega) (by omega), if_neg (by omega)]
  rw [c]
  show min (BitVec.ofInt 32 (min (max ((s : ℤ) + o - 64) 0) ((N - 1 : ℕ) : ℤ))).toInt.toNat (N - 1) = _
  rw [BandWords.toInt_small _ (by omega) (by omega)]
  omega

end Cert.BandGather

end
-- ==== Proof.BandPrompt.lean ====
module

/-
The reference's band attention of the prompts, read entry by entry.
-/
public import proofs.«01_k».proof.Proof.Gen.BandReferenceIdeal.Read
public import proofs.«01_k».proof.Proof.BandGather
public import Idealize.ShloMosaic.Lib.KernelVsHost

@[expose] public section

set_option maxRecDepth 16384

noncomputable section

namespace Cert.BandRef.Prompt

open Cert.BandReferenceIdeal Cert.BandReferenceIdeal.Gen Cert.BandReferenceIdeal.Read Cert.BandSpec
open Idealize.ShloMosaic Idealize.ShloMosaic.TcCoe Idealize.ShloMosaic.Tactic

/-- The row of the whole array. -/
def row (b : Fin 4) (s : Fin 4096) : Fin 32768 := ⟨4096 * b.val + s.val, by omega⟩

variable (x0 x1 : (⟨S32768x768, .bf16⟩ : BufTy).Contents (Elt Ideal)) (x2 : (⟨S32768x12288, .bf16⟩ : BufTy).Contents (Elt Ideal))

/-- The queries or the keys. -/
abbrev X (R : Fin 32768) (c : Fin 256) : EReal := x0 (ValueIdx.ix2 R ⟨c.val, by omega⟩)
/-- The values. -/
abbrev Z (R : Fin 32768) (c : Fin 256) : EReal := x2 (ValueIdx.ix2 R ⟨4608 + c.val, by omega⟩)

theorem queries_apply (b : Fin 4) (s : Fin 4096) (h : Fin 4) (d : Fin 64) : val_main_v7 (F := Ideal) x0 (ValueIdx.ix4 b s h d) = X x0 (row b s) (col h d) := by
  simp only [val_main_v7_apply, val_main_v6_apply, val_main_v3_apply, val_main_v0_apply]
  show x0 _ = x0 _
  refine congrArg x0 ((ValueIdx.eq_ix2 _).trans ?_)
  have e0 : idx_main_v0 (idx_main_v6 (idx_main_v7 (ValueIdx.ix4 b s h d))) 0 = row b s := Fin.ext (by
    show (((b.val * 4096 + s.val) * 4 + h.val) * 64 + d.val) / 256 = 4096 * b.val + s.val
    omega)
  have e1 : idx_main_v0 (idx_main_v6 (idx_main_v7 (ValueIdx.ix4 b s h d))) 1 = (⟨(col h d).val, by omega⟩ : Fin 768) := Fin.ext (by
    show (((b.val * 4096 + s.val) * 4 + h.val) * 64 + d.val) % 256 = 64 * h.val + d.val
    omega)
  rw [e0, e1]
  rfl

theorem keys_apply (b : Fin 4) (s : Fin 4096) (h : Fin 4) (d : Fin 64) : val_main_v9 (F := Ideal) x1 (ValueIdx.ix4 b s h d) = X x1 (row b s) (col h d) :=
  queries_apply x1 b s h d

theorem vals_apply (b : Fin 4) (s : Fin 4096) (h : Fin 4) (d : Fin 64) : val_main_v11 (F := Ideal) x2 (ValueIdx.ix4 b s h d) = Z x2 (row b s) (col h d) := by
  simp only [val_main_v11_apply, val_main_v10_apply, val_main_v5_apply, val_main_v2_apply]
  show x2 _ = x2 _
  refine congrArg x2 ((ValueIdx.eq_ix2 _).trans ?_)
  have e0 : idx_main_v2 (idx_main_v10 (idx_main_v11 (ValueIdx.ix4 b s h d))) 0 = row b s := Fin.ext (by
    show (((b.val * 4096 + s.val) * 4 + h.val) * 64 + d.val) / 256 = 4096 * b.val + s.val
    omega)
  have e1 : idx_main_v2 (idx_main_v10 (idx_main_v11 (ValueIdx.ix4 b s h d))) 1 = (⟨4608 + (col h d).val, by omega⟩ : Fin 12288) := Fin.ext (by
    show 4608 + (((b.val * 4096 + s.val) * 4 + h.val) * 64 + d.val) % 256 = 4608 + (64 * h.val + d.val)
    omega)
  rw [e0, e1]
  rfl

theorem lo_row (b : Fin 4) (s : Fin 4096) : lo (row b s).val = 4096 * b.val := by
  unfold lo row
  dsimp only
  split_ifs <;> omega

theorem hi_row (b : Fin 4) (s : Fin 4096) : hi (row b s).val = 4096 * b.val + 4096 := by
  unfold hi row
  dsimp only
  split_ifs <;> omega

/-- The positions of the band. -/
theorem pos_apply (s : Fin 4096) (o : Fin 129) : val_main_v20 (F := Ideal) (ValueIdx.ix2 s o) = BitVec.ofInt 32 ((s.val : ℤ) + o.val - 64) := by
  simp only [val_main_v20_apply, val_main_v18_apply, val_main_v13_apply, val_main_v12_apply, val_main_v19_apply, val_main_v17_apply, val_main_v16_apply, val_main_v15_apply, val_main_v14_apply, val_main_c_apply]
  exact BandGather.pos_eq s.val o.val

/-- Whether they are inside the sequence. -/
theorem valid_apply (b : Fin 4) (s : Fin 4096) (o : Fin 129) : val_main_v25 (F := Ideal) (ValueIdx.ix2 s o) = bit (row b s) o := by
  simp only [val_main_v25_apply, val_main_v22_apply, val_main_v21_apply, val_main_v24_apply, val_main_v23_apply, val_main_c_0_apply, val_main_c_1_apply, pos_apply]
  refine (BandGather.valid_eq 4096 s.val o.val (by omega) s.isLt o.isLt).trans ?_
  unfold bit
  rw [lo_row, hi_row]
  unfold row
  exact if_congr (by dsimp only; omega) rfl rfl

theorem key_row (b : Fin 4) (s : Fin 4096) (o : Fin 129) (n : ℕ) (hn : n < 4096) (h : n = min (s.val + o.val - 64) (4096 - 1)) : row b ⟨n, hn⟩ = key (row b s) o := by
  subst h
  refine Fin.ext ?_
  unfold key
  dsimp only
  rw [lo_row, hi_row]
  unfold row
  dsimp only
  omega

theorem key_word (s : Fin 4096) (o : Fin 129) : min (val_main_v34 (F := Ideal) (ValueIdx.ix2 s o)).toInt.toNat (4096 - 1) = min (s.val + o.val - 64) (4096 - 1) := by
  simp only [val_main_v34_apply, val_main_v31_apply, val_main_v33_apply, val_main_v30_apply, val_main_v32_apply, val_main_v29_apply, val_main_v28_apply, val_main_v27_apply, val_main_v26_apply, val_main_c_2_apply, val_main_c_3_apply, val_main_c_4_apply, val_main_c_5_apply, pos_apply]
  exact BandGather.clamp_eq 4096 s.val o.val (by omega) s.isLt o.isLt _ _ rfl rfl

theorem val_word (s : Fin 4096) (o : Fin 129) : min (val_main_v41 (F := Ideal) (ValueIdx.ix2 s o)).toInt.toNat (4096 - 1) = min (s.val + o.val - 64) (4096 - 1) := by
  simp only [val_main_v41_apply, val_main_v38_apply, val_main_v40_apply, val_main_v37_apply, val_main_v39_apply, val_main_v29_apply, val_main_v28_apply, val_main_v27_apply, val_main_v26_apply, val_main_c_2_apply, val_main_c_3_apply, val_main_c_6_apply, val_main_c_7_apply, pos_apply]
  exact BandGather.clamp_eq 4096 s.val o.val (by omega) s.isLt o.isLt _ _ rfl rfl

/-- The keys of the band. -/
theorem near_keys (b : Fin 4) (s : Fin 4096) (o : Fin 129) (h : Fin 4) (d : Fin 64) :
    val_main_v36 (F := Ideal) x1 (ValueIdx.ix5 b s o h d) = X x1 (key (row b s) o) (col h d) := by
  have e : idx_main_v35 (ValueIdx.ix3 s o 0) = ValueIdx.ix2 s o := ValueIdx.eq_ix2 _
  unfold val_main_v36
  refine (BandGather.gather_apply (by decide) (gather_S4x4096x4x64_S4096x129x1_S4x4096x129x4x64_034_1_n_n_1_2_41464).wf _ _ b s o h d).trans ?_
  rw [keys_apply]
  refine congrArg (fun R => X x1 R (col h d)) (key_row b s o _ _ ?_)
  rw [val_main_v35_apply, e, key_word]

/-- The values of the band. -/
theorem near_vals (b : Fin 4) (s : Fin 4096) (o : Fin 129) (h : Fin 4) (d : Fin 64) :
    val_main_v43 (F := Ideal) x2 (ValueIdx.ix5 b s o h d) = Z x2 (key (row b s) o) (col h d) := by
  have e : idx_main_v42 (ValueIdx.ix3 s o 0) = ValueIdx.ix2 s o := ValueIdx.eq_ix2 _
  unfold val_main_v43
  refine (BandGather.gather_apply (by decide) (gather_S4x4096x4x64_S4096x129x1_S4x4096x129x4x64_034_1_n_n_1_2_41464).wf _ _ b s o h d).trans ?_
  rw [vals_apply]
  refine congrArg (fun R => Z x2 R (col h d)) (key_row b s o _ _ ?_)
  rw [val_main_v42_apply, e, val_word]

/-- The scores of a row of the whole array. -/
abbrev S (R : Fin 32768) (h : Fin 4) (o : Fin 129) : EReal := score (X x0) (X x1) R h o

theorem scores_apply (b : Fin 4) (h : Fin 4) (s : Fin 4096) (o : Fin 129) :
    val_main_v44 (F := Ideal) x0 x1 (ValueIdx.ix4 b h s o) = S x0 x1 (row b s) h o := by
  rw [val_main_v44_apply]
  refine Finset.sum_congr rfl fun d _ => ?_
  have el : lidx_main_v44 (ValueIdx.ix4 b h s o) d = ValueIdx.ix4 b s h d := ValueIdx.eq_ix4 _
  have er : ridx_main_v44 (ValueIdx.ix4 b h s o) d = ValueIdx.ix5 b s o h d := ValueIdx.eq_ix5 _
  rw [el, er, queries_apply, near_keys]

theorem mask_apply (b : Fin 4) (h : Fin 4) (s : Fin 4096) (o : Fin 129) : val_main_v46 (F := Ideal) (ValueIdx.ix4 b h s o) = bit (row b s) o := by
  rw [val_main_v46_apply, val_main_v45_apply]
  have e : idx_main_v45 (idx_main_v46 (ValueIdx.ix4 b h s o)) = ValueIdx.ix2 s o := ValueIdx.eq_ix2 _
  rw [e, valid_apply b]

theorem kept_apply (b : Fin 4) (h : Fin 4) (s : Fin 4096) (o : Fin 129) :
    val_main_v48 (F := Ideal) x0 x1 (ValueIdx.ix4 b h s o) = BandMath.kept (bit (row b s)) (S x0 x1 (row b s) h) o := by
  have hb : Ideal.ofBits .f32 0xFF800000#32 = ⊥ := by simp [Ideal.ofBits, Ideal.ieee]
  rw [val_main_v48_apply, mask_apply, scores_apply, val_main_v47_apply, val_main_cst_apply, Ideal.ofBits_def, hb]
  rfl

theorem top_apply (b : Fin 4) (h : Fin 4) (s : Fin 4096) :
    val_main_v49 (F := Ideal) x0 x1 (ValueIdx.ix3 b h s) = BandMath.top (bit (row b s)) (S x0 x1 (row b s) h) := by
  have hb : Ideal.ofBits .f32 0xFF800000#32 = ⊥ := by simp [Ideal.ofBits, Ideal.ieee]
  have hred : S4x4x4096x129.Reduces [3] S4x4x4096 := by decide
  have hy := fun o => kept_apply x0 x1 b h s o
  unfold val_main_v49
  generalize val_main_v48 (F := Ideal) x0 x1 = y at hy ⊢
  refine (Host.reduce_eq_fold_single _ y _ _ hred _ _).trans ?_
  have he : (val_main_cst_8 (F := Ideal)) (Shape.Idx.first h_S_) = ⊥ := hb
  rw [he]
  unfold BandMath.top
  refine congrArg (fun f => Finset.univ.fold max ⊥ f) (funext fun k : Fin 129 => ?_)
  have hi : hred.lift (ValueIdx.ix3 b h s) k = ValueIdx.ix4 b h s k := by
    funext a; apply Fin.ext; fin_cases a <;> rfl
  exact (congrArg y hi).trans (hy k)

theorem wt_apply (b : Fin 4) (h : Fin 4) (s : Fin 4096) (o : Fin 129) :
    val_main_v55 (F := Ideal) x0 x1 (ValueIdx.ix4 b h s o) = BandMath.wt (bit (row b s)) (S x0 x1 (row b s) h) o := by
  rw [val_main_v55_apply, mask_apply, val_main_v53_apply, val_main_v52_apply, kept_apply, val_main_v51_apply, val_main_v50_apply, val_main_v54_apply, val_main_cst_9_apply]
  have e : idx_main_v50 (idx_main_v51 (ValueIdx.ix4 b h s o)) = ValueIdx.ix3 b h s := ValueIdx.eq_ix3 _
  rw [e, top_apply, Ideal.ofBits_def, Ideal.ofBits_zero_f32]
  rfl

theorem den_apply (b : Fin 4) (h : Fin 4) (s : Fin 4096) :
    val_main_v56 (F := Ideal) x0 x1 (ValueIdx.ix3 b h s) = BandMath.den (bit (row b s)) (S x0 x1 (row b s) h) := by
  simp only [val_main_v56_apply, val_main_cst_10_apply, Ideal.ofBits_def, Ideal.ofBits_zero_f32, zero_add]
  refine Finset.sum_congr rfl fun o _ => ?_
  have e : idx_main_v56 (ValueIdx.ix3 b h s) o = ValueIdx.ix4 b h s o := ValueIdx.eq_ix4 _
  rw [e, wt_apply]

theorem lse_apply (b : Fin 4) (h : Fin 4) (s : Fin 4096) :
    val_main_v59 (F := Ideal) x0 x1 (ValueIdx.ix3 b h s) = outL (X x0) (X x1) (row b s) h := by
  rw [val_main_v59_apply, val_main_v57_apply, val_main_v50_apply, val_main_v58_apply, den_apply]
  have e : idx_main_v50 (idx_main_v57 (ValueIdx.ix3 b h s)) = ValueIdx.ix3 b h s := by
    refine (ValueIdx.eq_ix3 _).trans ?_
    have e0 : idx_main_v50 (idx_main_v57 (ValueIdx.ix3 b h s)) 0 = b := Fin.ext (by
      show ((b.val * 4 + h.val) * 4096 + s.val) / 16384 = b.val
      omega)
    have e1 : idx_main_v50 (idx_main_v57 (ValueIdx.ix3 b h s)) 1 = h := Fin.ext (by
      show ((b.val * 4 + h.val) * 4096 + s.val) / 4096 % 4 = h.val
      omega)
    have e2 : idx_main_v50 (idx_main_v57 (ValueIdx.ix3 b h s)) 2 = s := Fin.ext (by
      show ((b.val * 4 + h.val) * 4096 + s.val) / 1 % 4096 = s.val
      omega)
    rw [e0, e1, e2]
    rfl
  rw [e, top_apply]
  rfl

theorem mean_apply (b : Fin 4) (s : Fin 4096) (h : Fin 4) (d : Fin 64) :
    val_main_v63 (F := Ideal) x0 x1 x2 (ValueIdx.ix4 b s h d)
      = BandMath.mean (bit (row b s)) (S x0 x1 (row b s) h) (fun o => Z x2 (key (row b s) o) (col h d)) := by
  rw [val_main_v63_apply]
  refine Finset.sum_congr rfl fun o _ => ?_
  have el : lidx_main_v63 (ValueIdx.ix4 b s h d) o = ValueIdx.ix4 b h s o := ValueIdx.eq_ix4 _
  have er : ridx_main_v63 (ValueIdx.ix4 b s h d) o = ValueIdx.ix5 b s o h d := ValueIdx.eq_ix5 _
  have e : idx_main_v60 (idx_main_v61 (ValueIdx.ix4 b h s o)) = ValueIdx.ix3 b h s := ValueIdx.eq_ix3 _
  rw [el, er, near_vals, val_main_v62_apply, wt_apply, val_main_v61_apply, val_main_v60_apply, e, den_apply]
  rfl

/-- The half's averages. -/
theorem half_mean (r : Fin 16384) (c : Fin 256) :
    val_main_v64 (F := Ideal) x0 x1 x2 (ValueIdx.ix2 r c) = outO (X x0) (X x1) (Z x2) ⟨r.val, by omega⟩ c := by
  rw [val_main_v64_apply]
  have e : idx_main_v64 (ValueIdx.ix2 r c) = ValueIdx.ix4 (⟨r.val / 4096, by omega⟩ : Fin 4) (⟨r.val % 4096, Nat.mod_lt _ (by omega)⟩ : Fin 4096) (hd c) (⟨c.val % 64, Nat.mod_lt _ (by omega)⟩ : Fin 64) := by
    refine (ValueIdx.eq_ix4 _).trans ?_
    have e0 : idx_main_v64 (ValueIdx.ix2 r c) 0 = (⟨r.val / 4096, by omega⟩ : Fin 4) := Fin.ext (by
      show (r.val * 256 + c.val) / 1048576 = r.val / 4096
      omega)
    have e1 : idx_main_v64 (ValueIdx.ix2 r c) 1 = (⟨r.val % 4096, Nat.mod_lt _ (by omega)⟩ : Fin 4096) := Fin.ext (by
      show (r.val * 256 + c.val) / 256 % 4096 = r.val % 4096
      omega)
    have e2 : idx_main_v64 (ValueIdx.ix2 r c) 2 = hd c := Fin.ext (by
      show (r.val * 256 + c.val) / 64 % 4 = c.val / 64
      omega)
    have e3 : idx_main_v64 (ValueIdx.ix2 r c) 3 = (⟨c.val % 64, Nat.mod_lt _ (by omega)⟩ : Fin 64) := Fin.ext (by
      show (r.val * 256 + c.val) % 64 = c.val % 64
      omega)
    rw [e0, e1, e2, e3]
    rfl
  have er : row (⟨r.val / 4096, by omega⟩ : Fin 4) (⟨r.val % 4096, Nat.mod_lt _ (by omega)⟩ : Fin 4096) = ⟨r.val, by omega⟩ := Fin.ext (by
    show 4096 * (r.val / 4096) + r.val % 4096 = r.val
    omega)
  rw [e, mean_apply, er]
  have ec : col (hd c) (⟨c.val % 64, Nat.mod_lt _ (by omega)⟩ : Fin 64) = c := Fin.ext (by
    show 64 * (c.val / 64) + c.val % 64 = c.val
    omega)
  rw [ec]
  rfl

/-- The half's logarithms. -/
theorem half_lse (r : Fin 16384) (c : Fin 256) :
    val_main_v68 (F := Ideal) x0 x1 (ValueIdx.ix2 r c) = outL (X x0) (X x1) ⟨r.val, by omega⟩ (hd c) := by
  rw [val_main_v68_apply, val_main_v67_apply, val_main_v66_apply, val_main_v65_apply]
  have e : idx_main_v68 (ValueIdx.ix2 r c) = ValueIdx.ix4 (⟨r.val / 4096, by omega⟩ : Fin 4) (⟨r.val % 4096, Nat.mod_lt _ (by omega)⟩ : Fin 4096) (hd c) (⟨c.val % 64, Nat.mod_lt _ (by omega)⟩ : Fin 64) := by
    refine (ValueIdx.eq_ix4 _).trans ?_
    have e0 : idx_main_v68 (ValueIdx.ix2 r c) 0 = (⟨r.val / 4096, by omega⟩ : Fin 4) := Fin.ext (by
      show (r.val * 256 + c.val) / 1048576 = r.val / 4096
      omega)
    have e1 : idx_main_v68 (ValueIdx.ix2 r c) 1 = (⟨r.val % 4096, Nat.mod_lt _ (by omega)⟩ : Fin 4096) := Fin.ext (by
      show (r.val * 256 + c.val) / 256 % 4096 = r.val % 4096
      omega)
    have e2 : idx_main_v68 (ValueIdx.ix2 r c) 2 = hd c := Fin.ext (by
      show (r.val * 256 + c.val) / 64 % 4 = c.val / 64
      omega)
    have e3 : idx_main_v68 (ValueIdx.ix2 r c) 3 = (⟨c.val % 64, Nat.mod_lt _ (by omega)⟩ : Fin 64) := Fin.ext (by
      show (r.val * 256 + c.val) % 64 = c.val % 64
      omega)
    rw [e0, e1, e2, e3]
    rfl
  have er : row (⟨r.val / 4096, by omega⟩ : Fin 4) (⟨r.val % 4096, Nat.mod_lt _ (by omega)⟩ : Fin 4096) = ⟨r.val, by omega⟩ := Fin.ext (by
    show 4096 * (r.val / 4096) + r.val % 4096 = r.val
    omega)
  have el : idx_main_v65 (idx_main_v66 (idx_main_v67 (ValueIdx.ix4 (⟨r.val / 4096, by omega⟩ : Fin 4) (⟨r.val % 4096, Nat.mod_lt _ (by omega)⟩ : Fin 4096) (hd c) (⟨c.val % 64, Nat.mod_lt _ (by omega)⟩ : Fin 64)))) = ValueIdx.ix3 (⟨r.val / 4096, by omega⟩ : Fin 4) (hd c) (⟨r.val % 4096, Nat.mod_lt _ (by omega)⟩ : Fin 4096) := ValueIdx.eq_ix3 _
  rw [e, el, lse_apply, er]

end Cert.BandRef.Prompt

end
-- ==== Proof.BandSample.lean ====
module

/-
The reference's band attention of the samples, read entry by entry.
-/
public import proofs.«01_k».proof.Proof.Gen.BandReferenceIdeal.Read
public import proofs.«01_k».proof.Proof.BandGather
public import Idealize.ShloMosaic.Lib.KernelVsHost

@[expose] public section

set_option maxRecDepth 16384

noncomputable section

namespace Cert.BandRef.Sample

open Cert.BandReferenceIdeal Cert.BandReferenceIdeal.Gen Cert.BandReferenceIdeal.Read Cert.BandSpec
open Idealize.ShloMosaic Idealize.ShloMosaic.TcCoe Idealize.ShloMosaic.Tactic

/-- The row of the whole array. -/
def row (b : Fin 1) (s : Fin 16384) : Fin 32768 := ⟨16384 + s.val, by omega⟩

variable (x0 x1 : (⟨S32768x768, .bf16⟩ : BufTy).Contents (Elt Ideal)) (x2 : (⟨S32768x12288, .bf16⟩ : BufTy).Contents (Elt Ideal))

/-- The queries or the keys. -/
abbrev X (R : Fin 32768) (c : Fin 256) : EReal := x0 (ValueIdx.ix2 R ⟨c.val, by omega⟩)
/-- The values. -/
abbrev Z (R : Fin 32768) (c : Fin 256) : EReal := x2 (ValueIdx.ix2 R ⟨4608 + c.val, by omega⟩)

theorem queries_apply (b : Fin 1) (s : Fin 16384) (h : Fin 4) (d : Fin 64) : val_main_v70 (F := Ideal) x0 (ValueIdx.ix4 b s h d) = X x0 (row b s) (col h d) := by
  simp only [val_main_v70_apply, val_main_v69_apply, val_main_v3_apply, val_main_v0_apply]
  show x0 _ = x0 _
  refine congrArg x0 ((ValueIdx.eq_ix2 _).trans ?_)
  have e0 : idx_main_v0 (idx_main_v69 (idx_main_v70 (ValueIdx.ix4 b s h d))) 0 = row b s := Fin.ext (by
    show 16384 + (((b.val * 16384 + s.val) * 4 + h.val) * 64 + d.val) / 256 = 16384 + s.val
    omega)
  have e1 : idx_main_v0 (idx_main_v69 (idx_main_v70 (ValueIdx.ix4 b s h d))) 1 = (⟨(col h d).val, by omega⟩ : Fin 768) := Fin.ext (by
    show (((b.val * 16384 + s.val) * 4 + h.val) * 64 + d.val) % 256 = 64 * h.val + d.val
    omega)
  rw [e0, e1]
  rfl

theorem keys_apply (b : Fin 1) (s : Fin 16384) (h : Fin 4) (d : Fin 64) : val_main_v72 (F := Ideal) x1 (ValueIdx.ix4 b s h d) = X x1 (row b s) (col h d) :=
  queries_apply x1 b s h d

theorem vals_apply (b : Fin 1) (s : Fin 16384) (h : Fin 4) (d : Fin 64) : val_main_v74 (F := Ideal) x2 (ValueIdx.ix4 b s h d) = Z x2 (row b s) (col h d) := by
  simp only [val_main_v74_apply, val_main_v73_apply, val_main_v5_apply, val_main_v2_apply]
  show x2 _ = x2 _
  refine congrArg x2 ((ValueIdx.eq_ix2 _).trans ?_)
  have e0 : idx_main_v2 (idx_main_v73 (idx_main_v74 (ValueIdx.ix4 b s h d))) 0 = row b s := Fin.ext (by
    show 16384 + (((b.val * 16384 + s.val) * 4 + h.val) * 64 + d.val) / 256 = 16384 + s.val
    omega)
  have e1 : idx_main_v2 (idx_main_v73 (idx_main_v74 (ValueIdx.ix4 b s h d))) 1 = (⟨4608 + (col h d).val, by omega⟩ : Fin 12288) := Fin.ext (by
    show 4608 + (((b.val * 16384 + s.val) * 4 + h.val) * 64 + d.val) % 256 = 4608 + (64 * h.val + d.val)
    omega)
  rw [e0, e1]
  rfl

theorem lo_row (b : Fin 1) (s : Fin 16384) : lo (row b s).val = 16384 := by
  unfold lo row
  dsimp only
  split_ifs <;> omega

theorem hi_row (b : Fin 1) (s : Fin 16384) : hi (row b s).val = 16384 + 16384 := by
  unfold hi row
  dsimp only
  split_ifs <;> omega

/-- The positions of the band. -/
theorem pos_apply (s : Fin 16384) (o : Fin 129) : val_main_v83 (F := Ideal) (ValueIdx.ix2 s o) = BitVec.ofInt 32 ((s.val : ℤ) + o.val - 64) := by
  simp only [val_main_v83_apply, val_main_v81_apply, val_main_v76_apply, val_main_v75_apply, val_main_v82_apply, val_main_v80_apply, val_main_v79_apply, val_main_v78_apply, val_main_v77_apply, val_main_c_11_apply]
  exact BandGather.pos_eq s.val o.val

/-- Whether they are inside the sequence. -/
theorem valid_apply (b : Fin 1) (s : Fin 16384) (o : Fin 129) : val_main_v88 (F := Ideal) (ValueIdx.ix2 s o) = bit (row b s) o := by
  simp only [val_main_v88_apply, val_main_v85_apply, val_main_v84_apply, val_main_v87_apply, val_main_v86_apply, val_main_c_12_apply, val_main_c_13_apply, pos_apply]
  refine (BandGather.valid_eq 16384 s.val o.val (by omega) s.isLt o.isLt).trans ?_
  unfold bit
  rw [lo_row, hi_row]
  unfold row
  exact if_congr (by dsimp only; omega) rfl rfl

theorem key_row (b : Fin 1) (s : Fin 16384) (o : Fin 129) (n : ℕ) (hn : n < 16384) (h : n = min (s.val + o.val - 64) (16384 - 1)) : row b ⟨n, hn⟩ = key (row b s) o := by
  subst h
  refine Fin.ext ?_
  unfold key
  dsimp only
  rw [lo_row, hi_row]
  unfold row
  dsimp only
  omega

theorem key_word (s : Fin 16384) (o : Fin 129) : min (val_main_v97 (F := Ideal) (ValueIdx.ix2 s o)).toInt.toNat (16384 - 1) = min (s.val + o.val - 64) (16384 - 1) := by
  simp only [val_main_v97_apply, val_main_v94_apply, val_main_v96_apply, val_main_v93_apply, val_main_v95_apply, val_main_v92_apply, val_main_v91_apply, val_main_v90_apply, val_main_v89_apply, val_main_c_14_apply, val_main_c_15_apply, val_main_c_16_apply, val_main_c_17_apply, pos_apply]
  exact BandGather.clamp_eq 16384 s.val o.val (by omega) s.isLt o.isLt _ _ rfl rfl

theorem val_word (s : Fin 16384) (o : Fin 129) : min (val_main_v104 (F := Ideal) (ValueIdx.ix2 s o)).toInt.toNat (16384 - 1) = min (s.val + o.val - 64) (16384 - 1) := by
  simp only [val_main_v104_apply, val_main_v101_apply, val_main_v103_apply, val_main_v100_apply, val_main_v102_apply, val_main_v92_apply, val_main_v91_apply, val_main_v90_apply, val_main_v89_apply, val_main_c_14_apply, val_main_c_15_apply, val_main_c_18_apply, val_main_c_19_apply, pos_apply]
  exact BandGather.clamp_eq 16384 s.val o.val (by omega) s.isLt o.isLt _ _ rfl rfl

/-- The keys of the band. -/
theorem near_keys (b : Fin 1) (s : Fin 16384) (o : Fin 129) (h : Fin 4) (d : Fin 64) :
    val_main_v99 (F := Ideal) x1 (ValueIdx.ix5 b s o h d) = X x1 (key (row b s) o) (col h d) := by
  have e : idx_main_v98 (ValueIdx.ix3 s o 0) = ValueIdx.ix2 s o := ValueIdx.eq_ix2 _
  unfold val_main_v99
  refine (BandGather.gather_apply (by decide) (gather_S1x16384x4x64_S16384x129x1_S1x16384x129x4x64_034_1_n_n_1_2_11464).wf _ _ b s o h d).trans ?_
  rw [keys_apply]
  refine congrArg (fun R => X x1 R (col h d)) (key_row b s o _ _ ?_)
  rw [val_main_v98_apply, e, key_word]

/-- The values of the band. -/
theorem near_vals (b : Fin 1) (s : Fin 16384) (o : Fin 129) (h : Fin 4) (d : Fin 64) :
    val_main_v106 (F := Ideal) x2 (ValueIdx.ix5 b s o h d) = Z x2 (key (row b s) o) (col h d) := by
  have e : idx_main_v105 (ValueIdx.ix3 s o 0) = ValueIdx.ix2 s o := ValueIdx.eq_ix2 _
  unfold val_main_v106
  refine (BandGather.gather_apply (by decide) (gather_S1x16384x4x64_S16384x129x1_S1x16384x129x4x64_034_1_n_n_1_2_11464).wf _ _ b s o h d).trans ?_
  rw [vals_apply]
  refine congrArg (fun R => Z x2 R (col h d)) (key_row b s o _ _ ?_)
  rw [val_main_v105_apply, e, val_word]

/-- The scores of a row of the whole array. -/
abbrev S (R : Fin 32768) (h : Fin 4) (o : Fin 129) : EReal := score (X x0) (X x1) R h o

theorem scores_apply (b : Fin 1) (h : Fin 4) (s : Fin 16384) (o : Fin 129) :
    val_main_v107 (F := Ideal) x0 x1 (ValueIdx.ix4 b h s o) = S x0 x1 (row b s) h o := by
  rw [val_main_v107_apply]
  refine Finset.sum_congr rfl fun d _ => ?_
  have el : lidx_main_v107 (ValueIdx.ix4 b h s o) d = ValueIdx.ix4 b s h d := ValueIdx.eq_ix4 _
  have er : ridx_main_v107 (ValueIdx.ix4 b h s o) d = ValueIdx.ix5 b s o h d := ValueIdx.eq_ix5 _
  rw [el, er, queries_apply, near_keys]

theorem mask_apply (b : Fin 1) (h : Fin 4) (s : Fin 16384) (o : Fin 129) : val_main_v109 (F := Ideal) (ValueIdx.ix4 b h s o) = bit (row b s) o := by
  rw [val_main_v109_apply, val_main_v108_apply]
  have e : idx_main_v108 (idx_main_v109 (ValueIdx.ix4 b h s o)) = ValueIdx.ix2 s o := ValueIdx.eq_ix2 _
  rw [e, valid_apply b]

theorem kept_apply (b : Fin 1) (h : Fin 4) (s : Fin 16384) (o : Fin 129) :
    val_main_v111 (F := Ideal) x0 x1 (ValueIdx.ix4 b h s o) = BandMath.kept (bit (row b s)) (S x0 x1 (row b s) h) o := by
  have hb : Ideal.ofBits .f32 0xFF800000#32 = ⊥ := by simp [Ideal.ofBits, Ideal.ieee]
  rw [val_main_v111_apply, mask_apply, scores_apply, val_main_v110_apply, val_main_cst_20_apply, Ideal.ofBits_def, hb]
  rfl

theorem top_apply (b : Fin 1) (h : Fin 4) (s : Fin 16384) :
    val_main_v112 (F := Ideal) x0 x1 (ValueIdx.ix3 b h s) = BandMath.top (bit (row b s)) (S x0 x1 (row b s) h) := by
  have hb : Ideal.ofBits .f32 0xFF800000#32 = ⊥ := by simp [Ideal.ofBits, Ideal.ieee]
  have hred : S1x4x16384x129.Reduces [3] S1x4x16384 := by decide
  have hy := fun o => kept_apply x0 x1 b h s o
  unfold val_main_v112
  generalize val_main_v111 (F := Ideal) x0 x1 = y at hy ⊢
  refine (Host.reduce_eq_fold_single _ y _ _ hred _ _).trans ?_
  have he : (val_main_cst_21 (F := Ideal)) (Shape.Idx.first h_S_) = ⊥ := hb
  rw [he]
  unfold BandMath.top
  refine congrArg (fun f => Finset.univ.fold max ⊥ f) (funext fun k : Fin 129 => ?_)
  have hi : hred.lift (ValueIdx.ix3 b h s) k = ValueIdx.ix4 b h s k := by
    funext a; apply Fin.ext; fin_cases a <;> rfl
  exact (congrArg y hi).trans (hy k)

theorem wt_apply (b : Fin 1) (h : Fin 4) (s : Fin 16384) (o : Fin 129) :
    val_main_v118 (F := Ideal) x0 x1 (ValueIdx.ix4 b h s o) = BandMath.wt (bit (row b s)) (S x0 x1 (row b s) h) o := by
  rw [val_main_v118_apply, mask_apply, val_main_v116_apply, val_main_v115_apply, kept_apply, val_main_v114_apply, val_main_v113_apply, val_main_v117_apply, val_main_cst_22_apply]
  have e : idx_main_v113 (idx_main_v114 (ValueIdx.ix4 b h s o)) = ValueIdx.ix3 b h s := (ValueIdx.eq_ix3 _).trans (congrArg (fun z : Fin 1 => ValueIdx.ix3 z h s) (Subsingleton.elim _ _))
  rw [e, top_apply, Ideal.ofBits_def, Ideal.ofBits_zero_f32]
  rfl

theorem den_apply (b : Fin 1) (h : Fin 4) (s : Fin 16384) :
    val_main_v119 (F := Ideal) x0 x1 (ValueIdx.ix3 b h s) = BandMath.den (bit (row b s)) (S x0 x1 (row b s) h) := by
  simp only [val_main_v119_apply, val_main_cst_23_apply, Ideal.ofBits_def, Ideal.ofBits_zero_f32, zero_add]
  refine Finset.sum_congr rfl fun o _ => ?_
  have e : idx_main_v119 (ValueIdx.ix3 b h s) o = ValueIdx.ix4 b h s o := ValueIdx.eq_ix4 _
  rw [e, wt_apply]

theorem lse_apply (b : Fin 1) (h : Fin 4) (s : Fin 16384) :
    val_main_v122 (F := Ideal) x0 x1 (ValueIdx.ix3 b h s) = outL (X x0) (X x1) (row b s) h := by
  rw [val_main_v122_apply, val_main_v120_apply, val_main_v113_apply, val_main_v121_apply, den_apply]
  have e : idx_main_v113 (idx_main_v120 (ValueIdx.ix3 b h s)) = ValueIdx.ix3 b h s := by
    refine (ValueIdx.eq_ix3 _).trans ?_
    have e0 : idx_main_v113 (idx_main_v120 (ValueIdx.ix3 b h s)) 0 = b := Subsingleton.elim (α := Fin 1) _ _
    have e1 : idx_main_v113 (idx_main_v120 (ValueIdx.ix3 b h s)) 1 = h := Fin.ext (by
      show ((b.val * 4 + h.val) * 16384 + s.val) / 16384 % 4 = h.val
      omega)
    have e2 : idx_main_v113 (idx_main_v120 (ValueIdx.ix3 b h s)) 2 = s := Fin.ext (by
      show ((b.val * 4 + h.val) * 16384 + s.val) / 1 % 16384 = s.val
      omega)
    rw [e0, e1, e2]
    rfl
  rw [e, top_apply]
  rfl

theorem mean_apply (b : Fin 1) (s : Fin 16384) (h : Fin 4) (d : Fin 64) :
    val_main_v126 (F := Ideal) x0 x1 x2 (ValueIdx.ix4 b s h d)
      = BandMath.mean (bit (row b s)) (S x0 x1 (row b s) h) (fun o => Z x2 (key (row b s) o) (col h d)) := by
  rw [val_main_v126_apply]
  refine Finset.sum_congr rfl fun o _ => ?_
  have el : lidx_main_v126 (ValueIdx.ix4 b s h d) o = ValueIdx.ix4 b h s o := ValueIdx.eq_ix4 _
  have er : ridx_main_v126 (ValueIdx.ix4 b s h d) o = ValueIdx.ix5 b s o h d := ValueIdx.eq_ix5 _
  have e : idx_main_v123 (idx_main_v124 (ValueIdx.ix4 b h s o)) = ValueIdx.ix3 b h s := (ValueIdx.eq_ix3 _).trans (congrArg (fun z : Fin 1 => ValueIdx.ix3 z h s) (Subsingleton.elim _ _))
  rw [el, er, near_vals, val_main_v125_apply, wt_apply, val_main_v124_apply, val_main_v123_apply, e, den_apply]
  rfl

/-- The half's averages. -/
theorem half_mean (r : Fin 16384) (c : Fin 256) :
    val_main_v127 (F := Ideal) x0 x1 x2 (ValueIdx.ix2 r c) = outO (X x0) (X x1) (Z x2) ⟨16384 + r.val, by omega⟩ c := by
  rw [val_main_v127_apply]
  have e : idx_main_v127 (ValueIdx.ix2 r c) = ValueIdx.ix4 (0 : Fin 1) r (hd c) (⟨c.val % 64, Nat.mod_lt _ (by omega)⟩ : Fin 64) := by
    refine (ValueIdx.eq_ix4 _).trans ?_
    have e0 : idx_main_v127 (ValueIdx.ix2 r c) 0 = (0 : Fin 1) := Subsingleton.elim (α := Fin 1) _ _
    have e1 : idx_main_v127 (ValueIdx.ix2 r c) 1 = r := Fin.ext (by
      show (r.val * 256 + c.val) / 256 % 16384 = r.val
      omega)
    have e2 : idx_main_v127 (ValueIdx.ix2 r c) 2 = hd c := Fin.ext (by
      show (r.val * 256 + c.val) / 64 % 4 = c.val / 64
      omega)
    have e3 : idx_main_v127 (ValueIdx.ix2 r c) 3 = (⟨c.val % 64, Nat.mod_lt _ (by omega)⟩ : Fin 64) := Fin.ext (by
      show (r.val * 256 + c.val) % 64 = c.val % 64
      omega)
    rw [e0, e1, e2, e3]
    rfl
  have er : row (0 : Fin 1) r = ⟨16384 + r.val, by omega⟩ := Fin.ext (by
    rfl)
  rw [e, mean_apply, er]
  have ec : col (hd c) (⟨c.val % 64, Nat.mod_lt _ (by omega)⟩ : Fin 64) = c := Fin.ext (by
    show 64 * (c.val / 64) + c.val % 64 = c.val
    omega)
  rw [ec]
  rfl

/-- The half's logarithms. -/
theorem half_lse (r : Fin 16384) (c : Fin 256) :
    val_main_v131 (F := Ideal) x0 x1 (ValueIdx.ix2 r c) = outL (X x0) (X x1) ⟨16384 + r.val, by omega⟩ (hd c) := by
  rw [val_main_v131_apply, val_main_v130_apply, val_main_v129_apply, val_main_v128_apply]
  have e : idx_main_v131 (ValueIdx.ix2 r c) = ValueIdx.ix4 (0 : Fin 1) r (hd c) (⟨c.val % 64, Nat.mod_lt _ (by omega)⟩ : Fin 64) := by
    refine (ValueIdx.eq_ix4 _).trans ?_
    have e0 : idx_main_v131 (ValueIdx.ix2 r c) 0 = (0 : Fin 1) := Subsingleton.elim (α := Fin 1) _ _
    have e1 : idx_main_v131 (ValueIdx.ix2 r c) 1 = r := Fin.ext (by
      show (r.val * 256 + c.val) / 256 % 16384 = r.val
      omega)
    have e2 : idx_main_v131 (ValueIdx.ix2 r c) 2 = hd c := Fin.ext (by
      show (r.val * 256 + c.val) / 64 % 4 = c.val / 64
      omega)
    have e3 : idx_main_v131 (ValueIdx.ix2 r c) 3 = (⟨c.val % 64, Nat.mod_lt _ (by omega)⟩ : Fin 64) := Fin.ext (by
      show (r.val * 256 + c.val) % 64 = c.val % 64
      omega)
    rw [e0, e1, e2, e3]
    rfl
  have er : row (0 : Fin 1) r = ⟨16384 + r.val, by omega⟩ := Fin.ext (by
    rfl)
  have el : idx_main_v128 (idx_main_v129 (idx_main_v130 (ValueIdx.ix4 (0 : Fin 1) r (hd c) (⟨c.val % 64, Nat.mod_lt _ (by omega)⟩ : Fin 64)))) = ValueIdx.ix3 (0 : Fin 1) (hd c) r := ValueIdx.eq_ix3 _
  rw [e, el, lse_apply, er]

end Cert.BandRef.Sample

end
-- ==== Proof.BandRef.lean ====
module

/-
The reference's band attention, both halves joined.
-/
public import proofs.«01_k».proof.Proof.BandPrompt
public import proofs.«01_k».proof.Proof.BandSample

@[expose] public section

set_option maxRecDepth 16384

noncomputable section

namespace Cert.BandRef

open Cert.BandReferenceIdeal Cert.BandReferenceIdeal.Gen Cert.BandReferenceIdeal.Read Cert.BandSpec
open Idealize.ShloMosaic Idealize.ShloMosaic.TcCoe Idealize.ShloMosaic.Tactic

variable (x0 x1 : (⟨S32768x768, .bf16⟩ : BufTy).Contents (Elt Ideal)) (x2 : (⟨S32768x12288, .bf16⟩ : BufTy).Contents (Elt Ideal))

/-- The reference's averages. -/
theorem mean_ref (r : Fin 32768) (c : Fin 256) :
    val_main_v133 (F := Ideal) x0 x1 x2 (ValueIdx.ix2 r c) = outO (Prompt.X x0) (Prompt.X x1) (Prompt.Z x2) r c := by
  rw [val_main_v133_apply]
  show val_main_v132 (F := Ideal) x0 x1 x2 (ValueIdx.ix2 r c) = _
  unfold val_main_v132
  by_cases hr : r.val < 16384
  · refine (concatenate_pair_apply_left (t := S32768x256) (s₁ := S16384x256) (s₂ := S16384x256) 0 _ _
      concatenates_S16384x256_S16384x256_S32768x256_d0 (ValueIdx.ix2 r c) rfl (ValueIdx.ix2 (⟨r.val, hr⟩ : Fin 16384) c) fun a => ?_).trans ?_
    · match a with
      | ⟨0, _⟩ => rfl
      | ⟨1, _⟩ => rfl
    · exact Prompt.half_mean x0 x1 x2 ⟨r.val, hr⟩ c
  · obtain ⟨d, hd⟩ : ∃ d : Fin 16384, d.val + 16384 = r.val := ⟨⟨r.val - 16384, by omega⟩, Nat.sub_add_cancel (Nat.le_of_not_lt hr)⟩
    refine (concatenate_pair_apply_right (t := S32768x256) (s₁ := S16384x256) (s₂ := S16384x256) 0 _ _
      concatenates_S16384x256_S16384x256_S32768x256_d0 (ValueIdx.ix2 r c) rfl rfl (ValueIdx.ix2 d c) (fun a => ?_) hd).trans ?_
    · match a with
      | ⟨0, _⟩ => exact fun h => absurd rfl h
      | ⟨1, _⟩ => exact fun _ => rfl
    · have e : (⟨16384 + d.val, by omega⟩ : Fin 32768) = r := Fin.ext ((Nat.add_comm _ _).trans hd)
      exact (Sample.half_mean x0 x1 x2 d c).trans (congrArg (fun i => outO (Prompt.X x0) (Prompt.X x1) (Prompt.Z x2) i c) e)

/-- The reference's logarithms. -/
theorem lse_ref (r : Fin 32768) (c : Fin 256) :
    val_main_v134 (F := Ideal) x0 x1 (ValueIdx.ix2 r c) = outL (Prompt.X x0) (Prompt.X x1) r (BandSpec.hd c) := by
  unfold val_main_v134
  by_cases hr : r.val < 16384
  · refine (concatenate_pair_apply_left (t := S32768x256) (s₁ := S16384x256) (s₂ := S16384x256) 0 _ _
      concatenates_S16384x256_S16384x256_S32768x256_d0 (ValueIdx.ix2 r c) rfl (ValueIdx.ix2 (⟨r.val, hr⟩ : Fin 16384) c) fun a => ?_).trans ?_
    · match a with
      | ⟨0, _⟩ => rfl
      | ⟨1, _⟩ => rfl
    · exact Prompt.half_lse x0 x1 ⟨r.val, hr⟩ c
  · obtain ⟨d, hd⟩ : ∃ d : Fin 16384, d.val + 16384 = r.val := ⟨⟨r.val - 16384, by omega⟩, Nat.sub_add_cancel (Nat.le_of_not_lt hr)⟩
    refine (concatenate_pair_apply_right (t := S32768x256) (s₁ := S16384x256) (s₂ := S16384x256) 0 _ _
      concatenates_S16384x256_S16384x256_S32768x256_d0 (ValueIdx.ix2 r c) rfl rfl (ValueIdx.ix2 d c) (fun a => ?_) hd).trans ?_
    · match a with
      | ⟨0, _⟩ => exact fun h => absurd rfl h
      | ⟨1, _⟩ => exact fun _ => rfl
    · have e : (⟨16384 + d.val, by omega⟩ : Fin 32768) = r := Fin.ext ((Nat.add_comm _ _).trans hd)
      exact (Sample.half_lse x0 x1 d c).trans (congrArg (fun i => outL (Prompt.X x0) (Prompt.X x1) i (BandSpec.hd c)) e)

end Cert.BandRef

end
-- ==== Proof.BandClaim.lean ====
module

/-
The value claim of the band attention: the launch ends with the averages and the logarithms of the plain formula, and so does the
reference.
-/
public import proofs.«01_k».proof.Defs
public import proofs.«01_k».proof.Proof.BandArray
public import proofs.«01_k».proof.Proof.BandPre
public import proofs.«01_k».proof.Proof.BandRef
public import proofs.«01_k».proof.Proof.Gen.BandIdeal
public import proofs.«01_k».proof.Proof.Gen.BandIdeal.Frame
public import proofs.«01_k».proof.Proof.Gen.BandReferenceIdeal
public import proofs.«01_k».proof.Proof.Gen.BandReferenceIdeal.Run
public import Idealize.ShloMosaic.Lib.Quiescent

@[expose] public section

set_option maxRecDepth 16384

noncomputable section

namespace Cert.BandClaim

open Idealize.ShloMosaic Idealize.ShloMosaic.TcCoe Idealize.SL.Sem

/-- The reference's averages are the kernel's array. -/
theorem means (x y : BandReferenceIdeal.S32768x768.Idx → EReal) (z : BandReferenceIdeal.S32768x12288.Idx → EReal) :
    BandReferenceIdeal.Read.val_main_v133 (F := Ideal) x y z = BandIdeal.Band.allO x y z :=
  funext fun i => (congrArg (BandReferenceIdeal.Read.val_main_v133 (F := Ideal) x y z) (ValueIdx.eq_ix2 i)).trans (BandRef.mean_ref x y z (i 0) (i 1))

/-- The reference's logarithms are the kernel's array. -/
theorem logs (x y : BandReferenceIdeal.S32768x768.Idx → EReal) :
    BandReferenceIdeal.Read.val_main_v134 (F := Ideal) x y = BandIdeal.Band.allL x y :=
  funext fun i => (congrArg (BandReferenceIdeal.Read.val_main_v134 (F := Ideal) x y) (ValueIdx.eq_ix2 i)).trans (BandRef.lse_ref x y (i 0) (i 1))

/-- Every run of the kernel leaves the averages and the logarithms of its arguments in the results, the arguments as they were. -/
theorem kernel_run (m : (ℓ : Loc BandIdeal.nD BandIdeal.τ BandIdeal.sig) → Buf (Elt Ideal) ℓ) (ρ : Dev BandIdeal.nD → PrngReg)
    (h : ∀ c : Dev BandIdeal.nD, (∀ R d, ∃ x : ℝ, BandIdeal.Band.X m c R d = x) ∧ (∀ R d, ∃ x : ℝ, BandIdeal.Band.Y m c R d = x)) :
    θ_run BandIdeal.defs (onTc (τ := BandIdeal.τ) (BandIdeal.main (F := Ideal))) ⟨m, fun _ => 0, ρ⟩ (fun r => ∀ c : Dev BandIdeal.nD,
      r.2.mem ((c.tc : Thread BandIdeal.nD BandIdeal.τ).loc BandIdeal.main_v0_0)
        = BandReferenceIdeal.Read.val_main_v133 (F := Ideal) (m ((c.tc : Thread BandIdeal.nD BandIdeal.τ).loc BandIdeal.main_arg0)) (m ((c.tc : Thread BandIdeal.nD BandIdeal.τ).loc BandIdeal.main_arg1)) (m ((c.tc : Thread BandIdeal.nD BandIdeal.τ).loc BandIdeal.main_arg2))
      ∧ r.2.mem ((c.tc : Thread BandIdeal.nD BandIdeal.τ).loc BandIdeal.main_v0_1)
        = BandReferenceIdeal.Read.val_main_v134 (F := Ideal) (m ((c.tc : Thread BandIdeal.nD BandIdeal.τ).loc BandIdeal.main_arg0)) (m ((c.tc : Thread BandIdeal.nD BandIdeal.τ).loc BandIdeal.main_arg1))
      ∧ r.2.mem ((c.tc : Thread BandIdeal.nD BandIdeal.τ).loc BandIdeal.main_arg0) = m ((c.tc : Thread BandIdeal.nD BandIdeal.τ).loc BandIdeal.main_arg0)
      ∧ r.2.mem ((c.tc : Thread BandIdeal.nD BandIdeal.τ).loc BandIdeal.main_arg1) = m ((c.tc : Thread BandIdeal.nD BandIdeal.τ).loc BandIdeal.main_arg1)
      ∧ r.2.mem ((c.tc : Thread BandIdeal.nD BandIdeal.τ).loc BandIdeal.main_arg2) = m ((c.tc : Thread BandIdeal.nD BandIdeal.τ).loc BandIdeal.main_arg2)) := by
  refine (θ_run _ _ _).mono (fun r hr c => ?_) (θ_run_and (BandIdeal.Gen.run_main m ρ (BandIdeal.Band.ok m)) (BandIdeal.Gen.frame m ρ (BandIdeal.Band.ok m)))
  exact ⟨((Pipeline.FramePost.out_eq hr.1 c 7).trans (BandIdeal.Band.array7 m c (h c).1 (h c).2)).trans (means _ _ _).symm,
    ((Pipeline.FramePost.out_eq hr.1 c 8).trans (BandIdeal.Band.array8 m c)).trans (logs _ _).symm, hr.2.1 c⟩

/-- The kernel and the reference leave the same two arrays. -/
theorem algebraic : Cert.algebraic_BandIdeal_BandReferenceIdeal_pre_comparable (hBandIdeal := Cert.BandIdeal.Gen.facts)
    (hBandReferenceIdeal := Cert.BandReferenceIdeal.Gen.facts) (hPre_comparable := Cert.Pre_comparable.Gen.facts) := by
  intro m ρ m' ρ' hpre hagree
  refine ⟨_, _, kernel_run m ρ fun c => BandPre.holds _ _ _ (hpre c), ?_⟩
  refine (θ_run _ _ _).mono (fun _ h c => ⟨(h c).1.trans ?_, (h c).2.1.trans ?_, (h c).2.2⟩) (BandReferenceIdeal.Value.run m' ρ')
  · rw [← (hagree c).1, ← (hagree c).2.1, ← (hagree c).2.2]
    exact BandReferenceIdeal.Read.val_main_v133_eq _ _
  · rw [← (hagree c).1, ← (hagree c).2.1]
    exact BandReferenceIdeal.Read.val_main_v134_eq _ _

/-- The reference ends, its arguments as they were and its counters at zero. -/
theorem reference_frame (m : (ℓ : Loc BandReferenceIdeal.nD BandReferenceIdeal.τ BandReferenceIdeal.sig) → Buf (Elt Ideal) ℓ) (ρ : Dev BandReferenceIdeal.nD → PrngReg) :
    θ_run (BandReferenceIdeal.defs (F := Ideal)) (onTc (τ := BandReferenceIdeal.τ) (BandReferenceIdeal.main (F := Ideal))) ⟨m, fun _ => 0, ρ⟩ (fun r => (∀ c : Dev BandReferenceIdeal.nD,
      r.2.mem ((c.tc : Thread BandReferenceIdeal.nD BandReferenceIdeal.τ).loc BandReferenceIdeal.main_arg0) = m ((c.tc : Thread BandReferenceIdeal.nD BandReferenceIdeal.τ).loc BandReferenceIdeal.main_arg0)
      ∧ r.2.mem ((c.tc : Thread BandReferenceIdeal.nD BandReferenceIdeal.τ).loc BandReferenceIdeal.main_arg1) = m ((c.tc : Thread BandReferenceIdeal.nD BandReferenceIdeal.τ).loc BandReferenceIdeal.main_arg1)
      ∧ r.2.mem ((c.tc : Thread BandReferenceIdeal.nD BandReferenceIdeal.τ).loc BandReferenceIdeal.main_arg2) = m ((c.tc : Thread BandReferenceIdeal.nD BandReferenceIdeal.τ).loc BandReferenceIdeal.main_arg2))
      ∧ r.2.sem = fun _ => 0) :=
  (θ_run _ _ _).mono (fun r h => ⟨fun c => (h c).2.2, sem_eq_zero_of_no_sems (by decide) r.2⟩) (BandReferenceIdeal.Value.run m ρ)

end Cert.BandClaim

end
-- ==== Proof.lean ====
/- The certificate of the attention, of the input projection, of the feed-forward block, of the mixing, of the cross-attention, of the
   memory's keys and values and of the band attention: every frame, and the seven value claims, assembled from the
   modules under Proof/. The witnesses of the programs' stated facts come first: the instances the generated modules prove. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjIdeal.Value
public import proofs.«01_k».proof.Proof.Gen.ReferenceIdeal.Run
public import proofs.«01_k».proof.Proof.Gen.ProjReferenceIdeal.Run
public import proofs.«01_k».proof.Proof.Gen.ProjReferenceIdeal.Read
public import proofs.«01_k».proof.Proof.Gen.ReferenceIdeal.Read
public import proofs.«01_k».proof.Proof.Gen.Pre_augmented
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergeIdeal.Value
public import proofs.«01_k».proof.Proof.Gen.Pre_weighable
public import proofs.«01_k».proof.Proof.Gen.Pre_comparable
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossReferenceIdeal
public import proofs.«01_k».proof.Proof.Gen.CrossReferenceIdeal.Run
public import proofs.«01_k».proof.Proof.Gen.CrossReferenceIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.MemoryReferenceIdeal.Read
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandReferenceIdeal
public import proofs.«01_k».proof.Proof.Gen.BandReferenceIdeal.Run
public import proofs.«01_k».proof.Proof.Gen.BandReferenceIdeal.Read
public import proofs.«01_k».proof.Proof.BitsRun
public import proofs.«01_k».proof.Proof.FlashRun
public import proofs.«01_k».proof.Proof.FlashClaim
public import proofs.«01_k».proof.Proof.ProjClaim
public import proofs.«01_k».proof.Proof.FfnClaim
public import proofs.«01_k».proof.Proof.MergeClaim
public import proofs.«01_k».proof.Proof.CrossOk
public import proofs.«01_k».proof.Proof.CrossClaim
public import proofs.«01_k».proof.Proof.MemoryClaim
public import proofs.«01_k».proof.Proof.BandClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proj.Gen.facts, Cert.ProjIdeal.Gen.facts, Cert.ProjReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.Cross.Gen.facts, Cert.CrossIdeal.Gen.facts, Cert.CrossReferenceIdeal.Gen.facts, Cert.Memory.Gen.facts, Cert.MemoryIdeal.Gen.facts, Cert.MemoryReferenceIdeal.Gen.facts, Cert.Band.Gen.facts, Cert.BandIdeal.Gen.facts, Cert.BandReferenceIdeal.Gen.facts, Cert.Pre_augmented.Gen.facts, Cert.Pre_weighable.Gen.facts, Cert.Pre_comparable.Gen.facts,
  fun m ρ _ => Cert.Kernel.Flash.frame m ρ,
  fun m ρ _ => Cert.KernelIdeal.Flash.frame m ρ,
  fun m ρ _ => Cert.KernelIdeal.Flash.frame m ρ,
  fun m ρ _ => Cert.FlashClaim.reference_frame m ρ,
  fun m ρ _ => Cert.FlashClaim.reference_frame m ρ,
  fun m ρ _ => Cert.Proj.Gen.frame m ρ,
  fun m ρ _ => Cert.ProjIdeal.Gen.frame m ρ,
  fun m ρ _ => Cert.ProjClaim.reference_frame m ρ,
  fun m ρ _ => Cert.Ffn.Gen.frame m ρ trivial,
  fun m ρ _ => Cert.FfnIdeal.Gen.frame m ρ trivial,
  fun m ρ _ => Cert.FfnClaim.reference_frame m ρ,
  fun m ρ _ => Cert.Merge.Gen.frame m ρ,
  fun m ρ _ => Cert.MergeIdeal.Gen.frame m ρ,
  fun m ρ _ => Cert.MergeIdeal.Gen.frame m ρ,
  fun m ρ _ => Cert.MergeClaim.reference_frame m ρ,
  fun m ρ _ => Cert.MergeClaim.reference_frame m ρ,
  fun m ρ _ => Cert.Cross.Gen.frame m ρ (Cert.Cross.Gen.ok m),
  fun m ρ _ => Cert.CrossIdeal.Gen.frame m ρ (Cert.CrossIdeal.Gen.ok m),
  fun m ρ _ => Cert.CrossClaim.reference_frame m ρ,
  fun m ρ _ => Cert.Memory.Gen.frame m ρ,
  fun m ρ _ => Cert.MemoryIdeal.Gen.frame m ρ,
  fun m ρ _ => Cert.MemoryClaim.reference_frame m ρ,
  fun m ρ _ => Cert.Band.Gen.frame m ρ trivial,
  fun m ρ _ => Cert.BandIdeal.Gen.frame m ρ trivial,
  fun m ρ _ => Cert.BandIdeal.Gen.frame m ρ trivial,
  fun m ρ _ => Cert.BandClaim.reference_frame m ρ,
  fun m ρ _ => Cert.BandClaim.reference_frame m ρ,
  trivial, Cert.FlashClaim.algebraic, trivial, Cert.ProjClaim.algebraic, trivial, Cert.FfnClaim.algebraic, trivial, Cert.MergeClaim.algebraic, trivial, Cert.CrossClaim.algebraic, trivial, Cert.MemoryClaim.algebraic,
  IdealRules.named_const.statement Cert.BandIdeal.κ "mask" .f32 0xF149F2CA#32 ⊥ rfl, Cert.BandClaim.algebraic⟩

end Cert.Proof

end
